-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_CTail (m : (ℓ : Loc Cert.CTail.nD Cert.CTail.τ Cert.CTail.sig) → Buf (Elt Bits) ℓ) : Prop :=
  True

def Pre_CTailIdeal (m : (ℓ : Loc Cert.CTailIdeal.nD Cert.CTailIdeal.τ Cert.CTailIdeal.sig) → Buf (Elt Ideal) ℓ) : Prop :=
  True

def Pre_CTailRefIdeal (m : (ℓ : Loc Cert.CTailRefIdeal.nD Cert.CTailRefIdeal.τ Cert.CTailRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_CTail [hCTail : Cert.CTail.Facts] : Prop :=
  ∀ (m : (ℓ : Loc Cert.CTail.nD Cert.CTail.τ Cert.CTail.sig) → Buf (Elt Bits) ℓ) (g : Dev Cert.CTail.nD → PrngReg), Pre_CTail m →
    θ_run (Cert.CTail.defs (F := Bits)) (onTc (τ := Cert.CTail.τ) (Cert.CTail.main (F := Bits))) ⟨m, fun _ => 0, g⟩ (fun r => (∀ c : Dev Cert.CTail.nD,
      r.2.mem ((c.tc : Thread Cert.CTail.nD Cert.CTail.τ).loc Cert.CTail.main_arg0) = m ((c.tc : Thread Cert.CTail.nD Cert.CTail.τ).loc Cert.CTail.main_arg0)
      ∧ r.2.mem ((c.tc : Thread Cert.CTail.nD Cert.CTail.τ).loc Cert.CTail.main_arg1) = m ((c.tc : Thread Cert.CTail.nD Cert.CTail.τ).loc Cert.CTail.main_arg1)
      ∧ r.2.mem ((c.tc : Thread Cert.CTail.nD Cert.CTail.τ).loc Cert.CTail.main_arg2) = m ((c.tc : Thread Cert.CTail.nD Cert.CTail.τ).loc Cert.CTail.main_arg2)
      ∧ r.2.mem ((c.tc : Thread Cert.CTail.nD Cert.CTail.τ).loc Cert.CTail.main_arg3) = m ((c.tc : Thread Cert.CTail.nD Cert.CTail.τ).loc Cert.CTail.main_arg3)
      ∧ r.2.mem ((c.tc : Thread Cert.CTail.nD Cert.CTail.τ).loc Cert.CTail.main_arg4) = m ((c.tc : Thread Cert.CTail.nD Cert.CTail.τ).loc Cert.CTail.main_arg4)
      ∧ r.2.mem ((c.tc : Thread Cert.CTail.nD Cert.CTail.τ).loc Cert.CTail.main_arg5) = m ((c.tc : Thread Cert.CTail.nD Cert.CTail.τ).loc Cert.CTail.main_arg5)
      ∧ r.2.mem ((c.tc : Thread Cert.CTail.nD Cert.CTail.τ).loc Cert.CTail.main_arg6) = m ((c.tc : Thread Cert.CTail.nD Cert.CTail.τ).loc Cert.CTail.main_arg6)
      ∧ r.2.mem ((c.tc : Thread Cert.CTail.nD Cert.CTail.τ).loc Cert.CTail.main_arg7) = m ((c.tc : Thread Cert.CTail.nD Cert.CTail.τ).loc Cert.CTail.main_arg7)
      ∧ r.2.mem ((c.tc : Thread Cert.CTail.nD Cert.CTail.τ).loc Cert.CTail.main_arg8) = m ((c.tc : Thread Cert.CTail.nD Cert.CTail.τ).loc Cert.CTail.main_arg8)
      ∧ r.2.mem ((c.tc : Thread Cert.CTail.nD Cert.CTail.τ).loc Cert.CTail.main_arg9) = m ((c.tc : Thread Cert.CTail.nD Cert.CTail.τ).loc Cert.CTail.main_arg9)
      ∧ r.2.mem ((c.tc : Thread Cert.CTail.nD Cert.CTail.τ).loc Cert.CTail.main_arg10) = m ((c.tc : Thread Cert.CTail.nD Cert.CTail.τ).loc Cert.CTail.main_arg10)
      ∧ r.2.mem ((c.tc : Thread Cert.CTail.nD Cert.CTail.τ).loc Cert.CTail.main_arg11) = m ((c.tc : Thread Cert.CTail.nD Cert.CTail.τ).loc Cert.CTail.main_arg11)
      ∧ r.2.mem ((c.tc : Thread Cert.CTail.nD Cert.CTail.τ).loc Cert.CTail.main_arg12) = m ((c.tc : Thread Cert.CTail.nD Cert.CTail.τ).loc Cert.CTail.main_arg12)
      ∧ r.2.mem ((c.tc : Thread Cert.CTail.nD Cert.CTail.τ).loc Cert.CTail.main_arg13) = m ((c.tc : Thread Cert.CTail.nD Cert.CTail.τ).loc Cert.CTail.main_arg13)
      ∧ r.2.mem ((c.tc : Thread Cert.CTail.nD Cert.CTail.τ).loc Cert.CTail.main_arg14) = m ((c.tc : Thread Cert.CTail.nD Cert.CTail.τ).loc Cert.CTail.main_arg14))
      ∧ r.2.sem = fun _ => 0)

def quiescent_CTailIdeal [hCTailIdeal : Cert.CTailIdeal.Facts] : Prop :=
  ∀ (m : (ℓ : Loc Cert.CTailIdeal.nD Cert.CTailIdeal.τ Cert.CTailIdeal.sig) → Buf (Elt Ideal) ℓ) (g : Dev Cert.CTailIdeal.nD → PrngReg), Pre_CTailIdeal m →
    θ_run (Cert.CTailIdeal.defs (F := Ideal)) (onTc (τ := Cert.CTailIdeal.τ) (Cert.CTailIdeal.main (F := Ideal))) ⟨m, fun _ => 0, g⟩ (fun r => (∀ c : Dev Cert.CTailIdeal.nD,
      r.2.mem ((c.tc : Thread Cert.CTailIdeal.nD Cert.CTailIdeal.τ).loc Cert.CTailIdeal.main_arg0) = m ((c.tc : Thread Cert.CTailIdeal.nD Cert.CTailIdeal.τ).loc Cert.CTailIdeal.main_arg0)
      ∧ r.2.mem ((c.tc : Thread Cert.CTailIdeal.nD Cert.CTailIdeal.τ).loc Cert.CTailIdeal.main_arg1) = m ((c.tc : Thread Cert.CTailIdeal.nD Cert.CTailIdeal.τ).loc Cert.CTailIdeal.main_arg1)
      ∧ r.2.mem ((c.tc : Thread Cert.CTailIdeal.nD Cert.CTailIdeal.τ).loc Cert.CTailIdeal.main_arg2) = m ((c.tc : Thread Cert.CTailIdeal.nD Cert.CTailIdeal.τ).loc Cert.CTailIdeal.main_arg2)
      ∧ r.2.mem ((c.tc : Thread Cert.CTailIdeal.nD Cert.CTailIdeal.τ).loc Cert.CTailIdeal.main_arg3) = m ((c.tc : Thread Cert.CTailIdeal.nD Cert.CTailIdeal.τ).loc Cert.CTailIdeal.main_arg3)
      ∧ r.2.mem ((c.tc : Thread Cert.CTailIdeal.nD Cert.CTailIdeal.τ).loc Cert.CTailIdeal.main_arg4) = m ((c.tc : Thread Cert.CTailIdeal.nD Cert.CTailIdeal.τ).loc Cert.CTailIdeal.main_arg4)
      ∧ r.2.mem ((c.tc : Thread Cert.CTailIdeal.nD Cert.CTailIdeal.τ).loc Cert.CTailIdeal.main_arg5) = m ((c.tc : Thread Cert.CTailIdeal.nD Cert.CTailIdeal.τ).loc Cert.CTailIdeal.main_arg5)
      ∧ r.2.mem ((c.tc : Thread Cert.CTailIdeal.nD Cert.CTailIdeal.τ).loc Cert.CTailIdeal.main_arg6) = m ((c.tc : Thread Cert.CTailIdeal.nD Cert.CTailIdeal.τ).loc Cert.CTailIdeal.main_arg6)
      ∧ r.2.mem ((c.tc : Thread Cert.CTailIdeal.nD Cert.CTailIdeal.τ).loc Cert.CTailIdeal.main_arg7) = m ((c.tc : Thread Cert.CTailIdeal.nD Cert.CTailIdeal.τ).loc Cert.CTailIdeal.main_arg7)
      ∧ r.2.mem ((c.tc : Thread Cert.CTailIdeal.nD Cert.CTailIdeal.τ).loc Cert.CTailIdeal.main_arg8) = m ((c.tc : Thread Cert.CTailIdeal.nD Cert.CTailIdeal.τ).loc Cert.CTailIdeal.main_arg8)
      ∧ r.2.mem ((c.tc : Thread Cert.CTailIdeal.nD Cert.CTailIdeal.τ).loc Cert.CTailIdeal.main_arg9) = m ((c.tc : Thread Cert.CTailIdeal.nD Cert.CTailIdeal.τ).loc Cert.CTailIdeal.main_arg9)
      ∧ r.2.mem ((c.tc : Thread Cert.CTailIdeal.nD Cert.CTailIdeal.τ).loc Cert.CTailIdeal.main_arg10) = m ((c.tc : Thread Cert.CTailIdeal.nD Cert.CTailIdeal.τ).loc Cert.CTailIdeal.main_arg10)
      ∧ r.2.mem ((c.tc : Thread Cert.CTailIdeal.nD Cert.CTailIdeal.τ).loc Cert.CTailIdeal.main_arg11) = m ((c.tc : Thread Cert.CTailIdeal.nD Cert.CTailIdeal.τ).loc Cert.CTailIdeal.main_arg11)
      ∧ r.2.mem ((c.tc : Thread Cert.CTailIdeal.nD Cert.CTailIdeal.τ).loc Cert.CTailIdeal.main_arg12) = m ((c.tc : Thread Cert.CTailIdeal.nD Cert.CTailIdeal.τ).loc Cert.CTailIdeal.main_arg12)
      ∧ r.2.mem ((c.tc : Thread Cert.CTailIdeal.nD Cert.CTailIdeal.τ).loc Cert.CTailIdeal.main_arg13) = m ((c.tc : Thread Cert.CTailIdeal.nD Cert.CTailIdeal.τ).loc Cert.CTailIdeal.main_arg13)
      ∧ r.2.mem ((c.tc : Thread Cert.CTailIdeal.nD Cert.CTailIdeal.τ).loc Cert.CTailIdeal.main_arg14) = m ((c.tc : Thread Cert.CTailIdeal.nD Cert.CTailIdeal.τ).loc Cert.CTailIdeal.main_arg14))
      ∧ r.2.sem = fun _ => 0)

def quiescent_CTailRefIdeal [hCTailRefIdeal : Cert.CTailRefIdeal.Facts] : Prop :=
  ∀ (m : (ℓ : Loc Cert.CTailRefIdeal.nD Cert.CTailRefIdeal.τ Cert.CTailRefIdeal.sig) → Buf (Elt Ideal) ℓ) (g : Dev Cert.CTailRefIdeal.nD → PrngReg), Pre_CTailRefIdeal m →
    θ_run (Cert.CTailRefIdeal.defs (F := Ideal)) (onTc (τ := Cert.CTailRefIdeal.τ) (Cert.CTailRefIdeal.main (F := Ideal))) ⟨m, fun _ => 0, g⟩ (fun r => (∀ c : Dev Cert.CTailRefIdeal.nD,
      r.2.mem ((c.tc : Thread Cert.CTailRefIdeal.nD Cert.CTailRefIdeal.τ).loc Cert.CTailRefIdeal.main_arg0) = m ((c.tc : Thread Cert.CTailRefIdeal.nD Cert.CTailRefIdeal.τ).loc Cert.CTailRefIdeal.main_arg0)
      ∧ r.2.mem ((c.tc : Thread Cert.CTailRefIdeal.nD Cert.CTailRefIdeal.τ).loc Cert.CTailRefIdeal.main_arg1) = m ((c.tc : Thread Cert.CTailRefIdeal.nD Cert.CTailRefIdeal.τ).loc Cert.CTailRefIdeal.main_arg1)
      ∧ r.2.mem ((c.tc : Thread Cert.CTailRefIdeal.nD Cert.CTailRefIdeal.τ).loc Cert.CTailRefIdeal.main_arg2) = m ((c.tc : Thread Cert.CTailRefIdeal.nD Cert.CTailRefIdeal.τ).loc Cert.CTailRefIdeal.main_arg2)
      ∧ r.2.mem ((c.tc : Thread Cert.CTailRefIdeal.nD Cert.CTailRefIdeal.τ).loc Cert.CTailRefIdeal.main_arg3) = m ((c.tc : Thread Cert.CTailRefIdeal.nD Cert.CTailRefIdeal.τ).loc Cert.CTailRefIdeal.main_arg3)
      ∧ r.2.mem ((c.tc : Thread Cert.CTailRefIdeal.nD Cert.CTailRefIdeal.τ).loc Cert.CTailRefIdeal.main_arg4) = m ((c.tc : Thread Cert.CTailRefIdeal.nD Cert.CTailRefIdeal.τ).loc Cert.CTailRefIdeal.main_arg4)
      ∧ r.2.mem ((c.tc : Thread Cert.CTailRefIdeal.nD Cert.CTailRefIdeal.τ).loc Cert.CTailRefIdeal.main_arg5) = m ((c.tc : Thread Cert.CTailRefIdeal.nD Cert.CTailRefIdeal.τ).loc Cert.CTailRefIdeal.main_arg5)
      ∧ r.2.mem ((c.tc : Thread Cert.CTailRefIdeal.nD Cert.CTailRefIdeal.τ).loc Cert.CTailRefIdeal.main_arg6) = m ((c.tc : Thread Cert.CTailRefIdeal.nD Cert.CTailRefIdeal.τ).loc Cert.CTailRefIdeal.main_arg6)
      ∧ r.2.mem ((c.tc : Thread Cert.CTailRefIdeal.nD Cert.CTailRefIdeal.τ).loc Cert.CTailRefIdeal.main_arg7) = m ((c.tc : Thread Cert.CTailRefIdeal.nD Cert.CTailRefIdeal.τ).loc Cert.CTailRefIdeal.main_arg7)
      ∧ r.2.mem ((c.tc : Thread Cert.CTailRefIdeal.nD Cert.CTailRefIdeal.τ).loc Cert.CTailRefIdeal.main_arg8) = m ((c.tc : Thread Cert.CTailRefIdeal.nD Cert.CTailRefIdeal.τ).loc Cert.CTailRefIdeal.main_arg8)
      ∧ r.2.mem ((c.tc : Thread Cert.CTailRefIdeal.nD Cert.CTailRefIdeal.τ).loc Cert.CTailRefIdeal.main_arg9) = m ((c.tc : Thread Cert.CTailRefIdeal.nD Cert.CTailRefIdeal.τ).loc Cert.CTailRefIdeal.main_arg9)
      ∧ r.2.mem ((c.tc : Thread Cert.CTailRefIdeal.nD Cert.CTailRefIdeal.τ).loc Cert.CTailRefIdeal.main_arg10) = m ((c.tc : Thread Cert.CTailRefIdeal.nD Cert.CTailRefIdeal.τ).loc Cert.CTailRefIdeal.main_arg10)
      ∧ r.2.mem ((c.tc : Thread Cert.CTailRefIdeal.nD Cert.CTailRefIdeal.τ).loc Cert.CTailRefIdeal.main_arg11) = m ((c.tc : Thread Cert.CTailRefIdeal.nD Cert.CTailRefIdeal.τ).loc Cert.CTailRefIdeal.main_arg11)
      ∧ r.2.mem ((c.tc : Thread Cert.CTailRefIdeal.nD Cert.CTailRefIdeal.τ).loc Cert.CTailRefIdeal.main_arg12) = m ((c.tc : Thread Cert.CTailRefIdeal.nD Cert.CTailRefIdeal.τ).loc Cert.CTailRefIdeal.main_arg12)
      ∧ r.2.mem ((c.tc : Thread Cert.CTailRefIdeal.nD Cert.CTailRefIdeal.τ).loc Cert.CTailRefIdeal.main_arg13) = m ((c.tc : Thread Cert.CTailRefIdeal.nD Cert.CTailRefIdeal.τ).loc Cert.CTailRefIdeal.main_arg13)
      ∧ r.2.mem ((c.tc : Thread Cert.CTailRefIdeal.nD Cert.CTailRefIdeal.τ).loc Cert.CTailRefIdeal.main_arg14) = m ((c.tc : Thread Cert.CTailRefIdeal.nD Cert.CTailRefIdeal.τ).loc Cert.CTailRefIdeal.main_arg14))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v105) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v108_2)) (v1 : (c : Dev Cert.ProjIdeal.nD) → Buf (Elt Ideal) ((c.tc : Thread Cert.ProjIdeal.nD Cert.ProjIdeal.τ).loc Cert.ProjIdeal.main_v108_3)) (v2 : (c : Dev Cert.ProjIdeal.nD) → Buf (Elt Ideal) ((c.tc : Thread Cert.ProjIdeal.nD Cert.ProjIdeal.τ).loc Cert.ProjIdeal.main_v108_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v108_2) = v0 c
          ∧ r.2.mem ((c.tc : Thread Cert.ProjIdeal.nD Cert.ProjIdeal.τ).loc Cert.ProjIdeal.main_v108_3) = v1 c
          ∧ r.2.mem ((c.tc : Thread Cert.ProjIdeal.nD Cert.ProjIdeal.τ).loc Cert.ProjIdeal.main_v108_4) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v66) = v0 c
          ∧ r.2.mem ((c.tc : Thread Cert.ProjRefIdeal.nD Cert.ProjRefIdeal.τ).loc Cert.ProjRefIdeal.main_v70) = v1 c
          ∧ r.2.mem ((c.tc : Thread Cert.ProjRefIdeal.nD Cert.ProjRefIdeal.τ).loc Cert.ProjRefIdeal.main_v71) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_CTail_CTailIdeal : Prop :=
  True

def algebraic_CTailIdeal_CTailRefIdeal [hCTailIdeal : Cert.CTailIdeal.Facts] [hCTailRefIdeal : Cert.CTailRefIdeal.Facts] : Prop :=
  ∀ (m : (ℓ : Loc Cert.CTailIdeal.nD Cert.CTailIdeal.τ Cert.CTailIdeal.sig) → Buf (Elt Ideal) ℓ) (g : Dev Cert.CTailIdeal.nD → PrngReg)
    (m' : (ℓ : Loc Cert.CTailRefIdeal.nD Cert.CTailRefIdeal.τ Cert.CTailRefIdeal.sig) → Buf (Elt Ideal) ℓ) (g' : Dev Cert.CTailRefIdeal.nD → PrngReg), Pre_CTailIdeal m →
    (∀ c : Dev Cert.CTailIdeal.nD,
      m' ((c.tc : Thread Cert.CTailRefIdeal.nD Cert.CTailRefIdeal.τ).loc Cert.CTailRefIdeal.main_arg0) = m ((c.tc : Thread Cert.CTailIdeal.nD Cert.CTailIdeal.τ).loc Cert.CTailIdeal.main_arg0)
      ∧ m' ((c.tc : Thread Cert.CTailRefIdeal.nD Cert.CTailRefIdeal.τ).loc Cert.CTailRefIdeal.main_arg1) = m ((c.tc : Thread Cert.CTailIdeal.nD Cert.CTailIdeal.τ).loc Cert.CTailIdeal.main_arg1)
      ∧ m' ((c.tc : Thread Cert.CTailRefIdeal.nD Cert.CTailRefIdeal.τ).loc Cert.CTailRefIdeal.main_arg2) = m ((c.tc : Thread Cert.CTailIdeal.nD Cert.CTailIdeal.τ).loc Cert.CTailIdeal.main_arg2)
      ∧ m' ((c.tc : Thread Cert.CTailRefIdeal.nD Cert.CTailRefIdeal.τ).loc Cert.CTailRefIdeal.main_arg3) = m ((c.tc : Thread Cert.CTailIdeal.nD Cert.CTailIdeal.τ).loc Cert.CTailIdeal.main_arg3)
      ∧ m' ((c.tc : Thread Cert.CTailRefIdeal.nD Cert.CTailRefIdeal.τ).loc Cert.CTailRefIdeal.main_arg4) = m ((c.tc : Thread Cert.CTailIdeal.nD Cert.CTailIdeal.τ).loc Cert.CTailIdeal.main_arg4)
      ∧ m' ((c.tc : Thread Cert.CTailRefIdeal.nD Cert.CTailRefIdeal.τ).loc Cert.CTailRefIdeal.main_arg5) = m ((c.tc : Thread Cert.CTailIdeal.nD Cert.CTailIdeal.τ).loc Cert.CTailIdeal.main_arg5)
      ∧ m' ((c.tc : Thread Cert.CTailRefIdeal.nD Cert.CTailRefIdeal.τ).loc Cert.CTailRefIdeal.main_arg6) = m ((c.tc : Thread Cert.CTailIdeal.nD Cert.CTailIdeal.τ).loc Cert.CTailIdeal.main_arg6)
      ∧ m' ((c.tc : Thread Cert.CTailRefIdeal.nD Cert.CTailRefIdeal.τ).loc Cert.CTailRefIdeal.main_arg7) = m ((c.tc : Thread Cert.CTailIdeal.nD Cert.CTailIdeal.τ).loc Cert.CTailIdeal.main_arg7)
      ∧ m' ((c.tc : Thread Cert.CTailRefIdeal.nD Cert.CTailRefIdeal.τ).loc Cert.CTailRefIdeal.main_arg8) = m ((c.tc : Thread Cert.CTailIdeal.nD Cert.CTailIdeal.τ).loc Cert.CTailIdeal.main_arg8)
      ∧ m' ((c.tc : Thread Cert.CTailRefIdeal.nD Cert.CTailRefIdeal.τ).loc Cert.CTailRefIdeal.main_arg9) = m ((c.tc : Thread Cert.CTailIdeal.nD Cert.CTailIdeal.τ).loc Cert.CTailIdeal.main_arg9)
      ∧ m' ((c.tc : Thread Cert.CTailRefIdeal.nD Cert.CTailRefIdeal.τ).loc Cert.CTailRefIdeal.main_arg10) = m ((c.tc : Thread Cert.CTailIdeal.nD Cert.CTailIdeal.τ).loc Cert.CTailIdeal.main_arg10)
      ∧ m' ((c.tc : Thread Cert.CTailRefIdeal.nD Cert.CTailRefIdeal.τ).loc Cert.CTailRefIdeal.main_arg11) = m ((c.tc : Thread Cert.CTailIdeal.nD Cert.CTailIdeal.τ).loc Cert.CTailIdeal.main_arg11)
      ∧ m' ((c.tc : Thread Cert.CTailRefIdeal.nD Cert.CTailRefIdeal.τ).loc Cert.CTailRefIdeal.main_arg12) = m ((c.tc : Thread Cert.CTailIdeal.nD Cert.CTailIdeal.τ).loc Cert.CTailIdeal.main_arg12)
      ∧ m' ((c.tc : Thread Cert.CTailRefIdeal.nD Cert.CTailRefIdeal.τ).loc Cert.CTailRefIdeal.main_arg13) = m ((c.tc : Thread Cert.CTailIdeal.nD Cert.CTailIdeal.τ).loc Cert.CTailIdeal.main_arg13)
      ∧ m' ((c.tc : Thread Cert.CTailRefIdeal.nD Cert.CTailRefIdeal.τ).loc Cert.CTailRefIdeal.main_arg14) = m ((c.tc : Thread Cert.CTailIdeal.nD Cert.CTailIdeal.τ).loc Cert.CTailIdeal.main_arg14)) →
    ∃ (v0 : (c : Dev Cert.CTailIdeal.nD) → Buf (Elt Ideal) ((c.tc : Thread Cert.CTailIdeal.nD Cert.CTailIdeal.τ).loc Cert.CTailIdeal.main_v11)),
      θ_run (Cert.CTailIdeal.defs (F := Ideal)) (onTc (τ := Cert.CTailIdeal.τ) (Cert.CTailIdeal.main (F := Ideal))) ⟨m, fun _ => 0, g⟩ (fun r => ∀ c : Dev Cert.CTailIdeal.nD,
          r.2.mem ((c.tc : Thread Cert.CTailIdeal.nD Cert.CTailIdeal.τ).loc Cert.CTailIdeal.main_v11) = v0 c
          ∧ r.2.mem ((c.tc : Thread Cert.CTailIdeal.nD Cert.CTailIdeal.τ).loc Cert.CTailIdeal.main_arg0) = m ((c.tc : Thread Cert.CTailIdeal.nD Cert.CTailIdeal.τ).loc Cert.CTailIdeal.main_arg0)
          ∧ r.2.mem ((c.tc : Thread Cert.CTailIdeal.nD Cert.CTailIdeal.τ).loc Cert.CTailIdeal.main_arg1) = m ((c.tc : Thread Cert.CTailIdeal.nD Cert.CTailIdeal.τ).loc Cert.CTailIdeal.main_arg1)
          ∧ r.2.mem ((c.tc : Thread Cert.CTailIdeal.nD Cert.CTailIdeal.τ).loc Cert.CTailIdeal.main_arg2) = m ((c.tc : Thread Cert.CTailIdeal.nD Cert.CTailIdeal.τ).loc Cert.CTailIdeal.main_arg2)
          ∧ r.2.mem ((c.tc : Thread Cert.CTailIdeal.nD Cert.CTailIdeal.τ).loc Cert.CTailIdeal.main_arg3) = m ((c.tc : Thread Cert.CTailIdeal.nD Cert.CTailIdeal.τ).loc Cert.CTailIdeal.main_arg3)
          ∧ r.2.mem ((c.tc : Thread Cert.CTailIdeal.nD Cert.CTailIdeal.τ).loc Cert.CTailIdeal.main_arg4) = m ((c.tc : Thread Cert.CTailIdeal.nD Cert.CTailIdeal.τ).loc Cert.CTailIdeal.main_arg4)
          ∧ r.2.mem ((c.tc : Thread Cert.CTailIdeal.nD Cert.CTailIdeal.τ).loc Cert.CTailIdeal.main_arg5) = m ((c.tc : Thread Cert.CTailIdeal.nD Cert.CTailIdeal.τ).loc Cert.CTailIdeal.main_arg5)
          ∧ r.2.mem ((c.tc : Thread Cert.CTailIdeal.nD Cert.CTailIdeal.τ).loc Cert.CTailIdeal.main_arg6) = m ((c.tc : Thread Cert.CTailIdeal.nD Cert.CTailIdeal.τ).loc Cert.CTailIdeal.main_arg6)
          ∧ r.2.mem ((c.tc : Thread Cert.CTailIdeal.nD Cert.CTailIdeal.τ).loc Cert.CTailIdeal.main_arg7) = m ((c.tc : Thread Cert.CTailIdeal.nD Cert.CTailIdeal.τ).loc Cert.CTailIdeal.main_arg7)
          ∧ r.2.mem ((c.tc : Thread Cert.CTailIdeal.nD Cert.CTailIdeal.τ).loc Cert.CTailIdeal.main_arg8) = m ((c.tc : Thread Cert.CTailIdeal.nD Cert.CTailIdeal.τ).loc Cert.CTailIdeal.main_arg8)
          ∧ r.2.mem ((c.tc : Thread Cert.CTailIdeal.nD Cert.CTailIdeal.τ).loc Cert.CTailIdeal.main_arg9) = m ((c.tc : Thread Cert.CTailIdeal.nD Cert.CTailIdeal.τ).loc Cert.CTailIdeal.main_arg9)
          ∧ r.2.mem ((c.tc : Thread Cert.CTailIdeal.nD Cert.CTailIdeal.τ).loc Cert.CTailIdeal.main_arg10) = m ((c.tc : Thread Cert.CTailIdeal.nD Cert.CTailIdeal.τ).loc Cert.CTailIdeal.main_arg10)
          ∧ r.2.mem ((c.tc : Thread Cert.CTailIdeal.nD Cert.CTailIdeal.τ).loc Cert.CTailIdeal.main_arg11) = m ((c.tc : Thread Cert.CTailIdeal.nD Cert.CTailIdeal.τ).loc Cert.CTailIdeal.main_arg11)
          ∧ r.2.mem ((c.tc : Thread Cert.CTailIdeal.nD Cert.CTailIdeal.τ).loc Cert.CTailIdeal.main_arg12) = m ((c.tc : Thread Cert.CTailIdeal.nD Cert.CTailIdeal.τ).loc Cert.CTailIdeal.main_arg12)
          ∧ r.2.mem ((c.tc : Thread Cert.CTailIdeal.nD Cert.CTailIdeal.τ).loc Cert.CTailIdeal.main_arg13) = m ((c.tc : Thread Cert.CTailIdeal.nD Cert.CTailIdeal.τ).loc Cert.CTailIdeal.main_arg13)
          ∧ r.2.mem ((c.tc : Thread Cert.CTailIdeal.nD Cert.CTailIdeal.τ).loc Cert.CTailIdeal.main_arg14) = m ((c.tc : Thread Cert.CTailIdeal.nD Cert.CTailIdeal.τ).loc Cert.CTailIdeal.main_arg14))
      ∧ θ_run (Cert.CTailRefIdeal.defs (F := Ideal)) (onTc (τ := Cert.CTailRefIdeal.τ) (Cert.CTailRefIdeal.main (F := Ideal))) ⟨m', fun _ => 0, g'⟩ (fun r => ∀ c : Dev Cert.CTailRefIdeal.nD,
          r.2.mem ((c.tc : Thread Cert.CTailRefIdeal.nD Cert.CTailRefIdeal.τ).loc Cert.CTailRefIdeal.main_v212) = v0 c
          ∧ r.2.mem ((c.tc : Thread Cert.CTailRefIdeal.nD Cert.CTailRefIdeal.τ).loc Cert.CTailRefIdeal.main_arg0) = m' ((c.tc : Thread Cert.CTailRefIdeal.nD Cert.CTailRefIdeal.τ).loc Cert.CTailRefIdeal.main_arg0)
          ∧ r.2.mem ((c.tc : Thread Cert.CTailRefIdeal.nD Cert.CTailRefIdeal.τ).loc Cert.CTailRefIdeal.main_arg1) = m' ((c.tc : Thread Cert.CTailRefIdeal.nD Cert.CTailRefIdeal.τ).loc Cert.CTailRefIdeal.main_arg1)
          ∧ r.2.mem ((c.tc : Thread Cert.CTailRefIdeal.nD Cert.CTailRefIdeal.τ).loc Cert.CTailRefIdeal.main_arg2) = m' ((c.tc : Thread Cert.CTailRefIdeal.nD Cert.CTailRefIdeal.τ).loc Cert.CTailRefIdeal.main_arg2)
          ∧ r.2.mem ((c.tc : Thread Cert.CTailRefIdeal.nD Cert.CTailRefIdeal.τ).loc Cert.CTailRefIdeal.main_arg3) = m' ((c.tc : Thread Cert.CTailRefIdeal.nD Cert.CTailRefIdeal.τ).loc Cert.CTailRefIdeal.main_arg3)
          ∧ r.2.mem ((c.tc : Thread Cert.CTailRefIdeal.nD Cert.CTailRefIdeal.τ).loc Cert.CTailRefIdeal.main_arg4) = m' ((c.tc : Thread Cert.CTailRefIdeal.nD Cert.CTailRefIdeal.τ).loc Cert.CTailRefIdeal.main_arg4)
          ∧ r.2.mem ((c.tc : Thread Cert.CTailRefIdeal.nD Cert.CTailRefIdeal.τ).loc Cert.CTailRefIdeal.main_arg5) = m' ((c.tc : Thread Cert.CTailRefIdeal.nD Cert.CTailRefIdeal.τ).loc Cert.CTailRefIdeal.main_arg5)
          ∧ r.2.mem ((c.tc : Thread Cert.CTailRefIdeal.nD Cert.CTailRefIdeal.τ).loc Cert.CTailRefIdeal.main_arg6) = m' ((c.tc : Thread Cert.CTailRefIdeal.nD Cert.CTailRefIdeal.τ).loc Cert.CTailRefIdeal.main_arg6)
          ∧ r.2.mem ((c.tc : Thread Cert.CTailRefIdeal.nD Cert.CTailRefIdeal.τ).loc Cert.CTailRefIdeal.main_arg7) = m' ((c.tc : Thread Cert.CTailRefIdeal.nD Cert.CTailRefIdeal.τ).loc Cert.CTailRefIdeal.main_arg7)
          ∧ r.2.mem ((c.tc : Thread Cert.CTailRefIdeal.nD Cert.CTailRefIdeal.τ).loc Cert.CTailRefIdeal.main_arg8) = m' ((c.tc : Thread Cert.CTailRefIdeal.nD Cert.CTailRefIdeal.τ).loc Cert.CTailRefIdeal.main_arg8)
          ∧ r.2.mem ((c.tc : Thread Cert.CTailRefIdeal.nD Cert.CTailRefIdeal.τ).loc Cert.CTailRefIdeal.main_arg9) = m' ((c.tc : Thread Cert.CTailRefIdeal.nD Cert.CTailRefIdeal.τ).loc Cert.CTailRefIdeal.main_arg9)
          ∧ r.2.mem ((c.tc : Thread Cert.CTailRefIdeal.nD Cert.CTailRefIdeal.τ).loc Cert.CTailRefIdeal.main_arg10) = m' ((c.tc : Thread Cert.CTailRefIdeal.nD Cert.CTailRefIdeal.τ).loc Cert.CTailRefIdeal.main_arg10)
          ∧ r.2.mem ((c.tc : Thread Cert.CTailRefIdeal.nD Cert.CTailRefIdeal.τ).loc Cert.CTailRefIdeal.main_arg11) = m' ((c.tc : Thread Cert.CTailRefIdeal.nD Cert.CTailRefIdeal.τ).loc Cert.CTailRefIdeal.main_arg11)
          ∧ r.2.mem ((c.tc : Thread Cert.CTailRefIdeal.nD Cert.CTailRefIdeal.τ).loc Cert.CTailRefIdeal.main_arg12) = m' ((c.tc : Thread Cert.CTailRefIdeal.nD Cert.CTailRefIdeal.τ).loc Cert.CTailRefIdeal.main_arg12)
          ∧ r.2.mem ((c.tc : Thread Cert.CTailRefIdeal.nD Cert.CTailRefIdeal.τ).loc Cert.CTailRefIdeal.main_arg13) = m' ((c.tc : Thread Cert.CTailRefIdeal.nD Cert.CTailRefIdeal.τ).loc Cert.CTailRefIdeal.main_arg13)
          ∧ r.2.mem ((c.tc : Thread Cert.CTailRefIdeal.nD Cert.CTailRefIdeal.τ).loc Cert.CTailRefIdeal.main_arg14) = m' ((c.tc : Thread Cert.CTailRefIdeal.nD Cert.CTailRefIdeal.τ).loc Cert.CTailRefIdeal.main_arg14))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hCTail : Cert.CTail.Facts) (hCTailIdeal : Cert.CTailIdeal.Facts) (hCTailRefIdeal : Cert.CTailRefIdeal.Facts) (hMod : Cert.Mod.Facts) (hModIdeal : Cert.ModIdeal.Facts) (hModRefIdeal : Cert.ModRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_CTail (hCTail := hCTail)
    ∧ quiescent_CTailIdeal (hCTailIdeal := hCTailIdeal)
    ∧ quiescent_CTailRefIdeal (hCTailRefIdeal := hCTailRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_CTail_CTailIdeal
    ∧ algebraic_CTailIdeal_CTailRefIdeal (hCTailIdeal := hCTailIdeal) (hCTailRefIdeal := hCTailRefIdeal)
    ∧ preserves_Mod_ModIdeal
    ∧ algebraic_ModIdeal_ModRefIdeal (hModIdeal := hModIdeal) (hModRefIdeal := hModRefIdeal)
-- ==== Pre_finite.lean ====
abbrev S8x2048x8x96 : Shape := ⟨4, ![8, 2048, 8, 96]⟩
abbrev S8x2048x8x64 : Shape := ⟨4, ![8, 2048, 8, 64]⟩
abbrev S8x256x8x96 : Shape := ⟨4, ![8, 256, 8, 96]⟩
abbrev S8x256x8x64 : Shape := ⟨4, ![8, 256, 8, 64]⟩
abbrev S_ : Shape := ⟨0, ![]⟩

class Facts : Prop where
  bcast_S_S8x2048x8x96 : S_.BroadcastsInDim S8x2048x8x96 (![] : Fin 0 → Fin S8x2048x8x96.rank)
  reducesTo_S8x2048x8x96_S_d0_1_2_3 : S8x2048x8x96.ReducesTo [0, 1, 2, 3] S_
  h_S_ : 0 < S_.numel
  bcast_S_S8x256x8x96 : S_.BroadcastsInDim S8x256x8x96 (![] : Fin 0 → Fin S8x256x8x96.rank)
  reducesTo_S8x256x8x96_S_d0_1_2_3 : S8x256x8x96.ReducesTo [0, 1, 2, 3] S_

variable [Facts]

def fn {F : FTy → Type} [FloatOps F] (main_arg0 : FVec F S8x2048x8x96 .f32) (main_arg1 : FVec F S8x2048x8x96 .f32) (main_arg2 : FVec F S8x2048x8x64 .f32) (main_arg3 : FVec F S8x256x8x96 .f32) (main_arg4 : FVec F S8x256x8x96 .f32) (main_arg5 : FVec F S8x256x8x64 .f32) : IVec S_ 1 :=
  let main_v0 : FVec F S8x2048x8x96 .f32 := Host.absf main_arg0
  let main_cst : FVec F S_ .f32 := constant S_ .f32 0x7F800000#32
  let main_v1 : FVec F S8x2048x8x96 .f32 := broadcastInDim S8x2048x8x96 ![] bcast_S_S8x2048x8x96 main_cst
  let main_v2 : IVec S8x2048x8x96 1 := cmpf .olt main_v0 main_v1
  let main_c : IVec S_ 1 := constantI S_ 1 1#1
  let main_v3 : IVec S_ 1 := (fun x v => Host.reduce IntOp.andi x v reducesTo_S8x2048x8x96_S_d0_1_2_3 h_S_) main_v2 main_c
  let main_v4 : FVec F S8x2048x8x96 .f32 := Host.absf main_arg1
  let main_cst_0 : FVec F S_ .f32 := constant S_ .f32 0x7F800000#32
  let main_v5 : FVec F S8x2048x8x96 .f32 := broadcastInDim S8x2048x8x96 ![] bcast_S_S8x2048x8x96 main_cst_0
  let main_v6 : IVec S8x2048x8x96 1 := cmpf .olt main_v4 main_v5
  let main_c_1 : IVec S_ 1 := constantI S_ 1 1#1
  let main_v7 : IVec S_ 1 := (fun x v => Host.reduce IntOp.andi x v reducesTo_S8x2048x8x96_S_d0_1_2_3 h_S_) main_v6 main_c_1
  let main_v8 : IVec S_ 1 := andi main_v3 main_v7
  let main_v9 : FVec F S8x256x8x96 .f32 := Host.absf main_arg4
  let main_cst_2 : FVec F S_ .f32 := constant S_ .f32 0x7F800000#32
  let main_v10 : FVec F S8x256x8x96 .f32 := broadcastInDim S8x256x8x96 ![] bcast_S_S8x256x8x96 main_cst_2
  let main_v11 : IVec S8x256x8x96 1 := cmpf .olt main_v9 main_v10
  let main_c_3 : IVec S_ 1 := constantI S_ 1 1#1
  let main_v12 : IVec S_ 1 := (fun x v => Host.reduce IntOp.andi x v reducesTo_S8x256x8x96_S_d0_1_2_3 h_S_) main_v11 main_c_3
  let main_v13 : IVec S_ 1 := andi main_v8 main_v12
  main_v13
-- ==== Kernel.lean ====
abbrev S8x2048x8x96 : Shape := ⟨4, ![8, 2048, 8, 96]⟩
abbrev S8x2048x8x64 : Shape := ⟨4, ![8, 2048, 8, 64]⟩
abbrev S8x256x8x96 : Shape := ⟨4, ![8, 256, 8, 96]⟩
abbrev S8x256x8x64 : Shape := ⟨4, ![8, 256, 8, 64]⟩
abbrev S_ : Shape := ⟨0, ![]⟩
abbrev S8x2048x8x32 : Shape := ⟨4, ![8, 2048, 8, 32]⟩
abbrev S8x2048x8x128 : Shape := ⟨4, ![8, 2048, 8, 128]⟩
abbrev S8x256x8x32 : Shape := ⟨4, ![8, 256, 8, 32]⟩
abbrev S8x256x8x128 : Shape := ⟨4, ![8, 256, 8, 128]⟩
abbrev S16384x8x128 : Shape := ⟨3, ![16384, 8, 128]⟩
abbrev S2048x8x128 : Shape := ⟨3, ![2048, 8, 128]⟩
abbrev S18432x8x128 : Shape := ⟨3, ![18432, 8, 128]⟩
abbrev S8x18432x128 : Shape := ⟨3, ![8, 18432, 128]⟩
abbrev S16384x8x64 : Shape := ⟨3, ![16384, 8, 64]⟩
abbrev S2048x8x64 : Shape := ⟨3, ![2048, 8, 64]⟩
abbrev S18432x8x64 : Shape := ⟨3, ![18432, 8, 64]⟩
abbrev S8x64x18432 : Shape := ⟨3, ![8, 64, 18432]⟩
abbrev S8x16x18432 : Shape := ⟨3, ![8, 16, 18432]⟩
abbrev S8x80x18432 : Shape := ⟨3, ![8, 80, 18432]⟩
abbrev S640x18432 : Shape := ⟨2, ![640, 18432]⟩
abbrev S16384x512 : Shape := ⟨2, ![16384, 512]⟩
abbrev S8x2048x128 : Shape := ⟨3, ![8, 2048, 128]⟩
abbrev S8x256x128 : Shape := ⟨3, ![8, 256, 128]⟩
abbrev S640x2048 : Shape := ⟨2, ![640, 2048]⟩
abbrev S640x256 : Shape := ⟨2, ![640, 256]⟩
abbrev S2048x512 : Shape := ⟨2, ![2048, 512]⟩
abbrev S512x512 : Shape := ⟨2, ![512, 512]⟩
abbrev S256x512 : Shape := ⟨2, ![256, 512]⟩
abbrev S1x512 : Shape := ⟨2, ![1, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512 : Shape := ⟨1, ![512]⟩
abbrev S1x2048x128 : Shape := ⟨3, ![1, 2048, 128]⟩
abbrev S2048x128 : Shape := ⟨2, ![2048, 128]⟩
abbrev S80x256 : Shape := ⟨2, ![80, 256]⟩
abbrev S80x512 : Shape := ⟨2, ![80, 512]⟩
abbrev S80x2048 : Shape := ⟨2, ![80, 2048]⟩
abbrev S64x512 : Shape := ⟨2, ![64, 512]⟩

abbrev nBuf : Space → Nat
  | .hbm => 44
  | .vmem => 25
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x8x32, .f32⟩
  | .hbm, ⟨12, _⟩ => ⟨S8x2048x8x128, .f32⟩
  | .hbm, ⟨13, _⟩ => ⟨S_, .f32⟩
  | .hbm, ⟨14, _⟩ => ⟨S8x256x8x32, .f32⟩
  | .hbm, ⟨15, _⟩ => ⟨S8x256x8x128, .f32⟩
  | .hbm, ⟨16, _⟩ => ⟨S16384x8x128, .f32⟩
  | .hbm, ⟨17, _⟩ => ⟨S2048x8x128, .f32⟩
  | .hbm, ⟨18, _⟩ => ⟨S18432x8x128, .f32⟩
  | .hbm, ⟨19, _⟩ => ⟨S8x18432x128, .f32⟩
  | .hbm, ⟨20, _⟩ => ⟨S8x18432x128, .f32⟩
  | .hbm, ⟨21, _⟩ => ⟨S8x18432x128, .f32⟩
  | .hbm, ⟨22, _⟩ => ⟨S8x18432x128, .bf16⟩
  | .hbm, ⟨23, _⟩ => ⟨S_, .f32⟩
  | .hbm, ⟨24, _⟩ => ⟨S8x2048x8x32, .f32⟩
  | .hbm, ⟨25, _⟩ => ⟨S8x2048x8x128, .f32⟩
  | .hbm, ⟨26, _⟩ => ⟨S_, .f32⟩
  | .hbm, ⟨27, _⟩ => ⟨S8x256x8x32, .f32⟩
  | .hbm, ⟨28, _⟩ => ⟨S8x256x8x128, .f32⟩
  | .hbm, ⟨29, _⟩ => ⟨S16384x8x128, .f32⟩
  | .hbm, ⟨30, _⟩ => ⟨S2048x8x128, .f32⟩
  | .hbm, ⟨31, _⟩ => ⟨S18432x8x128, .f32⟩
  | .hbm, ⟨32, _⟩ => ⟨S8x18432x128, .f32⟩
  | .hbm, ⟨33, _⟩ => ⟨S8x18432x128, .bf16⟩
  | .hbm, ⟨34, _⟩ => ⟨S16384x8x64, .f32⟩
  | .hbm, ⟨35, _⟩ => ⟨S2048x8x64, .f32⟩
  | .hbm, ⟨36, _⟩ => ⟨S18432x8x64, .f32⟩
  | .hbm, ⟨37, _⟩ => ⟨S8x64x18432, .f32⟩
  | .hbm, ⟨38, _⟩ => ⟨S_, .f32⟩
  | .hbm, ⟨39, _⟩ => ⟨S8x16x18432, .f32⟩
  | .hbm, ⟨40, _⟩ => ⟨S8x80x18432, .f32⟩
  | .hbm, ⟨41, _⟩ => ⟨S640x18432, .f32⟩
  | .hbm, ⟨42, _⟩ => ⟨S640x18432, .bf16⟩
  | .hbm, ⟨43, _⟩ => ⟨S16384x512, .bf16⟩
  | .local _ .vmem, ⟨0, _⟩ => ⟨S8x2048x128, .bf16⟩
  | .local _ .vmem, ⟨1, _⟩ => ⟨S8x2048x128, .bf16⟩
  | .local _ .vmem, ⟨2, _⟩ => ⟨S8x2048x128, .bf16⟩
  | .local _ .vmem, ⟨3, _⟩ => ⟨S8x2048x128, .bf16⟩
  | .local _ .vmem, ⟨4, _⟩ => ⟨S8x256x128, .bf16⟩
  | .local _ .vmem, ⟨5, _⟩ => ⟨S8x256x128, .bf16⟩
  | .local _ .vmem, ⟨6, _⟩ => ⟨S640x2048, .bf16⟩
  | .local _ .vmem, ⟨7, _⟩ => ⟨S640x2048, .bf16⟩
  | .local _ .vmem, ⟨8, _⟩ => ⟨S640x256, .bf16⟩
  | .local _ .vmem, ⟨9, _⟩ => ⟨S640x256, .bf16⟩
  | .local _ .vmem, ⟨10, _⟩ => ⟨S2048x512, .bf16⟩
  | .local _ .vmem, ⟨11, _⟩ => ⟨S2048x512, .bf16⟩
  | .local _ .vmem, ⟨12, _⟩ => ⟨S512x512, .f32⟩
  | .local _ .vmem, ⟨13, _⟩ => ⟨S2048x512, .f32⟩
  | .local _ .vmem, ⟨14, _⟩ => ⟨S256x512, .f32⟩
  | .local _ .vmem, ⟨15, _⟩ => ⟨S1x512, .f32⟩
  | .local _ .vmem, ⟨16, _⟩ => ⟨S2048x512, .f32⟩
  | .local _ .vmem, ⟨17, _⟩ => ⟨S256x512, .f32⟩
  | .local _ .vmem, ⟨18, _⟩ => ⟨S1x512, .f32⟩
  | .local _ .vmem, ⟨19, _⟩ => ⟨S2048x512, .f32⟩
  | .local _ .vmem, ⟨20, _⟩ => ⟨S256x512, .f32⟩
  | .local _ .vmem, ⟨21, _⟩ => ⟨S1x512, .f32⟩
  | .local _ .vmem, ⟨22, _⟩ => ⟨S2048x512, .f32⟩
  | .local _ .vmem, ⟨23, _⟩ => ⟨S256x512, .f32⟩
  | .local _ .vmem, ⟨24, _⟩ => ⟨S1x512, .f32⟩
  | _, _ => ⟨S8x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
def k0_mult2 : BitVec 32 :=
  let c0_i32_16 : BitVec 32 := 0#32
  c0_i32_16
@[reducible] def k0_t1_loop : Scf.Loop 32 :=
  let c0_i32_34 : BitVec 32 := 0#32
  let c7_i32 : BitVec 32 := 7#32
  let v48 : BitVec 32 := Scalar.addi c0_i32_34 c7_i32
  let c1_i32 : BitVec 32 := 1#32
  ⟨c0_i32_34, v48, c1_i32⟩
def k0_mult3 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c0_i32_121 : BitVec 32 := 0#32
  let v225 : BitVec 32 := Scalar.addi v223 c0_i32_121
  let c2_i32 : BitVec 32 := 2#32
  let v226 : BitVec 32 := Scalar.addi v225 c2_i32
  let c3_i32 : BitVec 32 := 3#32
  let v228 : BitVec 32 := Scalar.shrsi v226 c3_i32
  let c512_i32 : BitVec 32 := 512#32
  let v229 : BitVec 32 := Scalar.muli v228 c512_i32
  v229
def k0_off1 (k0_t1 : Fin k0_t1_loop.trips) (c0_i32_121 : BitVec 32) : Fin 3 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v225 : BitVec 32 := Scalar.addi v223 c0_i32_121
  let c2_i32 : BitVec 32 := 2#32
  let v226 : BitVec 32 := Scalar.addi v225 c2_i32
  let c7_i32_122 : BitVec 32 := 7#32
  let v227 : BitVec 32 := Scalar.andi v226 c7_i32_122
  let v231 : Index := Scalar.indexCast v227
  let c3_i32 : BitVec 32 := 3#32
  let v228 : BitVec 32 := Scalar.shrsi v226 c3_i32
  let c512_i32 : BitVec 32 := 512#32
  let v229 : BitVec 32 := Scalar.muli v228 c512_i32
  let v230 : BitVec 32 := v229
  let v232 : Index := Scalar.indexCast v230
  let c0_123 : Index := 0#32
  ![v231.toNat, v232.toNat, 0]
def k0_off2 (k0_t1 : Fin k0_t1_loop.trips) (c0_i32_121 : BitVec 32) : Fin 3 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v225 : BitVec 32 := Scalar.addi v223 c0_i32_121
  let c2_i32 : BitVec 32 := 2#32
  let v226 : BitVec 32 := Scalar.addi v225 c2_i32
  let c7_i32_122 : BitVec 32 := 7#32
  let v227 : BitVec 32 := Scalar.andi v226 c7_i32_122
  let v235 : Index := Scalar.indexCast v227
  let c0_124 : Index := 0#32
  let c0_125 : Index := 0#32
  ![v235.toNat, 0, 0]
def k0_mult4 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c0_i32_120 : BitVec 32 := 0#32
  let v224 : BitVec 32 := Scalar.addi v223 c0_i32_120
  let c7_i32_130 : BitVec 32 := 7#32
  let v244 : BitVec 32 := Scalar.andi v224 c7_i32_130
  let c80_i32 : BitVec 32 := 80#32
  let v245 : BitVec 32 := Scalar.muli v244 c80_i32
  v245
def k0_off3 (k0_t1 : Fin k0_t1_loop.trips) (c0_i32_120 : BitVec 32) : Fin 2 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v224 : BitVec 32 := Scalar.addi v223 c0_i32_120
  let c7_i32_130 : BitVec 32 := 7#32
  let v244 : BitVec 32 := Scalar.andi v224 c7_i32_130
  let c80_i32 : BitVec 32 := 80#32
  let v245 : BitVec 32 := Scalar.muli v244 c80_i32
  let v246 : BitVec 32 := v245
  let v248 : Index := Scalar.indexCast v246
  let c0_133 : Index := 0#32
  ![v248.toNat, 0]
def k0_off4 (k0_t1 : Fin k0_t1_loop.trips) (c0_i32_121 : BitVec 32) : Fin 3 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v225 : BitVec 32 := Scalar.addi v223 c0_i32_121
  let c2_i32 : BitVec 32 := 2#32
  let v226 : BitVec 32 := Scalar.addi v225 c2_i32
  let c7_i32_122 : BitVec 32 := 7#32
  let v227 : BitVec 32 := Scalar.andi v226 c7_i32_122
  let v257 : Index := Scalar.indexCast v227
  let c0_137 : Index := 0#32
  let c0_138 : Index := 0#32
  ![v257.toNat, 0, 0]
def k0_off5 (k0_t1 : Fin k0_t1_loop.trips) (c0_i32_120 : BitVec 32) : Fin 2 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v224 : BitVec 32 := Scalar.addi v223 c0_i32_120
  let c7_i32_130 : BitVec 32 := 7#32
  let v244 : BitVec 32 := Scalar.andi v224 c7_i32_130
  let c80_i32 : BitVec 32 := 80#32
  let v245 : BitVec 32 := Scalar.muli v244 c80_i32
  let v246 : BitVec 32 := v245
  let v270 : Index := Scalar.indexCast v246
  let c0_145 : Index := 0#32
  ![v270.toNat, 0]
def k0_mult5 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c0_i32_120 : BitVec 32 := 0#32
  let v224 : BitVec 32 := Scalar.addi v223 c0_i32_120
  let c7_i32_130 : BitVec 32 := 7#32
  let v244 : BitVec 32 := Scalar.andi v224 c7_i32_130
  let c64_i32 : BitVec 32 := 64#32
  let v280 : BitVec 32 := Scalar.muli v244 c64_i32
  v280
def k0_off6 (k0_t1 : Fin k0_t1_loop.trips) (c0_i32_120 : BitVec 32) : Fin 2 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let v224 : BitVec 32 := Scalar.addi v223 c0_i32_120
  let c7_i32_130 : BitVec 32 := 7#32
  let v244 : BitVec 32 := Scalar.andi v224 c7_i32_130
  let c64_i32 : BitVec 32 := 64#32
  let v280 : BitVec 32 := Scalar.muli v244 c64_i32
  let v281 : BitVec 32 := v280
  let v286 : Index := Scalar.indexCast v281
  let c0_149 : Index := 0#32
  ![v286.toNat, 0]
def k0_mult6 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c1_i32_151 : BitVec 32 := 1#32
  let v291 : BitVec 32 := Scalar.addi v223 c1_i32_151
  let c2_i32_152 : BitVec 32 := 2#32
  let v292 : BitVec 32 := Scalar.addi v291 c2_i32_152
  let c3_i32_154 : BitVec 32 := 3#32
  let v294 : BitVec 32 := Scalar.shrsi v292 c3_i32_154
  let c512_i32_155 : BitVec 32 := 512#32
  let v295 : BitVec 32 := Scalar.muli v294 c512_i32_155
  v295
def k0_mult7 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c1_i32_150 : BitVec 32 := 1#32
  let v290 : BitVec 32 := Scalar.addi v223 c1_i32_150
  let c7_i32_163 : BitVec 32 := 7#32
  let v310 : BitVec 32 := Scalar.andi v290 c7_i32_163
  let c80_i32_164 : BitVec 32 := 80#32
  let v311 : BitVec 32 := Scalar.muli v310 c80_i32_164
  v311
def k0_mult8 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c1_i32_150 : BitVec 32 := 1#32
  let v290 : BitVec 32 := Scalar.addi v223 c1_i32_150
  let c7_i32_163 : BitVec 32 := 7#32
  let v310 : BitVec 32 := Scalar.andi v290 c7_i32_163
  let c64_i32_183 : BitVec 32 := 64#32
  let v346 : BitVec 32 := Scalar.muli v310 c64_i32_183
  v346
def k0_mult9 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c2_i32_186 : BitVec 32 := 2#32
  let v357 : BitVec 32 := Scalar.addi v223 c2_i32_186
  let c2_i32_187 : BitVec 32 := 2#32
  let v358 : BitVec 32 := Scalar.addi v357 c2_i32_187
  let c3_i32_189 : BitVec 32 := 3#32
  let v360 : BitVec 32 := Scalar.shrsi v358 c3_i32_189
  let c512_i32_190 : BitVec 32 := 512#32
  let v361 : BitVec 32 := Scalar.muli v360 c512_i32_190
  v361
def k0_mult10 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c2_i32_185 : BitVec 32 := 2#32
  let v356 : BitVec 32 := Scalar.addi v223 c2_i32_185
  let c7_i32_198 : BitVec 32 := 7#32
  let v376 : BitVec 32 := Scalar.andi v356 c7_i32_198
  let c80_i32_199 : BitVec 32 := 80#32
  let v377 : BitVec 32 := Scalar.muli v376 c80_i32_199
  v377
def k0_mult11 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c2_i32_185 : BitVec 32 := 2#32
  let v356 : BitVec 32 := Scalar.addi v223 c2_i32_185
  let c7_i32_198 : BitVec 32 := 7#32
  let v376 : BitVec 32 := Scalar.andi v356 c7_i32_198
  let c64_i32_218 : BitVec 32 := 64#32
  let v412 : BitVec 32 := Scalar.muli v376 c64_i32_218
  v412
def k0_mult12 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c3_i32_221 : BitVec 32 := 3#32
  let v423 : BitVec 32 := Scalar.addi v223 c3_i32_221
  let c2_i32_222 : BitVec 32 := 2#32
  let v424 : BitVec 32 := Scalar.addi v423 c2_i32_222
  let c3_i32_224 : BitVec 32 := 3#32
  let v426 : BitVec 32 := Scalar.shrsi v424 c3_i32_224
  let c512_i32_225 : BitVec 32 := 512#32
  let v427 : BitVec 32 := Scalar.muli v426 c512_i32_225
  v427
def k0_mult13 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c3_i32_220 : BitVec 32 := 3#32
  let v422 : BitVec 32 := Scalar.addi v223 c3_i32_220
  let c7_i32_233 : BitVec 32 := 7#32
  let v442 : BitVec 32 := Scalar.andi v422 c7_i32_233
  let c80_i32_234 : BitVec 32 := 80#32
  let v443 : BitVec 32 := Scalar.muli v442 c80_i32_234
  v443
def k0_mult14 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c3_i32_220 : BitVec 32 := 3#32
  let v422 : BitVec 32 := Scalar.addi v223 c3_i32_220
  let c7_i32_233 : BitVec 32 := 7#32
  let v442 : BitVec 32 := Scalar.andi v422 c7_i32_233
  let c64_i32_253 : BitVec 32 := 64#32
  let v478 : BitVec 32 := Scalar.muli v442 c64_i32_253
  v478
def k0_cond1 (k0_t1 : Fin k0_t1_loop.trips) : BitVec 1 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c4_i32_255 : BitVec 32 := 4#32
  let v488 : BitVec 32 := Scalar.addi v223 c4_i32_255
  let c7_i32_256 : BitVec 32 := 7#32
  let v489 : BitVec 32 := Scalar.andi v488 c7_i32_256
  let c0_i32_257 : BitVec 32 := 0#32
  let v490 : BitVec 1 := Scalar.cmpi .eq v489 c0_i32_257
  let v491 : BitVec 32 := Scalar.extui v490
  let c0_i32_258 : BitVec 32 := 0#32
  let v492 : BitVec 1 := Scalar.cmpi .ne v491 c0_i32_258
  v492

def k0_mult15 (k0_t1 : Fin k0_t1_loop.trips) : BitVec 32 :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c3_i32_259 : BitVec 32 := 3#32
  let v493 : BitVec 32 := Scalar.shrsi v223 c3_i32_259
  let c512_i32_260 : BitVec 32 := 512#32
  let v494 : BitVec 32 := Scalar.muli v493 c512_i32_260
  v494
def k0_off7 (k0_t1 : Fin k0_t1_loop.trips) : Fin 2 → Nat :=
  let c4_i32 : BitVec 32 := 4#32
  let c0_i32_34 : BitVec 32 := 0#32
  let c1_i32 : BitVec 32 := 1#32
  let arg20 : BitVec 32 := Scf.iv c0_i32_34 c1_i32 k0_t1
  let v223 : BitVec 32 := Scalar.muli c4_i32 arg20
  let c3_i32_259 : BitVec 32 := 3#32
  let v493 : BitVec 32 := Scalar.shrsi v223 c3_i32_259
  let c512_i32_260 : BitVec 32 := 512#32
  let v494 : BitVec 32 := Scalar.muli v493 c512_i32_260
  let v495 : BitVec 32 := v494
  let v499 : Index := Scalar.indexCast v495
  let c0_263 : Index := 0#32
  ![v499.toNat, 0]
def k0_mult16 : BitVec 32 :=
  let c1536_i32 : BitVec 32 := 1536#32
  c1536_i32
def k0_mult17 : BitVec 32 :=
  let c320_i32 : BitVec 32 := 320#32
  c320_i32
def k0_mult18 : BitVec 32 :=
  let c256_i32 : BitVec 32 := 256#32
  c256_i32
def k0_mult19 : BitVec 32 :=
  let c1536_i32_64 : BitVec 32 := 1536#32
  c1536_i32_64
def k0_mult20 : BitVec 32 :=
  let c400_i32 : BitVec 32 := 400#32
  c400_i32
def k0_mult21 : BitVec 32 :=
  let c320_i32_92 : BitVec 32 := 320#32
  c320_i32_92
def k0_mult22 : BitVec 32 :=
  let c480_i32 : BitVec 32 := 480#32
  c480_i32
def k0_mult23 : BitVec 32 :=
  let c384_i32 : BitVec 32 := 384#32
  c384_i32
def k0_mult24 : BitVec 32 :=
  let c560_i32 : BitVec 32 := 560#32
  c560_i32
def k0_mult25 : BitVec 32 :=
  let c448_i32 : BitVec 32 := 448#32
  c448_i32
def k0_mult26 : BitVec 32 :=
  let c1536_i32_116 : BitVec 32 := 1536#32
  c1536_i32_116
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x8x96 : Shape := ⟨4, ![8, 2048, 8, 96]⟩
abbrev S8x2048x8x64 : Shape := ⟨4, ![8, 2048, 8, 64]⟩
abbrev S8x256x8x96 : Shape := ⟨4, ![8, 256, 8, 96]⟩
abbrev S8x256x8x64 : Shape := ⟨4, ![8, 256, 8, 64]⟩
abbrev S8x2304x8x96 : Shape := ⟨4, ![8, 2304, 8, 96]⟩
abbrev S8x2304x8x64 : Shape := ⟨4, ![8, 2304, 8, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x2304x8x96, .f32⟩
  | .hbm, ⟨7, _⟩ => ⟨S8x2304x8x64, .f32⟩
  | .hbm, ⟨8, _⟩ => ⟨S8x8x2048x2304, .f32⟩
  | .hbm, ⟨9, _⟩ => ⟨S_, .f32⟩
  | .hbm, ⟨10, _⟩ => ⟨S8x8x2048x2304, .f32⟩
  | .hbm, ⟨11, _⟩ => ⟨S8x8x2048x2304, .f32⟩
  | .hbm, ⟨12, _⟩ => ⟨S_, .f32⟩
  | .hbm, ⟨13, _⟩ => ⟨S8x8x2048, .f32⟩
  | .hbm, ⟨14, _⟩ => ⟨S_, .f32⟩
  | .hbm, ⟨15, _⟩ => ⟨S8x8x2048, .f32⟩
  | .hbm, ⟨16, _⟩ => ⟨S8x8x2048, .f32⟩
  | .hbm, ⟨17, _⟩ => ⟨S8x8x2048x1, .f32⟩
  | .hbm, ⟨18, _⟩ => ⟨S8x8x2048x2304, .f32⟩
  | .hbm, ⟨19, _⟩ => ⟨S8x8x2048x2304, .f32⟩
  | .hbm, ⟨20, _⟩ => ⟨S8x8x2048x2304, .f32⟩
  | .hbm, ⟨21, _⟩ => ⟨S_, .f32⟩
  | .hbm, ⟨22, _⟩ => ⟨S8x8x2048, .f32⟩
  | .hbm, ⟨23, _⟩ => ⟨S8x8x2048x1, .f32⟩
  | .hbm, ⟨24, _⟩ => ⟨S8x8x2048x2304, .f32⟩
  | .hbm, ⟨25, _⟩ => ⟨S8x8x2048x2304, .f32⟩
  | .hbm, ⟨26, _⟩ => ⟨S8x8x64x2048, .f32⟩
  | .hbm, ⟨27, _⟩ => ⟨S8x2048x8x64, .f32⟩
  | .hbm, ⟨28, _⟩ => ⟨S16384x512, .f32⟩
  | .hbm, ⟨29, _⟩ => ⟨S16384x512, .bf16⟩
  | _, _ => ⟨S8x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Tail.lean ====
abbrev S8x2048x1024 : Shape := ⟨3, ![8, 2048, 1024]⟩
abbrev S16384x512 : Shape := ⟨2, ![16384, 512]⟩
abbrev S16384x768 : Shape := ⟨2, ![16384, 768]⟩
abbrev S4x16x6144 : Shape := ⟨3, ![4, 16, 6144]⟩
abbrev S4x1280x1024 : Shape := ⟨3, ![4, 1280, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S4x16x1x6144 : Shape := ⟨4, ![4, 16, 1, 6144]⟩
abbrev S16384x1024 : Shape := ⟨2, ![16384, 1024]⟩
abbrev S512x1024 : Shape := ⟨2, ![512, 1024]⟩
abbrev S512x512 : Shape := ⟨2, ![512, 512]⟩
abbrev S512x768 : Shape := ⟨2, ![512, 768]⟩
abbrev S1x1x1x6144 : Shape := ⟨4, ![1, 1, 1, 6144]⟩
abbrev S1x1280x1024 : Shape := ⟨3, ![1, 1280, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1x1x1024 : Shape := ⟨4, ![1, 1, 1, 1024]⟩
abbrev S1x1024 : Shape := ⟨2, ![1, 1024]⟩
abbrev S256x512 : Shape := ⟨2, ![256, 512]⟩
abbrev S256x768 : Shape := ⟨2, ![256, 768]⟩
abbrev S1x512x1024 : Shape := ⟨3, ![1, 512, 1024]⟩
abbrev S256x1024 : Shape := ⟨2, ![256, 1024]⟩
abbrev S1x768x1024 : Shape := ⟨3, ![1, 768, 1024]⟩
abbrev S768x1024 : Shape := ⟨2, ![768, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 23
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x768, .bf16⟩
  | .hbm, ⟨3, _⟩ => ⟨S4x16x6144, .f32⟩
  | .hbm, ⟨4, _⟩ => ⟨S4x1280x1024, .f32⟩
  | .hbm, ⟨5, _⟩ => ⟨S4x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S4x1024, .f32⟩
  | .hbm, ⟨11, _⟩ => ⟨S4x1024, .f32⟩
  | .hbm, ⟨12, _⟩ => ⟨S4x1280x1024, .bf16⟩
  | .hbm, ⟨13, _⟩ => ⟨S4x1x1024, .f32⟩
  | .hbm, ⟨14, _⟩ => ⟨S4x1x1024, .f32⟩
  | .hbm, ⟨15, _⟩ => ⟨S4x1024x2816, .bf16⟩
  | .hbm, ⟨16, _⟩ => ⟨S4x1024x2816, .bf16⟩
  | .hbm, ⟨17, _⟩ => ⟨S4x2816x1024, .bf16⟩
  | .hbm, ⟨18, _⟩ => ⟨S4x1x1024, .f32⟩
  | .hbm, ⟨19, _⟩ => ⟨S4x1x1024, .f32⟩
  | .hbm, ⟨20, _⟩ => ⟨S4x16x1x6144, .f32⟩
  | .hbm, ⟨21, _⟩ => ⟨S16384x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S1x1x1x6144, .f32⟩
  | .local _ .vmem, ⟨7, _⟩ => ⟨S1x1x1x6144, .f32⟩
  | .local _ .vmem, ⟨8, _⟩ => ⟨S1x1280x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S8x2048x1024 : Shape := ⟨3, ![8, 2048, 1024]⟩
abbrev S16384x512 : Shape := ⟨2, ![16384, 512]⟩
abbrev S16384x768 : Shape := ⟨2, ![16384, 768]⟩
abbrev S4x16x6144 : Shape := ⟨3, ![4, 16, 6144]⟩
abbrev S4x1280x1024 : Shape := ⟨3, ![4, 1280, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S8x2048x512 : Shape := ⟨3, ![8, 2048, 512]⟩
abbrev S8x2048x768 : Shape := ⟨3, ![8, 2048, 768]⟩
abbrev S8x2048x1280 : Shape := ⟨3, ![8, 2048, 1280]⟩
abbrev S_ : Shape := ⟨0, ![]⟩
abbrev S1x1280x1024 : Shape := ⟨3, ![1, 1280, 1024]⟩
abbrev S1280x1024 : Shape := ⟨2, ![1280, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 139
  | .vmem => 0
  | .smem => 0
  | _ => 0

abbrev hbmTy0_0 (i : Nat) : BufTy := match i % 128 with
  | 0 => ⟨S8x2048x1024, .f32⟩
  | 1 => ⟨S16384x512, .bf16⟩
  | 2 => ⟨S16384x768, .bf16⟩
  | 3 => ⟨S4x16x6144, .f32⟩
  | 4 => ⟨S4x1280x1024, .f32⟩
  | 5 => ⟨S4x1024, .f32⟩
  | 6 => ⟨S4x1024, .f32⟩
  | 7 => ⟨S4x1024x2816, .f32⟩
  | 8 => ⟨S4x1024x2816, .f32⟩
  | 9 => ⟨S4x2816x1024, .f32⟩
  | 10 => ⟨S4x1024, .f32⟩
  | 11 => ⟨S4x1024, .f32⟩
  | 12 => ⟨S1x8x6144, .f32⟩
  | 13 => ⟨S8x6144, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S16384x512, .f32⟩
  | 27 => ⟨S8x2048x512, .f32⟩
  | 28 => ⟨S16384x768, .f32⟩
  | 29 => ⟨S8x2048x768, .f32⟩
  | 30 => ⟨S8x2048x1280, .f32⟩
  | 31 => ⟨S_, .f32⟩
  | 32 => ⟨S8x2048x1024, .f32⟩
  | 33 => ⟨S8x2048x1024, .f32⟩
  | 34 => ⟨S1x1280x1024, .f32⟩
  | 35 => ⟨S1280x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S1x1024, .f32⟩
  | 41 => ⟨S1024, .f32⟩
  | 42 => ⟨S1x1024, .f32⟩
  | 43 => ⟨S1024, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S8x2048x1024, .f32⟩
  | 51 => ⟨S8x2048x1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S8x2048x1024, .f32⟩
  | 60 => ⟨S8x2048x1024, .f32⟩
  | 61 => ⟨S_, .f32⟩
  | 62 => ⟨S8x2048x1, .f32⟩
  | 63 => ⟨S8x2048x1, .f32⟩
  | 64 => ⟨S8x2048x1, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S1x1x1024, .f32⟩
  | 71 => ⟨S8x2048x1024, .f32⟩
  | 72 => ⟨S8x2048x1024, .f32⟩
  | 73 => ⟨S_, .f32⟩
  | 74 => ⟨S8x1x1024, .f32⟩
  | 75 => ⟨S8x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S1x1024x2816, .f32⟩
  | 81 => ⟨S1024x2816, .f32⟩
  | 82 => ⟨S8x2048x2816, .f32⟩
  | 83 => ⟨S8x2048x2816, .f32⟩
  | 84 => ⟨S8x2048x2816, .f32⟩
  | 85 => ⟨S_, .f32⟩
  | 86 => ⟨S8x2048x2816, .f32⟩
  | 87 => ⟨S8x2048x2816, .f32⟩
  | 88 => ⟨S_, .f32⟩
  | 89 => ⟨S8x2048x2816, .f32⟩
  | 90 => ⟨S8x2048x2816, .f32⟩
  | 91 => ⟨S8x2048x2816, .f32⟩
  | 92 => ⟨S1x1024x2816, .f32⟩
  | 93 => ⟨S1024x2816, .f32⟩
  | 94 => ⟨S8x2048x2816, .f32⟩
  | 95 => ⟨S8x2048x2816, .f32⟩
  | 96 => ⟨S1x2816x1024, .f32⟩
  | 97 => ⟨S2816x1024, .f32⟩
  | 98 => ⟨S8x2048x1024, .f32⟩
  | 99 => ⟨S_, .f32⟩
  | 100 => ⟨S8x2048x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S1x1024, .f32⟩
  | 106 => ⟨S1024, .f32⟩
  | 107 => ⟨S1x1024, .f32⟩
  | 108 => ⟨S1024, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S8x2048x1024, .f32⟩
  | 116 => ⟨S8x2048x1024, .f32⟩
  | 117 => ⟨S8x2048x1024, .f32⟩
  | 118 => ⟨S_, .f32⟩
  | 119 => ⟨S8x2048, .f32⟩
  | 120 => ⟨S8x2048x1, .f32⟩
  | 121 => ⟨S_, .f32⟩
  | 122 => ⟨S8x2048x1, .f32⟩
  | 123 => ⟨S8x2048x1, .f32⟩
  | 124 => ⟨S8x2048x1024, .f32⟩
  | 125 => ⟨S8x2048x1024, .f32⟩
  | 126 => ⟨S_, .f32⟩
  | 127 => ⟨S8x2048x1, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S8x2048x1024, .f32⟩
  | 3 => ⟨S8x2048x1024, .f32⟩
  | 4 => ⟨S1x1x1024, .f32⟩
  | 5 => ⟨S8x2048x1024, .f32⟩
  | 6 => ⟨S8x2048x1024, .f32⟩
  | 7 => ⟨S1x1x1024, .f32⟩
  | 8 => ⟨S8x2048x1024, .f32⟩
  | 9 => ⟨S8x2048x1024, .f32⟩
  | 10 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_6 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_7 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_cst_10 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_11 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]
-- ==== Proj.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024x1440 : Shape := ⟨3, ![4, 1024, 1440]⟩
abbrev S4x256 : Shape := ⟨2, ![4, 256]⟩
abbrev S4x256x768 : Shape := ⟨3, ![4, 256, 768]⟩
abbrev S4x128 : Shape := ⟨2, ![4, 128]⟩
abbrev S4x128x512 : Shape := ⟨3, ![4, 128, 512]⟩
abbrev S32 : Shape := ⟨1, ![32]⟩
abbrev S640x1 : Shape := ⟨2, ![640, 1]⟩
abbrev S128 : Shape := ⟨1, ![128]⟩
abbrev S4x256x8x96 : Shape := ⟨4, ![4, 256, 8, 96]⟩
abbrev S4x256x8x32 : Shape := ⟨4, ![4, 256, 8, 32]⟩
abbrev S_ : Shape := ⟨0, ![]⟩
abbrev S32x1 : Shape := ⟨2, ![32, 1]⟩
abbrev S4x256x8x128 : Shape := ⟨4, ![4, 256, 8, 128]⟩
abbrev S4x128x8x64 : Shape := ⟨4, ![4, 128, 8, 64]⟩
abbrev S4x128x8x128 : Shape := ⟨4, ![4, 128, 8, 128]⟩
abbrev S1x128 : Shape := ⟨2, ![1, 128]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S1x32x1024 : Shape := ⟨3, ![1, 32, 1024]⟩
abbrev S4x32x1024 : Shape := ⟨3, ![4, 32, 1024]⟩
abbrev S4x96x1024 : Shape := ⟨3, ![4, 96, 1024]⟩
abbrev S4x128x1024 : Shape := ⟨3, ![4, 128, 1024]⟩
abbrev S4x256x1024 : Shape := ⟨3, ![4, 256, 1024]⟩
abbrev S4x512x128 : Shape := ⟨3, ![4, 512, 128]⟩
abbrev S4x8x64x128 : Shape := ⟨4, ![4, 8, 64, 128]⟩
abbrev S4x8x80x128 : Shape := ⟨4, ![4, 8, 80, 128]⟩
abbrev S4x640x128 : Shape := ⟨3, ![4, 640, 128]⟩
abbrev S4x1024x1024 : Shape := ⟨3, ![4, 1024, 1024]⟩
abbrev S4x1x256 : Shape := ⟨3, ![4, 1, 256]⟩
abbrev S4x1x128 : Shape := ⟨3, ![4, 1, 128]⟩
abbrev S4x16x1x6144 : Shape := ⟨4, ![4, 16, 1, 6144]⟩
abbrev S16384x1024 : Shape := ⟨2, ![16384, 1024]⟩
abbrev S2048x1024 : Shape := ⟨2, ![2048, 1024]⟩
abbrev S2048 : Shape := ⟨1, ![2048]⟩
abbrev S8 : Shape := ⟨1, ![8]⟩
abbrev S64 : Shape := ⟨1, ![64]⟩
abbrev S2048x1 : Shape := ⟨2, ![2048, 1]⟩
abbrev S2048x128 : Shape := ⟨2, ![2048, 128]⟩
abbrev S512x128 : Shape := ⟨2, ![512, 128]⟩
abbrev S2560x128 : Shape := ⟨2, ![2560, 128]⟩
abbrev S8x18432x128 : Shape := ⟨3, ![8, 18432, 128]⟩
abbrev S640x18432 : Shape := ⟨2, ![640, 18432]⟩
abbrev S18432x768 : Shape := ⟨2, ![18432, 768]⟩
abbrev S18432x256 : Shape := ⟨2, ![18432, 256]⟩
abbrev S512x1024 : Shape := ⟨2, ![512, 1024]⟩
abbrev S1x1x1x6144 : Shape := ⟨4, ![1, 1, 1, 6144]⟩
abbrev S1x1024x512 : Shape := ⟨3, ![1, 1024, 512]⟩
abbrev S1x1024x1024 : Shape := ⟨3, ![1, 1024, 1024]⟩
abbrev S1x1x256 : Shape := ⟨3, ![1, 1, 256]⟩
abbrev S1x1x128 : Shape := ⟨3, ![1, 1, 128]⟩
abbrev S1x256x1024 : Shape := ⟨3, ![1, 256, 1024]⟩
abbrev S1x640x128 : Shape := ⟨3, ![1, 640, 128]⟩
abbrev S8x512x128 : Shape := ⟨3, ![8, 512, 128]⟩
abbrev S640x512 : Shape := ⟨2, ![640, 512]⟩
abbrev S512x768 : Shape := ⟨2, ![512, 768]⟩
abbrev S512x256 : Shape := ⟨2, ![512, 256]⟩
abbrev S1x1x1x1024 : Shape := ⟨4, ![1, 1, 1, 1024]⟩
abbrev S1x1024 : Shape := ⟨2, ![1, 1024]⟩
abbrev S1024x512 : Shape := ⟨2, ![1024, 512]⟩
abbrev S512x512 : Shape := ⟨2, ![512, 512]⟩
abbrev S1024x1024 : Shape := ⟨2, ![1024, 1024]⟩
abbrev S1x256 : Shape := ⟨2, ![1, 256]⟩
abbrev S512 : Shape := ⟨1, ![512]⟩
abbrev S512x1 : Shape := ⟨2, ![512, 1]⟩
abbrev S256x1024 : Shape := ⟨2, ![256, 1024]⟩
abbrev S1x512x128 : Shape := ⟨3, ![1, 512, 128]⟩
abbrev S640x128 : Shape := ⟨2, ![640, 128]⟩

abbrev nBuf : Space → Nat
  | .hbm => 198
  | .vmem => 31
  | .smem => 0
  | _ => 0

abbrev hbmTy0_0 (i : Nat) : BufTy := match i % 128 with
  | 0 => ⟨S8x2048x1024, .f32⟩
  | 1 => ⟨S8x256x1024, .f32⟩
  | 2 => ⟨S4x16x6144, .f32⟩
  | 3 => ⟨S4x1024x1440, .f32⟩
  | 4 => ⟨S4x256, .f32⟩
  | 5 => ⟨S4x256x768, .f32⟩
  | 6 => ⟨S4x128, .f32⟩
  | 7 => ⟨S4x128x512, .f32⟩
  | 8 => ⟨S4x128x512, .f32⟩
  | 9 => ⟨S32, .i32⟩
  | 10 => ⟨S32, .i1⟩
  | 11 => ⟨S640x1, .f32⟩
  | 12 => ⟨S128, .f32⟩
  | 13 => ⟨S128, .i1⟩
  | 14 => ⟨S128, .i1⟩
  | 15 => ⟨S128, .f32⟩
  | 16 => ⟨S4x256x8x96, .f32⟩
  | 17 => ⟨S4x256x8x32, .f32⟩
  | 18 => ⟨S_, .i32⟩
  | 19 => ⟨S32, .i32⟩
  | 20 => ⟨S32, .i32⟩
  | 21 => ⟨S32, .i32⟩
  | 22 => ⟨S32x1, .i32⟩
  | 23 => ⟨S4x256x8x32, .f32⟩
  | 24 => ⟨S4x256x8x128, .f32⟩
  | 25 => ⟨S4x128x8x64, .f32⟩
  | 26 => ⟨S_, .i32⟩
  | 27 => ⟨S_, .f32⟩
  | 28 => ⟨S4x128x8x128, .f32⟩
  | 29 => ⟨S32, .i32⟩
  | 30 => ⟨S32x1, .i32⟩
  | 31 => ⟨S128, .i32⟩
  | 32 => ⟨S1x128, .i32⟩
  | 33 => ⟨S_, .i32⟩
  | 34 => ⟨S1x128, .i32⟩
  | 35 => ⟨S1x128, .i32⟩
  | 36 => ⟨S_, .i32⟩
  | 37 => ⟨S1x128, .i32⟩
  | 38 => ⟨S1x128, .i1⟩
  | 39 => ⟨S32x128, .i32⟩
  | 40 => ⟨S32x128, .i32⟩
  | 41 => ⟨S32x128, .i1⟩
  | 42 => ⟨S32x128, .i1⟩
  | 43 => ⟨S32x128, .i1⟩
  | 44 => ⟨S32x128, .f32⟩
  | 45 => ⟨S_, .i32⟩
  | 46 => ⟨S1x128, .i32⟩
  | 47 => ⟨S1x128, .i1⟩
  | 48 => ⟨S_, .i32⟩
  | 49 => ⟨S1x128, .i32⟩
  | 50 => ⟨S1x128, .i32⟩
  | 51 => ⟨S32x128, .i32⟩
  | 52 => ⟨S32x128, .i32⟩
  | 53 => ⟨S32x128, .i1⟩
  | 54 => ⟨S32x128, .i1⟩
  | 55 => ⟨S32x128, .i1⟩
  | 56 => ⟨S32x128, .f32⟩
  | 57 => ⟨S1x32x1x128, .f32⟩
  | 58 => ⟨S1x32x8x128, .f32⟩
  | 59 => ⟨S32x1024, .f32⟩
  | 60 => ⟨S1x32x1024, .f32⟩
  | 61 => ⟨S4x32x1024, .f32⟩
  | 62 => ⟨S1x32x1x128, .f32⟩
  | 63 => ⟨S1x32x8x128, .f32⟩
  | 64 => ⟨S32x1024, .f32⟩
  | 65 => ⟨S1x32x1024, .f32⟩
  | 66 => ⟨S4x32x1024, .f32⟩
  | 67 => ⟨S_, .f32⟩
  | 68 => ⟨S4x96x1024, .f32⟩
  | 69 => ⟨S4x128x1024, .f32⟩
  | 70 => ⟨S4x256x1024, .f32⟩
  | 71 => ⟨S_, .f32⟩
  | 72 => ⟨S4x128x1024, .f32⟩
  | 73 => ⟨S4x256x1024, .f32⟩
  | 74 => ⟨S4x512x128, .f32⟩
  | 75 => ⟨S4x8x64x128, .f32⟩
  | 76 => ⟨S_, .i32⟩
  | 77 => ⟨S_, .f32⟩
  | 78 => ⟨S4x8x80x128, .f32⟩
  | 79 => ⟨S4x640x128, .f32⟩
  | 80 => ⟨S4x1024x1440, .bf16⟩
  | 81 => ⟨S4x1024x1024, .f32⟩
  | 82 => ⟨S4x1024x1024, .bf16⟩
  | 83 => ⟨S4x1x256, .f32⟩
  | 84 => ⟨S4x1x128, .f32⟩
  | 85 => ⟨S4x256x1024, .f32⟩
  | 86 => ⟨S4x256x1024, .bf16⟩
  | 87 => ⟨S4x256x1024, .bf16⟩
  | 88 => ⟨S4x256x1024, .bf16⟩
  | 89 => ⟨S4x640x128, .bf16⟩
  | 90 => ⟨S4x16x1x6144, .f32⟩
  | 91 => ⟨S16384x1024, .f32⟩
  | 92 => ⟨S2048x1024, .f32⟩
  | 93 => ⟨S2048, .i32⟩
  | 94 => ⟨S_, .i32⟩
  | 95 => ⟨S_, .i32⟩
  | 96 => ⟨S2048, .i32⟩
  | 97 => ⟨S2048, .i32⟩
  | 98 => ⟨S2048, .i32⟩
  | 99 => ⟨S_, .i32⟩
  | 100 => ⟨S2048, .i32⟩
  | 101 => ⟨S2048, .i1⟩
  | 102 => ⟨S2048, .i32⟩
  | 103 => ⟨S2048, .i32⟩
  | 104 => ⟨S_, .i32⟩
  | 105 => ⟨S2048, .i32⟩
  | 106 => ⟨S2048, .i1⟩
  | 107 => ⟨S2048, .i1⟩
  | 108 => ⟨S_, .i32⟩
  | 109 => ⟨S2048, .i32⟩
  | 110 => ⟨S2048, .i32⟩
  | 111 => ⟨S2048, .i32⟩
  | 112 => ⟨S2048, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i1⟩
  | 124 => ⟨S_, .i32⟩
  | 125 => ⟨S2048, .i32⟩
  | 126 => ⟨S2048, .i1⟩
  | 127 => ⟨S_, .i32⟩
  | _ => ⟨S8x2048x1024, .f32⟩

abbrev hbmTy0_1 (i : Nat) : BufTy := match i % 128 with
  | 0 => ⟨S_, .i1⟩
  | 1 => ⟨S2048, .i1⟩
  | 2 => ⟨S2048, .i1⟩
  | 3 => ⟨S2048, .i1⟩
  | 4 => ⟨S2048, .i32⟩
  | 5 => ⟨S2048, .i32⟩
  | 6 => ⟨S2048, .i32⟩
  | 7 => ⟨S2048, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S_, .f32⟩
  | 19 => ⟨S64, .f32⟩
  | 20 => ⟨S128, .f32⟩
  | 21 => ⟨S_, .f32⟩
  | 22 => ⟨S64, .f32⟩
  | 23 => ⟨S128, .f32⟩
  | 24 => ⟨S2048x1, .f32⟩
  | 25 => ⟨S1x128, .f32⟩
  | 26 => ⟨S2048x128, .f32⟩
  | 27 => ⟨S2048x128, .f32⟩
  | 28 => ⟨S2048x128, .f32⟩
  | 29 => ⟨S2048x1, .f32⟩
  | 30 => ⟨S1x128, .f32⟩
  | 31 => ⟨S2048x128, .f32⟩
  | 32 => ⟨S2048x128, .f32⟩
  | 33 => ⟨S2048x128, .f32⟩
  | 34 => ⟨S2048x128, .f32⟩
  | 35 => ⟨S2048x128, .f32⟩
  | 36 => ⟨S2048x128, .f32⟩
  | 37 => ⟨S1x128, .f32⟩
  | 38 => ⟨S2048x128, .f32⟩
  | 39 => ⟨S2048x128, .f32⟩
  | 40 => ⟨S2048x128, .i1⟩
  | 41 => ⟨S2048x128, .f32⟩
  | 42 => ⟨S_, .f32⟩
  | 43 => ⟨S_, .f32⟩
  | 44 => ⟨S2048x128, .i1⟩
  | 45 => ⟨S2048x128, .f32⟩
  | 46 => ⟨S2048x128, .f32⟩
  | 47 => ⟨S_, .f32⟩
  | 48 => ⟨S_, .f32⟩
  | 49 => ⟨S2048x128, .i1⟩
  | 50 => ⟨S2048x128, .f32⟩
  | 51 => ⟨S2048x128, .f32⟩
  | 52 => ⟨S_, .f32⟩
  | 53 => ⟨S_, .f32⟩
  | 54 => ⟨S2048x128, .i1⟩
  | 55 => ⟨S2048x128, .f32⟩
  | 56 => ⟨S2048x128, .f32⟩
  | 57 => ⟨S512x128, .f32⟩
  | 58 => ⟨S2560x128, .f32⟩
  | 59 => ⟨S_, .f32⟩
  | 60 => ⟨S512x128, .f32⟩
  | 61 => ⟨S2560x128, .f32⟩
  | 62 => ⟨S_, .f32⟩
  | 63 => ⟨S512x128, .f32⟩
  | 64 => ⟨S2560x128, .f32⟩
  | 65 => ⟨S8x18432x128, .bf16⟩
  | 66 => ⟨S8x18432x128, .bf16⟩
  | 67 => ⟨S640x18432, .bf16⟩
  | 68 => ⟨S18432x768, .bf16⟩
  | 69 => ⟨S18432x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1x6144, .f32⟩
  | .local _ .vmem, ⟨5, _⟩ => ⟨S1x1x1x6144, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1024x512, .bf16⟩
  | .local _ .vmem, ⟨13, _⟩ => ⟨S1x1024x1024, .bf16⟩
  | .local _ .vmem, ⟨14, _⟩ => ⟨S1x1x256, .f32⟩
  | .local _ .vmem, ⟨15, _⟩ => ⟨S1x1x128, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x640x128, .bf16⟩
  | .local _ .vmem, ⟨20, _⟩ => ⟨S640x1, .f32⟩
  | .local _ .vmem, ⟨21, _⟩ => ⟨S8x512x128, .bf16⟩
  | .local _ .vmem, ⟨22, _⟩ => ⟨S8x512x128, .bf16⟩
  | .local _ .vmem, ⟨23, _⟩ => ⟨S8x512x128, .bf16⟩
  | .local _ .vmem, ⟨24, _⟩ => ⟨S8x512x128, .bf16⟩
  | .local _ .vmem, ⟨25, _⟩ => ⟨S640x512, .bf16⟩
  | .local _ .vmem, ⟨26, _⟩ => ⟨S640x512, .bf16⟩
  | .local _ .vmem, ⟨27, _⟩ => ⟨S512x768, .bf16⟩
  | .local _ .vmem, ⟨28, _⟩ => ⟨S512x768, .bf16⟩
  | .local _ .vmem, ⟨29, _⟩ => ⟨S512x256, .f32⟩
  | .local _ .vmem, ⟨30, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_cst_1 : Ref sig .tc := ⟨.hbm, 12, rfl⟩
abbrev main_c_2 : Ref sig .tc := ⟨.hbm, 13, rfl⟩
abbrev main_c_3 : Ref sig .tc := ⟨.hbm, 14, rfl⟩
abbrev main_cst_4 : Ref sig .tc := ⟨.hbm, 15, rfl⟩
abbrev main_v0 : Ref sig .tc := ⟨.hbm, 16, rfl⟩
abbrev main_v1 : Ref sig .tc := ⟨.hbm, 17, rfl⟩
abbrev main_c_5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_6 : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_7 : Ref sig .tc := ⟨.hbm, 33, rfl⟩
abbrev main_v14 : Ref sig .tc := ⟨.hbm, 34, rfl⟩
abbrev main_v15 : Ref sig .tc := ⟨.hbm, 35, rfl⟩
abbrev main_c_8 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_9 : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_c : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_0 : Ref sig .tc := ⟨.hbm, 108, rfl⟩
abbrev main_call2_v12 : Ref sig .tc := ⟨.hbm, 109, rfl⟩
abbrev main_call2_v13 : Ref sig .tc := ⟨.hbm, 110, rfl⟩
abbrev main_v67 : Ref sig .tc := ⟨.hbm, 111, rfl⟩
abbrev main_v68 : Ref sig .tc := ⟨.hbm, 112, rfl⟩
abbrev main_c_15 : Ref sig .tc := ⟨.hbm, 113, rfl⟩
abbrev main_call3_v0 : Ref sig .tc := ⟨.hbm, 114, rfl⟩
abbrev main_call3_c : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_c_1 : Ref sig .tc := ⟨.hbm, 121, rfl⟩
abbrev main_call3_v5 : Ref sig .tc := ⟨.hbm, 122, rfl⟩
abbrev main_call3_v6 : Ref sig .tc := ⟨.hbm, 123, rfl⟩
abbrev main_call3_c_2 : Ref sig .tc := ⟨.hbm, 124, rfl⟩
abbrev main_call3_v7 : Ref sig .tc := ⟨.hbm, 125, rfl⟩
abbrev main_call3_v8 : Ref sig .tc := ⟨.hbm, 126, rfl⟩
abbrev main_call3_c_3 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_16 : Ref sig .tc := ⟨.hbm, 138, rfl⟩
abbrev main_v73 : Ref sig .tc := ⟨.hbm, 139, rfl⟩
abbrev main_v74 : Ref sig .tc := ⟨.hbm, 140, rfl⟩
abbrev main_cst_17 : Ref sig .tc := ⟨.hbm, 141, rfl⟩
abbrev main_v75 : Ref sig .tc := ⟨.hbm, 142, rfl⟩
abbrev main_v76 : Ref sig .tc := ⟨.hbm, 143, rfl⟩
abbrev main_cst_18 : Ref sig .tc := ⟨.hbm, 144, rfl⟩
abbrev main_v77 : Ref sig .tc := ⟨.hbm, 145, rfl⟩
abbrev main_cst_19 : Ref sig .tc := ⟨.hbm, 146, rfl⟩
abbrev main_v78 : Ref sig .tc := ⟨.hbm, 147, rfl⟩
abbrev main_v79 : Ref sig .tc := ⟨.hbm, 148, rfl⟩
abbrev main_cst_20 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_call4_v0 : Ref sig .tc := ⟨.hbm, 168, rfl⟩
abbrev main_v98 : Ref sig .tc := ⟨.hbm, 169, rfl⟩
abbrev main_cst_21 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_v99 : Ref sig .tc := ⟨.hbm, 174, rfl⟩
abbrev main_cst_22 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_v100 : Ref sig .tc := ⟨.hbm, 179, rfl⟩
abbrev main_cst_23 : Ref sig .tc := ⟨.hbm, 180, rfl⟩
abbrev main_call7_v0 : Ref sig .tc := ⟨.hbm, 181, rfl⟩
abbrev main_call7_v1 : Ref sig .tc := ⟨.hbm, 182, rfl⟩
abbrev main_call7_v2 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_24 : Ref sig .tc := ⟨.hbm, 187, rfl⟩
abbrev main_v104 : Ref sig .tc := ⟨.hbm, 188, rfl⟩
abbrev main_v105 : Ref sig .tc := ⟨.hbm, 189, rfl⟩
abbrev main_cst_25 : Ref sig .tc := ⟨.hbm, 190, rfl⟩
abbrev main_v106 : Ref sig .tc := ⟨.hbm, 191, rfl⟩
abbrev main_v107 : Ref sig .tc := ⟨.hbm, 192, rfl⟩
abbrev main_v108_0 : Ref sig .tc := ⟨.hbm, 193, rfl⟩
abbrev main_v108_1 : Ref sig .tc := ⟨.hbm, 194, rfl⟩
abbrev main_v108_2 : Ref sig .tc := ⟨.hbm, 195, rfl⟩
abbrev main_v108_3 : Ref sig .tc := ⟨.hbm, 196, rfl⟩
abbrev main_v108_4 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x640x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S640x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S640x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024x1440 : Shape := ⟨3, ![4, 1024, 1440]⟩
abbrev S4x256 : Shape := ⟨2, ![4, 256]⟩
abbrev S4x256x768 : Shape := ⟨3, ![4, 256, 768]⟩
abbrev S4x128 : Shape := ⟨2, ![4, 128]⟩
abbrev S4x128x512 : Shape := ⟨3, ![4, 128, 512]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S_ : Shape := ⟨0, ![]⟩
abbrev S1x1x1024 : Shape := ⟨3, ![1, 1, 1024]⟩
abbrev S16384x1024 : Shape := ⟨2, ![16384, 1024]⟩
abbrev S2048x1024 : Shape := ⟨2, ![2048, 1024]⟩
abbrev S18432x1024 : Shape := ⟨2, ![18432, 1024]⟩
abbrev S1x1024x1440 : Shape := ⟨3, ![1, 1024, 1440]⟩
abbrev S1024x1440 : Shape := ⟨2, ![1024, 1440]⟩
abbrev S18432x1440 : Shape := ⟨2, ![18432, 1440]⟩
abbrev S18432x128 : Shape := ⟨2, ![18432, 128]⟩
abbrev S1x128 : Shape := ⟨2, ![1, 128]⟩
abbrev S128 : Shape := ⟨1, ![128]⟩
abbrev S18432 : Shape := ⟨1, ![18432]⟩
abbrev S18432x1 : Shape := ⟨2, ![18432, 1]⟩
abbrev S1x128x512 : Shape := ⟨3, ![1, 128, 512]⟩
abbrev S128x512 : Shape := ⟨2, ![128, 512]⟩
abbrev S18432x512 : Shape := ⟨2, ![18432, 512]⟩
abbrev S18432x8x64 : Shape := ⟨3, ![18432, 8, 64]⟩
abbrev S18432x8x16 : Shape := ⟨3, ![18432, 8, 16]⟩
abbrev S18432x8x80 : Shape := ⟨3, ![18432, 8, 80]⟩
abbrev S8x80x18432 : Shape := ⟨3, ![8, 80, 18432]⟩
abbrev S640x18432 : Shape := ⟨2, ![640, 18432]⟩
abbrev S18432x256 : Shape := ⟨2, ![18432, 256]⟩
abbrev S18432x768 : Shape := ⟨2, ![18432, 768]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x1024x1440, .f32⟩
  | .hbm, ⟨4, _⟩ => ⟨S4x256, .f32⟩
  | .hbm, ⟨5, _⟩ => ⟨S4x256x768, .f32⟩
  | .hbm, ⟨6, _⟩ => ⟨S4x128, .f32⟩
  | .hbm, ⟨7, _⟩ => ⟨S4x128x512, .f32⟩
  | .hbm, ⟨8, _⟩ => ⟨S4x128x512, .f32⟩
  | .hbm, ⟨9, _⟩ => ⟨S1x8x6144, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S1x1x6144, .f32⟩
  | .hbm, ⟨24, _⟩ => ⟨S6144, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1x1024, .f32⟩
  | .hbm, ⟨42, _⟩ => ⟨S8x256x1024, .f32⟩
  | .hbm, ⟨43, _⟩ => ⟨S8x256x1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S16384x1024, .f32⟩
  | .hbm, ⟨48, _⟩ => ⟨S2048x1024, .f32⟩
  | .hbm, ⟨49, _⟩ => ⟨S18432x1024, .f32⟩
  | .hbm, ⟨50, _⟩ => ⟨S1x1024x1440, .f32⟩
  | .hbm, ⟨51, _⟩ => ⟨S1024x1440, .f32⟩
  | .hbm, ⟨52, _⟩ => ⟨S18432x1440, .f32⟩
  | .hbm, ⟨53, _⟩ => ⟨S18432x128, .f32⟩
  | .hbm, ⟨54, _⟩ => ⟨S1x128, .f32⟩
  | .hbm, ⟨55, _⟩ => ⟨S128, .f32⟩
  | .hbm, ⟨56, _⟩ => ⟨S18432x128, .f32⟩
  | .hbm, ⟨57, _⟩ => ⟨S_, .f32⟩
  | .hbm, ⟨58, _⟩ => ⟨S18432, .f32⟩
  | .hbm, ⟨59, _⟩ => ⟨S18432x1, .f32⟩
  | .hbm, ⟨60, _⟩ => ⟨S_, .f32⟩
  | .hbm, ⟨61, _⟩ => ⟨S18432x1, .f32⟩
  | .hbm, ⟨62, _⟩ => ⟨S18432x1, .f32⟩
  | .hbm, ⟨63, _⟩ => ⟨S_, .f32⟩
  | .hbm, ⟨64, _⟩ => ⟨S18432x1, .f32⟩
  | .hbm, ⟨65, _⟩ => ⟨S18432x1, .f32⟩
  | .hbm, ⟨66, _⟩ => ⟨S18432x1, .f32⟩
  | .hbm, ⟨67, _⟩ => ⟨S18432x128, .f32⟩
  | .hbm, ⟨68, _⟩ => ⟨S18432x128, .f32⟩
  | .hbm, ⟨69, _⟩ => ⟨S1x128, .f32⟩
  | .hbm, ⟨70, _⟩ => ⟨S18432x128, .f32⟩
  | .hbm, ⟨71, _⟩ => ⟨S18432x128, .f32⟩
  | .hbm, ⟨72, _⟩ => ⟨S1x128x512, .f32⟩
  | .hbm, ⟨73, _⟩ => ⟨S128x512, .f32⟩
  | .hbm, ⟨74, _⟩ => ⟨S18432x512, .f32⟩
  | .hbm, ⟨75, _⟩ => ⟨S18432x8x64, .f32⟩
  | .hbm, ⟨76, _⟩ => ⟨S_, .f32⟩
  | .hbm, ⟨77, _⟩ => ⟨S18432x8x16, .f32⟩
  | .hbm, ⟨78, _⟩ => ⟨S18432x8x80, .f32⟩
  | .hbm, ⟨79, _⟩ => ⟨S8x80x18432, .f32⟩
  | .hbm, ⟨80, _⟩ => ⟨S640x18432, .f32⟩
  | .hbm, ⟨81, _⟩ => ⟨S640x18432, .bf16⟩
  | .hbm, ⟨82, _⟩ => ⟨S18432x512, .f32⟩
  | .hbm, ⟨83, _⟩ => ⟨S18432x256, .f32⟩
  | .hbm, ⟨84, _⟩ => ⟨S18432x768, .f32⟩
  | .hbm, ⟨85, _⟩ => ⟨S18432x768, .bf16⟩
  | .hbm, ⟨86, _⟩ => ⟨S18432x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== CTail.lean ====
abbrev S8x2048x1024 : Shape := ⟨3, ![8, 2048, 1024]⟩
abbrev S16384x512 : Shape := ⟨2, ![16384, 512]⟩
abbrev S16384x768 : Shape := ⟨2, ![16384, 768]⟩
abbrev S4x16x6144 : Shape := ⟨3, ![4, 16, 6144]⟩
abbrev S4x1280x1024 : Shape := ⟨3, ![4, 1280, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S8x256x1024 : Shape := ⟨3, ![8, 256, 1024]⟩
abbrev S2048x512 : Shape := ⟨2, ![2048, 512]⟩
abbrev S2048x768 : Shape := ⟨2, ![2048, 768]⟩
abbrev S4x1x1024 : Shape := ⟨3, ![4, 1, 1024]⟩
abbrev S4x16x1x6144 : Shape := ⟨4, ![4, 16, 1, 6144]⟩
abbrev S16384x1024 : Shape := ⟨2, ![16384, 1024]⟩
abbrev S2048x1024 : Shape := ⟨2, ![2048, 1024]⟩
abbrev S18432x1024 : Shape := ⟨2, ![18432, 1024]⟩
abbrev S512x1024 : Shape := ⟨2, ![512, 1024]⟩
abbrev S512x512 : Shape := ⟨2, ![512, 512]⟩
abbrev S512x768 : Shape := ⟨2, ![512, 768]⟩
abbrev S1x1x1x6144 : Shape := ⟨4, ![1, 1, 1, 6144]⟩
abbrev S1x1280x1024 : Shape := ⟨3, ![1, 1280, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1x1x1024 : Shape := ⟨4, ![1, 1, 1, 1024]⟩
abbrev S1x1024 : Shape := ⟨2, ![1, 1024]⟩
abbrev S256x512 : Shape := ⟨2, ![256, 512]⟩
abbrev S256x768 : Shape := ⟨2, ![256, 768]⟩
abbrev S1x512x1024 : Shape := ⟨3, ![1, 512, 1024]⟩
abbrev S256x1024 : Shape := ⟨2, ![256, 1024]⟩
abbrev S1x768x1024 : Shape := ⟨3, ![1, 768, 1024]⟩
abbrev S768x1024 : Shape := ⟨2, ![768, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 27
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x768, .bf16⟩
  | .hbm, ⟨3, _⟩ => ⟨S4x16x6144, .f32⟩
  | .hbm, ⟨4, _⟩ => ⟨S4x1280x1024, .f32⟩
  | .hbm, ⟨5, _⟩ => ⟨S4x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S4x1024, .f32⟩
  | .hbm, ⟨11, _⟩ => ⟨S4x1024, .f32⟩
  | .hbm, ⟨12, _⟩ => ⟨S8x256x1024, .f32⟩
  | .hbm, ⟨13, _⟩ => ⟨S2048x512, .bf16⟩
  | .hbm, ⟨14, _⟩ => ⟨S2048x768, .bf16⟩
  | .hbm, ⟨15, _⟩ => ⟨S4x1280x1024, .bf16⟩
  | .hbm, ⟨16, _⟩ => ⟨S4x1x1024, .f32⟩
  | .hbm, ⟨17, _⟩ => ⟨S4x1x1024, .f32⟩
  | .hbm, ⟨18, _⟩ => ⟨S4x1024x2816, .bf16⟩
  | .hbm, ⟨19, _⟩ => ⟨S4x1024x2816, .bf16⟩
  | .hbm, ⟨20, _⟩ => ⟨S4x2816x1024, .bf16⟩
  | .hbm, ⟨21, _⟩ => ⟨S4x1x1024, .f32⟩
  | .hbm, ⟨22, _⟩ => ⟨S4x1x1024, .f32⟩
  | .hbm, ⟨23, _⟩ => ⟨S4x16x1x6144, .f32⟩
  | .hbm, ⟨24, _⟩ => ⟨S16384x1024, .f32⟩
  | .hbm, ⟨25, _⟩ => ⟨S2048x1024, .f32⟩
  | .hbm, ⟨26, _⟩ => ⟨S18432x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S1x1x1x6144, .f32⟩
  | .local _ .vmem, ⟨13, _⟩ => ⟨S1x1x1x6144, .f32⟩
  | .local _ .vmem, ⟨14, _⟩ => ⟨S1x1280x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024x2816, .bf16⟩
  | .local _ .vmem, ⟨18, _⟩ => ⟨S1x1024x2816, .bf16⟩
  | .local _ .vmem, ⟨19, _⟩ => ⟨S1x2816x1024, .bf16⟩
  | .local _ .vmem, ⟨20, _⟩ => ⟨S1x1x1024, .f32⟩
  | .local _ .vmem, ⟨21, _⟩ => ⟨S1x1x1024, .f32⟩
  | .local _ .vmem, ⟨22, _⟩ => ⟨S512x1024, .f32⟩
  | .local _ .vmem, ⟨23, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== CTailRefIdeal.lean ====
abbrev S8x2048x1024 : Shape := ⟨3, ![8, 2048, 1024]⟩
abbrev S16384x512 : Shape := ⟨2, ![16384, 512]⟩
abbrev S16384x768 : Shape := ⟨2, ![16384, 768]⟩
abbrev S4x16x6144 : Shape := ⟨3, ![4, 16, 6144]⟩
abbrev S4x1280x1024 : Shape := ⟨3, ![4, 1280, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S8x256x1024 : Shape := ⟨3, ![8, 256, 1024]⟩
abbrev S2048x512 : Shape := ⟨2, ![2048, 512]⟩
abbrev S2048x768 : Shape := ⟨2, ![2048, 768]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S8x2048x512 : Shape := ⟨3, ![8, 2048, 512]⟩
abbrev S8x2048x768 : Shape := ⟨3, ![8, 2048, 768]⟩
abbrev S8x2048x1280 : Shape := ⟨3, ![8, 2048, 1280]⟩
abbrev S_ : Shape := ⟨0, ![]⟩
abbrev S1x1280x1024 : Shape := ⟨3, ![1, 1280, 1024]⟩
abbrev S1280x1024 : Shape := ⟨2, ![1280, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S16384x1024 : Shape := ⟨2, ![16384, 1024]⟩
abbrev S1x1x6144 : Shape := ⟨3, ![1, 1, 6144]⟩
abbrev S1x6144 : Shape := ⟨2, ![1, 6144]⟩
abbrev S8x256x512 : Shape := ⟨3, ![8, 256, 512]⟩
abbrev S8x256x768 : Shape := ⟨3, ![8, 256, 768]⟩
abbrev S8x256x1280 : Shape := ⟨3, ![8, 256, 1280]⟩
abbrev S8x256 : Shape := ⟨2, ![8, 256]⟩
abbrev S8x256x1 : Shape := ⟨3, ![8, 256, 1]⟩
abbrev S8x256x2816 : Shape := ⟨3, ![8, 256, 2816]⟩
abbrev S2048x1024 : Shape := ⟨2, ![2048, 1024]⟩
abbrev S18432x1024 : Shape := ⟨2, ![18432, 1024]⟩

abbrev nBuf : Space → Nat
  | .hbm => 270
  | .vmem => 0
  | .smem => 0
  | _ => 0

abbrev hbmTy0_0 (i : Nat) : BufTy := match i % 128 with
  | 0 => ⟨S8x2048x1024, .f32⟩
  | 1 => ⟨S16384x512, .bf16⟩
  | 2 => ⟨S16384x768, .bf16⟩
  | 3 => ⟨S4x16x6144, .f32⟩
  | 4 => ⟨S4x1280x1024, .f32⟩
  | 5 => ⟨S4x1024, .f32⟩
  | 6 => ⟨S4x1024, .f32⟩
  | 7 => ⟨S4x1024x2816, .f32⟩
  | 8 => ⟨S4x1024x2816, .f32⟩
  | 9 => ⟨S4x2816x1024, .f32⟩
  | 10 => ⟨S4x1024, .f32⟩
  | 11 => ⟨S4x1024, .f32⟩
  | 12 => ⟨S8x256x1024, .f32⟩
  | 13 => ⟨S2048x512, .bf16⟩
  | 14 => ⟨S2048x768, .bf16⟩
  | 15 => ⟨S1x8x6144, .f32⟩
  | 16 => ⟨S8x6144, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S16384x512, .f32⟩
  | 30 => ⟨S8x2048x512, .f32⟩
  | 31 => ⟨S16384x768, .f32⟩
  | 32 => ⟨S8x2048x768, .f32⟩
  | 33 => ⟨S8x2048x1280, .f32⟩
  | 34 => ⟨S_, .f32⟩
  | 35 => ⟨S8x2048x1024, .f32⟩
  | 36 => ⟨S8x2048x1024, .f32⟩
  | 37 => ⟨S1x1280x1024, .f32⟩
  | 38 => ⟨S1280x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S1x1024, .f32⟩
  | 44 => ⟨S1024, .f32⟩
  | 45 => ⟨S1x1024, .f32⟩
  | 46 => ⟨S1024, .f32⟩
  | 47 => ⟨S_, .f32⟩
  | 48 => ⟨S8x2048, .f32⟩
  | 49 => ⟨S8x2048x1, .f32⟩
  | 50 => ⟨S_, .f32⟩
  | 51 => ⟨S8x2048x1, .f32⟩
  | 52 => ⟨S8x2048x1, .f32⟩
  | 53 => ⟨S8x2048x1024, .f32⟩
  | 54 => ⟨S8x2048x1024, .f32⟩
  | 55 => ⟨S8x2048x1024, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S8x2048x1024, .f32⟩
  | 63 => ⟨S8x2048x1024, .f32⟩
  | 64 => ⟨S_, .f32⟩
  | 65 => ⟨S8x2048x1, .f32⟩
  | 66 => ⟨S8x2048x1, .f32⟩
  | 67 => ⟨S8x2048x1, .f32⟩
  | 68 => ⟨S8x2048x1024, .f32⟩
  | 69 => ⟨S8x2048x1024, .f32⟩
  | 70 => ⟨S1x1x1024, .f32⟩
  | 71 => ⟨S8x2048x1024, .f32⟩
  | 72 => ⟨S8x2048x1024, .f32⟩
  | 73 => ⟨S1x1x1024, .f32⟩
  | 74 => ⟨S8x2048x1024, .f32⟩
  | 75 => ⟨S8x2048x1024, .f32⟩
  | 76 => ⟨S_, .f32⟩
  | 77 => ⟨S8x1x1024, .f32⟩
  | 78 => ⟨S8x1x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S1x1024x2816, .f32⟩
  | 84 => ⟨S1024x2816, .f32⟩
  | 85 => ⟨S8x2048x2816, .f32⟩
  | 86 => ⟨S8x2048x2816, .f32⟩
  | 87 => ⟨S8x2048x2816, .f32⟩
  | 88 => ⟨S_, .f32⟩
  | 89 => ⟨S8x2048x2816, .f32⟩
  | 90 => ⟨S8x2048x2816, .f32⟩
  | 91 => ⟨S_, .f32⟩
  | 92 => ⟨S8x2048x2816, .f32⟩
  | 93 => ⟨S8x2048x2816, .f32⟩
  | 94 => ⟨S8x2048x2816, .f32⟩
  | 95 => ⟨S1x1024x2816, .f32⟩
  | 96 => ⟨S1024x2816, .f32⟩
  | 97 => ⟨S8x2048x2816, .f32⟩
  | 98 => ⟨S8x2048x2816, .f32⟩
  | 99 => ⟨S1x2816x1024, .f32⟩
  | 100 => ⟨S2816x1024, .f32⟩
  | 101 => ⟨S8x2048x1024, .f32⟩
  | 102 => ⟨S_, .f32⟩
  | 103 => ⟨S8x2048x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S1x1024, .f32⟩
  | 109 => ⟨S1024, .f32⟩
  | 110 => ⟨S1x1024, .f32⟩
  | 111 => ⟨S1024, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S8x2048x1024, .f32⟩
  | 119 => ⟨S8x2048x1024, .f32⟩
  | 120 => ⟨S8x2048x1024, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S_, .f32⟩
  | 2 => ⟨S8x2048x1, .f32⟩
  | 3 => ⟨S8x2048x1, .f32⟩
  | 4 => ⟨S8x2048x1, .f32⟩
  | 5 => ⟨S8x2048x1024, .f32⟩
  | 6 => ⟨S8x2048x1024, .f32⟩
  | 7 => ⟨S1x1x1024, .f32⟩
  | 8 => ⟨S8x2048x1024, .f32⟩
  | 9 => ⟨S8x2048x1024, .f32⟩
  | 10 => ⟨S1x1x1024, .f32⟩
  | 11 => ⟨S8x2048x1024, .f32⟩
  | 12 => ⟨S8x2048x1024, .f32⟩
  | 13 => ⟨S16384x1024, .f32⟩
  | 14 => ⟨S1x1x6144, .f32⟩
  | 15 => ⟨S1x6144, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1x1024, .f32⟩
  | 23 => ⟨S1x1x1024, .f32⟩
  | 24 => ⟨S1x1x1024, .f32⟩
  | 25 => ⟨S1x1x1024, .f32⟩
  | 26 => ⟨S1x1x1024, .f32⟩
  | 27 => ⟨S1x1x1024, .f32⟩
  | 28 => ⟨S2048x512, .f32⟩
  | 29 => ⟨S8x256x512, .f32⟩
  | 30 => ⟨S2048x768, .f32⟩
  | 31 => ⟨S8x256x768, .f32⟩
  | 32 => ⟨S8x256x1280, .f32⟩
  | 33 => ⟨S_, .f32⟩
  | 34 => ⟨S8x256x1024, .f32⟩
  | 35 => ⟨S8x256x1024, .f32⟩
  | 36 => ⟨S1x1280x1024, .f32⟩
  | 37 => ⟨S1280x1024, .f32⟩
  | 38 => ⟨S8x256x1024, .f32⟩
  | 39 => ⟨S8x256x1024, .f32⟩
  | 40 => ⟨S8x256x1024, .f32⟩
  | 41 => ⟨S8x256x1024, .f32⟩
  | 42 => ⟨S1x1024, .f32⟩
  | 43 => ⟨S1024, .f32⟩
  | 44 => ⟨S1x1024, .f32⟩
  | 45 => ⟨S1024, .f32⟩
  | 46 => ⟨S_, .f32⟩
  | 47 => ⟨S8x256, .f32⟩
  | 48 => ⟨S8x256x1, .f32⟩
  | 49 => ⟨S_, .f32⟩
  | 50 => ⟨S8x256x1, .f32⟩
  | 51 => ⟨S8x256x1, .f32⟩
  | 52 => ⟨S8x256x1024, .f32⟩
  | 53 => ⟨S8x256x1024, .f32⟩
  | 54 => ⟨S8x256x1024, .f32⟩
  | 55 => ⟨S_, .f32⟩
  | 56 => ⟨S8x256, .f32⟩
  | 57 => ⟨S8x256x1, .f32⟩
  | 58 => ⟨S_, .f32⟩
  | 59 => ⟨S8x256x1, .f32⟩
  | 60 => ⟨S8x256x1, .f32⟩
  | 61 => ⟨S8x256x1024, .f32⟩
  | 62 => ⟨S8x256x1024, .f32⟩
  | 63 => ⟨S_, .f32⟩
  | 64 => ⟨S8x256x1, .f32⟩
  | 65 => ⟨S8x256x1, .f32⟩
  | 66 => ⟨S8x256x1, .f32⟩
  | 67 => ⟨S8x256x1024, .f32⟩
  | 68 => ⟨S8x256x1024, .f32⟩
  | 69 => ⟨S1x1x1024, .f32⟩
  | 70 => ⟨S8x256x1024, .f32⟩
  | 71 => ⟨S8x256x1024, .f32⟩
  | 72 => ⟨S1x1x1024, .f32⟩
  | 73 => ⟨S8x256x1024, .f32⟩
  | 74 => ⟨S8x256x1024, .f32⟩
  | 75 => ⟨S_, .f32⟩
  | 76 => ⟨S1x1x1024, .f32⟩
  | 77 => ⟨S1x1x1024, .f32⟩
  | 78 => ⟨S8x256x1024, .f32⟩
  | 79 => ⟨S8x256x1024, .f32⟩
  | 80 => ⟨S8x256x1024, .f32⟩
  | 81 => ⟨S8x256x1024, .f32⟩
  | 82 => ⟨S1x1024x2816, .f32⟩
  | 83 => ⟨S1024x2816, .f32⟩
  | 84 => ⟨S8x256x2816, .f32⟩
  | 85 => ⟨S8x256x2816, .f32⟩
  | 86 => ⟨S8x256x2816, .f32⟩
  | 87 => ⟨S_, .f32⟩
  | 88 => ⟨S8x256x2816, .f32⟩
  | 89 => ⟨S8x256x2816, .f32⟩
  | 90 => ⟨S_, .f32⟩
  | 91 => ⟨S8x256x2816, .f32⟩
  | 92 => ⟨S8x256x2816, .f32⟩
  | 93 => ⟨S8x256x2816, .f32⟩
  | 94 => ⟨S1x1024x2816, .f32⟩
  | 95 => ⟨S1024x2816, .f32⟩
  | 96 => ⟨S8x256x2816, .f32⟩
  | 97 => ⟨S8x256x2816, .f32⟩
  | 98 => ⟨S1x2816x1024, .f32⟩
  | 99 => ⟨S2816x1024, .f32⟩
  | 100 => ⟨S8x256x1024, .f32⟩
  | 101 => ⟨S_, .f32⟩
  | 102 => ⟨S8x256x1024, .f32⟩
  | 103 => ⟨S8x256x1024, .f32⟩
  | 104 => ⟨S8x256x1024, .f32⟩
  | 105 => ⟨S8x256x1024, .f32⟩
  | 106 => ⟨S8x256x1024, .f32⟩
  | 107 => ⟨S1x1024, .f32⟩
  | 108 => ⟨S1024, .f32⟩
  | 109 => ⟨S1x1024, .f32⟩
  | 110 => ⟨S1024, .f32⟩
  | 111 => ⟨S_, .f32⟩
  | 112 => ⟨S8x256, .f32⟩
  | 113 => ⟨S8x256x1, .f32⟩
  | 114 => ⟨S_, .f32⟩
  | 115 => ⟨S8x256x1, .f32⟩
  | 116 => ⟨S8x256x1, .f32⟩
  | 117 => ⟨S8x256x1024, .f32⟩
  | 118 => ⟨S8x256x1024, .f32⟩
  | 119 => ⟨S8x256x1024, .f32⟩
  | 120 => ⟨S_, .f32⟩
  | 121 => ⟨S8x256, .f32⟩
  | 122 => ⟨S8x256x1, .f32⟩
  | 123 => ⟨S_, .f32⟩
  | 124 => ⟨S8x256x1, .f32⟩
  | 125 => ⟨S8x256x1, .f32⟩
  | 126 => ⟨S8x256x1024, .f32⟩
  | 127 => ⟨S8x256x1024, .f32⟩
  | _ => ⟨S8x2048x1024, .f32⟩

abbrev hbmTy0_2 (i : Nat) : BufTy := match i % 128 with
  | 0 => ⟨S_, .f32⟩
  | 1 => ⟨S8x256x1, .f32⟩
  | 2 => ⟨S8x256x1, .f32⟩
  | 3 => ⟨S8x256x1, .f32⟩
  | 4 => ⟨S8x256x1024, .f32⟩
  | 5 => ⟨S8x256x1024, .f32⟩
  | 6 => ⟨S1x1x1024, .f32⟩
  | 7 => ⟨S8x256x1024, .f32⟩
  | 8 => ⟨S8x256x1024, .f32⟩
  | 9 => ⟨S1x1x1024, .f32⟩
  | 10 => ⟨S8x256x1024, .f32⟩
  | 11 => ⟨S8x256x1024, .f32⟩
  | 12 => ⟨S2048x1024, .f32⟩
  | 13 => ⟨S18432x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_6 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_7 : Ref sig .tc := ⟨.hbm, 112, rfl⟩
abbrev main_v81 : Ref sig .tc := ⟨.hbm, 113, rfl⟩
abbrev main_v82 : Ref sig .tc := ⟨.hbm, 114, rfl⟩
abbrev main_cst_8 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_9 : Ref sig .tc := ⟨.hbm, 121, rfl⟩
abbrev main_v88 : Ref sig .tc := ⟨.hbm, 122, rfl⟩
abbrev main_v89 : Ref sig .tc := ⟨.hbm, 123, rfl⟩
abbrev main_cst_10 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_11 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_12 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_13 : Ref sig .tc := ⟨.hbm, 174, rfl⟩
abbrev main_v137 : Ref sig .tc := ⟨.hbm, 175, rfl⟩
abbrev main_v138 : Ref sig .tc := ⟨.hbm, 176, rfl⟩
abbrev main_cst_14 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_15 : Ref sig .tc := ⟨.hbm, 183, rfl⟩
abbrev main_v144 : Ref sig .tc := ⟨.hbm, 184, rfl⟩
abbrev main_v145 : Ref sig .tc := ⟨.hbm, 185, rfl⟩
abbrev main_cst_16 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_17 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_18 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_call1_v0 : Ref sig .tc := ⟨.hbm, 213, rfl⟩
abbrev main_call1_v1 : Ref sig .tc := ⟨.hbm, 214, rfl⟩
abbrev main_call1_cst : Ref sig .tc := ⟨.hbm, 215, rfl⟩
abbrev main_call1_v2 : Ref sig .tc := ⟨.hbm, 216, rfl⟩
abbrev main_call1_v3 : Ref sig .tc := ⟨.hbm, 217, rfl⟩
abbrev main_call1_cst_0 : Ref sig .tc := ⟨.hbm, 218, rfl⟩
abbrev main_call1_v4 : Ref sig .tc := ⟨.hbm, 219, rfl⟩
abbrev main_call1_v5 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_19 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_20 : Ref sig .tc := ⟨.hbm, 239, rfl⟩
abbrev main_v187 : Ref sig .tc := ⟨.hbm, 240, rfl⟩
abbrev main_v188 : Ref sig .tc := ⟨.hbm, 241, rfl⟩
abbrev main_cst_21 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_cst_22 : Ref sig .tc := ⟨.hbm, 248, rfl⟩
abbrev main_v194 : Ref sig .tc := ⟨.hbm, 249, rfl⟩
abbrev main_v195 : Ref sig .tc := ⟨.hbm, 250, rfl⟩
abbrev main_cst_23 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_24 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S4x6144x16, .f32⟩
  | .hbm, ⟨18, _⟩ => ⟨S4x16x6144, .f32⟩
  | .hbm, ⟨19, _⟩ => ⟨S4x1x6144, .f32⟩
  | .hbm, ⟨20, _⟩ => ⟨S4x16x6144, .f32⟩
  | .hbm, ⟨21, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.AttnStages.lean ====
/-
  The attention kernel's STAGES. One grid point works on the eight heads of 2048 latent query rows, in thirty-two
  stages: stage `n` is head `n % 8` of query rows `[512 * (n / 8), 512 * (n / 8) + 512)`. A stage first scores its
  queries against the context keys and the latent keys and keeps the column maximum, then takes the softmax weighted
  sum of the values, divides by the weights' sum, and leaves 64 rows of the accumulator. This module names what each
  stage computes, as functions of the five input blocks, and the offsets the kernel computes for a stage in closed form.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-! ## The blocks a stage reads -/

/-- The query rows of stage `n`. -/
abbrev qOff (n : ℕ) : Fin 3 → ℕ := ![n % 8, 512 * (n / 8 % 4), 0]
/-- The head of stage `n` in the keys. -/
abbrev kOff (n : ℕ) : Fin 3 → ℕ := ![n % 8, 0, 0]
/-- The head of stage `n` in the values: 64 channels, then 16 rows of ones. -/
abbrev vOff (n : ℕ) : Fin 2 → ℕ := ![80 * (n % 8), 0]

theorem q_inb (n : ℕ) : ∀ a, qOff n a + S1x512x128.size a ≤ S8x2048x128.size a := by
  intro a; fin_cases a <;> simp [qOff] <;> omega
theorem k_inb (n : ℕ) : ∀ a, kOff n a + S1x2048x128.size a ≤ S8x2048x128.size a := by
  intro a; fin_cases a <;> simp [kOff] <;> omega
theorem kc_inb (n : ℕ) : ∀ a, kOff n a + S1x256x128.size a ≤ S8x256x128.size a := by
  intro a; fin_cases a <;> simp [kOff] <;> omega
theorem v_inb (n : ℕ) : ∀ a, vOff n a + S80x2048.size a ≤ S640x2048.size a := by
  intro a; fin_cases a <;> simp [vOff] <;> omega
theorem vc_inb (n : ℕ) : ∀ a, vOff n a + S80x256.size a ≤ S640x256.size a := by
  intro a; fin_cases a <;> simp [vOff] <;> omega

section Values

variable (x0 : Vec F S8x2048x128 .bf16) (x1 : Vec F S8x2048x128 .bf16) (x2 : Vec F S8x256x128 .bf16)
  (x3 : Vec F S640x2048 .bf16) (x4 : Vec F S640x256 .bf16)

/-- The stage's query rows, latent keys, context keys, latent values and context values. -/
def qld (n : ℕ) : Vec F S1x512x128 .bf16 := View.ld x0 (Rect.unit (s := S8x2048x128) (qOff n) S1x512x128.size (q_inb n))
def kld (n : ℕ) : Vec F S1x2048x128 .bf16 := View.ld x1 (Rect.unit (s := S8x2048x128) (kOff n) S1x2048x128.size (k_inb n))
def kcld (n : ℕ) : Vec F S1x256x128 .bf16 := View.ld x2 (Rect.unit (s := S8x256x128) (kOff n) S1x256x128.size (kc_inb n))
def vld (n : ℕ) : Vec F S80x2048 .bf16 := View.ld x3 (Rect.unit (s := S640x2048) (vOff n) S80x2048.size (v_inb n))
def vcld (n : ℕ) : Vec F S80x256 .bf16 := View.ld x4 (Rect.unit (s := S640x256) (vOff n) S80x256.size (vc_inb n))

/-- The stage's scores against the latent keys, against the context keys, and the column maximum of both. -/
def slF (n : ℕ) : FVec F S2048x512 .f32 := k0_pay9 (k0_pay3 (qld x0 n)) (kld x1 n)
def scF (n : ℕ) : FVec F S256x512 .f32 := k0_pay5 (qld x0 n) (kcld x2 n)
def mxF (n : ℕ) : FVec F S1x512 .f32 := k0_pay10 (k0_pay3 (qld x0 n)) (k0_pay6 (qld x0 n) (kcld x2 n)) (kld x1 n)

/-- The stage's 64 rows of the accumulator: the weighted sum of the values divided by the sum of the weights. -/
def softF (n : ℕ) : FVec F S64x512 .f32 :=
  k0_pay11 (mxF x0 x1 x2 n) (k0_pay7 (mxF x0 x1 x2 n) (vcld x4 n) (scF x0 x2 n)) (vld x3 n) (slF x0 x1 n)

/-- The accumulator once the eight heads of query block `b` are in it. -/
def accV (b : ℕ) : Vec F S512x512 .f32 := fun y =>
  softF x0 x1 x2 x3 x4 (8 * b + (y 0).val / 64)
    (ix2 (⟨(y 0).val % 64, Nat.mod_lt _ (by decide)⟩ : Fin 64) (⟨(y 1).val, (y 1).isLt⟩ : Fin 512))

/-- What query block `b` leaves in the result: the accumulator transposed. -/
def blkV (b : ℕ) : Vec F S512x512 .bf16 := k0_pay53 (accV x0 x1 x2 x3 x4 b)

/-- What the body leaves in the result's buffer. -/
def outV : Vec F S2048x512 .bf16 := fun y =>
  blkV x0 x1 x2 x3 x4 ((y 0).val / 512)
    (ix2 (⟨(y 0).val % 512, Nat.mod_lt _ (by decide)⟩ : Fin 512) (⟨(y 1).val, (y 1).isLt⟩ : Fin 512))

/-! ### The same, at a rectangle whose offsets are equal to the stage's -/

variable {x0 x1 x2 x3 x4}

theorem qld_of {n : ℕ} {off : Fin 3 → ℕ} (h : off = qOff n) (inb : ∀ a, off a + S1x512x128.size a ≤ S8x2048x128.size a) :
    View.ld x0 (Rect.unit (s := S8x2048x128) off S1x512x128.size inb) = qld x0 n := by subst h; rfl
theorem kld_of {n : ℕ} {off : Fin 3 → ℕ} (h : off = kOff n) (inb : ∀ a, off a + S1x2048x128.size a ≤ S8x2048x128.size a) :
    View.ld x1 (Rect.unit (s := S8x2048x128) off S1x2048x128.size inb) = kld x1 n := by subst h; rfl
theorem kcld_of {n : ℕ} {off : Fin 3 → ℕ} (h : off = kOff n) (inb : ∀ a, off a + S1x256x128.size a ≤ S8x256x128.size a) :
    View.ld x2 (Rect.unit (s := S8x256x128) off S1x256x128.size inb) = kcld x2 n := by subst h; rfl
theorem vld_of {n : ℕ} {off : Fin 2 → ℕ} (h : off = vOff n) (inb : ∀ a, off a + S80x2048.size a ≤ S640x2048.size a) :
    View.ld x3 (Rect.unit (s := S640x2048) off S80x2048.size inb) = vld x3 n := by subst h; rfl
theorem vcld_of {n : ℕ} {off : Fin 2 → ℕ} (h : off = vOff n) (inb : ∀ a, off a + S80x256.size a ≤ S640x256.size a) :
    View.ld x4 (Rect.unit (s := S640x256) off S80x256.size inb) = vcld x4 n := by subst h; rfl

end Values

/-! ## The offsets the kernel computes -/

theorem trips_eq : k0_t1_loop.trips = 7 := by decide

theorem off1_0 : ∀ k : Fin k0_t1_loop.trips, k0_off1 k 0#32 = qOff (4 * k.val + 2) := by decide +kernel
theorem off1_1 : ∀ k : Fin k0_t1_loop.trips, k0_off1 k 1#32 = qOff (4 * k.val + 3) := by decide +kernel
theorem off1_2 : ∀ k : Fin k0_t1_loop.trips, k0_off1 k 2#32 = qOff (4 * (k.val + 1)) := by decide +kernel
theorem off1_3 : ∀ k : Fin k0_t1_loop.trips, k0_off1 k 3#32 = qOff (4 * (k.val + 1) + 1) := by decide +kernel
theorem off2_0 : ∀ k : Fin k0_t1_loop.trips, k0_off2 k 0#32 = kOff (4 * k.val + 2) := by decide +kernel
theorem off2_1 : ∀ k : Fin k0_t1_loop.trips, k0_off2 k 1#32 = kOff (4 * k.val + 3) := by decide +kernel
theorem off2_2 : ∀ k : Fin k0_t1_loop.trips, k0_off2 k 2#32 = kOff (4 * (k.val + 1)) := by decide +kernel
theorem off2_3 : ∀ k : Fin k0_t1_loop.trips, k0_off2 k 3#32 = kOff (4 * (k.val + 1) + 1) := by decide +kernel
theorem off4_0 : ∀ k : Fin k0_t1_loop.trips, k0_off4 k 0#32 = kOff (4 * k.val + 2) := by decide +kernel
theorem off4_1 : ∀ k : Fin k0_t1_loop.trips, k0_off4 k 1#32 = kOff (4 * k.val + 3) := by decide +kernel
theorem off4_2 : ∀ k : Fin k0_t1_loop.trips, k0_off4 k 2#32 = kOff (4 * (k.val + 1)) := by decide +kernel
theorem off4_3 : ∀ k : Fin k0_t1_loop.trips, k0_off4 k 3#32 = kOff (4 * (k.val + 1) + 1) := by decide +kernel
theorem off3_0 : ∀ k : Fin k0_t1_loop.trips, k0_off3 k 0#32 = vOff (4 * k.val) := by decide +kernel
theorem off3_1 : ∀ k : Fin k0_t1_loop.trips, k0_off3 k 1#32 = vOff (4 * k.val + 1) := by decide +kernel
theorem off3_2 : ∀ k : Fin k0_t1_loop.trips, k0_off3 k 2#32 = vOff (4 * k.val + 2) := by decide +kernel
theorem off3_3 : ∀ k : Fin k0_t1_loop.trips, k0_off3 k 3#32 = vOff (4 * k.val + 3) := by decide +kernel
theorem off5_0 : ∀ k : Fin k0_t1_loop.trips, k0_off5 k 0#32 = vOff (4 * k.val) := by decide +kernel
theorem off5_1 : ∀ k : Fin k0_t1_loop.trips, k0_off5 k 1#32 = vOff (4 * k.val + 1) := by decide +kernel
theorem off5_2 : ∀ k : Fin k0_t1_loop.trips, k0_off5 k 2#32 = vOff (4 * k.val + 2) := by decide +kernel
theorem off5_3 : ∀ k : Fin k0_t1_loop.trips, k0_off5 k 3#32 = vOff (4 * k.val + 3) := by decide +kernel
theorem off6_0 : ∀ k : Fin k0_t1_loop.trips, k0_off6 k 0#32 = ![256 * (k.val % 2) + 0, 0] := by decide +kernel
theorem off6_1 : ∀ k : Fin k0_t1_loop.trips, k0_off6 k 1#32 = ![256 * (k.val % 2) + 64, 0] := by decide +kernel
theorem off6_2 : ∀ k : Fin k0_t1_loop.trips, k0_off6 k 2#32 = ![256 * (k.val % 2) + 128, 0] := by decide +kernel
theorem off6_3 : ∀ k : Fin k0_t1_loop.trips, k0_off6 k 3#32 = ![256 * (k.val % 2) + 192, 0] := by decide +kernel
instance (k : Fin k0_t1_loop.trips) : ClosedOff (k0_off6 k 0#32) := ⟨![256 * (k.val % 2) + 0, 0], off6_0 k⟩
instance (k : Fin k0_t1_loop.trips) : ClosedOff (k0_off6 k 1#32) := ⟨![256 * (k.val % 2) + 64, 0], off6_1 k⟩
instance (k : Fin k0_t1_loop.trips) : ClosedOff (k0_off6 k 2#32) := ⟨![256 * (k.val % 2) + 128, 0], off6_2 k⟩
instance (k : Fin k0_t1_loop.trips) : ClosedOff (k0_off6 k 3#32) := ⟨![256 * (k.val % 2) + 192, 0], off6_3 k⟩
theorem cond1_iff : ∀ k : Fin k0_t1_loop.trips, k0_cond1 k = 1#1 ↔ k.val % 2 = 1 := by decide +kernel
theorem off7_eq : ∀ k : Fin k0_t1_loop.trips, k.val % 2 = 1 → k0_off7 k = ![512 * (k.val / 2), 0] := by decide +kernel

end Cert.KernelIdeal.Attn

end
-- ==== Proof.AttnLoop.lean ====
/-
  The attention kernel's LOOP, one trip at a symbolic trip number: trip `t` finishes stages `4 * t` to `4 * t + 3` and
  scores stages `4 * t + 2` to `4 * t + 5`, so that stages `4 * t` and `4 * t + 1` are scored before it; every second
  trip completes a query block and stores it in the result's buffer.
-/
module

public import proofs.«01_k».proof.Proof.AttnStages

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before trip `t`, for odd `t`: the accumulator's first four heads are those of query block `t / 2`. -/
def AccOK (x0 : Vec F S8x2048x128 .bf16) (x1 : Vec F S8x2048x128 .bf16) (x2 : Vec F S8x256x128 .bf16)
    (x3 : Vec F S640x2048 .bf16) (x4 : Vec F S640x256 .bf16) (t : ℕ) (g : Vec F S512x512 .f32) : Prop :=
  t % 2 = 1 → ∀ y : S512x512.Idx, (y 0).val < 256 → g y = accV x0 x1 x2 x3 x4 (t / 2) y

/-- Before trip `t` the result's first `t / 2` query blocks are in place. -/
def OutOK (x0 : Vec F S8x2048x128 .bf16) (x1 : Vec F S8x2048x128 .bf16) (x2 : Vec F S8x256x128 .bf16)
    (x3 : Vec F S640x2048 .bf16) (x4 : Vec F S640x256 .bf16) (t : ℕ) (h : Vec F S2048x512 .bf16) : Prop :=
  ∀ y : S2048x512.Idx, (y 0).val < 512 * (t / 2) → h y = outV x0 x1 x2 x3 x4 y

/-- The buffers before trip `t`: the input blocks, the result's and the accumulator's buffers as far as they are
    complete, stages `4 * t` and `4 * t + 1` scored, the other two score buffers at anything. -/
def inv (c : Dev nD)
  (arg1 : Memref sig .tc .vmem S8x2048x128 .bf16) (harg1 : arg1.IsWhole)
  (arg2 : Memref sig .tc .vmem S8x2048x128 .bf16) (harg2 : arg2.IsWhole)
  (arg3 : Memref sig .tc .vmem S8x256x128 .bf16) (harg3 : arg3.IsWhole)
  (arg4 : Memref sig .tc .vmem S640x2048 .bf16) (harg4 : arg4.IsWhole)
  (arg5 : Memref sig .tc .vmem S640x256 .bf16) (harg5 : arg5.IsWhole)
  (arg6 : Memref sig .tc .vmem S2048x512 .bf16) (harg6 : arg6.IsWhole)
  (arg7 : Memref sig .tc .vmem S512x512 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S1x512 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S1x512 .f32) (harg13 : arg13.IsWhole)
  (arg14 : Memref sig .tc .vmem S2048x512 .f32) (harg14 : arg14.IsWhole)
  (arg15 : Memref sig .tc .vmem S256x512 .f32) (harg15 : arg15.IsWhole)
  (arg16 : Memref sig .tc .vmem S1x512 .f32) (harg16 : arg16.IsWhole)
  (arg17 : Memref sig .tc .vmem S2048x512 .f32) (harg17 : arg17.IsWhole)
  (arg18 : Memref sig .tc .vmem S256x512 .f32) (harg18 : arg18.IsWhole)
  (arg19 : Memref sig .tc .vmem S1x512 .f32) (harg19 : arg19.IsWhole)
    (x0 : Vec F S8x2048x128 .bf16) (x1 : Vec F S8x2048x128 .bf16) (x2 : Vec F S8x256x128 .bf16)
    (x3 : Vec F S640x2048 .bf16) (x4 : Vec F S640x256 .bf16) (t : ℕ) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4
    ∗ (∃ h, ⌜OutOK x0 x1 x2 x3 x4 t h⌝ ∗ owns (c : Thread nD τ) arg6 fullShare h)
    ∗ (∃ g, ⌜AccOK x0 x1 x2 x3 x4 t g⌝ ∗ owns (c : Thread nD τ) arg7 fullShare g)
    ∗ owns (c : Thread nD τ) arg8 fullShare (slF x0 x1 (4 * t)) ∗ owns (c : Thread nD τ) arg9 fullShare (scF x0 x2 (4 * t))
    ∗ owns (c : Thread nD τ) arg10 fullShare (mxF x0 x1 x2 (4 * t))
    ∗ owns (c : Thread nD τ) arg11 fullShare (slF x0 x1 (4 * t + 1)) ∗ owns (c : Thread nD τ) arg12 fullShare (scF x0 x2 (4 * t + 1))
    ∗ owns (c : Thread nD τ) arg13 fullShare (mxF x0 x1 x2 (4 * t + 1))
    ∗ (∃ d, owns (c : Thread nD τ) arg14 fullShare d) ∗ (∃ d, owns (c : Thread nD τ) arg15 fullShare d) ∗ (∃ d, owns (c : Thread nD τ) arg16 fullShare d)
    ∗ (∃ d, owns (c : Thread nD τ) arg17 fullShare d) ∗ (∃ d, owns (c : Thread nD τ) arg18 fullShare d) ∗ (∃ d, owns (c : Thread nD τ) arg19 fullShare d))

/-- One store of a whole buffer leaves its payload. -/
theorem read_store {s : Shape} {e : EltTy} {sp : Space} (v : View sig .tc sp s e) (f : v.ty.Contents (Elt F)) {off : Fin s.rank → ℕ}
    (h : off = fun _ => 0) (inb : ∀ a, off a + s.size a ≤ s.size a) (w : s.Idx → Elt F e) :
    v.read (Elt F) (v.writes (Elt F) f [(⟨Rect.unit off s.size inb, w⟩ : View.Piece (Elt F) s e)]) = w :=
  (View.read_writes_eq_canon v f _ fun y => ⟨_, List.mem_singleton_self _, View.mem_set_unit_zero h inb y⟩).trans
    (View.canon_unit_zero h inb w)

/-! ## What a stage's stores are worth -/

section Facts

variable {x0 : Vec F S8x2048x128 .bf16} {x1 : Vec F S8x2048x128 .bf16} {x2 : Vec F S8x256x128 .bf16}
  {x3 : Vec F S640x2048 .bf16} {x4 : Vec F S640x256 .bf16}

theorem zeros2 : (![0, 0] : Fin 2 → ℕ) = fun _ => 0 := funext (Fin.forall_fin_two.2 ⟨rfl, rfl⟩)

theorem sl_eq {n : ℕ} {o1 o4 : Fin 3 → ℕ} (h1 : o1 = qOff n) (h4 : o4 = kOff n)
    (i1 : ∀ a, o1 a + S1x512x128.size a ≤ S8x2048x128.size a) (i4 : ∀ a, o4 a + S1x2048x128.size a ≤ S8x2048x128.size a) :
    k0_pay9 (k0_pay3 (View.ld x0 (Rect.unit (s := S8x2048x128) o1 S1x512x128.size i1)))
      (View.ld x1 (Rect.unit (s := S8x2048x128) o4 S1x2048x128.size i4)) = slF x0 x1 n := by subst h1; subst h4; rfl

theorem sc_eq {n : ℕ} {o1 o2 : Fin 3 → ℕ} (h1 : o1 = qOff n) (h2 : o2 = kOff n)
    (i1 : ∀ a, o1 a + S1x512x128.size a ≤ S8x2048x128.size a) (i2 : ∀ a, o2 a + S1x256x128.size a ≤ S8x256x128.size a) :
    k0_pay5 (View.ld x0 (Rect.unit (s := S8x2048x128) o1 S1x512x128.size i1))
      (View.ld x2 (Rect.unit (s := S8x256x128) o2 S1x256x128.size i2)) = scF x0 x2 n := by subst h1; subst h2; rfl

theorem mx_eq {n : ℕ} {o1 o2 o4 : Fin 3 → ℕ} (h1 : o1 = qOff n) (h2 : o2 = kOff n) (h4 : o4 = kOff n)
    (i1 : ∀ a, o1 a + S1x512x128.size a ≤ S8x2048x128.size a) (i2 : ∀ a, o2 a + S1x256x128.size a ≤ S8x256x128.size a)
    (i4 : ∀ a, o4 a + S1x2048x128.size a ≤ S8x2048x128.size a) :
    k0_pay10 (k0_pay3 (View.ld x0 (Rect.unit (s := S8x2048x128) o1 S1x512x128.size i1)))
      (k0_pay6 (View.ld x0 (Rect.unit (s := S8x2048x128) o1 S1x512x128.size i1)) (View.ld x2 (Rect.unit (s := S8x256x128) o2 S1x256x128.size i2)))
      (View.ld x1 (Rect.unit (s := S8x2048x128) o4 S1x2048x128.size i4)) = mxF x0 x1 x2 n := by
  subst h1; subst h2; subst h4; rfl

/-- The softmax stage from the score buffers' contents. -/
theorem soft_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay11 m (k0_pay7 m (View.ld x4 (Rect.unit (s := S640x256) o3 S80x256.size i3)) sc)
      (View.ld x3 (Rect.unit (s := S640x2048) o5 S80x2048.size i5)) sl = softF x0 x1 x2 x3 x4 n := by
  subst hm; subst hc; subst hl; subst h3; subst h5; rfl

/-- The same stage where its three parts are taken apart. -/
theorem soft_parts_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay30 (k0_pay24 m (View.ld x4 (Rect.unit (s := S640x256) o3 S80x256.size i3)) sc)
      (k0_pay28 (View.ld x3 (Rect.unit (s := S640x2048) o5 S80x2048.size i5))) (k0_pay29 m sl) = softF x0 x1 x2 x3 x4 n := by
  subst hm; subst hc; subst hl; subst h3; subst h5; rfl

/-- A load of a whole buffer reads its contents. -/
theorem read_whole {s : Shape} {e : EltTy} {sp : Space} (v : View sig .tc sp s e) (f : v.ty.Contents (Elt F)) {off : Fin s.rank → ℕ}
    (h : off = fun _ => 0) (inb : ∀ a, off a + s.size a ≤ s.size a) {X : s.Idx → Elt F e} (hX : v.read (Elt F) f = X) :
    v.readAt (Elt F) (Rect.unit off s.size inb).toLoadRect f = X :=
  (View.ld_unit_zero h inb _).trans hX

variable (x0 x1 x2 x3 x4)

/-- The four stores of one trip into the accumulator, newest first. -/
def accPieces (k : Fin k0_t1_loop.trips) : List (View.Piece (Elt F) S512x512 .f32) :=
  [⟨Rect.unit (s := S512x512) (k0_off6 k 3#32) S64x512.size (k0_off6_inb k 3), softF x0 x1 x2 x3 x4 (4 * k.val + 3)⟩,
   ⟨Rect.unit (s := S512x512) (k0_off6 k 2#32) S64x512.size (k0_off6_inb k 2), softF x0 x1 x2 x3 x4 (4 * k.val + 2)⟩,
   ⟨Rect.unit (s := S512x512) (k0_off6 k 1#32) S64x512.size (k0_off6_inb k 1), softF x0 x1 x2 x3 x4 (4 * k.val + 1)⟩,
   ⟨Rect.unit (s := S512x512) (k0_off6 k 0#32) S64x512.size (k0_off6_inb k 0), softF x0 x1 x2 x3 x4 (4 * k.val)⟩]

variable {x0 x1 x2 x3 x4}

theorem pieces_eq {k : Fin k0_t1_loop.trips} {w0 w1 w2 w3 : Vec F S64x512 .f32} (h0 : w0 = softF x0 x1 x2 x3 x4 (4 * k.val))
    (h1 : w1 = softF x0 x1 x2 x3 x4 (4 * k.val + 1)) (h2 : w2 = softF x0 x1 x2 x3 x4 (4 * k.val + 2)) (h3 : w3 = softF x0 x1 x2 x3 x4 (4 * k.val + 3)) :
    ([⟨Rect.unit (s := S512x512) (k0_off6 k 3#32) S64x512.size (k0_off6_inb k 3), w3⟩,
      ⟨Rect.unit (s := S512x512) (k0_off6 k 2#32) S64x512.size (k0_off6_inb k 2), w2⟩,
      ⟨Rect.unit (s := S512x512) (k0_off6 k 1#32) S64x512.size (k0_off6_inb k 1), w1⟩,
      ⟨Rect.unit (s := S512x512) (k0_off6 k 0#32) S64x512.size (k0_off6_inb k 0), w0⟩] : List (View.Piece (Elt F) S512x512 .f32))
      = accPieces x0 x1 x2 x3 x4 k := by subst h0; subst h1; subst h2; subst h3; rfl

/-- After trip `k` the accumulator's four heads of the trip are those of query block `k / 2`. -/
theorem acc_read (k : Fin k0_t1_loop.trips) (v : View sig .tc .vmem S512x512 .f32) (f : v.ty.Contents (Elt F)) (y : S512x512.Idx)
    (hy : 256 * (k.val % 2) ≤ (y 0).val ∧ (y 0).val < 256 * (k.val % 2) + 256) :
    v.read (Elt F) (v.writes (Elt F) f (accPieces x0 x1 x2 x3 x4 k)) y = accV x0 x1 x2 x3 x4 (k.val / 2) y := by
  have hs : ∀ n, n = 8 * (k.val / 2) + (y 0).val / 64 →
      softF x0 x1 x2 x3 x4 n (ix2 (⟨(y 0).val % 64, Nat.mod_lt _ (by decide)⟩ : Fin 64) (⟨(y 1).val, (y 1).isLt⟩ : Fin 512))
        = accV x0 x1 x2 x3 x4 (k.val / 2) y := by rintro n rfl; rfl
  unfold accPieces
  by_cases h3 : 256 * (k.val % 2) + 192 ≤ (y 0).val
  · refine (View.read_writes_cons_rows_of_mem v f _ _ _ y
      (ix2 (⟨(y 0).val % 64, Nat.mod_lt _ (by decide)⟩ : Fin 64) (⟨(y 1).val, (y 1).isLt⟩ : Fin 512)) (off6_3 k) ?_ rfl).trans (hs _ (by omega))
    show (y 0).val = 256 * (k.val % 2) + 192 + (y 0).val % 64
    omega
  refine (View.read_writes_cons_rows_of_not_mem (W := 64) v f _ _ _ y (off6_3 k) rfl (by omega)).trans ?_
  by_cases h2 : 256 * (k.val % 2) + 128 ≤ (y 0).val
  · refine (View.read_writes_cons_rows_of_mem v f _ _ _ y
      (ix2 (⟨(y 0).val % 64, Nat.mod_lt _ (by decide)⟩ : Fin 64) (⟨(y 1).val, (y 1).isLt⟩ : Fin 512)) (off6_2 k) ?_ rfl).trans (hs _ (by omega))
    show (y 0).val = 256 * (k.val % 2) + 128 + (y 0).val % 64
    omega
  refine (View.read_writes_cons_rows_of_not_mem (W := 64) v f _ _ _ y (off6_2 k) rfl (by omega)).trans ?_
  by_cases h1 : 256 * (k.val % 2) + 64 ≤ (y 0).val
  · refine (View.read_writes_cons_rows_of_mem v f _ _ _ y
      (ix2 (⟨(y 0).val % 64, Nat.mod_lt _ (by decide)⟩ : Fin 64) (⟨(y 1).val, (y 1).isLt⟩ : Fin 512)) (off6_1 k) ?_ rfl).trans (hs _ (by omega))
    show (y 0).val = 256 * (k.val % 2) + 64 + (y 0).val % 64
    omega
  refine (View.read_writes_cons_rows_of_not_mem (W := 64) v f _ _ _ y (off6_1 k) rfl (by omega)).trans ?_
  refine (View.read_writes_cons_rows_of_mem v f _ _ _ y
    (ix2 (⟨(y 0).val % 64, Nat.mod_lt _ (by decide)⟩ : Fin 64) (⟨(y 1).val, (y 1).isLt⟩ : Fin 512)) (off6_0 k) ?_ rfl).trans (hs _ (by omega))
  show (y 0).val = 256 * (k.val % 2) + 0 + (y 0).val % 64
  omega

/-- Rows outside the trip's four heads keep what they held. -/
theorem acc_read_other (k : Fin k0_t1_loop.trips) (v : View sig .tc .vmem S512x512 .f32) (f : v.ty.Contents (Elt F)) (y : S512x512.Idx)
    (hy : (y 0).val < 256 * (k.val % 2)) :
    v.read (Elt F) (v.writes (Elt F) f (accPieces x0 x1 x2 x3 x4 k)) y = v.read (Elt F) f y := by
  unfold accPieces
  refine (View.read_writes_cons_rows_of_not_mem (W := 64) v f _ _ _ y (off6_3 k) rfl (by omega)).trans ?_
  refine (View.read_writes_cons_rows_of_not_mem (W := 64) v f _ _ _ y (off6_2 k) rfl (by omega)).trans ?_
  refine (View.read_writes_cons_rows_of_not_mem (W := 64) v f _ _ _ y (off6_1 k) rfl (by omega)).trans ?_
  exact View.read_writes_cons_rows_of_not_mem (W := 64) v f _ _ _ y (off6_0 k) rfl (by omega)

theorem acc_step (k : Fin k0_t1_loop.trips) (v : View sig .tc .vmem S512x512 .f32) (f : v.ty.Contents (Elt F))
    {L : List (View.Piece (Elt F) S512x512 .f32)} (hL : L = accPieces x0 x1 x2 x3 x4 k) :
    AccOK x0 x1 x2 x3 x4 (k.val + 1) (v.read (Elt F) (v.writes (Elt F) f L)) := by
  subst hL
  intro ho y hy
  rw [acc_read k v f y (by omega), show (k.val + 1) / 2 = k.val / 2 by omega]

theorem acc_full (k : Fin k0_t1_loop.trips) (hk : k.val % 2 = 1) (v : View sig .tc .vmem S512x512 .f32) (f : v.ty.Contents (Elt F))
    (hf : AccOK x0 x1 x2 x3 x4 k.val (v.read (Elt F) f)) {L : List (View.Piece (Elt F) S512x512 .f32)} (hL : L = accPieces x0 x1 x2 x3 x4 k) :
    v.read (Elt F) (v.writes (Elt F) f L) = accV x0 x1 x2 x3 x4 (k.val / 2) := by
  subst hL
  funext y
  have hlt : (y 0).val < 512 := (y 0).isLt
  by_cases hy : (y 0).val < 256
  · rw [acc_read_other k v f y (by omega)]; exact hf hk y hy
  · exact acc_read k v f y (by omega)

theorem out_even (k : Fin k0_t1_loop.trips) (hk : ¬ k.val % 2 = 1) {h : Vec F S2048x512 .bf16} (hh : OutOK x0 x1 x2 x3 x4 k.val h) :
    OutOK x0 x1 x2 x3 x4 (k.val + 1) h := by
  intro y hy; exact hh y (by omega)

theorem out_odd (k : Fin k0_t1_loop.trips) (hk : k.val % 2 = 1) (v : View sig .tc .vmem S2048x512 .bf16) (f : v.ty.Contents (Elt F))
    (hf : OutOK x0 x1 x2 x3 x4 k.val (v.read (Elt F) f)) {a : Vec F S512x512 .f32} (ha : a = accV x0 x1 x2 x3 x4 (k.val / 2))
    (inb : ∀ b, k0_off7 k b + S512x512.size b ≤ S2048x512.size b) :
    OutOK x0 x1 x2 x3 x4 (k.val + 1) (v.read (Elt F) (v.writes (Elt F) f
      [(⟨Rect.unit (s := S2048x512) (k0_off7 k) S512x512.size inb, k0_pay53 a⟩ : View.Piece (Elt F) S2048x512 .bf16)])) := by
  subst ha
  intro y hy
  by_cases hlt : (y 0).val < 512 * (k.val / 2)
  · exact (View.read_writes_cons_rows_of_not_mem (W := 512) v f _ _ _ y (off7_eq k hk) rfl (.inl hlt)).trans (hf y hlt)
  · refine (View.read_writes_cons_rows_of_mem v f _ _ _ y
      (ix2 (⟨(y 0).val % 512, Nat.mod_lt _ (by decide)⟩ : Fin 512) (⟨(y 1).val, (y 1).isLt⟩ : Fin 512)) (off7_eq k hk) ?_ rfl).trans ?_
    · show (y 0).val = 512 * (k.val / 2) + (y 0).val % 512
      omega
    · have e : (y 0).val / 512 = k.val / 2 := by omega
      unfold outV; rw [e]; rfl

end Facts

set_option maxHeartbeats 4000000 in
/-- ONE TRIP. -/
theorem trip (c : Dev nD) (i : grid0.Coords)
  (arg1 : Memref sig .tc .vmem S8x2048x128 .bf16) (harg1 : arg1.IsWhole)
  (arg2 : Memref sig .tc .vmem S8x2048x128 .bf16) (harg2 : arg2.IsWhole)
  (arg3 : Memref sig .tc .vmem S8x256x128 .bf16) (harg3 : arg3.IsWhole)
  (arg4 : Memref sig .tc .vmem S640x2048 .bf16) (harg4 : arg4.IsWhole)
  (arg5 : Memref sig .tc .vmem S640x256 .bf16) (harg5 : arg5.IsWhole)
  (arg6 : Memref sig .tc .vmem S2048x512 .bf16) (harg6 : arg6.IsWhole)
  (arg7 : Memref sig .tc .vmem S512x512 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S1x512 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S1x512 .f32) (harg13 : arg13.IsWhole)
  (arg14 : Memref sig .tc .vmem S2048x512 .f32) (harg14 : arg14.IsWhole)
  (arg15 : Memref sig .tc .vmem S256x512 .f32) (harg15 : arg15.IsWhole)
  (arg16 : Memref sig .tc .vmem S1x512 .f32) (harg16 : arg16.IsWhole)
  (arg17 : Memref sig .tc .vmem S2048x512 .f32) (harg17 : arg17.IsWhole)
  (arg18 : Memref sig .tc .vmem S256x512 .f32) (harg18 : arg18.IsWhole)
  (arg19 : Memref sig .tc .vmem S1x512 .f32) (harg19 : arg19.IsWhole)
    (v27 : FVec F S512x128 .bf16) (v29 : FVec F S256x128 .bf16) (cst_21 : FVec F S256x512 .f32)
    (x0 : Vec F S8x2048x128 .bf16) (x1 : Vec F S8x2048x128 .bf16) (x2 : Vec F S8x256x128 .bf16)
    (x3 : Vec F S640x2048 .bf16) (x4 : Vec F S640x256 .bf16) (k : Fin k0_t1_loop.trips) :
    inv c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 k.val
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v27 v29 cst_21 k ())
          (fun _ => inv c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (k.val + 1)) := by
  unfold inv owns k0_t1_body
  simp only [k0_part1_eq_skeleton, k0_part2_eq_skeleton, k0_part3_eq_skeleton, k0_part4_eq_skeleton, k0_part5_eq_skeleton, k0_part6_eq_skeleton, k0_part7_eq_skeleton]
  iintro ⟨⟨%f1, %h1, H1⟩, ⟨%f2, %h2, H2⟩, ⟨%f3, %h3, H3⟩, ⟨%f4, %h4, H4⟩, ⟨%f5, %h5, H5⟩, ⟨%o, %ho, %f6, %h6, H6⟩, ⟨%g, %hg, %f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  subst h1 h2 h3 h4 h5 h6 h7
  by_cases hc : k0_cond1 k = 1#1
  · have hk := (cond1_iff k).1 hc
    sl_exec
    sl_step
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr; swap
      · iexists _; isplitr; swap; · iexact H6
        ipureintro; rfl
      ipureintro
      refine out_odd k hk _ _ ho (read_whole _ _ zeros2 _ (acc_full k hk _ _ hg ?_)) _
      refine pieces_eq ?_ ?_ ?_ ?_
      · exact (soft_eq (read_whole _ _ zeros2 _ h10) (read_whole _ _ zeros2 _ h9) (read_whole _ _ zeros2 _ h8) (off3_0 k) (off5_0 k) (k0_off3_inb k 0) (k0_off5_inb k 0))
      · exact (soft_eq (read_whole _ _ zeros2 _ h13) (read_whole _ _ zeros2 _ h12) (read_whole _ _ zeros2 _ h11) (off3_1 k) (off5_1 k) (k0_off3_inb k 1) (k0_off5_inb k 1))
      · refine soft_parts_eq ?_ ?_ ?_ (off3_2 k) (off5_2 k) (k0_off3_inb k 2) (k0_off5_inb k 2)
        · exact (View.readCov_unit_zero _ zeros2 _ _).trans (mx_eq (off1_0 k) (off2_0 k) (off4_0 k) (k0_off1_inb k 0) (k0_off2_inb k 0) (k0_off4_inb k 0))
        · exact (View.readCov_unit_zero _ zeros2 _ _).trans (sc_eq (off1_0 k) (off2_0 k) (k0_off1_inb k 0) (k0_off2_inb k 0))
        · exact (View.readCov_unit_zero _ zeros2 _ _).trans (sl_eq (off1_0 k) (off4_0 k) (k0_off1_inb k 0) (k0_off4_inb k 0))
      · refine soft_eq ?_ ?_ ?_ (off3_3 k) (off5_3 k) (k0_off3_inb k 3) (k0_off5_inb k 3)
        · exact (View.readCov_unit_zero _ zeros2 _ _).trans (mx_eq (off1_1 k) (off2_1 k) (off4_1 k) (k0_off1_inb k 1) (k0_off2_inb k 1) (k0_off4_inb k 1))
        · exact (View.readCov_unit_zero _ zeros2 _ _).trans (sc_eq (off1_1 k) (off2_1 k) (k0_off1_inb k 1) (k0_off2_inb k 1))
        · exact (View.readCov_unit_zero _ zeros2 _ _).trans (sl_eq (off1_1 k) (off4_1 k) (k0_off1_inb k 1) (k0_off4_inb k 1))
    isplitl [H7]
    · iexists _; isplitr; swap
      · iexists _; isplitr; swap; · iexact H7
        ipureintro; rfl
      ipureintro
      refine acc_step k _ _ ?_
      refine pieces_eq ?_ ?_ ?_ ?_
      · exact (soft_eq (read_whole _ _ zeros2 _ h10) (read_whole _ _ zeros2 _ h9) (read_whole _ _ zeros2 _ h8) (off3_0 k) (off5_0 k) (k0_off3_inb k 0) (k0_off5_inb k 0))
      · exact (soft_eq (read_whole _ _ zeros2 _ h13) (read_whole _ _ zeros2 _ h12) (read_whole _ _ zeros2 _ h11) (off3_1 k) (off5_1 k) (k0_off3_inb k 1) (k0_off5_inb k 1))
      · refine soft_parts_eq ?_ ?_ ?_ (off3_2 k) (off5_2 k) (k0_off3_inb k 2) (k0_off5_inb k 2)
        · exact (View.readCov_unit_zero _ zeros2 _ _).trans (mx_eq (off1_0 k) (off2_0 k) (off4_0 k) (k0_off1_inb k 0) (k0_off2_inb k 0) (k0_off4_inb k 0))
        · exact (View.readCov_unit_zero _ zeros2 _ _).trans (sc_eq (off1_0 k) (off2_0 k) (k0_off1_inb k 0) (k0_off2_inb k 0))
        · exact (View.readCov_unit_zero _ zeros2 _ _).trans (sl_eq (off1_0 k) (off4_0 k) (k0_off1_inb k 0) (k0_off4_inb k 0))
      · refine soft_eq ?_ ?_ ?_ (off3_3 k) (off5_3 k) (k0_off3_inb k 3) (k0_off5_inb k 3)
        · exact (View.readCov_unit_zero _ zeros2 _ _).trans (mx_eq (off1_1 k) (off2_1 k) (off4_1 k) (k0_off1_inb k 1) (k0_off2_inb k 1) (k0_off4_inb k 1))
        · exact (View.readCov_unit_zero _ zeros2 _ _).trans (sc_eq (off1_1 k) (off2_1 k) (k0_off1_inb k 1) (k0_off2_inb k 1))
        · exact (View.readCov_unit_zero _ zeros2 _ _).trans (sl_eq (off1_1 k) (off4_1 k) (k0_off1_inb k 1) (k0_off4_inb k 1))
    isplitl [H8]
    · iexists _; isplitr; swap; · iexact H8
      ipureintro
      exact (read_store _ _ zeros2 _ _).trans (sl_eq (off1_2 k) (off4_2 k) (k0_off1_inb k 2) (k0_off4_inb k 2))
    isplitl [H9]
    · iexists _; isplitr; swap; · iexact H9
      ipureintro
      exact (read_store _ _ zeros2 _ _).trans (sc_eq (off1_2 k) (off2_2 k) (k0_off1_inb k 2) (k0_off2_inb k 2))
    isplitl [H10]
    · iexists _; isplitr; swap; · iexact H10
      ipureintro
      exact (read_store _ _ zeros2 _ _).trans (mx_eq (off1_2 k) (off2_2 k) (off4_2 k) (k0_off1_inb k 2) (k0_off2_inb k 2) (k0_off4_inb k 2))
    isplitl [H11]
    · iexists _; isplitr; swap; · iexact H11
      ipureintro
      exact (read_store _ _ zeros2 _ _).trans (sl_eq (off1_3 k) (off4_3 k) (k0_off1_inb k 3) (k0_off4_inb k 3))
    isplitl [H12]
    · iexists _; isplitr; swap; · iexact H12
      ipureintro
      exact (read_store _ _ zeros2 _ _).trans (sc_eq (off1_3 k) (off2_3 k) (k0_off1_inb k 3) (k0_off2_inb k 3))
    isplitl [H13]
    · iexists _; isplitr; swap; · iexact H13
      ipureintro
      exact (read_store _ _ zeros2 _ _).trans (mx_eq (off1_3 k) (off2_3 k) (off4_3 k) (k0_off1_inb k 3) (k0_off2_inb k 3) (k0_off4_inb k 3))
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  · have hk := fun h => hc ((cond1_iff k).2 h)
    sl_exec
    sl_step
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr; swap
      · iexists _; isplitr; swap; · iexact H6
        ipureintro; rfl
      ipureintro
      exact out_even k hk ho
    isplitl [H7]
    · iexists _; isplitr; swap
      · iexists _; isplitr; swap; · iexact H7
        ipureintro; rfl
      ipureintro
      refine acc_step k _ _ ?_
      refine pieces_eq ?_ ?_ ?_ ?_
      · exact (soft_eq (read_whole _ _ zeros2 _ h10) (read_whole _ _ zeros2 _ h9) (read_whole _ _ zeros2 _ h8) (off3_0 k) (off5_0 k) (k0_off3_inb k 0) (k0_off5_inb k 0))
      · exact (soft_eq (read_whole _ _ zeros2 _ h13) (read_whole _ _ zeros2 _ h12) (read_whole _ _ zeros2 _ h11) (off3_1 k) (off5_1 k) (k0_off3_inb k 1) (k0_off5_inb k 1))
      · refine soft_parts_eq ?_ ?_ ?_ (off3_2 k) (off5_2 k) (k0_off3_inb k 2) (k0_off5_inb k 2)
        · exact (View.readCov_unit_zero _ zeros2 _ _).trans (mx_eq (off1_0 k) (off2_0 k) (off4_0 k) (k0_off1_inb k 0) (k0_off2_inb k 0) (k0_off4_inb k 0))
        · exact (View.readCov_unit_zero _ zeros2 _ _).trans (sc_eq (off1_0 k) (off2_0 k) (k0_off1_inb k 0) (k0_off2_inb k 0))
        · exact (View.readCov_unit_zero _ zeros2 _ _).trans (sl_eq (off1_0 k) (off4_0 k) (k0_off1_inb k 0) (k0_off4_inb k 0))
      · refine soft_eq ?_ ?_ ?_ (off3_3 k) (off5_3 k) (k0_off3_inb k 3) (k0_off5_inb k 3)
        · exact (View.readCov_unit_zero _ zeros2 _ _).trans (mx_eq (off1_1 k) (off2_1 k) (off4_1 k) (k0_off1_inb k 1) (k0_off2_inb k 1) (k0_off4_inb k 1))
        · exact (View.readCov_unit_zero _ zeros2 _ _).trans (sc_eq (off1_1 k) (off2_1 k) (k0_off1_inb k 1) (k0_off2_inb k 1))
        · exact (View.readCov_unit_zero _ zeros2 _ _).trans (sl_eq (off1_1 k) (off4_1 k) (k0_off1_inb k 1) (k0_off4_inb k 1))
    isplitl [H8]
    · iexists _; isplitr; swap; · iexact H8
      ipureintro
      exact (read_store _ _ zeros2 _ _).trans (sl_eq (off1_2 k) (off4_2 k) (k0_off1_inb k 2) (k0_off4_inb k 2))
    isplitl [H9]
    · iexists _; isplitr; swap; · iexact H9
      ipureintro
      exact (read_store _ _ zeros2 _ _).trans (sc_eq (off1_2 k) (off2_2 k) (k0_off1_inb k 2) (k0_off2_inb k 2))
    isplitl [H10]
    · iexists _; isplitr; swap; · iexact H10
      ipureintro
      exact (read_store _ _ zeros2 _ _).trans (mx_eq (off1_2 k) (off2_2 k) (off4_2 k) (k0_off1_inb k 2) (k0_off2_inb k 2) (k0_off4_inb k 2))
    isplitl [H11]
    · iexists _; isplitr; swap; · iexact H11
      ipureintro
      exact (read_store _ _ zeros2 _ _).trans (sl_eq (off1_3 k) (off4_3 k) (k0_off1_inb k 3) (k0_off4_inb k 3))
    isplitl [H12]
    · iexists _; isplitr; swap; · iexact H12
      ipureintro
      exact (read_store _ _ zeros2 _ _).trans (sc_eq (off1_3 k) (off2_3 k) (k0_off1_inb k 3) (k0_off2_inb k 3))
    isplitl [H13]
    · iexists _; isplitr; swap; · iexact H13
      ipureintro
      exact (read_store _ _ zeros2 _ _).trans (mx_eq (off1_3 k) (off2_3 k) (off4_3 k) (k0_off1_inb k 3) (k0_off2_inb k 3) (k0_off4_inb k 3))
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.KernelIdeal.Attn

end
-- ==== Proof.AttnBody.lean ====
/-
  The attention kernel's body, run as a whole: the two stages scored before the loop, the loop's trips by the trip theorem
  of AttnLoop.lean, and the stores that complete the result's block.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Facts

variable {x0 : Vec F S8x2048x128 .bf16} {x1 : Vec F S8x2048x128 .bf16} {x2 : Vec F S8x256x128 .bf16}
  {x3 : Vec F S640x2048 .bf16} {x4 : Vec F S640x256 .bf16}

/-- Stage 28, as the code after the loop spells it. -/
theorem soft28_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay62 (k0_pay60 m (View.ld x4 (Rect.unit (s := S640x256) o3 S80x256.size i3)) sc (View.ld x3 (Rect.unit (s := S640x2048) o5 S80x2048.size i5)) sl) (k0_pay61 m (View.ld x4 (Rect.unit (s := S640x256) o3 S80x256.size i3)) sc (View.ld x3 (Rect.unit (s := S640x2048) o5 S80x2048.size i5)) sl)
      = softF x0 x1 x2 x3 x4 n := by
  subst hm; subst hc; subst hl; subst h3; subst h5; rfl

/-- Stage 29, as the code after the loop spells it. -/
theorem soft29_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay71 m (k0_pay67 m (View.ld x4 (Rect.unit (s := S640x256) o3 S80x256.size i3)) sc) (View.ld x3 (Rect.unit (s := S640x2048) o5 S80x2048.size i5)) sl
      = softF x0 x1 x2 x3 x4 n := by
  subst hm; subst hc; subst hl; subst h3; subst h5; rfl

/-- Stage 30, as the code after the loop spells it. -/
theorem soft30_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay73 m (k0_pay72 m (View.ld x4 (Rect.unit (s := S640x256) o3 S80x256.size i3)) sc) (View.ld x3 (Rect.unit (s := S640x2048) o5 S80x2048.size i5)) sl
      = softF x0 x1 x2 x3 x4 n := by
  subst hm; subst hc; subst hl; subst h3; subst h5; rfl

/-- Stage 31, as the code after the loop spells it. -/
theorem soft31_eq {n : ℕ} {m : Vec F S1x512 .f32} {sc : Vec F S256x512 .f32} {sl : Vec F S2048x512 .f32}
    (hm : m = mxF x0 x1 x2 n) (hc : sc = scF x0 x2 n) (hl : sl = slF x0 x1 n) {o3 o5 : Fin 2 → ℕ} (h3 : o3 = vOff n) (h5 : o5 = vOff n)
    (i3 : ∀ a, o3 a + S80x256.size a ≤ S640x256.size a) (i5 : ∀ a, o5 a + S80x2048.size a ≤ S640x2048.size a) :
    k0_pay1 (k0_pay75 m (View.ld x4 (Rect.unit (s := S640x256) o3 S80x256.size i3)) sc (View.ld x3 (Rect.unit (s := S640x2048) o5 S80x2048.size i5)) sl) (k0_pay76 m (View.ld x4 (Rect.unit (s := S640x256) o3 S80x256.size i3)) sc (View.ld x3 (Rect.unit (s := S640x2048) o5 S80x2048.size i5)) sl)
      = softF x0 x1 x2 x3 x4 n := by
  subst hm; subst hc; subst hl; subst h3; subst h5; rfl

/-- The second stage's scores against the context, as the code before the loop spells them. -/
theorem sc1_eq {n : ℕ} {o1 o2 : Fin 3 → ℕ} (h1 : o1 = qOff n) (h2 : o2 = kOff n)
    (i1 : ∀ a, o1 a + S1x512x128.size a ≤ S8x2048x128.size a) (i2 : ∀ a, o2 a + S1x256x128.size a ≤ S8x256x128.size a) :
    k0_pay48 (k0_pay45 (View.ld x0 (Rect.unit (s := S8x2048x128) o1 S1x512x128.size i1)))
      (k0_pay46 (View.ld x2 (Rect.unit (s := S8x256x128) o2 S1x256x128.size i2))) (constant S256x512 .f32 0x00000000#32) = scF x0 x2 n := by
  subst h1; subst h2; rfl

/-- The second stage's row of maxima, as the code before the loop spells it. -/
theorem mx1_eq {n : ℕ} {o1 o2 o4 : Fin 3 → ℕ} (h1 : o1 = qOff n) (h2 : o2 = kOff n) (h4 : o4 = kOff n)
    (i1 : ∀ a, o1 a + S1x512x128.size a ≤ S8x2048x128.size a) (i2 : ∀ a, o2 a + S1x256x128.size a ≤ S8x256x128.size a)
    (i4 : ∀ a, o4 a + S1x2048x128.size a ≤ S8x2048x128.size a) :
    k0_pay51 (k0_pay45 (View.ld x0 (Rect.unit (s := S8x2048x128) o1 S1x512x128.size i1)))
      (k0_pay46 (View.ld x2 (Rect.unit (s := S8x256x128) o2 S1x256x128.size i2))) (constant S256x512 .f32 0x00000000#32)
      (View.ld x1 (Rect.unit (s := S8x2048x128) o4 S1x2048x128.size i4)) = mxF x0 x1 x2 n := by
  subst h1; subst h2; subst h4; rfl

/-- The last four stages' stores complete the last query block. -/
theorem acc_last {w28 w29 w30 w31 : Vec F S64x512 .f32} (e28 : w28 = softF x0 x1 x2 x3 x4 28) (e29 : w29 = softF x0 x1 x2 x3 x4 29) (e30 : w30 = softF x0 x1 x2 x3 x4 30) (e31 : w31 = softF x0 x1 x2 x3 x4 31)
    (v : View sig .tc .vmem S512x512 .f32) (f : v.ty.Contents (Elt F)) (hf : AccOK x0 x1 x2 x3 x4 7 (v.read (Elt F) f)) :
    v.read (Elt F) (v.writes (Elt F) f ([⟨Rect.unit (s := S512x512) ![448, 0] S64x512.size inb_S512x512_S64x512_448_0, w31⟩, ⟨Rect.unit (s := S512x512) ![384, 0] S64x512.size inb_S512x512_S64x512_384_0, w30⟩,
      ⟨Rect.unit (s := S512x512) ![320, 0] S64x512.size inb_S512x512_S64x512_320_0, w29⟩, ⟨Rect.unit (s := S512x512) ![256, 0] S64x512.size inb_S512x512_S64x512_256_0, w28⟩] : List (View.Piece (Elt F) S512x512 .f32)))
      = accV x0 x1 x2 x3 x4 3 := by
  subst e28; subst e29; subst e30; subst e31
  funext y
  have hlt : (y 0).val < 512 := (y 0).isLt
  have hs : ∀ n, n = 8 * 3 + (y 0).val / 64 → softF x0 x1 x2 x3 x4 n (ix2 (⟨(y 0).val % 64, Nat.mod_lt _ (by decide)⟩ : Fin 64) (⟨(y 1).val, (y 1).isLt⟩ : Fin 512)) = accV x0 x1 x2 x3 x4 3 y := by rintro n rfl; rfl
  by_cases h448 : 448 ≤ (y 0).val
  · refine (View.read_writes_cons_rows_of_mem v f _ _ _ y (ix2 (⟨(y 0).val % 64, Nat.mod_lt _ (by decide)⟩ : Fin 64) (⟨(y 1).val, (y 1).isLt⟩ : Fin 512)) (o := 448) rfl ?_ rfl).trans (hs _ (by omega))
    show (y 0).val = 448 + (y 0).val % 64
    omega
  refine (View.read_writes_cons_rows_of_not_mem (W := 64) (o := 448) v f _ _ _ y rfl rfl (by omega)).trans ?_
  by_cases h384 : 384 ≤ (y 0).val
  · refine (View.read_writes_cons_rows_of_mem v f _ _ _ y (ix2 (⟨(y 0).val % 64, Nat.mod_lt _ (by decide)⟩ : Fin 64) (⟨(y 1).val, (y 1).isLt⟩ : Fin 512)) (o := 384) rfl ?_ rfl).trans (hs _ (by omega))
    show (y 0).val = 384 + (y 0).val % 64
    omega
  refine (View.read_writes_cons_rows_of_not_mem (W := 64) (o := 384) v f _ _ _ y rfl rfl (by omega)).trans ?_
  by_cases h320 : 320 ≤ (y 0).val
  · refine (View.read_writes_cons_rows_of_mem v f _ _ _ y (ix2 (⟨(y 0).val % 64, Nat.mod_lt _ (by decide)⟩ : Fin 64) (⟨(y 1).val, (y 1).isLt⟩ : Fin 512)) (o := 320) rfl ?_ rfl).trans (hs _ (by omega))
    show (y 0).val = 320 + (y 0).val % 64
    omega
  refine (View.read_writes_cons_rows_of_not_mem (W := 64) (o := 320) v f _ _ _ y rfl rfl (by omega)).trans ?_
  by_cases h256 : 256 ≤ (y 0).val
  · refine (View.read_writes_cons_rows_of_mem v f _ _ _ y (ix2 (⟨(y 0).val % 64, Nat.mod_lt _ (by decide)⟩ : Fin 64) (⟨(y 1).val, (y 1).isLt⟩ : Fin 512)) (o := 256) rfl ?_ rfl).trans (hs _ (by omega))
    show (y 0).val = 256 + (y 0).val % 64
    omega
  refine (View.read_writes_cons_rows_of_not_mem (W := 64) (o := 256) v f _ _ _ y rfl rfl (by omega)).trans ?_
  exact hf rfl y (by omega)

/-- The last query block's store completes the result. -/
theorem out_last (v : View sig .tc .vmem S2048x512 .bf16) (f : v.ty.Contents (Elt F)) (hf : OutOK x0 x1 x2 x3 x4 7 (v.read (Elt F) f))
    {a : Vec F S512x512 .f32} (ha : a = accV x0 x1 x2 x3 x4 3) :
    v.read (Elt F) (v.writes (Elt F) f
      [(⟨Rect.unit (s := S2048x512) ![1536, 0] S512x512.size inb_S2048x512_S512x512_1536_0, k0_pay2 a⟩ : View.Piece (Elt F) S2048x512 .bf16)])
      = outV x0 x1 x2 x3 x4 := by
  subst ha
  funext y
  have hy : (y 0).val < 2048 := (y 0).isLt
  by_cases hlt : (y 0).val < 1536
  · exact (View.read_writes_cons_rows_of_not_mem (W := 512) (o := 1536) v f _ _ _ y rfl rfl (.inl hlt)).trans (hf y hlt)
  · refine (View.read_writes_cons_rows_of_mem v f _ _ _ y
      (ix2 (⟨(y 0).val % 512, Nat.mod_lt _ (by decide)⟩ : Fin 512) (⟨(y 1).val, (y 1).isLt⟩ : Fin 512)) (o := 1536) rfl ?_ rfl).trans ?_
    · show (y 0).val = 1536 + (y 0).val % 512
      omega
    · have e : (y 0).val / 512 = 3 := by omega
      unfold outV; rw [e]; rfl

end Facts

set_option maxHeartbeats 4000000 in
/-- THE BODY at one grid point: the five inputs unchanged, the output's block at `outV`, the scratch at anything. -/
theorem sound_kernel (c : Dev nD) (i : grid0.Coords) (arg1 : Memref sig .tc .vmem S8x2048x128 .bf16) (harg1 : arg1.IsWhole)
  (arg2 : Memref sig .tc .vmem S8x2048x128 .bf16) (harg2 : arg2.IsWhole)
  (arg3 : Memref sig .tc .vmem S8x256x128 .bf16) (harg3 : arg3.IsWhole)
  (arg4 : Memref sig .tc .vmem S640x2048 .bf16) (harg4 : arg4.IsWhole)
  (arg5 : Memref sig .tc .vmem S640x256 .bf16) (harg5 : arg5.IsWhole)
  (arg6 : Memref sig .tc .vmem S2048x512 .bf16) (harg6 : arg6.IsWhole)
  (arg7 : Memref sig .tc .vmem S512x512 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S1x512 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S1x512 .f32) (harg13 : arg13.IsWhole)
  (arg14 : Memref sig .tc .vmem S2048x512 .f32) (harg14 : arg14.IsWhole)
  (arg15 : Memref sig .tc .vmem S256x512 .f32) (harg15 : arg15.IsWhole)
  (arg16 : Memref sig .tc .vmem S1x512 .f32) (harg16 : arg16.IsWhole)
  (arg17 : Memref sig .tc .vmem S2048x512 .f32) (harg17 : arg17.IsWhole)
  (arg18 : Memref sig .tc .vmem S256x512 .f32) (harg18 : arg18.IsWhole)
  (arg19 : Memref sig .tc .vmem S1x512 .f32) (harg19 : arg19.IsWhole)
    (x0 : Vec F S8x2048x128 .bf16) (x1 : Vec F S8x2048x128 .bf16) (x2 : Vec F S8x256x128 .bf16)
    (x3 : Vec F S640x2048 .bf16) (x4 : Vec F S640x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) Set.univ (cc0_attn_latent i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_latent_eq_skeleton]; unfold cc0_attn_latent_skel
  simp only [k0_part8_eq_skeleton, k0_part9_eq_skeleton, k0_part10_eq_skeleton, k0_part11_eq_skeleton, k0_part12_eq_skeleton, k0_part13_eq_skeleton]
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst h1 h2 h3 h4 h5
  sl_exec
  sl_for (fun t _ => inv c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (arg1.view.read (Elt F) f1) (arg2.view.read (Elt F) f2) (arg3.view.read (Elt F) f3) (arg4.view.read (Elt F) f4) (arg5.view.read (Elt F) f5) t) $$ [H1 H2 H3 H4 H5 H6 H7 H8 H9 H10 H11 H12 H13 H14 H15 H16 H17 H18 H19]
  case region => intro k _; exact trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ k
  · unfold inv owns
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap
      · iexists _; isplitr; swap; · iexact H6
        ipureintro; rfl
      ipureintro
      intro y hy; exact absurd hy (Nat.not_lt_zero _)
    isplitl [H7]
    · iexists _; isplitr; swap
      · iexists _; isplitr; swap; · iexact H7
        ipureintro; rfl
      ipureintro
      intro h; exact absurd h (by decide)
    isplitl [H8]
    · iexists _; isplitr; swap; · iexact H8
      ipureintro
      exact (read_store _ _ zeros2 _ _).trans (sl_eq (rfl : (![0, 0, 0] : Fin 3 → ℕ) = qOff (4 * 0)) (rfl : (![0, 0, 0] : Fin 3 → ℕ) = kOff (4 * 0)) inb_S8x2048x128_S1x512x128_0_0_0 inb_S8x2048x128_S1x2048x128_0_0_0)
    isplitl [H9]
    · iexists _; isplitr; swap; · iexact H9
      ipureintro
      exact (read_store _ _ zeros2 _ _).trans (sc_eq (rfl : (![0, 0, 0] : Fin 3 → ℕ) = qOff (4 * 0)) (rfl : (![0, 0, 0] : Fin 3 → ℕ) = kOff (4 * 0)) inb_S8x2048x128_S1x512x128_0_0_0 inb_S8x256x128_S1x256x128_0_0_0)
    isplitl [H10]
    · iexists _; isplitr; swap; · iexact H10
      ipureintro
      exact (read_store _ _ zeros2 _ _).trans (mx_eq (rfl : (![0, 0, 0] : Fin 3 → ℕ) = qOff (4 * 0)) (rfl : (![0, 0, 0] : Fin 3 → ℕ) = kOff (4 * 0)) (rfl : (![0, 0, 0] : Fin 3 → ℕ) = kOff (4 * 0)) inb_S8x2048x128_S1x512x128_0_0_0 inb_S8x256x128_S1x256x128_0_0_0 inb_S8x2048x128_S1x2048x128_0_0_0)
    isplitl [H11]
    · iexists _; isplitr; swap; · iexact H11
      ipureintro
      exact (read_store _ _ zeros2 _ _).trans (sl_eq (rfl : (![1, 0, 0] : Fin 3 → ℕ) = qOff (4 * 0 + 1)) (rfl : (![1, 0, 0] : Fin 3 → ℕ) = kOff (4 * 0 + 1)) inb_S8x2048x128_S1x512x128_1_0_0 inb_S8x2048x128_S1x2048x128_1_0_0)
    isplitl [H12]
    · iexists _; isplitr; swap; · iexact H12
      ipureintro
      exact (read_store _ _ zeros2 _ _).trans (sc1_eq (rfl : (![1, 0, 0] : Fin 3 → ℕ) = qOff (4 * 0 + 1)) (rfl : (![1, 0, 0] : Fin 3 → ℕ) = kOff (4 * 0 + 1)) inb_S8x2048x128_S1x512x128_1_0_0 inb_S8x256x128_S1x256x128_1_0_0)
    isplitl [H13]
    · iexists _; isplitr; swap; · iexact H13
      ipureintro
      exact (read_store _ _ zeros2 _ _).trans (mx1_eq (rfl : (![1, 0, 0] : Fin 3 → ℕ) = qOff (4 * 0 + 1)) (rfl : (![1, 0, 0] : Fin 3 → ℕ) = kOff (4 * 0 + 1)) (rfl : (![1, 0, 0] : Fin 3 → ℕ) = kOff (4 * 0 + 1)) inb_S8x2048x128_S1x512x128_1_0_0 inb_S8x256x128_S1x256x128_1_0_0 inb_S8x2048x128_S1x2048x128_1_0_0)
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  · iintro %u HI
    rw [show Scf.trips k0_t1_loop.lb k0_t1_loop.ub k0_t1_loop.st = 7 from trips_eq]
    generalize View.read (Elt F) arg1.view f1 = x0
    generalize View.read (Elt F) arg2.view f2 = x1
    generalize View.read (Elt F) arg3.view f3 = x2
    generalize View.read (Elt F) arg4.view f4 = x3
    generalize View.read (Elt F) arg5.view f5 = x4
    unfold inv owns
    icases HI with ⟨⟨%e1, %h1, H1⟩, ⟨%e2, %h2, H2⟩, ⟨%e3, %h3, H3⟩, ⟨%e4, %h4, H4⟩, ⟨%e5, %h5, H5⟩, ⟨%o, %ho, %f6, %h6, H6⟩, ⟨%g, %hg, %f7, %h7, H7⟩, ⟨%g8, %h8, H8⟩, ⟨%g9, %h9, H9⟩, ⟨%g10, %h10, H10⟩, ⟨%g11, %h11, H11⟩, ⟨%g12, %h12, H12⟩, ⟨%g13, %h13, H13⟩, ⟨%d14, %g14, -, H14⟩, ⟨%d15, %g15, -, H15⟩, ⟨%d16, %g16, -, H16⟩, ⟨%d17, %g17, -, H17⟩, ⟨%d18, %g18, -, H18⟩, ⟨%d19, %g19, -, H19⟩⟩
    subst h1 h2 h3 h4 h5 h6 h7
    sl_exec
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      refine out_last _ _ ho (read_whole _ _ zeros2 _ (acc_last ?_ ?_ ?_ ?_ _ _ hg))
      · refine soft28_eq ?_ ?_ ?_ (rfl : (![320, 0] : Fin 2 → ℕ) = vOff 28) (rfl : (![320, 0] : Fin 2 → ℕ) = vOff 28) inb_S640x256_S80x256_320_0 inb_S640x2048_S80x2048_320_0
        · exact (read_whole _ _ zeros2 _ h10)
        · exact (read_whole _ _ zeros2 _ h9)
        · exact (read_whole _ _ zeros2 _ h8)
      · refine soft29_eq ?_ ?_ ?_ (rfl : (![400, 0] : Fin 2 → ℕ) = vOff 29) (rfl : (![400, 0] : Fin 2 → ℕ) = vOff 29) inb_S640x256_S80x256_400_0 inb_S640x2048_S80x2048_400_0
        · exact (read_whole _ _ zeros2 _ h13)
        · exact (read_whole _ _ zeros2 _ h12)
        · exact (read_whole _ _ zeros2 _ h11)
      · refine soft30_eq ?_ ?_ ?_ (rfl : (![480, 0] : Fin 2 → ℕ) = vOff 30) (rfl : (![480, 0] : Fin 2 → ℕ) = vOff 30) inb_S640x256_S80x256_480_0 inb_S640x2048_S80x2048_480_0
        · exact (View.readCov_unit_zero _ zeros2 _ _).trans (mx_eq (rfl : (![6, 1536, 0] : Fin 3 → ℕ) = qOff 30) (rfl : (![6, 0, 0] : Fin 3 → ℕ) = kOff 30) (rfl : (![6, 0, 0] : Fin 3 → ℕ) = kOff 30) inb_S8x2048x128_S1x512x128_6_1536_0 inb_S8x256x128_S1x256x128_6_0_0 inb_S8x2048x128_S1x2048x128_6_0_0)
        · exact (View.readCov_unit_zero _ zeros2 _ _).trans (sc_eq (rfl : (![6, 1536, 0] : Fin 3 → ℕ) = qOff 30) (rfl : (![6, 0, 0] : Fin 3 → ℕ) = kOff 30) inb_S8x2048x128_S1x512x128_6_1536_0 inb_S8x256x128_S1x256x128_6_0_0)
        · exact (View.readCov_unit_zero _ zeros2 _ _).trans (sl_eq (rfl : (![6, 1536, 0] : Fin 3 → ℕ) = qOff 30) (rfl : (![6, 0, 0] : Fin 3 → ℕ) = kOff 30) inb_S8x2048x128_S1x512x128_6_1536_0 inb_S8x2048x128_S1x2048x128_6_0_0)
      · refine soft31_eq ?_ ?_ ?_ (rfl : (![560, 0] : Fin 2 → ℕ) = vOff 31) (rfl : (![560, 0] : Fin 2 → ℕ) = vOff 31) inb_S640x256_S80x256_560_0 inb_S640x2048_S80x2048_560_0
        · exact (View.readCov_unit_zero _ zeros2 _ _).trans (mx_eq (rfl : (![7, 1536, 0] : Fin 3 → ℕ) = qOff 31) (rfl : (![7, 0, 0] : Fin 3 → ℕ) = kOff 31) (rfl : (![7, 0, 0] : Fin 3 → ℕ) = kOff 31) inb_S8x2048x128_S1x512x128_7_1536_0 inb_S8x256x128_S1x256x128_7_0_0 inb_S8x2048x128_S1x2048x128_7_0_0)
        · exact (View.readCov_unit_zero _ zeros2 _ _).trans (sc_eq (rfl : (![7, 1536, 0] : Fin 3 → ℕ) = qOff 31) (rfl : (![7, 0, 0] : Fin 3 → ℕ) = kOff 31) inb_S8x2048x128_S1x512x128_7_1536_0 inb_S8x256x128_S1x256x128_7_0_0)
        · exact (View.readCov_unit_zero _ zeros2 _ _).trans (sl_eq (rfl : (![7, 1536, 0] : Fin 3 → ℕ) = qOff 31) (rfl : (![7, 0, 0] : Fin 3 → ℕ) = kOff 31) inb_S8x2048x128_S1x512x128_7_1536_0 inb_S8x2048x128_S1x2048x128_7_0_0)
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.KernelIdeal.Attn

end
-- ==== Proof.AttnRun.lean ====
/-
  The attention kernel's RUN: the pipeline's proof data (after the body at each grid point the output's block holds
  `outV` of that point's input blocks), the body at a point with the scratch buffers taken from and given back to the
  pipeline's rest, the launch at any values, and the claim's frame.
-/
module

public import proofs.«01_k».proof.Proof.AttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: two pairs of windows read one array each, so an input holds the share the library gives it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outV (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

/-- The pipeline's invariant is the thirteen scratch buffers, each whole at some contents, and the generator's register. -/
theorem rest_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d))
      ∗ ∃ r, prngReg c r) := by
  unfold Pipeline.ΦA
  rw [scopedRest0_eq]
  simp only [owns_whole]

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl, rest_eq,
    after0_0, after0_1, after0_2, after0_3, after0_4, after0_5]
  iintro ⟨⟨⟨S0, S1, S2, S3, S4, S5, S6, S7, S8, S9, S10, S11, S12⟩, HR⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨H0, H1, H2, H3, H4, H5, S0, S1, S2, S3, S4, S5, S6, S7, S8, S9, S10, S11, S12⟩
  isplitl [S0 S1 S2 S3 S4 S5 S6 S7 S8 S9 S10 S11 S12 HR]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    · iexact HR
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unfolding plain definitions in a metavariable's type
set_option backward.isDefEq.respectTransparency.types false in
set_option maxHeartbeats 800000 in
/-- THE LAUNCH: every array of the pipeline ends at what the proof data say, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- THE FRAME at any values: the arguments end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.AttnRead.lean ====
/-
  The attention's stages READ AT AN INDEX, at the ideal instance: scores as sums over the 128 channels, the column
  maximum, and the weighted sum of the values divided by the weights' sum; and from them what the body leaves in the
  result's block, as a function of the five input blocks.
-/
module

public import proofs.«01_k».proof.Proof.AttnStages
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

variable (x0 : Vec Ideal S8x2048x128 .bf16) (x1 : Vec Ideal S8x2048x128 .bf16) (x2 : Vec Ideal S8x256x128 .bf16)
  (x3 : Vec Ideal S640x2048 .bf16) (x4 : Vec Ideal S640x256 .bf16)

abbrev hd (n : ℕ) : Fin 8 := ⟨n % 8, Nat.mod_lt _ (by decide)⟩
abbrev qrow (n : ℕ) (j : Fin 512) : Fin 2048 := ⟨512 * (n / 8 % 4) + j.val, by have := j.isLt; omega⟩
abbrev vrow (n : ℕ) (d : Fin 80) : Fin 640 := ⟨80 * (n % 8) + d.val, by have := d.isLt; omega⟩

theorem qld_apply (n : ℕ) (j : Fin 512) (k : Fin 128) : qld x0 n (ix3 0 j k) = x0 (ix3 (hd n) (qrow n j) k) := by
  pointwise [qld]
theorem kld_apply (n : ℕ) (j : Fin 2048) (k : Fin 128) : kld x1 n (ix3 0 j k) = x1 (ix3 (hd n) j k) := by
  pointwise [kld]
theorem kcld_apply (n : ℕ) (j : Fin 256) (k : Fin 128) : kcld x2 n (ix3 0 j k) = x2 (ix3 (hd n) j k) := by
  pointwise [kcld]
theorem vld_apply (n : ℕ) (d : Fin 80) (k : Fin 2048) : vld x3 n (ix2 d k) = x3 (ix2 (vrow n d) k) := by
  pointwise [vld]
theorem vcld_apply (n : ℕ) (d : Fin 80) (k : Fin 256) : vcld x4 n (ix2 d k) = x4 (ix2 (vrow n d) k) := by
  pointwise [vcld]

theorem slF_apply (n : ℕ) (r : Fin 2048) (j : Fin 512) :
    slF x0 x1 n (ix2 r j) = ∑ k : Fin 128, x1 (ix3 (hd n) r k) * x0 (ix3 (hd n) (qrow n j) k) := by
  pointwise [slF, k0_pay9, k0_pay8, k0_pay3, qld_apply, kld_apply]

theorem scF_apply (n : ℕ) (r : Fin 256) (j : Fin 512) :
    scF x0 x2 n (ix2 r j) = ∑ k : Fin 128, x2 (ix3 (hd n) r k) * x0 (ix3 (hd n) (qrow n j) k) := by
  pointwise [scF, k0_pay5, k0_pay4, k0_pay3, qld_apply, kcld_apply]

theorem ninf : Ideal.ofBits .f32 0xFF800000#32 = ⊥ := by simp [Ideal.ofBits, Ideal.ieee]

theorem mxF_apply (n : ℕ) (j : Fin 512) :
    mxF x0 x1 x2 n (ix2 0 j) = max (Finset.univ.fold max ⊥ fun r : Fin 256 => scF x0 x2 n (ix2 r j))
      (Finset.univ.fold max ⊥ fun r : Fin 2048 => slF x0 x1 n (ix2 r j)) := by
  pointwise [mxF, k0_pay10, k0_pay6, scF, k0_pay5, slF, k0_pay9]
  rw [ninf]

theorem softF_apply (n : ℕ) (d : Fin 64) (j : Fin 512) :
    softF x0 x1 x2 x3 x4 n (ix2 d j) = Ideal.div
      (∑ x : Fin 256, x4 (ix2 (vrow n ⟨d.val, by omega⟩) x) * Ideal.exp2 (scF x0 x2 n (ix2 x j) - mxF x0 x1 x2 n (ix2 0 j))
        + ∑ x : Fin 2048, x3 (ix2 (vrow n ⟨d.val, by omega⟩) x) * Ideal.exp2 (slF x0 x1 n (ix2 x j) - mxF x0 x1 x2 n (ix2 0 j)))
      (∑ x : Fin 256, x4 (ix2 (vrow n 64) x) * Ideal.exp2 (scF x0 x2 n (ix2 x j) - mxF x0 x1 x2 n (ix2 0 j))
        + ∑ x : Fin 2048, x3 (ix2 (vrow n 64) x) * Ideal.exp2 (slF x0 x1 n (ix2 x j) - mxF x0 x1 x2 n (ix2 0 j))) := by
  pointwise [softF, k0_pay11, k0_pay7, vld_apply, vcld_apply]
  rfl

/-- The result's block at row `r`, channel `ch`: head `ch / 64`'s channel `ch % 64` of query row `r`. -/
theorem outV_apply (r : Fin 2048) (ch : Fin 512) :
    outV x0 x1 x2 x3 x4 (ix2 r ch) = softF x0 x1 x2 x3 x4 (8 * (r.val / 512) + ch.val / 64)
      (ix2 (⟨ch.val % 64, Nat.mod_lt _ (by decide)⟩ : Fin 64) (⟨r.val % 512, Nat.mod_lt _ (by decide)⟩ : Fin 512)) := by
  pointwise [outV, blkV, k0_pay53]
  rfl

end Cert.KernelIdeal.Attn

end
-- ==== Proof.AttnSlabs.lean ====
/-
  The slabs that the host lays out for the attention, read at an index: the 96 channels of a head are filled up with zeros to
  128 lanes, and a row of the latent part (the first 16384 rows, 2048
  a batch) or of the context part (256 rows a batch after them) is the argument's row.
-/
module

public import proofs.«01_k».proof.Proof.AttnRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem zero_word : Ideal.ofBits .f32 0x00000000#32 = 0 := by simp [Ideal.ofBits, Ideal.ieee]

/-- Latent rows of width 96 filled up with zeros to the 128 lanes. -/
abbrev widenL (x : S8x2048x8x96.Idx → EReal) : S8x2048x8x128.Idx → EReal :=
  concatenate S8x2048x8x128 3 [⟨S8x2048x8x96, x⟩,
    ⟨S8x2048x8x32, broadcastInDim S8x2048x8x32 ![] bcast_S_S8x2048x8x32 (constant (F := Ideal) S_ .f32 0x00000000#32)⟩]
    concatenates_S8x2048x8x96_S8x2048x8x32_S8x2048x8x128_d3

/-- Context rows of width 96 filled up with zeros to the 128 lanes. -/
abbrev widenC (x : S8x256x8x96.Idx → EReal) : S8x256x8x128.Idx → EReal :=
  concatenate S8x256x8x128 3 [⟨S8x256x8x96, x⟩,
    ⟨S8x256x8x32, broadcastInDim S8x256x8x32 ![] bcast_S_S8x256x8x32 (constant (F := Ideal) S_ .f32 0x00000000#32)⟩]
    concatenates_S8x256x8x96_S8x256x8x32_S8x256x8x128_d3

theorem widenL_data (x : S8x2048x8x96.Idx → EReal) (b h : Fin 8) (r : Fin 2048) (k : Fin 96) :
    widenL x (ix4 b r h (Fin.castAdd 32 k : Fin (96 + 32))) = x (ix4 b r h k) := by
  refine concatenate_pair_apply_left (t := S8x2048x8x128) (s₁ := S8x2048x8x96) (s₂ := S8x2048x8x32) _ _ _ _ _ rfl (ix4 b r h k) (fun a => by fin_cases a <;> rfl)

theorem widenL_fill (x : S8x2048x8x96.Idx → EReal) (b h : Fin 8) (r : Fin 2048) (k : Fin 32) :
    widenL x (ix4 b r h (Fin.natAdd 96 k : Fin (96 + 32))) = 0 := by
  refine (concatenate_pair_apply_right (t := S8x2048x8x128) (s₁ := S8x2048x8x96) (s₂ := S8x2048x8x32) _ _ _ _ _ rfl rfl (ix4 b r h k)
    (fun a ha => by fin_cases a <;> first | rfl | exact absurd rfl ha) (by show k.val + 96 = 96 + k.val; omega)).trans ?_
  exact (broadcastInDim_apply _ _ _ _ (fun a => a.elim0) (fun a => a.elim0)).trans zero_word

theorem widenC_data (x : S8x256x8x96.Idx → EReal) (b h : Fin 8) (r : Fin 256) (k : Fin 96) :
    widenC x (ix4 b r h (Fin.castAdd 32 k : Fin (96 + 32))) = x (ix4 b r h k) := by
  refine concatenate_pair_apply_left (t := S8x256x8x128) (s₁ := S8x256x8x96) (s₂ := S8x256x8x32) _ _ _ _ _ rfl (ix4 b r h k) (fun a => by fin_cases a <;> rfl)

theorem widenC_fill (x : S8x256x8x96.Idx → EReal) (b h : Fin 8) (r : Fin 256) (k : Fin 32) :
    widenC x (ix4 b r h (Fin.natAdd 96 k : Fin (96 + 32))) = 0 := by
  refine (concatenate_pair_apply_right (t := S8x256x8x128) (s₁ := S8x256x8x96) (s₂ := S8x256x8x32) _ _ _ _ _ rfl rfl (ix4 b r h k)
    (fun a ha => by fin_cases a <;> first | rfl | exact absurd rfl ha) (by show k.val + 96 = 96 + k.val; omega)).trans ?_
  exact (broadcastInDim_apply _ _ _ _ (fun a => a.elim0) (fun a => a.elim0)).trans zero_word

/-- Latent and context rows of width 128, one after the other, heads outermost. -/
abbrev slab (x : S8x2048x8x128.Idx → EReal) (y : S8x256x8x128.Idx → EReal) : S8x18432x128.Idx → EReal :=
  transpose S8x18432x128 [1, 0, 2] (concatenate S18432x8x128 0
      [⟨S16384x8x128, shapeCast S16384x8x128 x shapeCasts_S8x2048x8x128_S16384x8x128⟩,
       ⟨S2048x8x128, shapeCast S2048x8x128 y shapeCasts_S8x256x8x128_S2048x8x128⟩]
       concatenates_S16384x8x128_S2048x8x128_S18432x8x128_d0) transposes_S18432x8x128_S8x18432x128_1_0_2

theorem slab_latent (x : S8x2048x8x128.Idx → EReal) (y : S8x256x8x128.Idx → EReal) (b h : Fin 8) (r : Fin 2048) (k : Fin 128) :
    slab x y (ix3 h ⟨2048 * b.val + r.val, by omega⟩ k) = x (ix4 b r h k) := by
  refine (transpose_apply _ _ _ _ (ix3 (⟨2048 * b.val + r.val, by omega⟩ : Fin 18432) h k) (fun a => by fin_cases a <;> rfl)).trans ?_
  refine (concatenate_pair_apply_left (t := S18432x8x128) (s₁ := S16384x8x128) (s₂ := S2048x8x128) _ _ _ _ _ rfl (ix3 (⟨2048 * b.val + r.val, by omega⟩ : Fin 16384) h k) (fun a => by fin_cases a <;> rfl)).trans ?_
  refine shapeCast_apply _ _ _ _ ?_
  rw [Shape.rowMajor_val_three, Shape.rowMajor_val_four]
  show ((b.val * 2048 + r.val) * 8 + h.val) * 128 + k.val = ((2048 * b.val + r.val) * 8 + h.val) * 128 + k.val
  omega

theorem slab_context (x : S8x2048x8x128.Idx → EReal) (y : S8x256x8x128.Idx → EReal) (b h : Fin 8) (r : Fin 256) (k : Fin 128) :
    slab x y (ix3 h ⟨16384 + 256 * b.val + r.val, by omega⟩ k) = y (ix4 b r h k) := by
  refine (transpose_apply _ _ _ _ (ix3 (⟨16384 + 256 * b.val + r.val, by omega⟩ : Fin 18432) h k) (fun a => by fin_cases a <;> rfl)).trans ?_
  refine (concatenate_pair_apply_right (t := S18432x8x128) (s₁ := S16384x8x128) (s₂ := S2048x8x128) _ _ _ _ _ rfl rfl (ix3 (⟨256 * b.val + r.val, by omega⟩ : Fin 2048) h k)
    (fun a ha => by fin_cases a <;> first | rfl | exact absurd rfl ha) (by show 256 * b.val + r.val + 16384 = 16384 + 256 * b.val + r.val; omega)).trans ?_
  refine shapeCast_apply _ _ _ _ ?_
  rw [Shape.rowMajor_val_three, Shape.rowMajor_val_four]
  show ((b.val * 256 + r.val) * 8 + h.val) * 128 + k.val = ((256 * b.val + r.val) * 8 + h.val) * 128 + k.val
  omega

/-- The value table: for each head 64 channels of latent and context rows, then 16 rows of ones. -/
abbrev table (x : S8x2048x8x64.Idx → EReal) (y : S8x256x8x64.Idx → EReal) : S640x18432.Idx → EReal :=
  shapeCast S640x18432 (concatenate S8x80x18432 1
    [⟨S8x64x18432, transpose S8x64x18432 [1, 2, 0] (concatenate S18432x8x64 0
      [⟨S16384x8x64, shapeCast S16384x8x64 x shapeCasts_S8x2048x8x64_S16384x8x64⟩,
       ⟨S2048x8x64, shapeCast S2048x8x64 y shapeCasts_S8x256x8x64_S2048x8x64⟩]
       concatenates_S16384x8x64_S2048x8x64_S18432x8x64_d0) transposes_S18432x8x64_S8x64x18432_1_2_0⟩,
     ⟨S8x16x18432, broadcastInDim S8x16x18432 ![] bcast_S_S8x16x18432 (constant (F := Ideal) S_ .f32 0x3F800000#32)⟩]
     concatenates_S8x64x18432_S8x16x18432_S8x80x18432_d1) shapeCasts_S8x80x18432_S640x18432

theorem table_latent (x : S8x2048x8x64.Idx → EReal) (y : S8x256x8x64.Idx → EReal) (b h : Fin 8) (r : Fin 2048) (d : Fin 64) :
    table x y (ix2 ⟨80 * h.val + d.val, by omega⟩ ⟨2048 * b.val + r.val, by omega⟩) = x (ix4 b r h d) := by
  refine (shapeCast_apply _ _ _ (ix3 h (⟨d.val, by omega⟩ : Fin 80) (⟨2048 * b.val + r.val, by omega⟩ : Fin 18432)) ?_).trans ?_
  · rw [Shape.rowMajor_val_three, Shape.rowMajor_val_two]
    show (h.val * 80 + d.val) * 18432 + (2048 * b.val + r.val) = (80 * h.val + d.val) * 18432 + (2048 * b.val + r.val)
    omega
  refine (concatenate_pair_apply_left (t := S8x80x18432) (s₁ := S8x64x18432) (s₂ := S8x16x18432) _ _ _ _ _ rfl (ix3 h d (⟨2048 * b.val + r.val, by omega⟩ : Fin 18432)) (fun a => by fin_cases a <;> rfl)).trans ?_
  refine (transpose_apply _ _ _ _ (ix3 (⟨2048 * b.val + r.val, by omega⟩ : Fin 18432) h d) (fun a => by fin_cases a <;> rfl)).trans ?_
  refine (concatenate_pair_apply_left (t := S18432x8x64) (s₁ := S16384x8x64) (s₂ := S2048x8x64) _ _ _ _ _ rfl (ix3 (⟨2048 * b.val + r.val, by omega⟩ : Fin 16384) h d) (fun a => by fin_cases a <;> rfl)).trans ?_
  refine shapeCast_apply _ _ _ _ ?_
  rw [Shape.rowMajor_val_three, Shape.rowMajor_val_four]
  show ((b.val * 2048 + r.val) * 8 + h.val) * 64 + d.val = ((2048 * b.val + r.val) * 8 + h.val) * 64 + d.val
  omega

theorem table_context (x : S8x2048x8x64.Idx → EReal) (y : S8x256x8x64.Idx → EReal) (b h : Fin 8) (r : Fin 256) (d : Fin 64) :
    table x y (ix2 ⟨80 * h.val + d.val, by omega⟩ ⟨16384 + 256 * b.val + r.val, by omega⟩) = y (ix4 b r h d) := by
  refine (shapeCast_apply _ _ _ (ix3 h (⟨d.val, by omega⟩ : Fin 80) (⟨16384 + 256 * b.val + r.val, by omega⟩ : Fin 18432)) ?_).trans ?_
  · rw [Shape.rowMajor_val_three, Shape.rowMajor_val_two]
    show (h.val * 80 + d.val) * 18432 + (16384 + 256 * b.val + r.val) = (80 * h.val + d.val) * 18432 + (16384 + 256 * b.val + r.val)
    omega
  refine (concatenate_pair_apply_left (t := S8x80x18432) (s₁ := S8x64x18432) (s₂ := S8x16x18432) _ _ _ _ _ rfl (ix3 h d (⟨16384 + 256 * b.val + r.val, by omega⟩ : Fin 18432)) (fun a => by fin_cases a <;> rfl)).trans ?_
  refine (transpose_apply _ _ _ _ (ix3 (⟨16384 + 256 * b.val + r.val, by omega⟩ : Fin 18432) h d) (fun a => by fin_cases a <;> rfl)).trans ?_
  refine (concatenate_pair_apply_right (t := S18432x8x64) (s₁ := S16384x8x64) (s₂ := S2048x8x64) _ _ _ _ _ rfl rfl (ix3 (⟨256 * b.val + r.val, by omega⟩ : Fin 2048) h d)
    (fun a ha => by fin_cases a <;> first | rfl | exact absurd rfl ha) (by show 256 * b.val + r.val + 16384 = 16384 + 256 * b.val + r.val; omega)).trans ?_
  refine shapeCast_apply _ _ _ _ ?_
  rw [Shape.rowMajor_val_three, Shape.rowMajor_val_four]
  show ((b.val * 256 + r.val) * 8 + h.val) * 64 + d.val = ((256 * b.val + r.val) * 8 + h.val) * 64 + d.val
  omega

theorem one_word : Ideal.ofBits .f32 0x3F800000#32 = 1 := by
  simp [Ideal.ofBits, Ideal.ieee, -EReal.coe_mul]
  try norm_num

theorem table_ones (x : S8x2048x8x64.Idx → EReal) (y : S8x256x8x64.Idx → EReal) (h : Fin 8) (R : Fin 18432) :
    table x y (ix2 ⟨80 * h.val + 64, by omega⟩ R) = 1 := by
  refine (shapeCast_apply _ _ _ (ix3 h (64 : Fin 80) R) ?_).trans ?_
  · rw [Shape.rowMajor_val_three, Shape.rowMajor_val_two]
    show (h.val * 80 + 64) * 18432 + R.val = (80 * h.val + 64) * 18432 + R.val
    omega
  refine (concatenate_pair_apply_right (t := S8x80x18432) (s₁ := S8x64x18432) (s₂ := S8x16x18432) _ _ _ _ _ rfl rfl (ix3 h (0 : Fin 16) R)
    (fun a ha => by fin_cases a <;> first | rfl | exact absurd rfl ha) rfl).trans ?_
  refine (broadcastInDim_apply _ _ _ _ (fun a => a.elim0) (fun a => a.elim0)).trans ?_
  exact one_word

end Cert.KernelIdeal.Attn

end
-- ==== Proof.AttnInput.lean ====
/-
  What the attention's windows hold, in terms of the arguments: at grid point `t`, batch `t`'s query rows multiplied by the
  scale over `log 2`, its latent and context keys, and the value table, whose rows are 64 channels and 16 rows of ones a head.
-/
module

public import proofs.«01_k».proof.Proof.AttnRead
public import proofs.«01_k».proof.Proof.AttnSlabs
public import proofs.«01_k».proof.Proof.AttnRun
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- The factor that the host multiplies the queries by: the scale over `log 2`. -/
abbrev scale2 : EReal := Ideal.div (Ideal.ofBits .f32 0x3DD105EC#32) (Ideal.log (Ideal.ofBits .f32 0x40000000#32))

/-- The arguments, as arrays of extended reals. -/
abbrev argQ : S8x2048x8x96.Idx → EReal := m ((c : Thread nD τ).loc main_arg0)
abbrev argK : S8x2048x8x96.Idx → EReal := m ((c : Thread nD τ).loc main_arg1)
abbrev argV : S8x2048x8x64.Idx → EReal := m ((c : Thread nD τ).loc main_arg2)
abbrev argKc : S8x256x8x96.Idx → EReal := m ((c : Thread nD τ).loc main_arg4)
abbrev argVc : S8x256x8x64.Idx → EReal := m ((c : Thread nD τ).loc main_arg5)

theorem V_q : (V m c main_v12 : S8x18432x128.Idx → EReal) = fun i => slab (widenL (argQ m c)) (widenC (m ((c : Thread nD τ).loc main_arg3))) i * scale2 := by
  unfold_abbrev_sides
  after_results
  rfl
theorem V_k : (V m c main_v21 : S8x18432x128.Idx → EReal) = slab (widenL (argK m c)) (widenC (argKc m c)) := by
  unfold_abbrev_sides
  after_results
  rfl
theorem V_v : (V m c main_v29 : S640x18432.Idx → EReal) = table (argV m c) (argVc m c) := by
  unfold_abbrev_sides
  after_results
  rfl

theorem index0 (t : Fin grid0.N) : win0_0.index t = ![0, t.val, 0] := by
  rcases fin_N0 t with h | h | h | h | h | h | h | h <;> subst h <;> funext a <;> fin_cases a <;> rfl
theorem index1 (t : Fin grid0.N) : win0_1.index t = ![0, t.val, 0] := by
  rcases fin_N0 t with h | h | h | h | h | h | h | h <;> subst h <;> funext a <;> fin_cases a <;> rfl
theorem index2 (t : Fin grid0.N) : win0_2.index t = ![0, 64 + t.val, 0] := by
  rcases fin_N0 t with h | h | h | h | h | h | h | h <;> subst h <;> funext a <;> fin_cases a <;> rfl
theorem index3 (t : Fin grid0.N) : win0_3.index t = ![0, t.val] := by
  rcases fin_N0 t with h | h | h | h | h | h | h | h <;> subst h <;> funext a <;> fin_cases a <;> rfl
theorem index4 (t : Fin grid0.N) : win0_4.index t = ![0, 64 + t.val] := by
  rcases fin_N0 t with h | h | h | h | h | h | h | h <;> subst h <;> funext a <;> fin_cases a <;> rfl
theorem index5 (t : Fin grid0.N) : win0_5.index t = ![t.val, 0] := by
  rcases fin_N0 t with h | h | h | h | h | h | h | h <;> subst h <;> funext a <;> fin_cases a <;> rfl

theorem iblk0_lane (t : Fin cfg0.N) (ht : t.val < 8) (h : Fin 8) (r : Fin 2048) (k : Fin 128) :
    (iblk m c 0 t : S8x2048x128.Idx → EReal) (ix3 h r k) = widenL (argQ m c) (ix4 ⟨t.val, ht⟩ r h k) * scale2 := by
  have e : (iblk m c 0 t : S8x2048x128.Idx → EReal) (ix3 h r k) = (V m c main_v12 : S8x18432x128.Idx → EReal) (ix3 h ⟨2048 * t.val + r.val, by omega⟩ k) := by
    blk_simp [iblk]
    refine congrArg (V m c main_v12) (funext fun a => Fin.ext ?_)
    blk_simp
    rw [index0 t]
    fin_cases a <;> simp <;> omega
  rw [e, V_q]
  exact congrArg (· * scale2) (slab_latent _ _ ⟨t.val, ht⟩ h r k)

theorem iblk1_lane (t : Fin cfg0.N) (ht : t.val < 8) (h : Fin 8) (r : Fin 2048) (k : Fin 128) :
    (iblk m c 1 t : S8x2048x128.Idx → EReal) (ix3 h r k) = widenL (argK m c) (ix4 ⟨t.val, ht⟩ r h k) := by
  have e : (iblk m c 1 t : S8x2048x128.Idx → EReal) (ix3 h r k) = (V m c main_v21 : S8x18432x128.Idx → EReal) (ix3 h ⟨2048 * t.val + r.val, by omega⟩ k) := by
    blk_simp [iblk]
    refine congrArg (V m c main_v21) (funext fun a => Fin.ext ?_)
    blk_simp
    rw [index1 t]
    fin_cases a <;> simp <;> omega
  rw [e, V_k]
  exact slab_latent _ _ ⟨t.val, ht⟩ h r k

theorem iblk2_lane (t : Fin cfg0.N) (ht : t.val < 8) (h : Fin 8) (r : Fin 256) (k : Fin 128) :
    (iblk m c 2 t : S8x256x128.Idx → EReal) (ix3 h r k) = widenC (argKc m c) (ix4 ⟨t.val, ht⟩ r h k) := by
  have e : (iblk m c 2 t : S8x256x128.Idx → EReal) (ix3 h r k) = (V m c main_v21 : S8x18432x128.Idx → EReal) (ix3 h ⟨16384 + 256 * t.val + r.val, by omega⟩ k) := by
    blk_simp [iblk]
    refine congrArg (V m c main_v21) (funext fun a => Fin.ext ?_)
    blk_simp
    rw [index2 t]
    fin_cases a <;> simp <;> omega
  rw [e, V_k]
  exact slab_context _ _ ⟨t.val, ht⟩ h r k

theorem iblk0 (t : Fin cfg0.N) (ht : t.val < 8) (h : Fin 8) (r : Fin 2048) (k : Fin 96) :
    (iblk m c 0 t : S8x2048x128.Idx → EReal) (ix3 h r (Fin.castAdd 32 k : Fin (96 + 32))) = argQ m c (ix4 ⟨t.val, ht⟩ r h k) * scale2 := by
  rw [iblk0_lane m c t ht, widenL_data]

theorem iblk0_fill (t : Fin cfg0.N) (ht : t.val < 8) (h : Fin 8) (r : Fin 2048) (k : Fin 32) :
    (iblk m c 0 t : S8x2048x128.Idx → EReal) (ix3 h r (Fin.natAdd 96 k : Fin (96 + 32))) = (0 : EReal) := by
  rw [iblk0_lane m c t ht, widenL_fill, zero_mul]

theorem iblk1 (t : Fin cfg0.N) (ht : t.val < 8) (h : Fin 8) (r : Fin 2048) (k : Fin 96) :
    (iblk m c 1 t : S8x2048x128.Idx → EReal) (ix3 h r (Fin.castAdd 32 k : Fin (96 + 32))) = argK m c (ix4 ⟨t.val, ht⟩ r h k) := by
  rw [iblk1_lane m c t ht, widenL_data]

theorem iblk1_fill (t : Fin cfg0.N) (ht : t.val < 8) (h : Fin 8) (r : Fin 2048) (k : Fin 32) :
    (iblk m c 1 t : S8x2048x128.Idx → EReal) (ix3 h r (Fin.natAdd 96 k : Fin (96 + 32))) = (0 : EReal) := by
  rw [iblk1_lane m c t ht, widenL_fill]

theorem iblk2 (t : Fin cfg0.N) (ht : t.val < 8) (h : Fin 8) (r : Fin 256) (k : Fin 96) :
    (iblk m c 2 t : S8x256x128.Idx → EReal) (ix3 h r (Fin.castAdd 32 k : Fin (96 + 32))) = argKc m c (ix4 ⟨t.val, ht⟩ r h k) := by
  rw [iblk2_lane m c t ht, widenC_data]

theorem iblk2_fill (t : Fin cfg0.N) (ht : t.val < 8) (h : Fin 8) (r : Fin 256) (k : Fin 32) :
    (iblk m c 2 t : S8x256x128.Idx → EReal) (ix3 h r (Fin.natAdd 96 k : Fin (96 + 32))) = (0 : EReal) := by
  rw [iblk2_lane m c t ht, widenC_fill]

theorem iblk3_table (t : Fin cfg0.N) (ht : t.val < 8) (d : Fin 640) (r : Fin 2048) :
    (iblk m c 3 t : S640x2048.Idx → EReal) (ix2 d r) = table (argV m c) (argVc m c) (ix2 d ⟨2048 * t.val + r.val, by omega⟩) := by
  have e : (iblk m c 3 t : S640x2048.Idx → EReal) (ix2 d r) = (V m c main_v29 : S640x18432.Idx → EReal) (ix2 d ⟨2048 * t.val + r.val, by omega⟩) := by
    blk_simp [iblk]
    refine congrArg (V m c main_v29) (funext fun a => Fin.ext ?_)
    blk_simp
    rw [index3 t]
    fin_cases a <;> simp <;> omega
  rw [e, V_v]

theorem iblk3 (t : Fin cfg0.N) (ht : t.val < 8) (h : Fin 8) (r : Fin 2048) (d : Fin 64) :
    (iblk m c 3 t : S640x2048.Idx → EReal) (ix2 ⟨80 * h.val + d.val, by omega⟩ r) = argV m c (ix4 ⟨t.val, ht⟩ r h d) := by
  rw [iblk3_table m c t ht]
  exact table_latent _ _ ⟨t.val, ht⟩ h r d

theorem iblk3_ones (t : Fin cfg0.N) (ht : t.val < 8) (h : Fin 8) (r : Fin 2048) :
    (iblk m c 3 t : S640x2048.Idx → EReal) (ix2 ⟨80 * h.val + 64, by omega⟩ r) = (1 : EReal) := by
  rw [iblk3_table m c t ht]
  exact table_ones _ _ h _

theorem iblk4_table (t : Fin cfg0.N) (ht : t.val < 8) (d : Fin 640) (r : Fin 256) :
    (iblk m c 4 t : S640x256.Idx → EReal) (ix2 d r) = table (argV m c) (argVc m c) (ix2 d ⟨16384 + 256 * t.val + r.val, by omega⟩) := by
  have e : (iblk m c 4 t : S640x256.Idx → EReal) (ix2 d r) = (V m c main_v29 : S640x18432.Idx → EReal) (ix2 d ⟨16384 + 256 * t.val + r.val, by omega⟩) := by
    blk_simp [iblk]
    refine congrArg (V m c main_v29) (funext fun a => Fin.ext ?_)
    blk_simp
    rw [index4 t]
    fin_cases a <;> simp <;> omega
  rw [e, V_v]

theorem iblk4 (t : Fin cfg0.N) (ht : t.val < 8) (h : Fin 8) (r : Fin 256) (d : Fin 64) :
    (iblk m c 4 t : S640x256.Idx → EReal) (ix2 ⟨80 * h.val + d.val, by omega⟩ r) = argVc m c (ix4 ⟨t.val, ht⟩ r h d) := by
  rw [iblk4_table m c t ht]
  exact table_context _ _ ⟨t.val, ht⟩ h r d

theorem iblk4_ones (t : Fin cfg0.N) (ht : t.val < 8) (h : Fin 8) (r : Fin 256) :
    (iblk m c 4 t : S640x256.Idx → EReal) (ix2 ⟨80 * h.val + 64, by omega⟩ r) = (1 : EReal) := by
  rw [iblk4_table m c t ht]
  exact table_ones _ _ h _

end Cert.KernelIdeal.Attn

end
-- ==== Proof.AttnOut.lean ====
/-
  The result's array after the run: row `R` is row `R % 2048` of what grid point `R / 2048` leaves in the block.
-/
module

public import proofs.«01_k».proof.Proof.AttnInput
public import proofs.«01_k».proof.Proof.AttnSlabs
public import proofs.«01_k».proof.Proof.AttnRun
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- What grid point `b` leaves in the result's block. -/
abbrev blkOut (b : Fin 8) : S2048x512.Idx → EReal := outV (iblk m c 0 b) (iblk m c 1 b) (iblk m c 2 b) (iblk m c 3 b) (iblk m c 4 b)

theorem emb5_0 (t : Fin cfg0.N) (y : S2048x512.Idx) : ((((cfg0.win 5).blk t).view.emb y) 0 : ℕ) = t.val * 2048 + (y 0).val := by
  blk_simp
  rw [index5 t]
  rfl
theorem emb5_1 (t : Fin cfg0.N) (y : S2048x512.Idx) : ((((cfg0.win 5).blk t).view.emb y) 1 : ℕ) = (y 1).val := by
  blk_simp
  rw [index5 t]
  simp

theorem blkOut_congr (t : Fin cfg0.N) (y z : S2048x512.Idx) (b : Fin 8) (hb : b.val = t.val) (h0 : (z 0).val = (y 0).val) (h1 : (z 1).val = (y 1).val) :
    (outV (iblk m c 0 t) (iblk m c 1 t) (iblk m c 2 t) (iblk m c 3 t) (iblk m c 4 t) : S2048x512.Idx → EReal) y = blkOut m c b z := by
  obtain rfl : z = y := funext fun a => Fin.ext (by fin_cases a; exacts [h0, h1])
  obtain rfl : b = t := Fin.ext hb
  rfl

/-- The result's array, as a function of the windows' blocks. -/
def resultArr : S16384x512.Idx → EReal := fun y => blkOut m c ⟨(y 0).val / 2048, by
      have : (y 0).val < 16384 := (y 0).isLt
      omega⟩ (ix2 (⟨(y 0).val % 2048, by omega⟩ : Fin 2048) (⟨(y 1).val, (y 1).isLt⟩ : Fin 512))

theorem result_point (t : Fin cfg0.N) (y : S2048x512.Idx) :
    (outV (iblk m c 0 t) (iblk m c 1 t) (iblk m c 2 t) (iblk m c 3 t) (iblk m c 4 t) : S2048x512.Idx → EReal) y
      = resultArr m c (((cfg0.win 5).blk t).view.emb y) := by
  have h0 : (y 0).val < 2048 := (y 0).isLt
  have e0 := emb5_0 t y
  have e1 := emb5_1 t y
  generalize ((cfg0.win 5).blk t).view.emb y = Y at e0 e1 ⊢
  unfold resultArr
  refine blkOut_congr m c t y _ _ ?_ ?_ ?_
  · show (Y 0).val / 2048 = t.val
    omega
  · show (Y 0).val % 2048 = (y 0).val
    omega
  · exact e1

theorem result_array : (dats m 0 c).arrAt 5 cfg0.N = resultArr m c := by
  refine (dats m 0 c).arrAt_eq_of_covers 5 _ (by decide +kernel) fun t hf y => ?_
  rw [after0_5]
  exact result_point m c t y

end Cert.KernelIdeal.Attn

end
-- ==== Proof.SoftmaxLaw.lean ====
/-
  The law behind the attention claim, on extended reals. Scores are real; the values are any extended reals. A softmax
  whose exponentials are taken in base two of scores divided by `log 2`, less any real number, and whose weighted sum is
  divided by the sum of the weights at the end, is the softmax whose exponentials are taken in base e less any real number
  and are divided by their sum before they weight the values.
-/
module

public import Idealize.ShloMosaic.PureOps.Ideal
public import Idealize.ShloMosaic.PureOps.Ideal.Laws

@[expose] public section

noncomputable section

namespace Cert.SoftmaxLaw

open Idealize.ShloMosaic

/-- A finite sum of reals, as an extended real. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A positive real factor goes into a finite sum of extended reals. -/
theorem sum_mul_coe {ι : Type*} (s : Finset ι) (f : ι → EReal) (a : ℝ) (ha : 0 < a) :
    (∑ k ∈ s, f k) * (a : EReal) = ∑ k ∈ s, f k * (a : EReal) := by
  classical
  induction s using Finset.induction_on with
  | empty => simp
  | insert b s hb ih =>
    rw [Finset.sum_insert hb, Finset.sum_insert hb, ← ih, mul_comm, EReal.left_distrib_of_nonneg_of_ne_top
      (by exact_mod_cast ha.le) (EReal.coe_ne_top a), mul_comm (a : EReal) (f b), mul_comm (a : EReal)]

/-- The greatest of finitely many reals, one at least, is a real. -/
theorem fold_max_real {ι : Type*} (s : Finset ι) (hs : s.Nonempty) (f : ι → EReal) (h : ∀ k, ∃ r : ℝ, f k = r) :
    ∃ r : ℝ, s.fold max ⊥ f = r := by
  have h1 : s.fold max ⊥ f < ⊤ := (Finset.fold_max_lt _).2 ⟨bot_lt_top, fun k _ => by
    obtain ⟨r, hr⟩ := h k; rw [hr]; exact EReal.coe_lt_top r⟩
  have h2 : ⊥ < s.fold max ⊥ f := (Finset.lt_fold_max _).2 (Or.inr (by
    obtain ⟨k, hk⟩ := hs
    obtain ⟨r, hr⟩ := h k
    exact ⟨k, hk, by rw [hr]; exact EReal.bot_lt_coe r⟩))
  exact ⟨_, (EReal.coe_toReal h1.ne h2.ne').symm⟩

theorem max_real {x y : EReal} (hx : ∃ r : ℝ, x = r) (hy : ∃ r : ℝ, y = r) : ∃ r : ℝ, max x y = r := by
  obtain ⟨a, rfl⟩ := hx
  obtain ⟨b, rfl⟩ := hy
  rcases le_total (a : EReal) b with h | h
  · exact ⟨b, max_eq_right h⟩
  · exact ⟨a, max_eq_left h⟩

/-- Division by a real that is not zero is multiplication by its inverse. -/
theorem div_coe (x : EReal) (a : ℝ) (ha : a ≠ 0) : Ideal.div x (a : EReal) = x * ((a⁻¹ : ℝ) : EReal) := by
  unfold Ideal.div
  rw [if_neg (by exact_mod_cast ha), EReal.coe_inv]

/-- Weights `α * w k` divided out at the end, against weights `β * w k` divided by their sum first. -/
theorem normalize {ι : Type*} (s : Finset ι) (hs : s.Nonempty) (v : ι → EReal) (w : ι → ℝ) (hw : ∀ k, 0 < w k) (α β : ℝ)
    (hα : 0 < α) (hβ : 0 < β) :
    Ideal.div (∑ k ∈ s, v k * ((α * w k : ℝ) : EReal)) (∑ k ∈ s, ((α * w k : ℝ) : EReal))
      = ∑ k ∈ s, v k * Ideal.div ((β * w k : ℝ) : EReal) (∑ k ∈ s, ((β * w k : ℝ) : EReal)) := by
  have hW : 0 < ∑ k ∈ s, w k := Finset.sum_pos (fun k _ => hw k) hs
  rw [sum_coe, sum_coe, ← Finset.mul_sum, ← Finset.mul_sum, div_coe _ _ (mul_pos hα hW).ne',
    sum_mul_coe _ _ _ (inv_pos.2 (mul_pos hα hW))]
  refine Finset.sum_congr rfl fun k _ => ?_
  rw [div_coe _ _ (mul_pos hβ hW).ne', mul_assoc, ← EReal.coe_mul, ← EReal.coe_mul]
  congr 2
  field_simp

theorem exp2_coe (x y : ℝ) : Ideal.exp2 (((x / Real.log 2 : ℝ) : EReal) - (y : EReal))
    = ((Real.exp (-(y * Real.log 2)) * Real.exp x : ℝ) : EReal) := by
  have hl : Real.log 2 ≠ 0 := (Real.log_pos (by norm_num)).ne'
  rw [← EReal.coe_sub, show Ideal.exp2 ((x / Real.log 2 - y : ℝ) : EReal) = ((Real.rpow 2 (x / Real.log 2 - y) : ℝ) : EReal) from rfl]
  congr 1
  rw [show Real.rpow 2 (x / Real.log 2 - y) = (2 : ℝ) ^ (x / Real.log 2 - y) from rfl, Real.rpow_def_of_pos (by norm_num), ← Real.exp_add]
  congr 1
  field_simp
  ring

theorem exp_coe (x y : ℝ) : Ideal.exp ((x : EReal) - (y : EReal)) = ((Real.exp (-y) * Real.exp x : ℝ) : EReal) := by
  rw [← EReal.coe_sub, show Ideal.exp ((x - y : ℝ) : EReal) = ((Real.exp (x - y) : ℝ) : EReal) from rfl, ← Real.exp_add]
  congr 2
  ring

/-- THE LAW. -/
theorem softmax {ι : Type*} (s : Finset ι) (hs : s.Nonempty) (v : ι → EReal) (x : ι → ℝ) (M M' : ℝ) :
    Ideal.div (∑ k ∈ s, v k * Ideal.exp2 (((x k / Real.log 2 : ℝ) : EReal) - (M' : EReal)))
        (∑ k ∈ s, Ideal.exp2 (((x k / Real.log 2 : ℝ) : EReal) - (M' : EReal)))
      = ∑ k ∈ s, v k * Ideal.div (Ideal.exp ((x k : EReal) - (M : EReal))) (∑ k ∈ s, Ideal.exp ((x k : EReal) - (M : EReal))) := by
  simp only [exp2_coe, exp_coe]
  exact normalize s hs v _ (fun k => Real.exp_pos _) _ _ (Real.exp_pos _) (Real.exp_pos _)

/-- The value of the word that the scale is. -/
theorem scale_real : ∃ r : ℝ, Ideal.ofBits .f32 0x3DD105EC#32 = r := by
  simp [Ideal.ofBits, Ideal.ieee, -EReal.coe_mul]

theorem two_word : Ideal.ofBits .f32 0x40000000#32 = ((2 : ℝ) : EReal) := by
  simp [Ideal.ofBits, Ideal.ieee, -EReal.coe_mul]
  try norm_num

theorem log_two : Ideal.log (Ideal.ofBits .f32 0x40000000#32) = ((Real.log 2 : ℝ) : EReal) := by
  rw [two_word]
  show (if (2 : ℝ) ≤ 0 then (⊥ : EReal) else ((Real.log 2 : ℝ) : EReal)) = _
  rw [if_neg (by norm_num)]

/-- A score with the scale taken into the queries and divided by `log 2`, and the score multiplied by the scale, are a real
    over `log 2` and that real. -/
theorem score {ι : Type*} [Fintype ι] (q k : ι → EReal) (hq : ∀ i, ∃ r : ℝ, q i = r) (hk : ∀ i, ∃ r : ℝ, k i = r) (c : EReal)
    (hc : ∃ r : ℝ, c = r) :
    ∃ x : ℝ, (∑ i, q i * k i) * c = x
      ∧ (∑ i, k i * (q i * Ideal.div c (Ideal.log (Ideal.ofBits .f32 0x40000000#32)))) = ((x / Real.log 2 : ℝ) : EReal) := by
  choose qr hqr using hq
  choose kr hkr using hk
  obtain ⟨c', rfl⟩ := hc
  refine ⟨(∑ i, qr i * kr i) * c', ?_, ?_⟩
  · simp only [hqr, hkr, ← EReal.coe_mul, sum_coe]
  · rw [log_two, div_coe _ _ (Real.log_pos (by norm_num)).ne']
    simp only [hqr, hkr, ← EReal.coe_mul, sum_coe]
    congr 1
    rw [Finset.sum_mul, Finset.sum_div]
    exact Finset.sum_congr rfl fun i _ => by ring

/-- Attention on one query row: the kernel's form, and the reference's. -/
theorem attention {κ ι : Type*} [Fintype κ] [Nonempty κ] [Fintype ι] (q : ι → EReal) (K : κ → ι → EReal) (V : κ → EReal)
    (hq : ∀ i, ∃ r : ℝ, q i = r) (hK : ∀ x i, ∃ r : ℝ, K x i = r) (c : EReal) (hc : ∃ r : ℝ, c = r) (M M' : EReal)
    (hM : ∃ r : ℝ, M = r) (hM' : ∃ r : ℝ, M' = r) :
    Ideal.div (∑ x, V x * Ideal.exp2 ((∑ i, K x i * (q i * Ideal.div c (Ideal.log (Ideal.ofBits .f32 0x40000000#32)))) - M'))
        (∑ x, Ideal.exp2 ((∑ i, K x i * (q i * Ideal.div c (Ideal.log (Ideal.ofBits .f32 0x40000000#32)))) - M'))
      = ∑ x, V x * Ideal.div (Ideal.exp ((∑ i, q i * K x i) * c - M)) (∑ x, Ideal.exp ((∑ i, q i * K x i) * c - M)) := by
  choose s hs hs' using fun x => score q (K x) hq (hK x) c hc
  obtain ⟨M, rfl⟩ := hM
  obtain ⟨M', rfl⟩ := hM'
  simp only [hs, hs']
  exact softmax Finset.univ Finset.univ_nonempty V s M M'

end Cert.SoftmaxLaw

end
-- ==== Proof.AttnRef.lean ====
/-
  The reference's attention read at an index: the softmax, over the context rows and then the latent rows, of the scaled
  scores of one query row, weighting the values.
-/
module

public import proofs.«01_k».proof.Proof.Gen.ReferenceIdeal.Read
public import proofs.«01_k».proof.Proof.SoftmaxLaw
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic

variable (x0 x1 : S8x2048x8x96.Idx → EReal) (x2 : S8x2048x8x64.Idx → EReal) (x4 : S8x256x8x96.Idx → EReal) (x5 : S8x256x8x64.Idx → EReal)

theorem score_apply (b h : Fin 8) (r : Fin 2048) (x : Fin 2304) :
    val_main_v4 (F := Ideal) x0 x1 x4 (ix4 b h r x) = (∑ k : Fin 96, x0 (ix4 b r h k) * val_main_v0 (F := Ideal) x1 x4 (ix4 b x h k)) * Ideal.ofBits .f32 0x3DD105EC#32 := by
  rw [val_main_v4_apply, val_main_v3_apply, val_main_cst_apply, val_main_v2_apply]
  have el : ∀ k, lidx_main_v2 (ix4 b h r x) k = ix4 b r h k := fun k => funext fun a => by fin_cases a <;> rfl
  have er : ∀ k, ridx_main_v2 (ix4 b h r x) k = ix4 b x h k := fun k => funext fun a => by fin_cases a <;> rfl
  simp only [el, er]
  rfl

theorem fold_apply (y : S8x8x2048x2304.Idx → EReal) (v : S_.Idx → EReal) (b h : Fin 8) (r : Fin 2048) :
    (Host.reduce (FloatOps.maximumf : Ideal .f32 → Ideal .f32 → Ideal .f32) y v reducesTo_S8x8x2048x2304_S8x8x2048_d3 h_S_ : S8x8x2048.Idx → EReal) (ix3 b h r)
      = Finset.univ.fold max (v (Shape.Idx.first h_S_)) fun x : Fin 2304 => y (ix4 b h r x) := by
  pointwise

theorem max_apply (b h : Fin 8) (r : Fin 2048) :
    val_main_v7 (F := Ideal) x0 x1 x4 (ix3 b h r) = max (Ideal.ofBits .f32 0xFF800000#32)
      (Finset.univ.fold max (Ideal.ofBits .f32 0xFF800000#32) fun x : Fin 2304 => val_main_v4 (F := Ideal) x0 x1 x4 (ix4 b h r x)) := by
  rw [val_main_v7_apply, val_main_v6_apply, val_main_cst_1_apply]
  unfold val_main_v5
  rw [fold_apply (val_main_v4 (F := Ideal) x0 x1 x4)]
  rfl

theorem exp_apply (b h : Fin 8) (r : Fin 2048) (x : Fin 2304) :
    val_main_v11 (F := Ideal) x0 x1 x4 (ix4 b h r x)
      = Ideal.exp (val_main_v4 (F := Ideal) x0 x1 x4 (ix4 b h r x) - val_main_v7 (F := Ideal) x0 x1 x4 (ix3 b h r)) := by
  rw [val_main_v11_apply, val_main_v10_apply, val_main_v9_apply, val_main_v8_apply,
    show idx_main_v8 (idx_main_v9 (ix4 b h r x)) = ix3 b h r from funext fun a => by fin_cases a <;> rfl]
  generalize val_main_v4 (F := Ideal) x0 x1 x4 (ix4 b h r x) = u
  generalize val_main_v7 (F := Ideal) x0 x1 x4 (ix3 b h r) = w
  rfl

theorem weight_apply (b h : Fin 8) (r : Fin 2048) (x : Fin 2304) :
    val_main_v15 (F := Ideal) x0 x1 x4 (ix4 b h r x)
      = Ideal.div (val_main_v11 (F := Ideal) x0 x1 x4 (ix4 b h r x))
         (Ideal.ofBits .f32 0x00000000#32 + ∑ x : Fin 2304, val_main_v11 (F := Ideal) x0 x1 x4 (ix4 b h r x)) := by
  rw [val_main_v15_apply, val_main_v14_apply, val_main_v13_apply,
    show idx_main_v13 (idx_main_v14 (ix4 b h r x)) = ix3 b h r from funext fun a => by fin_cases a <;> rfl, val_main_v12_apply,
    val_main_cst_2_apply]
  have e : ∀ k, idx_main_v12 (ix3 b h r) k = ix4 b h r k := fun k => funext fun a => by fin_cases a <;> rfl
  simp only [e]
  generalize val_main_v11 (F := Ideal) x0 x1 x4 = u
  rfl

theorem result_apply (b h : Fin 8) (r : Fin 2048) (d : Fin 64) :
    val_main_v17 (F := Ideal) x0 x1 x2 x4 x5 (ix4 b r h d)
      = ∑ x : Fin 2304, val_main_v1 (F := Ideal) x2 x5 (ix4 b x h d) * val_main_v15 (F := Ideal) x0 x1 x4 (ix4 b h r x) := by
  rw [val_main_v17_apply, show idx_main_v17 (ix4 b r h d) = ix4 b h d r from funext fun a => by fin_cases a <;> rfl, val_main_v16_apply]
  have el : ∀ k, lidx_main_v16 (ix4 b h d r) k = ix4 b k h d := fun k => funext fun a => by fin_cases a <;> rfl
  have er : ∀ k, ridx_main_v16 (ix4 b h d r) k = ix4 b h r k := fun k => funext fun a => by fin_cases a <;> rfl
  simp only [el, er]

theorem keys_context (b h : Fin 8) (x : Fin 256) (k : Fin 96) : val_main_v0 (F := Ideal) x1 x4 (ix4 b (Fin.castAdd 2048 x : Fin (256 + 2048)) h k) = x4 (ix4 b x h k) := by
  refine concatenate_pair_apply_left (t := S8x2304x8x96) (s₁ := S8x256x8x96) (s₂ := S8x2048x8x96) _ _ _ _ _ rfl (ix4 b x h k) (fun a => by fin_cases a <;> rfl)
theorem keys_latent (b h : Fin 8) (x : Fin 2048) (k : Fin 96) : val_main_v0 (F := Ideal) x1 x4 (ix4 b (Fin.natAdd 256 x : Fin (256 + 2048)) h k) = x1 (ix4 b x h k) := by
  refine concatenate_pair_apply_right (t := S8x2304x8x96) (s₁ := S8x256x8x96) (s₂ := S8x2048x8x96) _ _ _ _ _ rfl rfl (ix4 b x h k)
    (fun a ha => by fin_cases a <;> first | rfl | exact absurd rfl ha) (by show x.val + 256 = 256 + x.val; omega)
theorem values_context (b h : Fin 8) (x : Fin 256) (k : Fin 64) : val_main_v1 (F := Ideal) x2 x5 (ix4 b (Fin.castAdd 2048 x : Fin (256 + 2048)) h k) = x5 (ix4 b x h k) := by
  refine concatenate_pair_apply_left (t := S8x2304x8x64) (s₁ := S8x256x8x64) (s₂ := S8x2048x8x64) _ _ _ _ _ rfl (ix4 b x h k) (fun a => by fin_cases a <;> rfl)
theorem values_latent (b h : Fin 8) (x : Fin 2048) (k : Fin 64) : val_main_v1 (F := Ideal) x2 x5 (ix4 b (Fin.natAdd 256 x : Fin (256 + 2048)) h k) = x2 (ix4 b x h k) := by
  refine concatenate_pair_apply_right (t := S8x2304x8x64) (s₁ := S8x256x8x64) (s₂ := S8x2048x8x64) _ _ _ _ _ rfl rfl (ix4 b x h k)
    (fun a ha => by fin_cases a <;> first | rfl | exact absurd rfl ha) (by show x.val + 256 = 256 + x.val; omega)

end Cert.ReferenceIdeal.Attn

end
-- ==== Proof.AttnPoint.lean ====
/-
  One element of the attention: what the kernel's body computes for a query row's head and channel is the reference's.
-/
module

public import proofs.«01_k».proof.Proof.AttnInput
public import proofs.«01_k».proof.Proof.AttnRef

@[expose] public section

set_option maxRecDepth 16384
set_option backward.proofsInPublic true

noncomputable section

namespace Cert.KernelIdeal.Attn

open Cert.KernelIdeal Cert.KernelIdeal.Gen
open Cert.ReferenceIdeal.Read (val_main_v0 val_main_v1 val_main_v4 val_main_v7 val_main_v11 val_main_v15 val_main_v17)
open Idealize.ShloMosaic Idealize.ShloMosaic.TcCoe

theorem sum_split (f : Fin 2304 → EReal) :
    ∑ x, f x = ∑ x : Fin 256, f (Fin.castAdd 2048 x : Fin (256 + 2048)) + ∑ x : Fin 2048, f (Fin.natAdd 256 x : Fin (256 + 2048)) :=
  Fin.sum_univ_add (a := 256) (b := 2048) f

/-- A sum over the 128 lanes whose last 32 terms are zero. -/
theorem lane_sum (f : Fin 128 → EReal) (hz : ∀ i : Fin 32, f (Fin.natAdd 96 i : Fin (96 + 32)) = 0) :
    ∑ i, f i = ∑ i : Fin 96, f (Fin.castAdd 32 i : Fin (96 + 32)) := by
  refine (Fin.sum_univ_add (a := 96) (b := 32) f).trans ?_
  rw [Finset.sum_eq_zero fun i _ => hz i, add_zero]

/-- An element of the joined rows is a context row's or a latent row's. -/
theorem row_cases {P : Fin 2304 → Prop} (hc : ∀ x : Fin 256, P (Fin.castAdd 2048 x : Fin (256 + 2048)))
    (hl : ∀ x : Fin 2048, P (Fin.natAdd 256 x : Fin (256 + 2048))) (x : Fin 2304) : P x :=
  Fin.addCases (m := 256) (n := 2048) (motive := P) hc hl x

section Element

variable (x0 x1 : S8x2048x128.Idx → EReal) (x2 : S8x256x128.Idx → EReal) (x3 : S640x2048.Idx → EReal) (x4 : S640x256.Idx → EReal)
  (q k : S8x2048x8x96.Idx → EReal) (v : S8x2048x8x64.Idx → EReal) (kc : S8x256x8x96.Idx → EReal) (vc : S8x256x8x64.Idx → EReal)

/-- The keys of a batch's head, context rows first. -/
abbrev keys (b h : Fin 8) (x : Fin 2304) (i : Fin 96) : EReal := val_main_v0 (F := Ideal) k kc (ix4 b x h i)

theorem keys_real (hk : ∀ i, ∃ r : ℝ, k i = r) (hkc : ∀ i, ∃ r : ℝ, kc i = r) (b h : Fin 8) (x : Fin 2304) (i : Fin 96) :
    ∃ r : ℝ, keys k kc b h x i = r := by
  refine row_cases (P := fun x => ∃ r : ℝ, keys k kc b h x i = r) (fun x => ?_) (fun x => ?_) x
  · unfold keys; rw [Cert.ReferenceIdeal.Attn.keys_context]; exact hkc _
  · unfold keys; rw [Cert.ReferenceIdeal.Attn.keys_latent]; exact hk _

variable (b : Fin 8)
  (h0 : ∀ (h : Fin 8) (r : Fin 2048) (i : Fin 96), x0 (ix3 h r (Fin.castAdd 32 i : Fin (96 + 32))) = q (ix4 b r h i) * scale2)
  (h0' : ∀ (h : Fin 8) (r : Fin 2048) (i : Fin 32), x0 (ix3 h r (Fin.natAdd 96 i : Fin (96 + 32))) = 0)
  (h1 : ∀ (h : Fin 8) (r : Fin 2048) (i : Fin 96), x1 (ix3 h r (Fin.castAdd 32 i : Fin (96 + 32))) = k (ix4 b r h i))
  (h2 : ∀ (h : Fin 8) (r : Fin 256) (i : Fin 96), x2 (ix3 h r (Fin.castAdd 32 i : Fin (96 + 32))) = kc (ix4 b r h i))
  (h3 : ∀ (h : Fin 8) (r : Fin 2048) (d : Fin 64), x3 (ix2 ⟨80 * h.val + d.val, by omega⟩ r) = v (ix4 b r h d))
  (h3' : ∀ (h : Fin 8) (r : Fin 2048), x3 (ix2 ⟨80 * h.val + 64, by omega⟩ r) = 1)
  (h4 : ∀ (h : Fin 8) (r : Fin 256) (d : Fin 64), x4 (ix2 ⟨80 * h.val + d.val, by omega⟩ r) = vc (ix4 b r h d))
  (h4' : ∀ (h : Fin 8) (r : Fin 256), x4 (ix2 ⟨80 * h.val + 64, by omega⟩ r) = 1)

/-- The score that the kernel takes, of the joined rows. -/
abbrev kscore (h : Fin 8) (r : Fin 2048) (x : Fin 2304) : EReal := ∑ i : Fin 96, keys k kc b h x i * (q (ix4 b r h i) * scale2)

include h0 h0' h2 in
theorem scF_eq (h : Fin 8) (r : Fin 2048) (n : ℕ) (j : Fin 512) (hn : hd n = h) (hr : qrow n j = r) (x : Fin 256) :
    scF (F := Ideal) x0 x2 n (ix2 x j) = kscore q k kc b h r (Fin.castAdd 2048 x : Fin (256 + 2048)) := by
  rw [scF_apply, hn, hr, lane_sum _ fun i => by rw [h0', mul_zero]]
  refine Finset.sum_congr rfl fun i _ => ?_
  rw [h0, h2]
  unfold keys
  rw [Cert.ReferenceIdeal.Attn.keys_context]

include h0 h0' h1 in
theorem slF_eq (h : Fin 8) (r : Fin 2048) (n : ℕ) (j : Fin 512) (hn : hd n = h) (hr : qrow n j = r) (x : Fin 2048) :
    slF (F := Ideal) x0 x1 n (ix2 x j) = kscore q k kc b h r (Fin.natAdd 256 x : Fin (256 + 2048)) := by
  rw [slF_apply, hn, hr, lane_sum _ fun i => by rw [h0', mul_zero]]
  refine Finset.sum_congr rfl fun i _ => ?_
  rw [h0, h1]
  unfold keys
  rw [Cert.ReferenceIdeal.Attn.keys_latent]

include h0 h0' h1 h2 h3 h3' h4 h4' in
theorem element (hq : ∀ i, ∃ r : ℝ, q i = r) (hk : ∀ i, ∃ r : ℝ, k i = r) (hkc : ∀ i, ∃ r : ℝ, kc i = r)
    (h : Fin 8) (r : Fin 2048) (d : Fin 64) (n : ℕ) (j : Fin 512) (hn : hd n = h) (hr : qrow n j = r) :
    softF (F := Ideal) x0 x1 x2 x3 x4 n (ix2 d j) = val_main_v17 (F := Ideal) q k v kc vc (ix4 b r h d) := by
  have hK := keys_real k kc hk hkc b h
  have hQ : ∀ i : Fin 96, ∃ ρ : ℝ, q (ix4 b r h i) = ρ := fun i => hq _
  have hS : ∀ x, ∃ ρ : ℝ, kscore q k kc b h r x = ρ := fun x => by
    obtain ⟨ρ, _, e⟩ := SoftmaxLaw.score (fun i => q (ix4 b r h i)) (keys k kc b h x) hQ (hK x) _ SoftmaxLaw.scale_real
    exact ⟨_, e⟩
  have hS' : ∀ x, ∃ ρ : ℝ, val_main_v4 (F := Ideal) q k kc (ix4 b h r x) = ρ := fun x => by
    obtain ⟨ρ, e, _⟩ := SoftmaxLaw.score (fun i => q (ix4 b r h i)) (keys k kc b h x) hQ (hK x) _ SoftmaxLaw.scale_real
    exact ⟨ρ, (Cert.ReferenceIdeal.Attn.score_apply q k kc b h r x).trans e⟩
  have ec := scF_eq x0 x2 q k kc b h0 h0' h2 h r n j hn hr
  have el := slF_eq x0 x1 q k kc b h0 h0' h1 h r n j hn hr
  have hM' : ∃ ρ : ℝ, mxF (F := Ideal) x0 x1 x2 n (ix2 0 j) = ρ := by
    rw [mxF_apply]
    exact SoftmaxLaw.max_real (SoftmaxLaw.fold_max_real _ Finset.univ_nonempty _ fun x => by rw [ec]; exact hS _)
      (SoftmaxLaw.fold_max_real _ Finset.univ_nonempty _ fun x => by rw [el]; exact hS _)
  have hM : ∃ ρ : ℝ, val_main_v7 (F := Ideal) q k kc (ix3 b h r) = ρ := by
    rw [Cert.ReferenceIdeal.Attn.max_apply, ninf]
    obtain ⟨ρ, e⟩ := SoftmaxLaw.fold_max_real (Finset.univ : Finset (Fin 2304)) Finset.univ_nonempty _ hS'
    exact ⟨ρ, by rw [e]; exact max_eq_right bot_le⟩
  have ev : ∀ (d : Fin 80), vrow n d = ⟨80 * h.val + d.val, by omega⟩ := fun d => Fin.ext (by
    have := congrArg Fin.val hn
    show 80 * (n % 8) + d.val = 80 * h.val + d.val
    have e : n % 8 = h.val := this
    rw [e])
  have w3 : ∀ x, x3 (ix2 (vrow n ⟨d.val, by omega⟩) x) = val_main_v1 (F := Ideal) v vc (ix4 b (Fin.natAdd 256 x : Fin (256 + 2048)) h d) := fun x => by
    rw [ev, Cert.ReferenceIdeal.Attn.values_latent]; exact h3 h x d
  have w4 : ∀ x, x4 (ix2 (vrow n ⟨d.val, by omega⟩) x) = val_main_v1 (F := Ideal) v vc (ix4 b (Fin.castAdd 2048 x : Fin (256 + 2048)) h d) := fun x => by
    rw [ev, Cert.ReferenceIdeal.Attn.values_context]; exact h4 h x d
  have o3 : ∀ x, x3 (ix2 (vrow n 64) x) = 1 := fun x => by rw [ev]; exact h3' h x
  have o4 : ∀ x, x4 (ix2 (vrow n 64) x) = 1 := fun x => by rw [ev]; exact h4' h x
  have L := SoftmaxLaw.attention (fun i : Fin 96 => q (ix4 b r h i)) (keys k kc b h) (fun x : Fin 2304 => val_main_v1 (F := Ideal) v vc (ix4 b x h d))
    hQ hK _ SoftmaxLaw.scale_real _ _ hM hM'
  rw [softF_apply]
  simp only [w3, w4, o3, o4, one_mul, ec, el]
  rw [sum_split, sum_split] at L
  refine L.trans ?_
  rw [Cert.ReferenceIdeal.Attn.result_apply]
  refine Finset.sum_congr rfl fun x _ => ?_
  rw [Cert.ReferenceIdeal.Attn.weight_apply, zero_word, zero_add]
  simp only [Cert.ReferenceIdeal.Attn.exp_apply, Cert.ReferenceIdeal.Attn.score_apply]

end Element

end Cert.KernelIdeal.Attn

end
-- ==== Proof.AttnFinite.lean ====
/-
  The precondition read back: every element of the queries, the latent keys and the context keys is a real number.
-/
module

public import proofs.«01_k».proof.Defs
public import proofs.«01_k».proof.Proof.Gen.Pre_finite
public import Idealize.ShloMosaic.Lib.ReduceAll
public import Idealize.ShloMosaic.Lib.Pipeline.Value
public import Idealize.ShloMosaic.PureOps.Ideal.Laws

@[expose] public section

set_option maxRecDepth 16384

noncomputable section

namespace Cert.KernelIdeal.Attn

open Idealize.ShloMosaic Idealize.ShloMosaic.TcCoe

theorem inf_word : Ideal.ofBits .f32 0x7F800000#32 = ⊤ := by simp [Ideal.ofBits, Ideal.ieee]

/-- An extended real whose absolute value is below infinity is a real. -/
theorem real_of_lt (x : EReal) (h : max x (-x) < ⊤) : ∃ r : ℝ, x = r := by
  induction x using EReal.rec with
  | bot => simp at h
  | top => simp at h
  | coe r => exact ⟨r, rfl⟩

/-- An array all of whose elements compare below infinity in absolute value is an array of reals. -/
theorem real_of_all {s : Shape} (x : s.Idx → EReal) (hb : Cert.Pre_finite.S_.BroadcastsInDim s (![] : Fin 0 → Fin s.rank)) (i : s.Idx)
    (h : cmpf (F := Ideal) (φ := .f32) .olt (Host.absf (F := Ideal) (φ := .f32) x) (broadcastInDim s ![] hb (constant (F := Ideal) Cert.Pre_finite.S_ .f32 0x7F800000#32)) i = 1#1) :
    ∃ r : ℝ, x i = r := by
  have e : broadcastInDim s ![] hb (constant (F := Ideal) Cert.Pre_finite.S_ .f32 0x7F800000#32) i = (⊤ : EReal) :=
    (broadcastInDim_apply _ _ _ _ (fun a => a.elim0) (fun a => a.elim0)).trans inf_word
  apply real_of_lt
  by_contra hn
  have : cmpf (F := Ideal) (φ := .f32) .olt (Host.absf (F := Ideal) (φ := .f32) x) (broadcastInDim s ![] hb (constant (F := Ideal) Cert.Pre_finite.S_ .f32 0x7F800000#32)) i = 0#1 := by
    show BitVec.ofBool (decide (max (x i) (-(x i)) < broadcastInDim s ![] hb (constant (F := Ideal) Cert.Pre_finite.S_ .f32 0x7F800000#32) i)) = 0#1
    rw [e, decide_eq_false hn]
    rfl
  rw [this] at h
  exact absurd h (by decide)

theorem finite_real (m : (ℓ : Loc Cert.KernelIdeal.nD Cert.KernelIdeal.τ Cert.KernelIdeal.sig) → Buf (Elt Ideal) ℓ)
    (hm : Cert.Pre_KernelIdeal_finite (hPre_finite := Cert.Pre_finite.Gen.facts) m) (c : Dev Cert.KernelIdeal.nD) :
    (∀ i : Cert.KernelIdeal.S8x2048x8x96.Idx, ∃ r : ℝ, (m ((c : Thread Cert.KernelIdeal.nD Cert.KernelIdeal.τ).loc Cert.KernelIdeal.main_arg0) i : EReal) = (r : EReal))
    ∧ (∀ i : Cert.KernelIdeal.S8x2048x8x96.Idx, ∃ r : ℝ, (m ((c : Thread Cert.KernelIdeal.nD Cert.KernelIdeal.τ).loc Cert.KernelIdeal.main_arg1) i : EReal) = (r : EReal))
    ∧ (∀ i : Cert.KernelIdeal.S8x256x8x96.Idx, ∃ r : ℝ, (m ((c : Thread Cert.KernelIdeal.nD Cert.KernelIdeal.τ).loc Cert.KernelIdeal.main_arg4) i : EReal) = (r : EReal)) := by
  letI := Cert.Pre_finite.Gen.facts
  have h := congrFun (hm c) (fun a => a.elim0)
  unfold Cert.Pre_finite.fn at h
  obtain ⟨h01, h4⟩ := IntOp.andi_eq_one.1 h
  obtain ⟨h0, h1⟩ := IntOp.andi_eq_one.1 h01
  haveI : Subsingleton Cert.Pre_finite.S_.Idx := ⟨fun a b => funext fun i => i.elim0⟩
  exact ⟨fun i => real_of_all _ _ i (Host.reduce_andi_all _ _ _ _ _ h0 i), fun i => real_of_all _ _ i (Host.reduce_andi_all _ _ _ _ _ h1 i),
    fun i => real_of_all _ _ i (Host.reduce_andi_all _ _ _ _ _ h4 i)⟩

end Cert.KernelIdeal.Attn

end
-- ==== Proof.AttnValue.lean ====
/-
  The attention's value claim: under the precondition the kernel's result array is the reference's.
-/
module

public import proofs.«01_k».proof.Proof.AttnOut
public import proofs.«01_k».proof.Proof.AttnPoint
public import proofs.«01_k».proof.Proof.AttnFinite

@[expose] public section

set_option maxRecDepth 16384

noncomputable section

namespace Cert.KernelIdeal.Attn

open Cert.KernelIdeal Cert.KernelIdeal.Gen
open Cert.ReferenceIdeal.Read (val_main_v17 val_main_v18 val_main_v19 val_main_v18_apply val_main_v19_apply idx_main_v18)
open Idealize.ShloMosaic Idealize.ShloMosaic.TcCoe Idealize.SL.Sem

variable (m : (ℓ : Loc nD τ sig) → Buf (Elt Ideal) ℓ) (c : Dev nD)

/-- One element of what grid point `b` leaves. -/
theorem block_element (hq : ∀ i, ∃ r : ℝ, argQ m c i = r) (hk : ∀ i, ∃ r : ℝ, argK m c i = r) (hkc : ∀ i, ∃ r : ℝ, argKc m c i = r)
    (b : Fin 8) (r : Fin 2048) (ch : Fin 512) :
    blkOut m c b (ix2 r ch)
      = val_main_v17 (F := Ideal) (argQ m c) (argK m c) (argV m c) (argKc m c) (argVc m c)
          (ix4 b r (⟨ch.val / 64, by omega⟩ : Fin 8) (⟨ch.val % 64, by omega⟩ : Fin 64)) := by
  refine (outV_apply _ _ _ _ _ r ch).trans ?_
  exact element _ _ _ _ _ (argQ m c) (argK m c) (argV m c) (argKc m c) (argVc m c) b
    (fun h r i => iblk0 m c b b.isLt h r i) (fun h r i => iblk0_fill m c b b.isLt h r i) (fun h r i => iblk1 m c b b.isLt h r i) (fun h r i => iblk2 m c b b.isLt h r i)
    (fun h r d => iblk3 m c b b.isLt h r d) (fun h r => iblk3_ones m c b b.isLt h r)
    (fun h r d => iblk4 m c b b.isLt h r d) (fun h r => iblk4_ones m c b b.isLt h r) hq hk hkc _ r _ _ _
    (Fin.ext (by show (8 * (r.val / 512) + ch.val / 64) % 8 = ch.val / 64; omega))
    (Fin.ext (by show 512 * ((8 * (r.val / 512) + ch.val / 64) / 8 % 4) + r.val % 512 = r.val; omega))

theorem result_eq (hq : ∀ i, ∃ r : ℝ, argQ m c i = r) (hk : ∀ i, ∃ r : ℝ, argK m c i = r) (hkc : ∀ i, ∃ r : ℝ, argKc m c i = r) :
    resultArr m c = val_main_v19 (F := Ideal) (argQ m c) (argK m c) (argV m c) (argKc m c) (argVc m c) := by
  funext y
  have h0 : (y 0).val < 16384 := (y 0).isLt
  have h1 : (y 1).val < 512 := (y 1).isLt
  unfold resultArr
  rw [block_element m c hq hk hkc, val_main_v19_apply, val_main_v18_apply]
  refine congrArg (val_main_v17 (F := Ideal) (argQ m c) (argK m c) (argV m c) (argKc m c) (argVc m c)) (funext fun a => Fin.ext ?_)
  fin_cases a
  · show (y 0).val / 2048 = ((y 0).val * 512 + (y 1).val) / 1048576
    omega
  · show (y 0).val % 2048 = ((y 0).val * 512 + (y 1).val) / 512 % 2048
    omega
  · show (y 1).val / 64 = ((y 0).val * 512 + (y 1).val) / 64 % 8
    omega
  · show (y 1).val % 64 = ((y 0).val * 512 + (y 1).val) % 64
    omega

theorem run_value (g : Dev nD → PrngReg) : θ_run defs (onTc (τ := τ) (main (F := Ideal))) ⟨m, fun _ => 0, g⟩
    (fun r => ∀ c : Dev nD, r.2.mem ((c : Thread nD τ).loc main_v30) = resultArr m c) :=
  (θ_run defs _ _).mono (fun _ h c => ((h.1 c).1 5).trans (result_array m c)) (run_main m g)

/-- THE VALUE CLAIM of the attention. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm hargs
  refine ⟨fun c => resultArr m c, ?_, ?_⟩
  · refine (θ_run defs _ _).mono (fun _ h c => ⟨h.1 c, h.2.1 c⟩) (θ_run_and (run_value m g) (frame_main m g))
  · refine (θ_run Cert.ReferenceIdeal.defs _ _).mono (fun _ h c => ⟨?_, (h c).2⟩) (Cert.ReferenceIdeal.Value.run m' g')
    refine (h c).1.trans ?_
    obtain ⟨a0, a1, a2, a3, a4, a5⟩ := hargs c
    rw [a0, a1, a2, a4, a5]
    obtain ⟨hq, hk, hkc⟩ := finite_real m hm c
    exact (result_eq m c hq hk hkc).symm

end Cert.KernelIdeal.Attn

end
-- ==== Proof.TailMath.lean ====
/-
  The layer's second half on ONE ROW, over the extended reals: the mix of the attention's and the local mixers' results,
  the gated residual, the two layer normalisations and the feed-forward network with its gate. The kernel's blocks and the
  reference's arrays are both read as these functions.
-/
module

public import Idealize.ShloMosaic.Lib.Pointwise

@[expose] public section

noncomputable section

namespace Cert.TailRow

open Idealize.ShloMosaic

/-- The constants: 1024, the normalisation's epsilon, the residual's factor. -/
abbrev cN : EReal := Ideal.ofBits .f32 0x44800000#32
abbrev cEps : EReal := Ideal.ofBits .f32 0x358637BD#32
abbrev cAlpha : EReal := Ideal.ofBits .f32 0x3FD744FD#32

/-- The row's mean. -/
def mean (u : Fin 1024 → EReal) : EReal := Ideal.div (∑ k, u k) cN

/-- Layer normalisation with weights `g` and `b`. -/
def norm (u g b : Fin 1024 → EReal) (j : Fin 1024) : EReal :=
  (u j - mean u) * Ideal.rsqrt (Ideal.div (∑ k, (u k - mean u) * (u k - mean u)) cN + cEps) * g j + b j

/-- The residual: `alpha * x + s * y`. -/
def res (x s y : Fin 1024 → EReal) (j : Fin 1024) : EReal := cAlpha * x j + s j * y j

/-- The output projection of the attention's 512 and the local mixers' 768 channels. -/
def mix (a : Fin 512 → EReal) (l : Fin 768 → EReal) (w : Fin 1280 → Fin 1024 → EReal) (j : Fin 1024) : EReal :=
  ∑ k, a k * w ⟨k.val, by omega⟩ j + ∑ k, l k * w ⟨512 + k.val, by omega⟩ j

/-- The modulation `h * (1 + sc) + sh`. -/
def modul (h sc sh : Fin 1024 → EReal) (j : Fin 1024) : EReal := h j * (1 + sc j) + sh j

/-- `p` times its logistic, times `q`. -/
def gate (p q : EReal) : EReal := p * Ideal.div 1 (1 + Ideal.exp (-p)) * q

/-- The feed-forward network. -/
def ffn (h : Fin 1024 → EReal) (w1 w3 : Fin 1024 → Fin 2816 → EReal) (w2 : Fin 2816 → Fin 1024 → EReal) (j : Fin 1024) : EReal :=
  ∑ f, gate (∑ k, h k * w1 k f) (∑ k, h k * w3 k f) * w2 f j

/-- The row after the first normalisation. -/
def mid (x : Fin 1024 → EReal) (a : Fin 512 → EReal) (l : Fin 768 → EReal) (w : Fin 1280 → Fin 1024 → EReal)
    (g1 g b : Fin 1024 → EReal) : Fin 1024 → EReal := norm (res x g1 (mix a l w)) g b

/-- The row after the second normalisation, from the row after the first. -/
def fin (h sh sc g2 : Fin 1024 → EReal) (w1 w3 : Fin 1024 → Fin 2816 → EReal) (w2 : Fin 2816 → Fin 1024 → EReal)
    (g b : Fin 1024 → EReal) : Fin 1024 → EReal := norm (res h g2 (ffn (modul h sc sh) w1 w3 w2)) g b

theorem gate_kernel (p q : EReal) : p * Ideal.div 1 (1 + Ideal.exp (0 - p)) * q = gate p q := by
  rw [zero_sub, gate]

end Cert.TailRow

end
-- ==== Proof.TailRead.lean ====
/-
  The tail kernel's stages READ AT AN INDEX: each is the row function of TailMath.lean on one row of its operands.
-/
module

public import proofs.«01_k».proof.Proof.TailMath
public import proofs.«01_k».proof.Proof.Gen.TailIdeal.Frame

@[expose] public section

set_option maxRecDepth 16384
set_option backward.proofsInPublic true

noncomputable section

namespace Cert.TailIdeal.Tail

open Cert.TailIdeal Cert.TailIdeal.Gen Cert.TailRow
open Idealize.ShloMosaic Idealize.ShloMosaic.TcCoe

theorem norm2_apply (u : FVec Ideal S256x1024 .f32) (g : FVec Ideal S1x1024 .f32) (b : Vec Ideal S1x1x1024 .f32) (r : Fin 256) (j : Fin 1024) :
    k0_pay1 (F := Ideal) u g b (ix2 r j) = norm (fun k => u (ix2 r k)) (fun k => g (ix2 0 k)) (fun k => b (ix3 0 0 k)) j := by
  pointwise [k0_pay1]
  rfl

theorem mid_apply (g1 : FVec Ideal S1x1024 .f32) (y : FVec Ideal S256x1024 .f32) (x : Vec Ideal S256x1024 .f32) (g b : Vec Ideal S1x1x1024 .f32) (r : Fin 256) (j : Fin 1024) :
    k0_pay9 (F := Ideal) g1 y x g b (ix2 r j)
      = norm (res (fun k => x (ix2 r k)) (fun k => g1 (ix2 0 k)) (fun k => y (ix2 r k))) (fun k => g (ix3 0 0 k)) (fun k => b (ix3 0 0 k)) j := by
  pointwise [k0_pay9]
  rfl

/-- The second half's stage of the same formula. -/
theorem mid2_eq (g1 : FVec Ideal S1x1024 .f32) (y : FVec Ideal S256x1024 .f32) (x : Vec Ideal S256x1024 .f32) (g b : Vec Ideal S1x1x1024 .f32) :
    k0_pay13 (F := Ideal) g1 y x g b = k0_pay9 (F := Ideal) g1 y x g b := rfl

theorem mix_apply (a : Vec Ideal S256x512 .bf16) (l : Vec Ideal S256x768 .bf16) (w : Vec Ideal S1x512x1024 .bf16) (w' : Vec Ideal S1x768x1024 .bf16) (r : Fin 256) (j : Fin 1024) :
    k0_pay6 (F := Ideal) a l w w' (ix2 r j)
      = ∑ k : Fin 512, a (ix2 r k) * w (ix3 0 k j) + ∑ k : Fin 768, l (ix2 r k) * w' (ix3 0 k j) := by
  pointwise [k0_pay6]

theorem mix2_eq (a : Vec Ideal S256x512 .bf16) (l : Vec Ideal S256x768 .bf16) (w : Vec Ideal S1x512x1024 .bf16) (w' : Vec Ideal S1x768x1024 .bf16) :
    k0_pay8 (F := Ideal) l (k0_pay7 (F := Ideal) a w) w' = k0_pay6 (F := Ideal) a l w w' := rfl

theorem gate_apply (v3 v5 : FVec Ideal S1x1024 .f32) (h : FVec Ideal S256x1024 .f32) (w1 w3 : Vec Ideal S1x1024x2816 .bf16) (r : Fin 256) (f : Fin 2816) :
    k0_pay15 (F := Ideal) v3 v5 h (Scalar.ofBits .f32 0x3F800000#32) w1 w3 (ix2 r f)
      = gate (∑ k : Fin 1024, modul (fun k => h (ix2 r k)) (fun k => v5 (ix2 0 k)) (fun k => v3 (ix2 0 k)) k * w1 (ix3 0 k f))
          (∑ k : Fin 1024, modul (fun k => h (ix2 r k)) (fun k => v5 (ix2 0 k)) (fun k => v3 (ix2 0 k)) k * w3 (ix3 0 k f)) := by
  rw [← gate_kernel]
  pointwise [k0_pay15]
  rfl

theorem res2_apply (g2 : FVec Ideal S1x1024 .f32) (h : FVec Ideal S256x1024 .f32) (p : FVec Ideal S256x2816 .bf16) (w2 : Vec Ideal S1x2816x1024 .bf16) (r : Fin 256) (j : Fin 1024) :
    k0_pay18 (F := Ideal) g2 h p (k0_pay16 (F := Ideal) w2) (constant (F := Ideal) S256x1024 .f32 0x00000000#32) (ix2 r j)
      = res (fun k => h (ix2 r k)) (fun k => g2 (ix2 0 k)) (fun j => ∑ f : Fin 2816, p (ix2 r f) * w2 (ix3 0 f j)) j := by
  pointwise [k0_pay18, k0_pay16]
  rfl

/-- What a half's second store holds, from the half's rows after the first normalisation. -/
def half (g2 v3 v5 : FVec Ideal S1x1024 .f32) (h : FVec Ideal S256x1024 .f32) (w1 w3 : Vec Ideal S1x1024x2816 .bf16) (w2 : Vec Ideal S1x2816x1024 .bf16)
    (g b : Vec Ideal S1x1x1024 .f32) : FVec Ideal S256x1024 .f32 :=
  k0_pay1 (F := Ideal) (k0_pay18 (F := Ideal) g2 h (k0_pay15 (F := Ideal) v3 v5 h (Scalar.ofBits .f32 0x3F800000#32) w1 w3) (k0_pay16 (F := Ideal) w2)
    (constant (F := Ideal) S256x1024 .f32 0x00000000#32)) (k0_pay19 (F := Ideal) g) b

theorem half_apply (g2 v3 v5 : FVec Ideal S1x1024 .f32) (h : FVec Ideal S256x1024 .f32) (w1 w3 : Vec Ideal S1x1024x2816 .bf16) (w2 : Vec Ideal S1x2816x1024 .bf16)
    (g b : Vec Ideal S1x1x1024 .f32) (r : Fin 256) (j : Fin 1024) :
    half g2 v3 v5 h w1 w3 w2 g b (ix2 r j)
      = Cert.TailRow.fin (fun k => h (ix2 r k)) (fun k => v3 (ix2 0 k)) (fun k => v5 (ix2 0 k)) (fun k => g2 (ix2 0 k)) (fun k f => w1 (ix3 0 k f)) (fun k f => w3 (ix3 0 k f))
          (fun f j => w2 (ix3 0 f j)) (fun k => g (ix3 0 0 k)) (fun k => b (ix3 0 0 k)) j := by
  unfold half
  rw [norm2_apply]
  have e : ∀ k, k0_pay19 (F := Ideal) g (ix2 0 k) = g (ix3 0 0 k) := fun k => by pointwise [k0_pay19]
  simp only [e, res2_apply, gate_apply]
  rfl

/-- The first half is computed by the same formulas, in other stages. -/
theorem first_half_eq (g1 g2 v3 v5 : FVec Ideal S1x1024 .f32) (y : FVec Ideal S256x1024 .f32) (x : Vec Ideal S256x1024 .f32) (lg lb : Vec Ideal S1x1x1024 .f32)
    (w1 w3 : Vec Ideal S1x1024x2816 .bf16) (w2 : Vec Ideal S1x2816x1024 .bf16) (g b : Vec Ideal S1x1x1024 .f32) :
    k0_pay17 (F := Ideal) g2 (k0_pay9 (F := Ideal) g1 y x lg lb)
      (k0_pay14 (F := Ideal) (k0_pay11 (F := Ideal) (k0_pay10 (F := Ideal) g1 v3 v5 y x lg lb) w1) (k0_pay12 (F := Ideal) (k0_pay10 (F := Ideal) g1 v3 v5 y x lg lb) w3) w2) g b
      = half g2 v3 v5 (k0_pay9 (F := Ideal) g1 y x lg lb) w1 w3 w2 g b := rfl

variable (x0 : Vec Ideal S512x1024 .f32) (x1 : Vec Ideal S512x512 .bf16) (x2 : Vec Ideal S512x768 .bf16) (x3 : Vec Ideal S1x1x1x6144 .f32)
  (x4 : Vec Ideal S1x1280x1024 .bf16) (x5 x6 : Vec Ideal S1x1x1024 .f32) (x7 x8 : Vec Ideal S1x1024x2816 .bf16) (x9 : Vec Ideal S1x2816x1024 .bf16)
  (x10 x11 : Vec Ideal S1x1x1024 .f32)

/-- Channel `k` of modulation vector `n` of the six. -/
abbrev modCh (n : ℕ) (hn : n < 6) (k : Fin 1024) : EReal := x3 (ix4 0 0 0 ⟨1024 * n + k.val, by omega⟩)

/-- The block's row `r` after the body, as a function of the input blocks' rows. -/
def rowV (r : Fin 512) : Fin 1024 → EReal :=
  Cert.TailRow.fin
    (mid (fun k => x0 (ix2 r k)) (fun k => x1 (ix2 r k)) (fun k => x2 (ix2 r k)) (fun i j => x4 (ix3 0 i j)) (modCh x3 2 (by omega)) (fun k => x5 (ix3 0 0 k)) (fun k => x6 (ix3 0 0 k)))
    (modCh x3 3 (by omega)) (modCh x3 4 (by omega)) (modCh x3 5 (by omega)) (fun k f => x7 (ix3 0 k f)) (fun k f => x8 (ix3 0 k f)) (fun f j => x9 (ix3 0 f j))
    (fun k => x10 (ix3 0 0 k)) (fun k => x11 (ix3 0 0 k))

theorem ld_g1 (k : Fin 1024) : k0_pay2 (F := Ideal) (View.ld x3 r0_0) (ix2 0 k) = modCh x3 2 (by omega) k := by
  pointwise [k0_pay2]
theorem ld_sh (k : Fin 1024) : k0_pay3 (F := Ideal) (View.ld x3 r0_1) (ix2 0 k) = modCh x3 3 (by omega) k := by
  pointwise [k0_pay3]
theorem ld_sc (k : Fin 1024) : k0_pay4 (F := Ideal) (View.ld x3 r0_2) (ix2 0 k) = modCh x3 4 (by omega) k := by
  pointwise [k0_pay4]
theorem ld_g2 (k : Fin 1024) : k0_pay5 (F := Ideal) (View.ld x3 r0_3) (ix2 0 k) = modCh x3 5 (by omega) k := by
  pointwise [k0_pay5]

/-- The first half's rows. -/
theorem first_apply (r : Fin 256) (j : Fin 1024) :
    half (k0_pay5 (F := Ideal) (View.ld x3 r0_3)) (k0_pay3 (F := Ideal) (View.ld x3 r0_1)) (k0_pay4 (F := Ideal) (View.ld x3 r0_2))
      (k0_pay9 (F := Ideal) (k0_pay2 (F := Ideal) (View.ld x3 r0_0)) (k0_pay6 (F := Ideal) (View.ld x1 r0_4) (View.ld x2 r0_5) (View.ld x4 r0_6) (View.ld x4 r0_7))
        (View.ld x0 r0_10) (View.ld x5 r0_11) (View.ld x6 r0_11))
      (View.ld x7 r0_12) (View.ld x8 r0_12) (View.ld x9 r0_14) (View.ld x10 r0_11) (View.ld x11 r0_11) (ix2 r j)
      = rowV x0 x1 x2 x3 x4 x5 x6 x7 x8 x9 x10 x11 ⟨r.val, by omega⟩ j := by
  rw [half_apply]
  simp only [mid_apply, mix_apply, ld_g1, ld_sh, ld_sc, ld_g2]
  have e0 : ∀ k, View.ld x0 r0_10 (ix2 r k) = x0 (ix2 ⟨r.val, by omega⟩ k) := fun k => by pointwise
  have e1 : ∀ k, View.ld x1 r0_4 (ix2 r k) = x1 (ix2 ⟨r.val, by omega⟩ k) := fun k => by pointwise
  have e2 : ∀ k, View.ld x2 r0_5 (ix2 r k) = x2 (ix2 ⟨r.val, by omega⟩ k) := fun k => by pointwise
  have e4 : ∀ (k : Fin 512) (j : Fin 1024), View.ld x4 r0_6 (ix3 0 k j) = x4 (ix3 0 ⟨k.val, by omega⟩ j) := fun k j => by pointwise
  have e4' : ∀ (k : Fin 768) (j : Fin 1024), View.ld x4 r0_7 (ix3 0 k j) = x4 (ix3 0 ⟨512 + k.val, by omega⟩ j) := fun k j => by pointwise
  have e5 : ∀ k : Fin 1024, View.ld x5 r0_11 (ix3 0 0 k) = x5 (ix3 0 0 k) := fun k => by pointwise
  have e6 : ∀ k : Fin 1024, View.ld x6 r0_11 (ix3 0 0 k) = x6 (ix3 0 0 k) := fun k => by pointwise
  have e10 : ∀ k : Fin 1024, View.ld x10 r0_11 (ix3 0 0 k) = x10 (ix3 0 0 k) := fun k => by pointwise
  have e11 : ∀ k : Fin 1024, View.ld x11 r0_11 (ix3 0 0 k) = x11 (ix3 0 0 k) := fun k => by pointwise
  have e7 : ∀ (k : Fin 1024) (f : Fin 2816), View.ld x7 r0_12 (ix3 0 k f) = x7 (ix3 0 k f) := fun k f => by pointwise
  have e8 : ∀ (k : Fin 1024) (f : Fin 2816), View.ld x8 r0_12 (ix3 0 k f) = x8 (ix3 0 k f) := fun k f => by pointwise
  have e9 : ∀ (f : Fin 2816) (k : Fin 1024), View.ld x9 r0_14 (ix3 0 f k) = x9 (ix3 0 f k) := fun f k => by pointwise
  simp only [e0, e1, e2, e4, e4', e5, e6, e7, e8, e9, e10, e11]
  rfl

/-- The second half's rows. -/
theorem second_apply (r : Fin 256) (j : Fin 1024) :
    half (k0_pay5 (F := Ideal) (View.ld x3 r0_3)) (k0_pay3 (F := Ideal) (View.ld x3 r0_1)) (k0_pay4 (F := Ideal) (View.ld x3 r0_2))
      (k0_pay9 (F := Ideal) (k0_pay2 (F := Ideal) (View.ld x3 r0_0)) (k0_pay6 (F := Ideal) (View.ld x1 r0_8) (View.ld x2 r0_9) (View.ld x4 r0_6) (View.ld x4 r0_7))
        (View.ld x0 r0_13) (View.ld x5 r0_11) (View.ld x6 r0_11))
      (View.ld x7 r0_12) (View.ld x8 r0_12) (View.ld x9 r0_14) (View.ld x10 r0_11) (View.ld x11 r0_11) (ix2 r j)
      = rowV x0 x1 x2 x3 x4 x5 x6 x7 x8 x9 x10 x11 ⟨256 + r.val, by omega⟩ j := by
  rw [half_apply]
  simp only [mid_apply, mix_apply, ld_g1, ld_sh, ld_sc, ld_g2]
  have e0 : ∀ k, View.ld x0 r0_13 (ix2 r k) = x0 (ix2 ⟨256 + r.val, by omega⟩ k) := fun k => by pointwise
  have e1 : ∀ k, View.ld x1 r0_8 (ix2 r k) = x1 (ix2 ⟨256 + r.val, by omega⟩ k) := fun k => by pointwise
  have e2 : ∀ k, View.ld x2 r0_9 (ix2 r k) = x2 (ix2 ⟨256 + r.val, by omega⟩ k) := fun k => by pointwise
  have e4 : ∀ (k : Fin 512) (j : Fin 1024), View.ld x4 r0_6 (ix3 0 k j) = x4 (ix3 0 ⟨k.val, by omega⟩ j) := fun k j => by pointwise
  have e4' : ∀ (k : Fin 768) (j : Fin 1024), View.ld x4 r0_7 (ix3 0 k j) = x4 (ix3 0 ⟨512 + k.val, by omega⟩ j) := fun k j => by pointwise
  have e5 : ∀ k : Fin 1024, View.ld x5 r0_11 (ix3 0 0 k) = x5 (ix3 0 0 k) := fun k => by pointwise
  have e6 : ∀ k : Fin 1024, View.ld x6 r0_11 (ix3 0 0 k) = x6 (ix3 0 0 k) := fun k => by pointwise
  have e10 : ∀ k : Fin 1024, View.ld x10 r0_11 (ix3 0 0 k) = x10 (ix3 0 0 k) := fun k => by pointwise
  have e11 : ∀ k : Fin 1024, View.ld x11 r0_11 (ix3 0 0 k) = x11 (ix3 0 0 k) := fun k => by pointwise
  have e7 : ∀ (k : Fin 1024) (f : Fin 2816), View.ld x7 r0_12 (ix3 0 k f) = x7 (ix3 0 k f) := fun k f => by pointwise
  have e8 : ∀ (k : Fin 1024) (f : Fin 2816), View.ld x8 r0_12 (ix3 0 k f) = x8 (ix3 0 k f) := fun k f => by pointwise
  have e9 : ∀ (f : Fin 2816) (k : Fin 1024), View.ld x9 r0_14 (ix3 0 f k) = x9 (ix3 0 f k) := fun f k => by pointwise
  simp only [e0, e1, e2, e4, e4', e5, e6, e7, e8, e9, e10, e11]
  rfl

theorem idx_eta (x : S256x1024.Idx) : x = ix2 (⟨(x 0).val, (x 0).isLt⟩ : Fin 256) (⟨(x 1).val, (x 1).isLt⟩ : Fin 1024) := by
  funext a
  fin_cases a <;> rfl

/-- The whole block after the body. -/
theorem out_apply (y : S512x1024.Idx) :
    out0_12 (F := Ideal) x0 x1 x2 x3 x4 x5 x6 x7 x8 x9 x10 x11 y
      = rowV x0 x1 x2 x3 x4 x5 x6 x7 x8 x9 x10 x11 ⟨(y 0).val, (y 0).isLt⟩ ⟨(y 1).val, (y 1).isLt⟩ := by
  have hG := View.canon_apply_of_pieces (Val := Elt Ideal) (e := .f32) (S := S512x1024)
    (fun y : S512x1024.Idx => rowV x0 x1 x2 x3 x4 x5 x6 x7 x8 x9 x10 x11 ⟨(y 0).val, (y 0).isLt⟩ ⟨(y 1).val, (y 1).isLt⟩)
  unfold out0_12
  refine hG _ (fun p hp => ?_) y ?_
  · rcases List.mem_cons.1 hp with rfl | hp
    · intro x
      rw [idx_eta x]
      refine (second_apply x0 x1 x2 x3 x4 x5 x6 x7 x8 x9 x10 x11 _ _).trans ?_
      refine congrArg₂ (rowV x0 x1 x2 x3 x4 x5 x6 x7 x8 x9 x10 x11) (Fin.ext ?_) (Fin.ext ?_)
      · show 256 + (x 0).val = 256 + 1 * (x 0).val
        omega
      · show (x 1).val = 0 + 1 * (x 1).val
        omega
    · obtain rfl := List.mem_singleton.1 hp
      intro x
      rw [idx_eta x]
      refine (first_apply x0 x1 x2 x3 x4 x5 x6 x7 x8 x9 x10 x11 _ _).trans ?_
      refine congrArg₂ (rowV x0 x1 x2 x3 x4 x5 x6 x7 x8 x9 x10 x11) (Fin.ext ?_) (Fin.ext ?_)
      · show (x 0).val = 0 + 1 * (x 0).val
        omega
      · show (x 1).val = 0 + 1 * (x 1).val
        omega
  · by_cases h : (y 0).val < 256
    · refine ⟨_, List.mem_cons_of_mem _ (List.mem_singleton_self _), ?_⟩
      refine (Rect.mem_set_unit (inb := inb_S512x1024_S256x1024_0_0)).2 fun a => ?_
      have h1 : (y 1).val < 1024 := (y 1).isLt
      fin_cases a
      · exact ⟨Nat.zero_le _, (by show (y 0).val < 0 + 256; omega)⟩
      · exact ⟨Nat.zero_le _, (by show (y 1).val < 0 + 1024; omega)⟩
    · refine ⟨_, List.mem_cons_self, ?_⟩
      refine (Rect.mem_set_unit (inb := inb_S512x1024_S256x1024_256_0)).2 fun a => ?_
      have h0 : (y 0).val < 512 := (y 0).isLt
      have h1 : (y 1).val < 1024 := (y 1).isLt
      fin_cases a
      · exact ⟨(by show 256 ≤ (y 0).val; omega), (by show (y 0).val < 256 + 256; omega)⟩
      · exact ⟨Nat.zero_le _, (by show (y 1).val < 0 + 1024; omega)⟩

end Cert.TailIdeal.Tail

end
-- ==== Proof.TailInput.lean ====
/-
  What the tail kernel's windows hold, in terms of the arguments: at grid point `t`, 512 rows of the residual stream, of the
  attention's and of the local mixers' results, batch `t / 4`'s modulation, and the last layer's weights.
-/
module

public import proofs.«01_k».proof.Proof.TailRead
public import proofs.«01_k».proof.Proof.Gen.TailIdeal.Value
public import Idealize.ShloMosaic.Lib.Pipeline.ValueKit
public import Idealize.ShloMosaic.Lib.Claim

@[expose] public section

set_option maxRecDepth 16384
set_option backward.proofsInPublic true

noncomputable section

namespace Cert.TailIdeal.Tail

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- The arguments, as arrays of extended reals. -/
abbrev arg0 : S8x2048x1024.Idx → EReal := m ((c : Thread nD τ).loc main_arg0)
abbrev arg1 : S16384x512.Idx → EReal := m ((c : Thread nD τ).loc main_arg1)
abbrev arg2 : S16384x768.Idx → EReal := m ((c : Thread nD τ).loc main_arg2)
abbrev arg3 : S4x16x6144.Idx → EReal := m ((c : Thread nD τ).loc main_arg3)
abbrev arg4 : S4x1280x1024.Idx → EReal := m ((c : Thread nD τ).loc main_arg4)
abbrev arg5 : S4x1024.Idx → EReal := m ((c : Thread nD τ).loc main_arg5)
abbrev arg6 : S4x1024.Idx → EReal := m ((c : Thread nD τ).loc main_arg6)
abbrev arg7 : S4x1024x2816.Idx → EReal := m ((c : Thread nD τ).loc main_arg7)
abbrev arg8 : S4x1024x2816.Idx → EReal := m ((c : Thread nD τ).loc main_arg8)
abbrev arg9 : S4x2816x1024.Idx → EReal := m ((c : Thread nD τ).loc main_arg9)
abbrev arg10 : S4x1024.Idx → EReal := m ((c : Thread nD τ).loc main_arg10)
abbrev arg11 : S4x1024.Idx → EReal := m ((c : Thread nD τ).loc main_arg11)

theorem V_0 : (V m c main_v9 : S16384x1024.Idx → EReal) = shapeCast S16384x1024 (arg0 m c) shapeCasts_S8x2048x1024_S16384x1024 := by
  unfold_abbrev_sides
  after_results
  rfl
theorem V_1 : (V m c main_arg1 : S16384x512.Idx → EReal) = arg1 m c := by
  unfold_abbrev_sides
  after_results
theorem V_2 : (V m c main_arg2 : S16384x768.Idx → EReal) = arg2 m c := by
  unfold_abbrev_sides
  after_results
theorem V_3 : (V m c main_v8 : S4x16x1x6144.Idx → EReal) = shapeCast S4x16x1x6144 (arg3 m c) shapeCasts_S4x16x6144_S4x16x1x6144 := by
  unfold_abbrev_sides
  after_results
  rfl
theorem V_4 : (V m c main_v0 : S4x1280x1024.Idx → EReal) = arg4 m c := by
  unfold_abbrev_sides
  after_results
  rfl
theorem V_5 : (V m c main_v1 : S4x1x1024.Idx → EReal) = shapeCast S4x1x1024 (arg5 m c) shapeCasts_S4x1024_S4x1x1024 := by
  unfold_abbrev_sides
  after_results
  rfl
theorem V_6 : (V m c main_v2 : S4x1x1024.Idx → EReal) = shapeCast S4x1x1024 (arg6 m c) shapeCasts_S4x1024_S4x1x1024 := by
  unfold_abbrev_sides
  after_results
  rfl
theorem V_7 : (V m c main_v3 : S4x1024x2816.Idx → EReal) = arg7 m c := by
  unfold_abbrev_sides
  after_results
  rfl
theorem V_8 : (V m c main_v4 : S4x1024x2816.Idx → EReal) = arg8 m c := by
  unfold_abbrev_sides
  after_results
  rfl
theorem V_9 : (V m c main_v5 : S4x2816x1024.Idx → EReal) = arg9 m c := by
  unfold_abbrev_sides
  after_results
  rfl
theorem V_10 : (V m c main_v6 : S4x1x1024.Idx → EReal) = shapeCast S4x1x1024 (arg10 m c) shapeCasts_S4x1024_S4x1x1024 := by
  unfold_abbrev_sides
  after_results
  rfl
theorem V_11 : (V m c main_v7 : S4x1x1024.Idx → EReal) = shapeCast S4x1x1024 (arg11 m c) shapeCasts_S4x1024_S4x1x1024 := by
  unfold_abbrev_sides
  after_results
  rfl

theorem index0_0 : ∀ t : Fin grid0.N, win0_0.index t 0 = t.val := by decide +kernel
theorem index0_1 : ∀ t : Fin grid0.N, win0_0.index t 1 = 0 := by decide +kernel
theorem index0 (t : Fin grid0.N) : win0_0.index t = ![t.val, 0] := by
  funext a
  fin_cases a
  · exact index0_0 t
  · exact index0_1 t
theorem index1_0 : ∀ t : Fin grid0.N, win0_1.index t 0 = t.val := by decide +kernel
theorem index1_1 : ∀ t : Fin grid0.N, win0_1.index t 1 = 0 := by decide +kernel
theorem index1 (t : Fin grid0.N) : win0_1.index t = ![t.val, 0] := by
  funext a
  fin_cases a
  · exact index1_0 t
  · exact index1_1 t
theorem index2_0 : ∀ t : Fin grid0.N, win0_2.index t 0 = t.val := by decide +kernel
theorem index2_1 : ∀ t : Fin grid0.N, win0_2.index t 1 = 0 := by decide +kernel
theorem index2 (t : Fin grid0.N) : win0_2.index t = ![t.val, 0] := by
  funext a
  fin_cases a
  · exact index2_0 t
  · exact index2_1 t
theorem index3_0 : ∀ t : Fin grid0.N, win0_3.index t 0 = 3 := by decide +kernel
theorem index3_1 : ∀ t : Fin grid0.N, win0_3.index t 1 = t.val / 4 := by decide +kernel
theorem index3_2 : ∀ t : Fin grid0.N, win0_3.index t 2 = 0 := by decide +kernel
theorem index3_3 : ∀ t : Fin grid0.N, win0_3.index t 3 = 0 := by decide +kernel
theorem index3 (t : Fin grid0.N) : win0_3.index t = ![3, t.val / 4, 0, 0] := by
  funext a
  fin_cases a
  · exact index3_0 t
  · exact index3_1 t
  · exact index3_2 t
  · exact index3_3 t
theorem index4_0 : ∀ t : Fin grid0.N, win0_4.index t 0 = 3 := by decide +kernel
theorem index4_1 : ∀ t : Fin grid0.N, win0_4.index t 1 = 0 := by decide +kernel
theorem index4_2 : ∀ t : Fin grid0.N, win0_4.index t 2 = 0 := by decide +kernel
theorem index4 (t : Fin grid0.N) : win0_4.index t = ![3, 0, 0] := by
  funext a
  fin_cases a
  · exact index4_0 t
  · exact index4_1 t
  · exact index4_2 t
theorem index5_0 : ∀ t : Fin grid0.N, win0_5.index t 0 = 3 := by decide +kernel
theorem index5_1 : ∀ t : Fin grid0.N, win0_5.index t 1 = 0 := by decide +kernel
theorem index5_2 : ∀ t : Fin grid0.N, win0_5.index t 2 = 0 := by decide +kernel
theorem index5 (t : Fin grid0.N) : win0_5.index t = ![3, 0, 0] := by
  funext a
  fin_cases a
  · exact index5_0 t
  · exact index5_1 t
  · exact index5_2 t
theorem index6_0 : ∀ t : Fin grid0.N, win0_6.index t 0 = 3 := by decide +kernel
theorem index6_1 : ∀ t : Fin grid0.N, win0_6.index t 1 = 0 := by decide +kernel
theorem index6_2 : ∀ t : Fin grid0.N, win0_6.index t 2 = 0 := by decide +kernel
theorem index6 (t : Fin grid0.N) : win0_6.index t = ![3, 0, 0] := by
  funext a
  fin_cases a
  · exact index6_0 t
  · exact index6_1 t
  · exact index6_2 t
theorem index7_0 : ∀ t : Fin grid0.N, win0_7.index t 0 = 3 := by decide +kernel
theorem index7_1 : ∀ t : Fin grid0.N, win0_7.index t 1 = 0 := by decide +kernel
theorem index7_2 : ∀ t : Fin grid0.N, win0_7.index t 2 = 0 := by decide +kernel
theorem index7 (t : Fin grid0.N) : win0_7.index t = ![3, 0, 0] := by
  funext a
  fin_cases a
  · exact index7_0 t
  · exact index7_1 t
  · exact index7_2 t
theorem index8_0 : ∀ t : Fin grid0.N, win0_8.index t 0 = 3 := by decide +kernel
theorem index8_1 : ∀ t : Fin grid0.N, win0_8.index t 1 = 0 := by decide +kernel
theorem index8_2 : ∀ t : Fin grid0.N, win0_8.index t 2 = 0 := by decide +kernel
theorem index8 (t : Fin grid0.N) : win0_8.index t = ![3, 0, 0] := by
  funext a
  fin_cases a
  · exact index8_0 t
  · exact index8_1 t
  · exact index8_2 t
theorem index9_0 : ∀ t : Fin grid0.N, win0_9.index t 0 = 3 := by decide +kernel
theorem index9_1 : ∀ t : Fin grid0.N, win0_9.index t 1 = 0 := by decide +kernel
theorem index9_2 : ∀ t : Fin grid0.N, win0_9.index t 2 = 0 := by decide +kernel
theorem index9 (t : Fin grid0.N) : win0_9.index t = ![3, 0, 0] := by
  funext a
  fin_cases a
  · exact index9_0 t
  · exact index9_1 t
  · exact index9_2 t
theorem index10_0 : ∀ t : Fin grid0.N, win0_10.index t 0 = 3 := by decide +kernel
theorem index10_1 : ∀ t : Fin grid0.N, win0_10.index t 1 = 0 := by decide +kernel
theorem index10_2 : ∀ t : Fin grid0.N, win0_10.index t 2 = 0 := by decide +kernel
theorem index10 (t : Fin grid0.N) : win0_10.index t = ![3, 0, 0] := by
  funext a
  fin_cases a
  · exact index10_0 t
  · exact index10_1 t
  · exact index10_2 t
theorem index11_0 : ∀ t : Fin grid0.N, win0_11.index t 0 = 3 := by decide +kernel
theorem index11_1 : ∀ t : Fin grid0.N, win0_11.index t 1 = 0 := by decide +kernel
theorem index11_2 : ∀ t : Fin grid0.N, win0_11.index t 2 = 0 := by decide +kernel
theorem index11 (t : Fin grid0.N) : win0_11.index t = ![3, 0, 0] := by
  funext a
  fin_cases a
  · exact index11_0 t
  · exact index11_1 t
  · exact index11_2 t
theorem index12_0 : ∀ t : Fin grid0.N, win0_12.index t 0 = t.val := by decide +kernel
theorem index12_1 : ∀ t : Fin grid0.N, win0_12.index t 1 = 0 := by decide +kernel
theorem index12 (t : Fin grid0.N) : win0_12.index t = ![t.val, 0] := by
  funext a
  fin_cases a
  · exact index12_0 t
  · exact index12_1 t

theorem iblk_0 (t : Fin cfg0.N) (ht : t.val < 32) (r : Fin 512) (k : Fin 1024) :
    (iblk m c 0 t : S512x1024.Idx → EReal) (ix2 r k) = arg0 m c (ix3 ⟨t.val / 4, by omega⟩ ⟨512 * (t.val % 4) + r.val, by omega⟩ k) := by
  have e : (iblk m c 0 t : S512x1024.Idx → EReal) (ix2 r k) = (V m c main_v9 : S16384x1024.Idx → EReal) (ix2 ⟨512 * t.val + r.val, by omega⟩ k) := by
    blk_simp [iblk]
    refine congrArg (V m c main_v9) (funext fun a => Fin.ext ?_)
    blk_simp
    rw [index0 t]
    fin_cases a <;> simp <;> omega
  rw [e, V_0]
  refine shapeCast_apply _ _ _ (ix3 ⟨t.val / 4, by omega⟩ ⟨512 * (t.val % 4) + r.val, by omega⟩ k) ?_
  rw [Shape.rowMajor_val_three, Shape.rowMajor_val_two]
  show (t.val / 4 * 2048 + (512 * (t.val % 4) + r.val)) * 1024 + k.val = (512 * t.val + r.val) * 1024 + k.val
  omega

theorem iblk_1 (t : Fin cfg0.N) (ht : t.val < 32) (r : Fin 512) (k : Fin 512) :
    (iblk m c 1 t : S512x512.Idx → EReal) (ix2 r k) = arg1 m c (ix2 ⟨512 * t.val + r.val, by omega⟩ k) := by
  have e : (iblk m c 1 t : S512x512.Idx → EReal) (ix2 r k) = (V m c main_arg1 : S16384x512.Idx → EReal) (ix2 ⟨512 * t.val + r.val, by omega⟩ k) := by
    blk_simp [iblk]
    refine congrArg (V m c main_arg1) (funext fun a => Fin.ext ?_)
    blk_simp
    rw [index1 t]
    fin_cases a <;> simp <;> omega
  rw [e, V_1]

theorem iblk_2 (t : Fin cfg0.N) (ht : t.val < 32) (r : Fin 512) (k : Fin 768) :
    (iblk m c 2 t : S512x768.Idx → EReal) (ix2 r k) = arg2 m c (ix2 ⟨512 * t.val + r.val, by omega⟩ k) := by
  have e : (iblk m c 2 t : S512x768.Idx → EReal) (ix2 r k) = (V m c main_arg2 : S16384x768.Idx → EReal) (ix2 ⟨512 * t.val + r.val, by omega⟩ k) := by
    blk_simp [iblk]
    refine congrArg (V m c main_arg2) (funext fun a => Fin.ext ?_)
    blk_simp
    rw [index2 t]
    fin_cases a <;> simp <;> omega
  rw [e, V_2]

theorem iblk_3 (t : Fin cfg0.N) (ht : t.val < 32) (k : Fin 6144) :
    (iblk m c 3 t : S1x1x1x6144.Idx → EReal) (ix4 0 0 0 k) = arg3 m c (ix3 3 ⟨t.val / 4, by omega⟩ k) := by
  have e : (iblk m c 3 t : S1x1x1x6144.Idx → EReal) (ix4 0 0 0 k) = (V m c main_v8 : S4x16x1x6144.Idx → EReal) (ix4 3 ⟨t.val / 4, by omega⟩ 0 k) := by
    blk_simp [iblk]
    refine congrArg (V m c main_v8) (funext fun a => Fin.ext ?_)
    blk_simp
    rw [index3 t]
    fin_cases a <;> simp <;> omega
  rw [e, V_3]
  refine shapeCast_apply _ _ _ (ix3 3 ⟨t.val / 4, by omega⟩ k) ?_
  rw [Shape.rowMajor_val_three, Shape.rowMajor_val_four]
  show (3 * 16 + t.val / 4) * 6144 + k.val = ((3 * 16 + t.val / 4) * 1 + 0) * 6144 + k.val
  omega

theorem iblk_4 (t : Fin cfg0.N) (ht : t.val < 32) (i : Fin 1280) (j : Fin 1024) :
    (iblk m c 4 t : S1x1280x1024.Idx → EReal) (ix3 0 i j) = arg4 m c (ix3 3 i j) := by
  have e : (iblk m c 4 t : S1x1280x1024.Idx → EReal) (ix3 0 i j) = (V m c main_v0 : S4x1280x1024.Idx → EReal) (ix3 3 i j) := by
    blk_simp [iblk]
    refine congrArg (V m c main_v0) (funext fun a => Fin.ext ?_)
    blk_simp
    rw [index4 t]
    fin_cases a <;> simp <;> omega
  rw [e, V_4]

theorem iblk_5 (t : Fin cfg0.N) (ht : t.val < 32) (k : Fin 1024) :
    (iblk m c 5 t : S1x1x1024.Idx → EReal) (ix3 0 0 k) = arg5 m c (ix2 3 k) := by
  have e : (iblk m c 5 t : S1x1x1024.Idx → EReal) (ix3 0 0 k) = (V m c main_v1 : S4x1x1024.Idx → EReal) (ix3 3 0 k) := by
    blk_simp [iblk]
    refine congrArg (V m c main_v1) (funext fun a => Fin.ext ?_)
    blk_simp
    rw [index5 t]
    fin_cases a <;> simp <;> omega
  rw [e, V_5]
  refine shapeCast_apply _ _ _ (ix2 3 k) ?_
  rw [Shape.rowMajor_val_two, Shape.rowMajor_val_three]
  show 3 * 1024 + k.val = (3 * 1 + 0) * 1024 + k.val
  omega

theorem iblk_6 (t : Fin cfg0.N) (ht : t.val < 32) (k : Fin 1024) :
    (iblk m c 6 t : S1x1x1024.Idx → EReal) (ix3 0 0 k) = arg6 m c (ix2 3 k) := by
  have e : (iblk m c 6 t : S1x1x1024.Idx → EReal) (ix3 0 0 k) = (V m c main_v2 : S4x1x1024.Idx → EReal) (ix3 3 0 k) := by
    blk_simp [iblk]
    refine congrArg (V m c main_v2) (funext fun a => Fin.ext ?_)
    blk_simp
    rw [index6 t]
    fin_cases a <;> simp <;> omega
  rw [e, V_6]
  refine shapeCast_apply _ _ _ (ix2 3 k) ?_
  rw [Shape.rowMajor_val_two, Shape.rowMajor_val_three]
  show 3 * 1024 + k.val = (3 * 1 + 0) * 1024 + k.val
  omega

theorem iblk_7 (t : Fin cfg0.N) (ht : t.val < 32) (i : Fin 1024) (j : Fin 2816) :
    (iblk m c 7 t : S1x1024x2816.Idx → EReal) (ix3 0 i j) = arg7 m c (ix3 3 i j) := by
  have e : (iblk m c 7 t : S1x1024x2816.Idx → EReal) (ix3 0 i j) = (V m c main_v3 : S4x1024x2816.Idx → EReal) (ix3 3 i j) := by
    blk_simp [iblk]
    refine congrArg (V m c main_v3) (funext fun a => Fin.ext ?_)
    blk_simp
    rw [index7 t]
    fin_cases a <;> simp <;> omega
  rw [e, V_7]

theorem iblk_8 (t : Fin cfg0.N) (ht : t.val < 32) (i : Fin 1024) (j : Fin 2816) :
    (iblk m c 8 t : S1x1024x2816.Idx → EReal) (ix3 0 i j) = arg8 m c (ix3 3 i j) := by
  have e : (iblk m c 8 t : S1x1024x2816.Idx → EReal) (ix3 0 i j) = (V m c main_v4 : S4x1024x2816.Idx → EReal) (ix3 3 i j) := by
    blk_simp [iblk]
    refine congrArg (V m c main_v4) (funext fun a => Fin.ext ?_)
    blk_simp
    rw [index8 t]
    fin_cases a <;> simp <;> omega
  rw [e, V_8]

theorem iblk_9 (t : Fin cfg0.N) (ht : t.val < 32) (i : Fin 2816) (j : Fin 1024) :
    (iblk m c 9 t : S1x2816x1024.Idx → EReal) (ix3 0 i j) = arg9 m c (ix3 3 i j) := by
  have e : (iblk m c 9 t : S1x2816x1024.Idx → EReal) (ix3 0 i j) = (V m c main_v5 : S4x2816x1024.Idx → EReal) (ix3 3 i j) := by
    blk_simp [iblk]
    refine congrArg (V m c main_v5) (funext fun a => Fin.ext ?_)
    blk_simp
    rw [index9 t]
    fin_cases a <;> simp <;> omega
  rw [e, V_9]

theorem iblk_10 (t : Fin cfg0.N) (ht : t.val < 32) (k : Fin 1024) :
    (iblk m c 10 t : S1x1x1024.Idx → EReal) (ix3 0 0 k) = arg10 m c (ix2 3 k) := by
  have e : (iblk m c 10 t : S1x1x1024.Idx → EReal) (ix3 0 0 k) = (V m c main_v6 : S4x1x1024.Idx → EReal) (ix3 3 0 k) := by
    blk_simp [iblk]
    refine congrArg (V m c main_v6) (funext fun a => Fin.ext ?_)
    blk_simp
    rw [index10 t]
    fin_cases a <;> simp <;> omega
  rw [e, V_10]
  refine shapeCast_apply _ _ _ (ix2 3 k) ?_
  rw [Shape.rowMajor_val_two, Shape.rowMajor_val_three]
  show 3 * 1024 + k.val = (3 * 1 + 0) * 1024 + k.val
  omega

theorem iblk_11 (t : Fin cfg0.N) (ht : t.val < 32) (k : Fin 1024) :
    (iblk m c 11 t : S1x1x1024.Idx → EReal) (ix3 0 0 k) = arg11 m c (ix2 3 k) := by
  have e : (iblk m c 11 t : S1x1x1024.Idx → EReal) (ix3 0 0 k) = (V m c main_v7 : S4x1x1024.Idx → EReal) (ix3 3 0 k) := by
    blk_simp [iblk]
    refine congrArg (V m c main_v7) (funext fun a => Fin.ext ?_)
    blk_simp
    rw [index11 t]
    fin_cases a <;> simp <;> omega
  rw [e, V_11]
  refine shapeCast_apply _ _ _ (ix2 3 k) ?_
  rw [Shape.rowMajor_val_two, Shape.rowMajor_val_three]
  show 3 * 1024 + k.val = (3 * 1 + 0) * 1024 + k.val
  omega

end Cert.TailIdeal.Tail

end
-- ==== Proof.TailRef.lean ====
/-
  The reference's layer tail READ AT AN INDEX: one row's residual, normalisations and feed-forward network, as the row
  functions of TailMath.lean.
-/
module

public import proofs.«01_k».proof.Proof.TailMath
public import proofs.«01_k».proof.Proof.Gen.TailRefIdeal.Read
public import Idealize.ShloMosaic.Lib.Pointwise

@[expose] public section

set_option maxRecDepth 16384
set_option backward.proofsInPublic true

noncomputable section

namespace Cert.TailRefIdeal.Tail

open Cert.TailRefIdeal Cert.TailRefIdeal.Gen Cert.TailRefIdeal.Read Cert.TailRow
open Idealize.ShloMosaic Idealize.ShloMosaic.TcCoe Idealize.ShloMosaic.Tactic

variable (x0 : S8x2048x1024.Idx → EReal) (x1 : S16384x512.Idx → EReal) (x2 : S16384x768.Idx → EReal) (x3 : S4x16x6144.Idx → EReal)
  (x4 : S4x1280x1024.Idx → EReal) (x5 x6 : S4x1024.Idx → EReal) (x7 x8 : S4x1024x2816.Idx → EReal) (x9 : S4x2816x1024.Idx → EReal)
  (x10 x11 : S4x1024.Idx → EReal)

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]
  norm_num

/-- Channel `k` of modulation vector `n` of batch `b`. -/
abbrev modAt (n : ℕ) (hn : n < 6) (b : Fin 8) (k : Fin 1024) : EReal := x3 (ix3 3 ⟨b.val, by omega⟩ ⟨1024 * n + k.val, by omega⟩)
/-- Row `r` of batch `b` in the arrays of 16384 rows. -/
abbrev rowOf (b : Fin 8) (r : Fin 2048) : Fin 16384 := ⟨2048 * b.val + r.val, by omega⟩
abbrev matAt {n k : ℕ} (w : (⟨3, ![4, n, k]⟩ : Shape).Idx → EReal) (i : Fin n) (j : Fin k) : EReal := w (ix3 3 i j)
abbrev vecAt (w : S4x1024.Idx → EReal) (k : Fin 1024) : EReal := w (ix2 3 k)

theorem mod2_apply (b : Fin 8) (k : Fin 1024) : val_main_v10 (F := Ideal) x3 (ix3 b 0 k) = modAt x3 2 (by omega) b k := by
  rw [val_main_v10_apply, val_main_v4_apply, val_main_v1_apply, val_main_v0_apply]
  refine congrArg x3 (funext fun a => Fin.ext ?_)
  fin_cases a
  · rfl
  · show (b.val * 6144 + (2048 + k.val)) / 6144 % 8 = b.val
    omega
  · show (b.val * 6144 + (2048 + k.val)) % 6144 = 1024 * 2 + k.val
    omega

theorem mod3_apply (b : Fin 8) (k : Fin 1024) : val_main_v11 (F := Ideal) x3 (ix3 b 0 k) = modAt x3 3 (by omega) b k := by
  rw [val_main_v11_apply, val_main_v5_apply, val_main_v1_apply, val_main_v0_apply]
  refine congrArg x3 (funext fun a => Fin.ext ?_)
  fin_cases a
  · rfl
  · show (b.val * 6144 + (3072 + k.val)) / 6144 % 8 = b.val
    omega
  · show (b.val * 6144 + (3072 + k.val)) % 6144 = 1024 * 3 + k.val
    omega

theorem mod4_apply (b : Fin 8) (k : Fin 1024) : val_main_v12 (F := Ideal) x3 (ix3 b 0 k) = modAt x3 4 (by omega) b k := by
  rw [val_main_v12_apply, val_main_v6_apply, val_main_v1_apply, val_main_v0_apply]
  refine congrArg x3 (funext fun a => Fin.ext ?_)
  fin_cases a
  · rfl
  · show (b.val * 6144 + (4096 + k.val)) / 6144 % 8 = b.val
    omega
  · show (b.val * 6144 + (4096 + k.val)) % 6144 = 1024 * 4 + k.val
    omega

theorem mod5_apply (b : Fin 8) (k : Fin 1024) : val_main_v13 (F := Ideal) x3 (ix3 b 0 k) = modAt x3 5 (by omega) b k := by
  rw [val_main_v13_apply, val_main_v7_apply, val_main_v1_apply, val_main_v0_apply]
  refine congrArg x3 (funext fun a => Fin.ext ?_)
  fin_cases a
  · rfl
  · show (b.val * 6144 + (5120 + k.val)) / 6144 % 8 = b.val
    omega
  · show (b.val * 6144 + (5120 + k.val)) % 6144 = 1024 * 5 + k.val
    omega

theorem attn_apply (b : Fin 8) (r : Fin 2048) (k : Fin 512) : val_main_v15 (F := Ideal) x1 (ix3 b r k) = x1 (ix2 (rowOf b r) k) := by
  rw [val_main_v15_apply, val_main_v14_apply]
  refine congrArg x1 (funext fun a => Fin.ext ?_)
  fin_cases a
  · show ((b.val * 2048 + r.val) * 512 + k.val) / 512 = 2048 * b.val + r.val
    omega
  · show ((b.val * 2048 + r.val) * 512 + k.val) % 512 = k.val
    omega

theorem loc_apply (b : Fin 8) (r : Fin 2048) (k : Fin 768) : val_main_v17 (F := Ideal) x2 (ix3 b r k) = x2 (ix2 (rowOf b r) k) := by
  rw [val_main_v17_apply, val_main_v16_apply]
  refine congrArg x2 (funext fun a => Fin.ext ?_)
  fin_cases a
  · show ((b.val * 2048 + r.val) * 768 + k.val) / 768 = 2048 * b.val + r.val
    omega
  · show ((b.val * 2048 + r.val) * 768 + k.val) % 768 = k.val
    omega

theorem cat_left (b : Fin 8) (r : Fin 2048) (k : Fin 512) :
    val_main_v18 (F := Ideal) x1 x2 (ix3 b r (Fin.castAdd 768 k : Fin (512 + 768))) = x1 (ix2 (rowOf b r) k) := by
  rw [← attn_apply x1]
  refine concatenate_pair_apply_left (t := S8x2048x1280) (s₁ := S8x2048x512) (s₂ := S8x2048x768) _ _ _ _ _ rfl (ix3 b r k) (fun a => by fin_cases a <;> rfl)
theorem cat_right (b : Fin 8) (r : Fin 2048) (k : Fin 768) :
    val_main_v18 (F := Ideal) x1 x2 (ix3 b r (Fin.natAdd 512 k : Fin (512 + 768))) = x2 (ix2 (rowOf b r) k) := by
  rw [← loc_apply x2]
  refine concatenate_pair_apply_right (t := S8x2048x1280) (s₁ := S8x2048x512) (s₂ := S8x2048x768) _ _ _ _ _ rfl rfl (ix3 b r k)
    (fun a ha => by fin_cases a <;> first | rfl | exact absurd rfl ha) (by show k.val + 512 = 512 + k.val; omega)

theorem wo_apply (i : Fin 1280) (j : Fin 1024) : val_main_v22 (F := Ideal) x4 (ix2 i j) = matAt x4 i j := by
  rw [val_main_v22_apply, val_main_v21_apply]
  refine congrArg x4 (funext fun a => Fin.ext ?_)
  fin_cases a
  · rfl
  · show (i.val * 1024 + j.val) / 1024 % 1280 = i.val
    omega
  · show (i.val * 1024 + j.val) % 1024 = j.val
    omega

theorem w1_apply (i : Fin 1024) (j : Fin 2816) : val_main_v62 (F := Ideal) x7 (ix2 i j) = matAt x7 i j := by
  rw [val_main_v62_apply, val_main_v61_apply]
  refine congrArg x7 (funext fun a => Fin.ext ?_)
  fin_cases a
  · rfl
  · show (i.val * 2816 + j.val) / 2816 % 1024 = i.val
    omega
  · show (i.val * 2816 + j.val) % 2816 = j.val
    omega

theorem w3_apply (i : Fin 1024) (j : Fin 2816) : val_main_v66 (F := Ideal) x8 (ix2 i j) = matAt x8 i j := by
  rw [val_main_v66_apply, val_main_v65_apply]
  refine congrArg x8 (funext fun a => Fin.ext ?_)
  fin_cases a
  · rfl
  · show (i.val * 2816 + j.val) / 2816 % 1024 = i.val
    omega
  · show (i.val * 2816 + j.val) % 2816 = j.val
    omega

theorem w2_apply (i : Fin 2816) (j : Fin 1024) : val_main_v70 (F := Ideal) x9 (ix2 i j) = matAt x9 i j := by
  rw [val_main_v70_apply, val_main_v69_apply]
  refine congrArg x9 (funext fun a => Fin.ext ?_)
  fin_cases a
  · rfl
  · show (i.val * 1024 + j.val) / 1024 % 2816 = i.val
    omega
  · show (i.val * 1024 + j.val) % 1024 = j.val
    omega

theorem ln1g_apply (b : Fin 8) (r : Fin 2048) (j : Fin 1024) : val_main_v50 (F := Ideal) x5 (ix3 b r j) = vecAt x5 j := by
  rw [val_main_v50_apply, val_main_v49_apply, val_main_v28_apply, val_main_v27_apply]
  refine congrArg x5 (funext fun a => Fin.ext ?_)
  fin_cases a
  · rfl
  · show j.val % 1024 = j.val
    omega

theorem ln1b_apply (b : Fin 8) (r : Fin 2048) (j : Fin 1024) : val_main_v53 (F := Ideal) x6 (ix3 b r j) = vecAt x6 j := by
  rw [val_main_v53_apply, val_main_v52_apply, val_main_v30_apply, val_main_v29_apply]
  refine congrArg x6 (funext fun a => Fin.ext ?_)
  fin_cases a
  · rfl
  · show j.val % 1024 = j.val
    omega

theorem ln2g_apply (b : Fin 8) (r : Fin 2048) (j : Fin 1024) : val_main_v100 (F := Ideal) x10 (ix3 b r j) = vecAt x10 j := by
  rw [val_main_v100_apply, val_main_v99_apply, val_main_v78_apply, val_main_v77_apply]
  refine congrArg x10 (funext fun a => Fin.ext ?_)
  fin_cases a
  · rfl
  · show j.val % 1024 = j.val
    omega

theorem ln2b_apply (b : Fin 8) (r : Fin 2048) (j : Fin 1024) : val_main_v103 (F := Ideal) x11 (ix3 b r j) = vecAt x11 j := by
  rw [val_main_v103_apply, val_main_v102_apply, val_main_v80_apply, val_main_v79_apply]
  refine congrArg x11 (funext fun a => Fin.ext ?_)
  fin_cases a
  · rfl
  · show j.val % 1024 = j.val
    omega

theorem mix_apply (b : Fin 8) (r : Fin 2048) (j : Fin 1024) :
    val_main_v23 (F := Ideal) x1 x2 x4 (ix3 b r j) = mix (fun k => x1 (ix2 (rowOf b r) k)) (fun k => x2 (ix2 (rowOf b r) k)) (matAt x4) j := by
  rw [val_main_v23_apply]
  have el : ∀ k, lidx_main_v23 (ix3 b r j) k = ix3 b r k := fun k => funext fun a => by fin_cases a <;> rfl
  have er : ∀ k, ridx_main_v23 (ix3 b r j) k = ix2 k j := fun k => funext fun a => by fin_cases a <;> rfl
  simp only [el, er, wo_apply]
  refine (Fin.sum_univ_add (a := 512) (b := 768) _).trans ?_
  simp only [cat_left, cat_right]
  rfl

theorem res1_apply (b : Fin 8) (r : Fin 2048) (j : Fin 1024) :
    val_main_v26 (F := Ideal) x0 x1 x2 x3 x4 (ix3 b r j)
      = res (fun k => x0 (ix3 b r k)) (modAt x3 2 (by omega) b) (mix (fun k => x1 (ix2 (rowOf b r) k)) (fun k => x2 (ix2 (rowOf b r) k)) (matAt x4)) j := by
  rw [val_main_v26_apply, val_main_v20_apply, val_main_v19_apply, val_main_cst_apply, val_main_v25_apply, val_main_v24_apply,
    show idx_main_v24 (ix3 b r j) = ix3 b 0 j from funext fun a => by fin_cases a <;> rfl, mod2_apply, mix_apply]
  rfl

theorem norm1_mean (b : Fin 8) (r : Fin 2048) :
    val_main_v34 (F := Ideal) x0 x1 x2 x3 x4 (ix3 b r 0) = mean (fun k => val_main_v26 (F := Ideal) x0 x1 x2 x3 x4 (ix3 b r k)) := by
  rw [val_main_v34_apply, val_main_v32_apply, show idx_main_v32 (ix3 b r 0) = ix2 b r from funext fun a => by fin_cases a <;> rfl,
    val_main_v31_apply, val_main_v33_apply, val_main_cst_1_apply, val_main_cst_0_apply]
  have e : ∀ k, idx_main_v31 (ix2 b r) k = ix3 b r k := fun k => funext fun a => by fin_cases a <;> rfl
  simp only [e]
  generalize val_main_v26 (F := Ideal) x0 x1 x2 x3 x4 = u
  refine Eq.trans (b := Ideal.div (Ideal.ofBits .f32 0x00000000#32 + ∑ k, u (ix3 b r k)) cN) rfl ?_
  rw [zero_word, zero_add, mean]

theorem norm1_var (b : Fin 8) (r : Fin 2048) :
    val_main_v41 (F := Ideal) x0 x1 x2 x3 x4 (ix3 b r 0)
      = Ideal.div (∑ k, (val_main_v26 (F := Ideal) x0 x1 x2 x3 x4 (ix3 b r k) - mean (fun k => val_main_v26 (F := Ideal) x0 x1 x2 x3 x4 (ix3 b r k))) * (val_main_v26 (F := Ideal) x0 x1 x2 x3 x4 (ix3 b r k) - mean (fun k => val_main_v26 (F := Ideal) x0 x1 x2 x3 x4 (ix3 b r k)))) cN := by
  rw [val_main_v41_apply, val_main_v39_apply, show idx_main_v39 (ix3 b r 0) = ix2 b r from funext fun a => by fin_cases a <;> rfl,
    val_main_v38_apply, val_main_v40_apply, val_main_cst_3_apply, val_main_cst_2_apply]
  have e : ∀ k, idx_main_v38 (ix2 b r) k = ix3 b r k := fun k => funext fun a => by fin_cases a <;> rfl
  have em : ∀ k, idx_main_v35 (ix3 b r k) = ix3 b r 0 := fun k => funext fun a => by fin_cases a <;> rfl
  simp only [e, val_main_v37_apply, val_main_v36_apply, val_main_v35_apply, em, norm1_mean]
  generalize val_main_v26 (F := Ideal) x0 x1 x2 x3 x4 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm1_apply (b : Fin 8) (r : Fin 2048) (j : Fin 1024) :
    val_main_v54 (F := Ideal) x0 x1 x2 x3 x4 x5 x6 (ix3 b r j) = norm (fun k => val_main_v26 (F := Ideal) x0 x1 x2 x3 x4 (ix3 b r k)) (vecAt x5) (vecAt x6) j := by
  rw [val_main_v54_apply, ln1b_apply, val_main_v51_apply, ln1g_apply, val_main_v48_apply, val_main_v43_apply, val_main_v42_apply,
    show idx_main_v42 (ix3 b r j) = ix3 b r 0 from funext fun a => by fin_cases a <;> rfl, norm1_mean,
    val_main_v47_apply, show idx_main_v47 (ix3 b r j) = ix3 b r 0 from funext fun a => by fin_cases a <;> rfl,
    val_main_v46_apply, val_main_v45_apply, norm1_var, val_main_v44_apply, val_main_cst_4_apply]
  generalize val_main_v26 (F := Ideal) x0 x1 x2 x3 x4 = u
  rfl

theorem mid_apply (b : Fin 8) (r : Fin 2048) (j : Fin 1024) :
    val_main_v54 (F := Ideal) x0 x1 x2 x3 x4 x5 x6 (ix3 b r j)
      = mid (fun k => x0 (ix3 b r k)) (fun k => x1 (ix2 (rowOf b r) k)) (fun k => x2 (ix2 (rowOf b r) k)) (matAt x4) (modAt x3 2 (by omega) b) (vecAt x5) (vecAt x6) j := by
  rw [norm1_apply]
  simp only [res1_apply]
  rfl

/-- The first normalisation's row, modulated. -/
theorem modul_apply (b : Fin 8) (r : Fin 2048) (j : Fin 1024) :
    val_main_v60 (F := Ideal) x0 x1 x2 x3 x4 x5 x6 (ix3 b r j)
      = modul (fun k => val_main_v54 (F := Ideal) x0 x1 x2 x3 x4 x5 x6 (ix3 b r k)) (modAt x3 4 (by omega) b) (modAt x3 3 (by omega) b) j := by
  rw [val_main_v60_apply, val_main_v59_apply, show idx_main_v59 (ix3 b r j) = ix3 b 0 j from funext fun a => by fin_cases a <;> rfl, mod3_apply,
    val_main_v58_apply, val_main_v57_apply, show idx_main_v57 (ix3 b r j) = ix3 b 0 j from funext fun a => by fin_cases a <;> rfl,
    val_main_v56_apply, mod4_apply, val_main_v55_apply, val_main_cst_5_apply]
  generalize val_main_v54 (F := Ideal) x0 x1 x2 x3 x4 x5 x6 = u
  refine Eq.trans (b := u (ix3 b r j) * (Ideal.ofBits .f32 0x3F800000#32 + modAt x3 4 (by omega) b j) + modAt x3 3 (by omega) b j) rfl ?_
  rw [one_word, modul]

theorem p_apply (b : Fin 8) (r : Fin 2048) (f : Fin 2816) :
    val_main_v63 (F := Ideal) x0 x1 x2 x3 x4 x5 x6 x7 (ix3 b r f) = ∑ k : Fin 1024, val_main_v60 (F := Ideal) x0 x1 x2 x3 x4 x5 x6 (ix3 b r k) * matAt x7 k f := by
  rw [val_main_v63_apply]
  have el : ∀ k, lidx_main_v63 (ix3 b r f) k = ix3 b r k := fun k => funext fun a => by fin_cases a <;> rfl
  have er : ∀ k, ridx_main_v63 (ix3 b r f) k = ix2 k f := fun k => funext fun a => by fin_cases a <;> rfl
  simp only [el, er, w1_apply]

theorem q_apply (b : Fin 8) (r : Fin 2048) (f : Fin 2816) :
    val_main_v67 (F := Ideal) x0 x1 x2 x3 x4 x5 x6 x8 (ix3 b r f) = ∑ k : Fin 1024, val_main_v60 (F := Ideal) x0 x1 x2 x3 x4 x5 x6 (ix3 b r k) * matAt x8 k f := by
  rw [val_main_v67_apply]
  have el : ∀ k, lidx_main_v67 (ix3 b r f) k = ix3 b r k := fun k => funext fun a => by fin_cases a <;> rfl
  have er : ∀ k, ridx_main_v67 (ix3 b r f) k = ix2 k f := fun k => funext fun a => by fin_cases a <;> rfl
  simp only [el, er, w3_apply]

theorem gate_apply (b : Fin 8) (r : Fin 2048) (f : Fin 2816) :
    val_main_v68 (F := Ideal) x0 x1 x2 x3 x4 x5 x6 x7 x8 (ix3 b r f)
      = gate (val_main_v63 (F := Ideal) x0 x1 x2 x3 x4 x5 x6 x7 (ix3 b r f)) (val_main_v67 (F := Ideal) x0 x1 x2 x3 x4 x5 x6 x8 (ix3 b r f)) := by
  rw [val_main_v68_apply, val_main_v64_apply, val_main_call0_v5_apply, val_main_call0_v4_apply, val_main_call0_cst_0_apply, val_main_call0_v3_apply,
    val_main_call0_v2_apply, val_main_call0_cst_apply, val_main_call0_v1_apply, val_main_call0_v0_apply]
  generalize val_main_v63 (F := Ideal) x0 x1 x2 x3 x4 x5 x6 x7 (ix3 b r f) = p
  generalize val_main_v67 (F := Ideal) x0 x1 x2 x3 x4 x5 x6 x8 (ix3 b r f) = q
  refine Eq.trans (b := p * Ideal.div (Ideal.ofBits .f32 0x3F800000#32) (Ideal.ofBits .f32 0x3F800000#32 + Ideal.exp (-p)) * q) rfl ?_
  rw [one_word, gate]

theorem ffn_apply (b : Fin 8) (r : Fin 2048) (j : Fin 1024) :
    val_main_v71 (F := Ideal) x0 x1 x2 x3 x4 x5 x6 x7 x8 x9 (ix3 b r j)
      = ffn (modul (fun k => val_main_v54 (F := Ideal) x0 x1 x2 x3 x4 x5 x6 (ix3 b r k)) (modAt x3 4 (by omega) b) (modAt x3 3 (by omega) b)) (matAt x7) (matAt x8) (matAt x9) j := by
  rw [val_main_v71_apply]
  have el : ∀ k, lidx_main_v71 (ix3 b r j) k = ix3 b r k := fun k => funext fun a => by fin_cases a <;> rfl
  have er : ∀ k, ridx_main_v71 (ix3 b r j) k = ix2 k j := fun k => funext fun a => by fin_cases a <;> rfl
  simp only [el, er, w2_apply, gate_apply, p_apply, q_apply, modul_apply]
  rfl

theorem res2_apply (b : Fin 8) (r : Fin 2048) (j : Fin 1024) :
    val_main_v76 (F := Ideal) x0 x1 x2 x3 x4 x5 x6 x7 x8 x9 (ix3 b r j)
      = res (fun k => val_main_v54 (F := Ideal) x0 x1 x2 x3 x4 x5 x6 (ix3 b r k)) (modAt x3 5 (by omega) b)
          (ffn (modul (fun k => val_main_v54 (F := Ideal) x0 x1 x2 x3 x4 x5 x6 (ix3 b r k)) (modAt x3 4 (by omega) b) (modAt x3 3 (by omega) b)) (matAt x7) (matAt x8) (matAt x9)) j := by
  rw [val_main_v76_apply, val_main_v73_apply, val_main_v72_apply, val_main_cst_6_apply, val_main_v75_apply, val_main_v74_apply,
    show idx_main_v74 (ix3 b r j) = ix3 b 0 j from funext fun a => by fin_cases a <;> rfl, mod5_apply, ffn_apply]
  generalize val_main_v54 (F := Ideal) x0 x1 x2 x3 x4 x5 x6 = u
  rfl

theorem norm2_mean (b : Fin 8) (r : Fin 2048) :
    val_main_v84 (F := Ideal) x0 x1 x2 x3 x4 x5 x6 x7 x8 x9 (ix3 b r 0) = mean (fun k => val_main_v76 (F := Ideal) x0 x1 x2 x3 x4 x5 x6 x7 x8 x9 (ix3 b r k)) := by
  rw [val_main_v84_apply, val_main_v82_apply, show idx_main_v82 (ix3 b r 0) = ix2 b r from funext fun a => by fin_cases a <;> rfl,
    val_main_v81_apply, val_main_v83_apply, val_main_cst_8_apply, val_main_cst_7_apply]
  have e : ∀ k, idx_main_v81 (ix2 b r) k = ix3 b r k := fun k => funext fun a => by fin_cases a <;> rfl
  simp only [e]
  generalize val_main_v76 (F := Ideal) x0 x1 x2 x3 x4 x5 x6 x7 x8 x9 = u
  refine Eq.trans (b := Ideal.div (Ideal.ofBits .f32 0x00000000#32 + ∑ k, u (ix3 b r k)) cN) rfl ?_
  rw [zero_word, zero_add, mean]

theorem norm2_var (b : Fin 8) (r : Fin 2048) :
    val_main_v91 (F := Ideal) x0 x1 x2 x3 x4 x5 x6 x7 x8 x9 (ix3 b r 0)
      = Ideal.div (∑ k, (val_main_v76 (F := Ideal) x0 x1 x2 x3 x4 x5 x6 x7 x8 x9 (ix3 b r k) - mean (fun k => val_main_v76 (F := Ideal) x0 x1 x2 x3 x4 x5 x6 x7 x8 x9 (ix3 b r k))) * (val_main_v76 (F := Ideal) x0 x1 x2 x3 x4 x5 x6 x7 x8 x9 (ix3 b r k) - mean (fun k => val_main_v76 (F := Ideal) x0 x1 x2 x3 x4 x5 x6 x7 x8 x9 (ix3 b r k)))) cN := by
  rw [val_main_v91_apply, val_main_v89_apply, show idx_main_v89 (ix3 b r 0) = ix2 b r from funext fun a => by fin_cases a <;> rfl,
    val_main_v88_apply, val_main_v90_apply, val_main_cst_10_apply, val_main_cst_9_apply]
  have e : ∀ k, idx_main_v88 (ix2 b r) k = ix3 b r k := fun k => funext fun a => by fin_cases a <;> rfl
  have em : ∀ k, idx_main_v85 (ix3 b r k) = ix3 b r 0 := fun k => funext fun a => by fin_cases a <;> rfl
  simp only [e, val_main_v87_apply, val_main_v86_apply, val_main_v85_apply, em, norm2_mean]
  generalize val_main_v76 (F := Ideal) x0 x1 x2 x3 x4 x5 x6 x7 x8 x9 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm2_apply (b : Fin 8) (r : Fin 2048) (j : Fin 1024) :
    val_main_v104 (F := Ideal) x0 x1 x2 x3 x4 x5 x6 x7 x8 x9 x10 x11 (ix3 b r j) = norm (fun k => val_main_v76 (F := Ideal) x0 x1 x2 x3 x4 x5 x6 x7 x8 x9 (ix3 b r k)) (vecAt x10) (vecAt x11) j := by
  rw [val_main_v104_apply, ln2b_apply, val_main_v101_apply, ln2g_apply, val_main_v98_apply, val_main_v93_apply, val_main_v92_apply,
    show idx_main_v92 (ix3 b r j) = ix3 b r 0 from funext fun a => by fin_cases a <;> rfl, norm2_mean,
    val_main_v97_apply, show idx_main_v97 (ix3 b r j) = ix3 b r 0 from funext fun a => by fin_cases a <;> rfl,
    val_main_v96_apply, val_main_v95_apply, norm2_var, val_main_v94_apply, val_main_cst_11_apply]
  generalize val_main_v76 (F := Ideal) x0 x1 x2 x3 x4 x5 x6 x7 x8 x9 = u
  rfl

/-- The result's row of batch `b`, as a function of the arguments' rows. -/
def rowR (b : Fin 8) (r : Fin 2048) : Fin 1024 → EReal :=
  Cert.TailRow.fin
    (mid (fun k => x0 (ix3 b r k)) (fun k => x1 (ix2 (rowOf b r) k)) (fun k => x2 (ix2 (rowOf b r) k)) (matAt x4) (modAt x3 2 (by omega) b) (vecAt x5) (vecAt x6))
    (modAt x3 3 (by omega) b) (modAt x3 4 (by omega) b) (modAt x3 5 (by omega) b) (matAt x7) (matAt x8) (matAt x9) (vecAt x10) (vecAt x11)

theorem layer_apply (b : Fin 8) (r : Fin 2048) (j : Fin 1024) :
    val_main_v104 (F := Ideal) x0 x1 x2 x3 x4 x5 x6 x7 x8 x9 x10 x11 (ix3 b r j) = rowR x0 x1 x2 x3 x4 x5 x6 x7 x8 x9 x10 x11 b r j := by
  rw [norm2_apply]
  simp only [res2_apply, mid_apply]
  rfl

/-- The result at row `R`. -/
theorem result_apply (R : Fin 16384) (j : Fin 1024) :
    val_main_v105 (F := Ideal) x0 x1 x2 x3 x4 x5 x6 x7 x8 x9 x10 x11 (ix2 R j) = rowR x0 x1 x2 x3 x4 x5 x6 x7 x8 x9 x10 x11 ⟨R.val / 2048, by omega⟩ ⟨R.val % 2048, by omega⟩ j := by
  rw [val_main_v105_apply, ← layer_apply]
  generalize val_main_v104 (F := Ideal) x0 x1 x2 x3 x4 x5 x6 x7 x8 x9 x10 x11 = u
  refine congrArg u (funext fun a => Fin.ext ?_)
  fin_cases a
  · show (R.val * 1024 + j.val) / 2097152 = R.val / 2048
    omega
  · show (R.val * 1024 + j.val) / 1024 % 2048 = R.val % 2048
    omega
  · show (R.val * 1024 + j.val) % 1024 = j.val
    omega

end Cert.TailRefIdeal.Tail

end
-- ==== Proof.TailValue.lean ====
/-
  The tail's value claim: the kernel's result array is the reference's.
-/
module

public import proofs.«01_k».proof.Proof.TailInput
public import proofs.«01_k».proof.Proof.TailRef
public import proofs.«01_k».proof.Proof.Gen.TailRefIdeal.Run
public import proofs.«01_k».proof.Defs

@[expose] public section

set_option maxRecDepth 16384
set_option backward.proofsInPublic true

noncomputable section

namespace Cert.TailIdeal.Tail

open Cert.TailIdeal Cert.TailIdeal.Gen
open Cert.TailRefIdeal.Tail (rowR result_apply)
open Cert.TailRefIdeal.Read (val_main_v105 val_main_v105_eq)
open Idealize.ShloMosaic Idealize.ShloMosaic.TcCoe Idealize.ShloMosaic.Tactic Idealize.SL.Sem

variable (m : (ℓ : Loc nD τ sig) → Buf (Elt Ideal) ℓ) (c : Dev nD)

/-- Row `r` of what grid point `t` leaves is the reference's row. -/
theorem row_eq (t : Fin cfg0.N) (ht : t.val < 32) (r : Fin 512) (j : Fin 1024) :
    rowV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j
      = rowR (arg0 m c) (arg1 m c) (arg2 m c) (arg3 m c) (arg4 m c) (arg5 m c) (arg6 m c) (arg7 m c) (arg8 m c) (arg9 m c) (arg10 m c) (arg11 m c) ⟨t.val / 4, by omega⟩ ⟨512 * (t.val % 4) + r.val, by omega⟩ j := by
  unfold rowV rowR
  simp only [iblk_0 m c t ht, iblk_1 m c t ht, iblk_2 m c t ht, iblk_3 m c t ht, iblk_4 m c t ht, iblk_5 m c t ht, iblk_6 m c t ht, iblk_7 m c t ht, iblk_8 m c t ht, iblk_9 m c t ht, iblk_10 m c t ht, iblk_11 m c t ht]
  have e : (⟨2048 * (t.val / 4) + (512 * (t.val % 4) + r.val), by omega⟩ : Fin 16384) = ⟨512 * t.val + r.val, by omega⟩ :=
    Fin.ext (by show 2048 * (t.val / 4) + (512 * (t.val % 4) + r.val) = 512 * t.val + r.val; omega)
  have em : ∀ n hn, modCh (iblk m c 3 t) n hn = Cert.TailRefIdeal.Tail.modAt (arg3 m c) n hn ⟨t.val / 4, by omega⟩ :=
    fun n hn => funext fun k => iblk_3 m c t ht _
  simp only [Cert.TailRefIdeal.Tail.rowOf, em, e]

/-- The result's array. -/
def resultArr : S16384x1024.Idx → EReal := fun y =>
  rowR (arg0 m c) (arg1 m c) (arg2 m c) (arg3 m c) (arg4 m c) (arg5 m c) (arg6 m c) (arg7 m c) (arg8 m c) (arg9 m c) (arg10 m c) (arg11 m c) ⟨(y 0).val / 2048, by have : (y 0).val < 16384 := (y 0).isLt; omega⟩ ⟨(y 0).val % 2048, by omega⟩ ⟨(y 1).val, (y 1).isLt⟩

theorem emb12_0 (t : Fin cfg0.N) (y : S512x1024.Idx) : ((((cfg0.win 12).blk t).view.emb y) 0 : ℕ) = t.val * 512 + (y 0).val := by
  blk_simp
  rw [index12 t]
  simp
theorem emb12_1 (t : Fin cfg0.N) (y : S512x1024.Idx) : ((((cfg0.win 12).blk t).view.emb y) 1 : ℕ) = (y 1).val := by
  blk_simp
  rw [index12 t]
  simp

theorem result_point (t : Fin cfg0.N) (y : S512x1024.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resultArr m c (((cfg0.win 12).blk t).view.emb y) := by
  have ht : t.val < 32 := t.isLt
  have h0 : (y 0).val < 512 := (y 0).isLt
  have e0 := emb12_0 t y
  have e1 := emb12_1 t y
  rw [out_apply, row_eq m c t ht]
  generalize ((cfg0.win 12).blk t).view.emb y = Y at e0 e1 ⊢
  unfold resultArr
  congr 1
  · exact Fin.ext (by show t.val / 4 = (Y 0).val / 2048; omega)
  · exact Fin.ext (by show 512 * (t.val % 4) + (y 0).val = (Y 0).val % 2048; omega)
  · exact Fin.ext e1.symm

theorem covers12 : (cfg0.win 12).Covers := by decide +kernel

theorem result_array : (dats m 0 c).arrAt 12 cfg0.N = resultArr m c := by
  refine (dats m 0 c).arrAt_eq_of_covers 12 _ covers12 fun t hf y => ?_
  rw [after0_12]
  have hp := result_point m c t
  generalize out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = Z at hp ⊢
  exact hp y

theorem result_ref : resultArr m c = val_main_v105 (F := Ideal) (arg0 m c) (arg1 m c) (arg2 m c) (arg3 m c) (arg4 m c) (arg5 m c) (arg6 m c) (arg7 m c) (arg8 m c) (arg9 m c) (arg10 m c) (arg11 m c) := by
  funext y
  refine Eq.trans ?_ (congrArg (val_main_v105 (F := Ideal) (arg0 m c) (arg1 m c) (arg2 m c) (arg3 m c) (arg4 m c) (arg5 m c) (arg6 m c) (arg7 m c) (arg8 m c) (arg9 m c) (arg10 m c) (arg11 m c))
    (show ix2 (⟨(y 0).val, (y 0).isLt⟩ : Fin 16384) (⟨(y 1).val, (y 1).isLt⟩ : Fin 1024) = y from funext fun a => by fin_cases a <;> rfl))
  rw [result_apply]
  rfl

/-- The reference's stage at arguments that agree with the kernel's. -/
theorem ref_args (m' : (ℓ : Loc Cert.TailRefIdeal.nD Cert.TailRefIdeal.τ Cert.TailRefIdeal.sig) → Buf (Elt Ideal) ℓ)
    (h : m' ((c.tc : Thread Cert.TailRefIdeal.nD Cert.TailRefIdeal.τ).loc Cert.TailRefIdeal.main_arg0) = m ((c.tc : Thread nD τ).loc main_arg0)
      ∧ m' ((c.tc : Thread Cert.TailRefIdeal.nD Cert.TailRefIdeal.τ).loc Cert.TailRefIdeal.main_arg1) = m ((c.tc : Thread nD τ).loc main_arg1)
      ∧ m' ((c.tc : Thread Cert.TailRefIdeal.nD Cert.TailRefIdeal.τ).loc Cert.TailRefIdeal.main_arg2) = m ((c.tc : Thread nD τ).loc main_arg2)
      ∧ m' ((c.tc : Thread Cert.TailRefIdeal.nD Cert.TailRefIdeal.τ).loc Cert.TailRefIdeal.main_arg3) = m ((c.tc : Thread nD τ).loc main_arg3)
      ∧ m' ((c.tc : Thread Cert.TailRefIdeal.nD Cert.TailRefIdeal.τ).loc Cert.TailRefIdeal.main_arg4) = m ((c.tc : Thread nD τ).loc main_arg4)
      ∧ m' ((c.tc : Thread Cert.TailRefIdeal.nD Cert.TailRefIdeal.τ).loc Cert.TailRefIdeal.main_arg5) = m ((c.tc : Thread nD τ).loc main_arg5)
      ∧ m' ((c.tc : Thread Cert.TailRefIdeal.nD Cert.TailRefIdeal.τ).loc Cert.TailRefIdeal.main_arg6) = m ((c.tc : Thread nD τ).loc main_arg6)
      ∧ m' ((c.tc : Thread Cert.TailRefIdeal.nD Cert.TailRefIdeal.τ).loc Cert.TailRefIdeal.main_arg7) = m ((c.tc : Thread nD τ).loc main_arg7)
      ∧ m' ((c.tc : Thread Cert.TailRefIdeal.nD Cert.TailRefIdeal.τ).loc Cert.TailRefIdeal.main_arg8) = m ((c.tc : Thread nD τ).loc main_arg8)
      ∧ m' ((c.tc : Thread Cert.TailRefIdeal.nD Cert.TailRefIdeal.τ).loc Cert.TailRefIdeal.main_arg9) = m ((c.tc : Thread nD τ).loc main_arg9)
      ∧ m' ((c.tc : Thread Cert.TailRefIdeal.nD Cert.TailRefIdeal.τ).loc Cert.TailRefIdeal.main_arg10) = m ((c.tc : Thread nD τ).loc main_arg10)
      ∧ m' ((c.tc : Thread Cert.TailRefIdeal.nD Cert.TailRefIdeal.τ).loc Cert.TailRefIdeal.main_arg11) = m ((c.tc : Thread nD τ).loc main_arg11)) :
    val_main_v105 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) (m' ((c.tc : Thread Cert.TailRefIdeal.nD Cert.TailRefIdeal.τ).loc Cert.TailRefIdeal.main_arg11)) = val_main_v105 (F := Ideal) (arg0 m c) (arg1 m c) (arg2 m c) (arg3 m c) (arg4 m c) (arg5 m c) (arg6 m c) (arg7 m c) (arg8 m c) (arg9 m c) (arg10 m c) (arg11 m c) := by
  obtain ⟨a0, a1, a2, a3, a4, a5, a6, a7, a8, a9, a10, a11⟩ := h
  rw [a0, a1, a2, a3, a4, a5, a6, a7, a8, a9, a10, a11]

/-- THE VALUE CLAIM of the tail. -/
theorem value : Cert.algebraic_TailIdeal_TailRefIdeal (hTailIdeal := Cert.TailIdeal.Gen.facts)
    (hTailRefIdeal := Cert.TailRefIdeal.Gen.facts) := by
  intro m g m' g' _ hargs
  refine ⟨fun c => resultArr m c, ?_, ?_⟩
  · exact (θ_run defs _ _).mono (fun _ h c => ⟨(h c).1.trans (result_array m c), (h c).2⟩) (Cert.TailIdeal.Value.run_blocks m g)
  · refine (θ_run Cert.TailRefIdeal.defs _ _).mono (fun _ h c => ⟨?_, (h c).2⟩) (Cert.TailRefIdeal.Value.run m' g')
    refine (h c).1.trans ((val_main_v105_eq _).trans ?_)
    refine Eq.trans ?_ (result_ref m c).symm
    exact ref_args m c m' (hargs c)

end Cert.TailIdeal.Tail

end
-- ==== Proof.ProjHost.lean ====
/-
  The host code before the projection's call, one operation at a time: the buffer that an operation writes holds its function
  of the buffers that it reads, all of them as they are when the call starts (no buffer is written twice).
-/
module

public import proofs.«01_k».proof.Proof.Gen.ProjIdeal.Value
public import Idealize.ShloMosaic.Lib.Pointwise
public import Idealize.ShloMosaic.Lib.Pipeline.ValueKit
public import Idealize.ShloMosaic.Lib.Claim

@[expose] public section

set_option maxRecDepth 16384
set_option maxHeartbeats 4000000

noncomputable section

namespace Cert.ProjIdeal.Proj

open Cert.ProjIdeal Cert.ProjIdeal.Gen
open Idealize.ShloMosaic Idealize.ShloMosaic.TcCoe Idealize.ShloMosaic.StableHlo

section Lines

variable {τ : Topo} {sig : RefSig} {Val : EltTy → Type} {ops : List (HloOp τ sig Val)} {W : List (Ref sig .tc)}

/-- The operations' results, in order, are the references `W`. -/
def Writes (ops : List (HloOp τ sig Val)) (W : List (Ref sig .tc)) : Prop :=
  ops.map HloOp.writes = W.map fun r => {Proc.devRef (τ := τ) .tc r}

theorem kept (hW : Writes ops W) (n : ℕ) {x : Ref sig .tc} (hx : x ∉ W.drop n) (V₀ : Valuation τ sig Val) :
    after (ops.drop n) V₀ (Proc.devRef .tc x) = V₀ (Proc.devRef .tc x) := by
  refine after_of_writes_sub (W := W.drop n) _ _ (forall_writes_sub_of_map ?_) hx
  rw [List.map_drop, List.map_drop, hW]

theorem before (hW : Writes ops W) (n : ℕ) {x : Ref sig .tc} (hx : x ∉ W.drop n) (V₀ : Valuation τ sig Val) :
    after (ops.take n) V₀ (Proc.devRef .tc x) = after ops V₀ (Proc.devRef .tc x) := by
  conv_rhs => rw [← List.take_append_drop n ops, after_append, kept hW n hx]

theorem written (hW : Writes ops W) (n : ℕ) {op : HloOp τ sig Val} (hn : ops[n]? = some op) {y : Ref sig .tc} (hy : y ∉ W.drop (n + 1))
    (V₀ : Valuation τ sig Val) :
    after ops V₀ (Proc.devRef .tc y) = op.result (after (ops.take n) V₀) (Proc.devRef .tc y) := by
  have e : ops = ops.take n ++ op :: ops.drop (n + 1) := by
    obtain ⟨h, e⟩ := List.getElem?_eq_some_iff.1 hn
    rw [← e, ← List.drop_eq_getElem_cons h, List.take_append_drop]
  conv_lhs => rw [e, after_append, after_cons, kept hW (n + 1) hy]

theorem nullary_at (hW : Writes ops W) (n : ℕ) {y : Ref sig .tc} {v : y.ty.Contents Val} {hy}
    (hn : ops[n]? = some (nullary y v hy)) (oy : y ∉ W.drop (n + 1)) (V₀ : Valuation τ sig Val) :
    after ops V₀ (Proc.devRef .tc y) = v := by
  rw [written hW n hn oy, nullary_result']

theorem unary_at (hW : Writes ops W) (n : ℕ) {x y : Ref sig .tc} {f : x.ty.Contents Val → y.ty.Contents Val} {hx hy}
    (hn : ops[n]? = some (unary x y f hx hy)) (oy : y ∉ W.drop (n + 1)) (ox : x ∉ W.drop n) (V₀ : Valuation τ sig Val) :
    after ops V₀ (Proc.devRef .tc y) = f (after ops V₀ (Proc.devRef .tc x)) := by
  rw [written hW n hn oy, unary_result', before hW n ox]

theorem binary_at (hW : Writes ops W) (n : ℕ) {a b y : Ref sig .tc} {f : a.ty.Contents Val → b.ty.Contents Val → y.ty.Contents Val} {ha hb hy}
    (hn : ops[n]? = some (binary a b y f ha hb hy)) (oy : y ∉ W.drop (n + 1)) (oa : a ∉ W.drop n) (ob : b ∉ W.drop n) (V₀ : Valuation τ sig Val) :
    after ops V₀ (Proc.devRef .tc y) = f (after ops V₀ (Proc.devRef .tc a)) (after ops V₀ (Proc.devRef .tc b)) := by
  rw [written hW n hn oy, binary_result', before hW n oa, before hW n ob]

theorem ternary_at (hW : Writes ops W) (n : ℕ) {c a b y : Ref sig .tc}
    {f : c.ty.Contents Val → a.ty.Contents Val → b.ty.Contents Val → y.ty.Contents Val} {hc ha hb hy}
    (hn : ops[n]? = some (ternary c a b y f hc ha hb hy)) (oy : y ∉ W.drop (n + 1)) (oc : c ∉ W.drop n) (oa : a ∉ W.drop n) (ob : b ∉ W.drop n)
    (V₀ : Valuation τ sig Val) :
    after ops V₀ (Proc.devRef .tc y)
      = f (after ops V₀ (Proc.devRef .tc c)) (after ops V₀ (Proc.devRef .tc a)) (after ops V₀ (Proc.devRef .tc b)) := by
  rw [written hW n hn oy, ternary_result', before hW n oc, before hW n oa, before hW n ob]

theorem reshape_at (hW : Writes ops W) (n : ℕ) {x y : Ref sig .tc} {he : x.ty.elt = y.ty.elt} {hn' : x.ty.shape.ShapeCasts y.ty.shape} {hx hy}
    (hn : ops[n]? = some (reshape x y he hn' hx hy)) (oy : y ∉ W.drop (n + 1)) (ox : x ∉ W.drop n) (V₀ : Valuation τ sig Val) :
    after ops V₀ (Proc.devRef .tc y) = fun i => he ▸ shapeCast y.ty.shape (after ops V₀ (Proc.devRef .tc x)) hn' i := by
  rw [written hW n hn oy, reshape_result', before hW n ox]

theorem nary_at (hW : Writes ops W) (n : ℕ) {k : ℕ} {xs : Fin k → Ref sig .tc} {y : Ref sig .tc}
    {f : ((i : Fin k) → (xs i).ty.Contents Val) → y.ty.Contents Val} {hxs hy}
    (hn : ops[n]? = some (nary xs y f hxs hy)) (oy : y ∉ W.drop (n + 1)) (ox : ∀ i, xs i ∉ W.drop n) (V₀ : Valuation τ sig Val) :
    after ops V₀ (Proc.devRef .tc y) = f (fun i => after ops V₀ (Proc.devRef .tc (xs i))) := by
  rw [written hW n hn oy, nary_result']
  exact congrArg f (funext fun i => before hW n (ox i) V₀)

theorem untouched (hW : Writes ops W) {x : Ref sig .tc} (hx : x ∉ W) (V₀ : Valuation τ sig Val) :
    after ops V₀ (Proc.devRef .tc x) = V₀ (Proc.devRef .tc x) := kept hW 0 hx V₀

end Lines

/-- The host operations before the call. -/
abbrev hostOps : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]

/-- Their results, in order. -/
abbrev hostRes : List (Ref sig .tc) :=
  [main_c, main_c_0, main_cst, main_cst_1, main_c_2, main_c_3, main_cst_4, main_v0, main_v1, main_c_5, main_v2, main_v3, main_v4, main_v5, main_v6, main_v7, main_v8, main_c_6, main_call0_v0, main_v9, main_v10, main_v11, main_v12, main_v13, main_c_7, main_v14, main_v15, main_c_8, main_v16, main_v17, main_v18, main_v19, main_v20, main_v21, main_v22, main_v23, main_c_9, main_v24, main_v25, main_c_10, main_v26, main_v27, main_v28, main_v29, main_v30, main_v31, main_v32, main_v33, main_v34, main_v35, main_v36, main_v37, main_v38, main_v39, main_v40, main_v41, main_v42, main_v43, main_cst_11, main_v44, main_v45, main_v46, main_cst_12, main_v47, main_v48, main_v49, main_v50, main_c_13, main_call1_v0, main_v51, main_v52, main_v53, main_v54, main_v55, main_v56, main_v57, main_v58, main_v59, main_v60, main_v61, main_v62, main_v63, main_v64, main_v65, main_v66, main_c_14, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v67, main_v68, main_c_15, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v69, main_v70, main_v71, main_v72, main_cst_16, main_v73, main_v74, main_cst_17, main_v75, main_v76, main_cst_18, main_v77, main_cst_19, main_v78, main_v79, main_cst_20, main_v80, main_v81, main_v82, main_v83, main_v84, main_v85, main_v86, main_v87, main_v88, main_v89, main_v90, main_v91, main_v92, main_v93, main_v94, main_v95, main_v96, main_v97, main_call4_v0, main_v98, main_cst_21, main_call5_v0, main_call5_v1, main_call5_v2, main_v99, main_cst_22, main_call6_v0, main_call6_v1, main_call6_v2, main_v100, main_cst_23, main_call7_v0, main_call7_v1, main_call7_v2, main_v101, main_v102, main_v103, main_cst_24, main_v104, main_v105, main_cst_25, main_v106, main_v107]

theorem hostWrites : Writes hostOps hostRes := rfl

variable (m : (ℓ : Loc nD τ sig) → Buf (Elt Ideal) ℓ) (c : Dev nD)

theorem at_main_arg0 : V m c main_arg0 = m ((c : Thread nD τ).loc main_arg0) := untouched hostWrites (by decide) _
theorem at_main_arg1 : V m c main_arg1 = m ((c : Thread nD τ).loc main_arg1) := untouched hostWrites (by decide) _
theorem at_main_arg2 : V m c main_arg2 = m ((c : Thread nD τ).loc main_arg2) := untouched hostWrites (by decide) _
theorem at_main_arg3 : V m c main_arg3 = m ((c : Thread nD τ).loc main_arg3) := untouched hostWrites (by decide) _
theorem at_main_arg4 : V m c main_arg4 = m ((c : Thread nD τ).loc main_arg4) := untouched hostWrites (by decide) _
theorem at_main_arg5 : V m c main_arg5 = m ((c : Thread nD τ).loc main_arg5) := untouched hostWrites (by decide) _
theorem at_main_arg6 : V m c main_arg6 = m ((c : Thread nD τ).loc main_arg6) := untouched hostWrites (by decide) _
theorem at_main_arg7 : V m c main_arg7 = m ((c : Thread nD τ).loc main_arg7) := untouched hostWrites (by decide) _
theorem at_main_arg8 : V m c main_arg8 = m ((c : Thread nD τ).loc main_arg8) := untouched hostWrites (by decide) _
theorem at_main_c : V m c main_c = (fun i => lit0 (S32.rowMajor i)) := nullary_at hostWrites 0 (y := main_c) rfl (by decide) _
theorem at_main_c_0 : V m c main_c_0 = (constantI S32 1 0#1) := nullary_at hostWrites 1 (y := main_c_0) rfl (by decide) _
theorem at_main_cst : V m c main_cst = (fun i => FloatOps.ofBits (F := Ideal) .f32 (lit1 (S640x1.rowMajor i))) := nullary_at hostWrites 2 (y := main_cst) rfl (by decide) _
theorem at_main_cst_1 : V m c main_cst_1 = (fun i => FloatOps.ofBits (F := Ideal) .f32 (lit2 (S128.rowMajor i))) := nullary_at hostWrites 3 (y := main_cst_1) rfl (by decide) _
theorem at_main_c_2 : V m c main_c_2 = (fun i => lit3 (S128.rowMajor i)) := nullary_at hostWrites 4 (y := main_c_2) rfl (by decide) _
theorem at_main_c_3 : V m c main_c_3 = (fun i => lit4 (S128.rowMajor i)) := nullary_at hostWrites 5 (y := main_c_3) rfl (by decide) _
theorem at_main_cst_4 : V m c main_cst_4 = (fun i => FloatOps.ofBits (F := Ideal) .f32 (lit5 (S128.rowMajor i))) := nullary_at hostWrites 6 (y := main_cst_4) rfl (by decide) _
theorem at_main_v0 : V m c main_v0 = shapeCast S4x256x8x96 (V m c main_arg5) shapeCasts_S4x256x768_S4x256x8x96 := reshape_at hostWrites 7 (x := main_arg5) (y := main_v0) rfl (by decide) (by decide) _
theorem at_main_v1 : V m c main_v1 = ((extractStridedSlice S4x256x8x32 ![0, 0, 0, 64] · slices_S4x256x8x96_S4x256x8x32_0_0_0_64) : (⟨S4x256x8x96, .f32⟩ : BufTy).Contents (Elt Ideal) → (⟨S4x256x8x32, .f32⟩ : BufTy).Contents (Elt Ideal)) (V m c main_v0) := unary_at hostWrites 8 (x := main_v0) (y := main_v1) rfl (by decide) (by decide) _
theorem at_main_c_5 : V m c main_c_5 = (constantI S_ 32 32#32) := nullary_at hostWrites 9 (y := main_c_5) rfl (by decide) _
theorem at_main_v2 : V m c main_v2 = (broadcastInDim S32 ![] bcast_S_S32 : (⟨S_, .i32⟩ : BufTy).Contents (Elt Ideal) → (⟨S32, .i32⟩ : BufTy).Contents (Elt Ideal)) (V m c main_c_5) := unary_at hostWrites 10 (x := main_c_5) (y := main_v2) rfl (by decide) (by decide) _
theorem at_main_v3 : V m c main_v3 = (addi : (⟨S32, .i32⟩ : BufTy).Contents (Elt Ideal) → (⟨S32, .i32⟩ : BufTy).Contents (Elt Ideal) → (⟨S32, .i32⟩ : BufTy).Contents (Elt Ideal)) (V m c main_c) (V m c main_v2) := binary_at hostWrites 11 (a := main_c) (b := main_v2) (y := main_v3) rfl (by decide) (by decide) (by decide) _
theorem at_main_v4 : V m c main_v4 = (select : (⟨S32, .i1⟩ : BufTy).Contents (Elt Ideal) → (⟨S32, .i32⟩ : BufTy).Contents (Elt Ideal) → (⟨S32, .i32⟩ : BufTy).Contents (Elt Ideal) → (⟨S32, .i32⟩ : BufTy).Contents (Elt Ideal)) (V m c main_c_0) (V m c main_v3) (V m c main_c) := ternary_at hostWrites 12 (c := main_c_0) (a := main_v3) (b := main_c) (y := main_v4) rfl (by decide) (by decide) (by decide) (by decide) _
theorem at_main_v5 : V m c main_v5 = (broadcastInDim S32x1 ![0] bcast_S32_S32x1_0 : (⟨S32, .i32⟩ : BufTy).Contents (Elt Ideal) → (⟨S32x1, .i32⟩ : BufTy).Contents (Elt Ideal)) (V m c main_v4) := unary_at hostWrites 13 (x := main_v4) (y := main_v5) rfl (by decide) (by decide) _
theorem at_main_v6 : V m c main_v6 = ((fun x i => Host.gather gather_S4x256x8x32_S32x1_S4x256x8x32_012_3_n_n_3_1_425681 x i) : (⟨S4x256x8x32, .f32⟩ : BufTy).Contents (Elt Ideal) → (⟨S32x1, .i32⟩ : BufTy).Contents (Elt Ideal) → (⟨S4x256x8x32, .f32⟩ : BufTy).Contents (Elt Ideal)) (V m c main_v1) (V m c main_v5) := binary_at hostWrites 14 (a := main_v1) (b := main_v5) (y := main_v6) rfl (by decide) (by decide) (by decide) _
theorem at_main_v7 : V m c main_v7 = ((fun a b => concatenate S4x256x8x128 3 [⟨S4x256x8x96, a⟩, ⟨S4x256x8x32, b⟩] concatenates_S4x256x8x96_S4x256x8x32_S4x256x8x128_d3) : (⟨S4x256x8x96, .f32⟩ : BufTy).Contents (Elt Ideal) → (⟨S4x256x8x32, .f32⟩ : BufTy).Contents (Elt Ideal) → (⟨S4x256x8x128, .f32⟩ : BufTy).Contents (Elt Ideal)) (V m c main_v0) (V m c main_v6) := binary_at hostWrites 15 (a := main_v0) (b := main_v6) (y := main_v7) rfl (by decide) (by decide) (by decide) _
theorem at_main_v8 : V m c main_v8 = shapeCast S4x128x8x64 (V m c main_arg7) shapeCasts_S4x128x512_S4x128x8x64 := reshape_at hostWrites 16 (x := main_arg7) (y := main_v8) rfl (by decide) (by decide) _
theorem at_main_c_6 : V m c main_c_6 = (constantI S_ 32 0#32) := nullary_at hostWrites 17 (y := main_c_6) rfl (by decide) _
theorem at_main_call0_v0 : V m c main_call0_v0 = ((sitofp (F := Ideal) .f32) : (⟨S_, .i32⟩ : BufTy).Contents (Elt Ideal) → (⟨S_, .f32⟩ : BufTy).Contents (Elt Ideal)) (V m c main_c_6) := unary_at hostWrites 18 (x := main_c_6) (y := main_call0_v0) rfl (by decide) (by decide) _
theorem at_main_v9 : V m c main_v9 = ((fun x v => pad S4x128x8x128 ![0, 0, 0, 0] ![0, 0, 0, 64] ![0, 0, 0, 0] x v pads_S4x128x8x64_S4x128x8x128_000_000_000_0640 h_S_) : (⟨S4x128x8x64, .f32⟩ : BufTy).Contents (Elt Ideal) → (⟨S_, .f32⟩ : BufTy).Contents (Elt Ideal) → (⟨S4x128x8x128, .f32⟩ : BufTy).Contents (Elt Ideal)) (V m c main_v8) (V m c main_call0_v0) := binary_at hostWrites 19 (a := main_v8) (b := main_call0_v0) (y := main_v9) rfl (by decide) (by decide) (by decide) _
theorem at_main_v10 : V m c main_v10 = (iotaInDim S32 32 0) := nullary_at hostWrites 20 (y := main_v10) rfl (by decide) _
theorem at_main_v11 : V m c main_v11 = (broadcastInDim S32x1 ![0] bcast_S32_S32x1_0 : (⟨S32, .i32⟩ : BufTy).Contents (Elt Ideal) → (⟨S32x1, .i32⟩ : BufTy).Contents (Elt Ideal)) (V m c main_v10) := unary_at hostWrites 21 (x := main_v10) (y := main_v11) rfl (by decide) (by decide) _
theorem at_main_v12 : V m c main_v12 = (iotaInDim S128 32 0) := nullary_at hostWrites 22 (y := main_v12) rfl (by decide) _
theorem at_main_v13 : V m c main_v13 = (broadcastInDim S1x128 ![1] bcast_S128_S1x128_1 : (⟨S128, .i32⟩ : BufTy).Contents (Elt Ideal) → (⟨S1x128, .i32⟩ : BufTy).Contents (Elt Ideal)) (V m c main_v12) := unary_at hostWrites 23 (x := main_v12) (y := main_v13) rfl (by decide) (by decide) _
theorem at_main_c_7 : V m c main_c_7 = (constantI S_ 32 31#32) := nullary_at hostWrites 24 (y := main_c_7) rfl (by decide) _
theorem at_main_v14 : V m c main_v14 = (broadcastInDim S1x128 ![] bcast_S_S1x128 : (⟨S_, .i32⟩ : BufTy).Contents (Elt Ideal) → (⟨S1x128, .i32⟩ : BufTy).Contents (Elt Ideal)) (V m c main_c_7) := unary_at hostWrites 25 (x := main_c_7) (y := main_v14) rfl (by decide) (by decide) _
theorem at_main_v15 : V m c main_v15 = (andi : (⟨S1x128, .i32⟩ : BufTy).Contents (Elt Ideal) → (⟨S1x128, .i32⟩ : BufTy).Contents (Elt Ideal) → (⟨S1x128, .i32⟩ : BufTy).Contents (Elt Ideal)) (V m c main_v13) (V m c main_v14) := binary_at hostWrites 26 (a := main_v13) (b := main_v14) (y := main_v15) rfl (by decide) (by decide) (by decide) _
theorem at_main_c_8 : V m c main_c_8 = (constantI S_ 32 64#32) := nullary_at hostWrites 27 (y := main_c_8) rfl (by decide) _
theorem at_main_v16 : V m c main_v16 = (broadcastInDim S1x128 ![] bcast_S_S1x128 : (⟨S_, .i32⟩ : BufTy).Contents (Elt Ideal) → (⟨S1x128, .i32⟩ : BufTy).Contents (Elt Ideal)) (V m c main_c_8) := unary_at hostWrites 28 (x := main_c_8) (y := main_v16) rfl (by decide) (by decide) _
theorem at_main_v17 : V m c main_v17 = (cmpi .sge : (⟨S1x128, .i32⟩ : BufTy).Contents (Elt Ideal) → (⟨S1x128, .i32⟩ : BufTy).Contents (Elt Ideal) → (⟨S1x128, .i1⟩ : BufTy).Contents (Elt Ideal)) (V m c main_v13) (V m c main_v16) := binary_at hostWrites 29 (a := main_v13) (b := main_v16) (y := main_v17) rfl (by decide) (by decide) (by decide) _
theorem at_main_v18 : V m c main_v18 = (broadcastInDim S32x128 ![0, 1] bcast_S1x128_S32x128_0_1 : (⟨S1x128, .i32⟩ : BufTy).Contents (Elt Ideal) → (⟨S32x128, .i32⟩ : BufTy).Contents (Elt Ideal)) (V m c main_v15) := unary_at hostWrites 30 (x := main_v15) (y := main_v18) rfl (by decide) (by decide) _
theorem at_main_v19 : V m c main_v19 = (broadcastInDim S32x128 ![0, 1] bcast_S32x1_S32x128_0_1 : (⟨S32x1, .i32⟩ : BufTy).Contents (Elt Ideal) → (⟨S32x128, .i32⟩ : BufTy).Contents (Elt Ideal)) (V m c main_v11) := unary_at hostWrites 31 (x := main_v11) (y := main_v19) rfl (by decide) (by decide) _
theorem at_main_v20 : V m c main_v20 = (cmpi .eq : (⟨S32x128, .i32⟩ : BufTy).Contents (Elt Ideal) → (⟨S32x128, .i32⟩ : BufTy).Contents (Elt Ideal) → (⟨S32x128, .i1⟩ : BufTy).Contents (Elt Ideal)) (V m c main_v18) (V m c main_v19) := binary_at hostWrites 32 (a := main_v18) (b := main_v19) (y := main_v20) rfl (by decide) (by decide) (by decide) _
theorem at_main_v21 : V m c main_v21 = (broadcastInDim S32x128 ![0, 1] bcast_S1x128_S32x128_0_1 : (⟨S1x128, .i1⟩ : BufTy).Contents (Elt Ideal) → (⟨S32x128, .i1⟩ : BufTy).Contents (Elt Ideal)) (V m c main_v17) := unary_at hostWrites 33 (x := main_v17) (y := main_v21) rfl (by decide) (by decide) _
theorem at_main_v22 : V m c main_v22 = (andi : (⟨S32x128, .i1⟩ : BufTy).Contents (Elt Ideal) → (⟨S32x128, .i1⟩ : BufTy).Contents (Elt Ideal) → (⟨S32x128, .i1⟩ : BufTy).Contents (Elt Ideal)) (V m c main_v21) (V m c main_v20) := binary_at hostWrites 34 (a := main_v21) (b := main_v20) (y := main_v22) rfl (by decide) (by decide) (by decide) _
theorem at_main_v23 : V m c main_v23 = (uitofp (F := Ideal) .f32 : (⟨S32x128, .i1⟩ : BufTy).Contents (Elt Ideal) → (⟨S32x128, .f32⟩ : BufTy).Contents (Elt Ideal)) (V m c main_v22) := unary_at hostWrites 35 (x := main_v22) (y := main_v23) rfl (by decide) (by decide) _
theorem at_main_c_9 : V m c main_c_9 = (constantI S_ 32 64#32) := nullary_at hostWrites 36 (y := main_c_9) rfl (by decide) _
theorem at_main_v24 : V m c main_v24 = (broadcastInDim S1x128 ![] bcast_S_S1x128 : (⟨S_, .i32⟩ : BufTy).Contents (Elt Ideal) → (⟨S1x128, .i32⟩ : BufTy).Contents (Elt Ideal)) (V m c main_c_9) := unary_at hostWrites 37 (x := main_c_9) (y := main_v24) rfl (by decide) (by decide) _
theorem at_main_v25 : V m c main_v25 = (cmpi .sge : (⟨S1x128, .i32⟩ : BufTy).Contents (Elt Ideal) → (⟨S1x128, .i32⟩ : BufTy).Contents (Elt Ideal) → (⟨S1x128, .i1⟩ : BufTy).Contents (Elt Ideal)) (V m c main_v13) (V m c main_v24) := binary_at hostWrites 38 (a := main_v13) (b := main_v24) (y := main_v25) rfl (by decide) (by decide) (by decide) _
theorem at_main_c_10 : V m c main_c_10 = (constantI S_ 32 8#32) := nullary_at hostWrites 39 (y := main_c_10) rfl (by decide) _
theorem at_main_v26 : V m c main_v26 = (broadcastInDim S1x128 ![] bcast_S_S1x128 : (⟨S_, .i32⟩ : BufTy).Contents (Elt Ideal) → (⟨S1x128, .i32⟩ : BufTy).Contents (Elt Ideal)) (V m c main_c_10) := unary_at hostWrites 40 (x := main_c_10) (y := main_v26) rfl (by decide) (by decide) _
theorem at_main_v27 : V m c main_v27 = (xori : (⟨S1x128, .i32⟩ : BufTy).Contents (Elt Ideal) → (⟨S1x128, .i32⟩ : BufTy).Contents (Elt Ideal) → (⟨S1x128, .i32⟩ : BufTy).Contents (Elt Ideal)) (V m c main_v15) (V m c main_v26) := binary_at hostWrites 41 (a := main_v15) (b := main_v26) (y := main_v27) rfl (by decide) (by decide) (by decide) _
theorem at_main_v28 : V m c main_v28 = (broadcastInDim S32x128 ![0, 1] bcast_S1x128_S32x128_0_1 : (⟨S1x128, .i32⟩ : BufTy).Contents (Elt Ideal) → (⟨S32x128, .i32⟩ : BufTy).Contents (Elt Ideal)) (V m c main_v27) := unary_at hostWrites 42 (x := main_v27) (y := main_v28) rfl (by decide) (by decide) _
theorem at_main_v29 : V m c main_v29 = (broadcastInDim S32x128 ![0, 1] bcast_S32x1_S32x128_0_1 : (⟨S32x1, .i32⟩ : BufTy).Contents (Elt Ideal) → (⟨S32x128, .i32⟩ : BufTy).Contents (Elt Ideal)) (V m c main_v11) := unary_at hostWrites 43 (x := main_v11) (y := main_v29) rfl (by decide) (by decide) _
theorem at_main_v30 : V m c main_v30 = (cmpi .eq : (⟨S32x128, .i32⟩ : BufTy).Contents (Elt Ideal) → (⟨S32x128, .i32⟩ : BufTy).Contents (Elt Ideal) → (⟨S32x128, .i1⟩ : BufTy).Contents (Elt Ideal)) (V m c main_v28) (V m c main_v29) := binary_at hostWrites 44 (a := main_v28) (b := main_v29) (y := main_v30) rfl (by decide) (by decide) (by decide) _
theorem at_main_v31 : V m c main_v31 = (broadcastInDim S32x128 ![0, 1] bcast_S1x128_S32x128_0_1 : (⟨S1x128, .i1⟩ : BufTy).Contents (Elt Ideal) → (⟨S32x128, .i1⟩ : BufTy).Contents (Elt Ideal)) (V m c main_v25) := unary_at hostWrites 45 (x := main_v25) (y := main_v31) rfl (by decide) (by decide) _
theorem at_main_v32 : V m c main_v32 = (andi : (⟨S32x128, .i1⟩ : BufTy).Contents (Elt Ideal) → (⟨S32x128, .i1⟩ : BufTy).Contents (Elt Ideal) → (⟨S32x128, .i1⟩ : BufTy).Contents (Elt Ideal)) (V m c main_v31) (V m c main_v30) := binary_at hostWrites 46 (a := main_v31) (b := main_v30) (y := main_v32) rfl (by decide) (by decide) (by decide) _
theorem at_main_v33 : V m c main_v33 = (uitofp (F := Ideal) .f32 : (⟨S32x128, .i1⟩ : BufTy).Contents (Elt Ideal) → (⟨S32x128, .f32⟩ : BufTy).Contents (Elt Ideal)) (V m c main_v32) := unary_at hostWrites 47 (x := main_v32) (y := main_v33) rfl (by decide) (by decide) _
theorem at_main_v34 : V m c main_v34 = shapeCast S1x32x1x128 (V m c main_v23) shapeCasts_S32x128_S1x32x1x128 := reshape_at hostWrites 48 (x := main_v23) (y := main_v34) rfl (by decide) (by decide) _
theorem at_main_v35 : V m c main_v35 = (broadcastInDim S1x32x8x128 ![0, 1, 2, 3] bcast_S1x32x1x128_S1x32x8x128_0_1_2_3 : (⟨S1x32x1x128, .f32⟩ : BufTy).Contents (Elt Ideal) → (⟨S1x32x8x128, .f32⟩ : BufTy).Contents (Elt Ideal)) (V m c main_v34) := unary_at hostWrites 49 (x := main_v34) (y := main_v35) rfl (by decide) (by decide) _
theorem at_main_v36 : V m c main_v36 = shapeCast S32x1024 (V m c main_v35) shapeCasts_S1x32x8x128_S32x1024 := reshape_at hostWrites 50 (x := main_v35) (y := main_v36) rfl (by decide) (by decide) _
theorem at_main_v37 : V m c main_v37 = (broadcastInDim S1x32x1024 ![1, 2] bcast_S32x1024_S1x32x1024_1_2 : (⟨S32x1024, .f32⟩ : BufTy).Contents (Elt Ideal) → (⟨S1x32x1024, .f32⟩ : BufTy).Contents (Elt Ideal)) (V m c main_v36) := unary_at hostWrites 51 (x := main_v36) (y := main_v37) rfl (by decide) (by decide) _
theorem at_main_v38 : V m c main_v38 = (broadcastInDim S4x32x1024 ![0, 1, 2] bcast_S1x32x1024_S4x32x1024_0_1_2 : (⟨S1x32x1024, .f32⟩ : BufTy).Contents (Elt Ideal) → (⟨S4x32x1024, .f32⟩ : BufTy).Contents (Elt Ideal)) (V m c main_v37) := unary_at hostWrites 52 (x := main_v37) (y := main_v38) rfl (by decide) (by decide) _
theorem at_main_v39 : V m c main_v39 = shapeCast S1x32x1x128 (V m c main_v33) shapeCasts_S32x128_S1x32x1x128 := reshape_at hostWrites 53 (x := main_v33) (y := main_v39) rfl (by decide) (by decide) _
theorem at_main_v40 : V m c main_v40 = (broadcastInDim S1x32x8x128 ![0, 1, 2, 3] bcast_S1x32x1x128_S1x32x8x128_0_1_2_3 : (⟨S1x32x1x128, .f32⟩ : BufTy).Contents (Elt Ideal) → (⟨S1x32x8x128, .f32⟩ : BufTy).Contents (Elt Ideal)) (V m c main_v39) := unary_at hostWrites 54 (x := main_v39) (y := main_v40) rfl (by decide) (by decide) _
theorem at_main_v41 : V m c main_v41 = shapeCast S32x1024 (V m c main_v40) shapeCasts_S1x32x8x128_S32x1024 := reshape_at hostWrites 55 (x := main_v40) (y := main_v41) rfl (by decide) (by decide) _
theorem at_main_v42 : V m c main_v42 = (broadcastInDim S1x32x1024 ![1, 2] bcast_S32x1024_S1x32x1024_1_2 : (⟨S32x1024, .f32⟩ : BufTy).Contents (Elt Ideal) → (⟨S1x32x1024, .f32⟩ : BufTy).Contents (Elt Ideal)) (V m c main_v41) := unary_at hostWrites 56 (x := main_v41) (y := main_v42) rfl (by decide) (by decide) _
theorem at_main_v43 : V m c main_v43 = (broadcastInDim S4x32x1024 ![0, 1, 2] bcast_S1x32x1024_S4x32x1024_0_1_2 : (⟨S1x32x1024, .f32⟩ : BufTy).Contents (Elt Ideal) → (⟨S4x32x1024, .f32⟩ : BufTy).Contents (Elt Ideal)) (V m c main_v42) := unary_at hostWrites 57 (x := main_v42) (y := main_v43) rfl (by decide) (by decide) _
theorem at_main_cst_11 : V m c main_cst_11 = (constant (F := Ideal) S_ .f32 0x00000000#32) := nullary_at hostWrites 58 (y := main_cst_11) rfl (by decide) _
theorem at_main_v44 : V m c main_v44 = (broadcastInDim S4x96x1024 ![] bcast_S_S4x96x1024 : (⟨S_, .f32⟩ : BufTy).Contents (Elt Ideal) → (⟨S4x96x1024, .f32⟩ : BufTy).Contents (Elt Ideal)) (V m c main_cst_11) := unary_at hostWrites 59 (x := main_cst_11) (y := main_v44) rfl (by decide) (by decide) _
theorem at_main_v45 : V m c main_v45 = shapeCast S4x128x1024 (V m c main_v9) shapeCasts_S4x128x8x128_S4x128x1024 := reshape_at hostWrites 60 (x := main_v9) (y := main_v45) rfl (by decide) (by decide) _
theorem at_main_v46 : V m c main_v46 = (concatenate S4x256x1024 1 [⟨S4x128x1024, (V m c main_v45 : (⟨S4x128x1024, .f32⟩ : BufTy).Contents (Elt Ideal))⟩, ⟨S4x32x1024, (V m c main_v38 : (⟨S4x32x1024, .f32⟩ : BufTy).Contents (Elt Ideal))⟩, ⟨S4x96x1024, (V m c main_v44 : (⟨S4x96x1024, .f32⟩ : BufTy).Contents (Elt Ideal))⟩] concatenates_S4x128x1024_S4x32x1024_S4x96x1024_S4x256x1024_d1 : (⟨S4x256x1024, .f32⟩ : BufTy).Contents (Elt Ideal)) := nary_at hostWrites 61 (xs := ![main_v45, main_v38, main_v44]) (y := main_v46) rfl (by decide) (by decide) _
theorem at_main_cst_12 : V m c main_cst_12 = (constant (F := Ideal) S_ .f32 0x00000000#32) := nullary_at hostWrites 62 (y := main_cst_12) rfl (by decide) _
theorem at_main_v47 : V m c main_v47 = (broadcastInDim S4x128x1024 ![] bcast_S_S4x128x1024 : (⟨S_, .f32⟩ : BufTy).Contents (Elt Ideal) → (⟨S4x128x1024, .f32⟩ : BufTy).Contents (Elt Ideal)) (V m c main_cst_12) := unary_at hostWrites 63 (x := main_cst_12) (y := main_v47) rfl (by decide) (by decide) _
theorem at_main_v48 : V m c main_v48 = (concatenate S4x256x1024 1 [⟨S4x128x1024, (V m c main_v47 : (⟨S4x128x1024, .f32⟩ : BufTy).Contents (Elt Ideal))⟩, ⟨S4x32x1024, (V m c main_v43 : (⟨S4x32x1024, .f32⟩ : BufTy).Contents (Elt Ideal))⟩, ⟨S4x96x1024, (V m c main_v44 : (⟨S4x96x1024, .f32⟩ : BufTy).Contents (Elt Ideal))⟩] concatenates_S4x128x1024_S4x32x1024_S4x96x1024_S4x256x1024_d1 : (⟨S4x256x1024, .f32⟩ : BufTy).Contents (Elt Ideal)) := nary_at hostWrites 64 (xs := ![main_v47, main_v43, main_v44]) (y := main_v48) rfl (by decide) (by decide) _
theorem at_main_v49 : V m c main_v49 = ((transpose S4x512x128 [0, 2, 1] · transposes_S4x128x512_S4x512x128_0_2_1) : (⟨S4x128x512, .f32⟩ : BufTy).Contents (Elt Ideal) → (⟨S4x512x128, .f32⟩ : BufTy).Contents (Elt Ideal)) (V m c main_arg8) := unary_at hostWrites 65 (x := main_arg8) (y := main_v49) rfl (by decide) (by decide) _
theorem at_main_v50 : V m c main_v50 = shapeCast S4x8x64x128 (V m c main_v49) shapeCasts_S4x512x128_S4x8x64x128 := reshape_at hostWrites 66 (x := main_v49) (y := main_v50) rfl (by decide) (by decide) _
theorem at_main_c_13 : V m c main_c_13 = (constantI S_ 32 0#32) := nullary_at hostWrites 67 (y := main_c_13) rfl (by decide) _
theorem at_main_call1_v0 : V m c main_call1_v0 = ((sitofp (F := Ideal) .f32) : (⟨S_, .i32⟩ : BufTy).Contents (Elt Ideal) → (⟨S_, .f32⟩ : BufTy).Contents (Elt Ideal)) (V m c main_c_13) := unary_at hostWrites 68 (x := main_c_13) (y := main_call1_v0) rfl (by decide) (by decide) _
theorem at_main_v51 : V m c main_v51 = ((fun x v => pad S4x8x80x128 ![0, 0, 0, 0] ![0, 0, 16, 0] ![0, 0, 0, 0] x v pads_S4x8x64x128_S4x8x80x128_000_000_0160_000 h_S_) : (⟨S4x8x64x128, .f32⟩ : BufTy).Contents (Elt Ideal) → (⟨S_, .f32⟩ : BufTy).Contents (Elt Ideal) → (⟨S4x8x80x128, .f32⟩ : BufTy).Contents (Elt Ideal)) (V m c main_v50) (V m c main_call1_v0) := binary_at hostWrites 69 (a := main_v50) (b := main_call1_v0) (y := main_v51) rfl (by decide) (by decide) (by decide) _
theorem at_main_v52 : V m c main_v52 = shapeCast S4x640x128 (V m c main_v51) shapeCasts_S4x8x80x128_S4x640x128 := reshape_at hostWrites 70 (x := main_v51) (y := main_v52) rfl (by decide) (by decide) _
theorem at_main_v53 : V m c main_v53 = ((truncf (F := Ideal) .bf16 · bitsLt_bf16_f32) : (⟨S4x1024x1440, .f32⟩ : BufTy).Contents (Elt Ideal) → (⟨S4x1024x1440, .bf16⟩ : BufTy).Contents (Elt Ideal)) (V m c main_arg3) := unary_at hostWrites 71 (x := main_arg3) (y := main_v53) rfl (by decide) (by decide) _
theorem at_main_v54 : V m c main_v54 = ((extractStridedSlice S4x1024x1024 ![0, 0, 416] · slices_S4x1024x1440_S4x1024x1024_0_0_416) : (⟨S4x1024x1440, .f32⟩ : BufTy).Contents (Elt Ideal) → (⟨S4x1024x1024, .f32⟩ : BufTy).Contents (Elt Ideal)) (V m c main_arg3) := unary_at hostWrites 72 (x := main_arg3) (y := main_v54) rfl (by decide) (by decide) _
theorem at_main_v55 : V m c main_v55 = ((truncf (F := Ideal) .bf16 · bitsLt_bf16_f32) : (⟨S4x1024x1024, .f32⟩ : BufTy).Contents (Elt Ideal) → (⟨S4x1024x1024, .bf16⟩ : BufTy).Contents (Elt Ideal)) (V m c main_v54) := unary_at hostWrites 73 (x := main_v54) (y := main_v55) rfl (by decide) (by decide) _
theorem at_main_v56 : V m c main_v56 = shapeCast S4x1x256 (V m c main_arg4) shapeCasts_S4x256_S4x1x256 := reshape_at hostWrites 74 (x := main_arg4) (y := main_v56) rfl (by decide) (by decide) _
theorem at_main_v57 : V m c main_v57 = shapeCast S4x1x128 (V m c main_arg6) shapeCasts_S4x128_S4x1x128 := reshape_at hostWrites 75 (x := main_arg6) (y := main_v57) rfl (by decide) (by decide) _
theorem at_main_v58 : V m c main_v58 = shapeCast S4x256x1024 (V m c main_v7) shapeCasts_S4x256x8x128_S4x256x1024 := reshape_at hostWrites 76 (x := main_v7) (y := main_v58) rfl (by decide) (by decide) _
theorem at_main_v59 : V m c main_v59 = ((truncf (F := Ideal) .bf16 · bitsLt_bf16_f32) : (⟨S4x256x1024, .f32⟩ : BufTy).Contents (Elt Ideal) → (⟨S4x256x1024, .bf16⟩ : BufTy).Contents (Elt Ideal)) (V m c main_v58) := unary_at hostWrites 77 (x := main_v58) (y := main_v59) rfl (by decide) (by decide) _
theorem at_main_v60 : V m c main_v60 = ((truncf (F := Ideal) .bf16 · bitsLt_bf16_f32) : (⟨S4x256x1024, .f32⟩ : BufTy).Contents (Elt Ideal) → (⟨S4x256x1024, .bf16⟩ : BufTy).Contents (Elt Ideal)) (V m c main_v46) := unary_at hostWrites 78 (x := main_v46) (y := main_v60) rfl (by decide) (by decide) _
theorem at_main_v61 : V m c main_v61 = ((truncf (F := Ideal) .bf16 · bitsLt_bf16_f32) : (⟨S4x256x1024, .f32⟩ : BufTy).Contents (Elt Ideal) → (⟨S4x256x1024, .bf16⟩ : BufTy).Contents (Elt Ideal)) (V m c main_v48) := unary_at hostWrites 79 (x := main_v48) (y := main_v61) rfl (by decide) (by decide) _
theorem at_main_v62 : V m c main_v62 = ((truncf (F := Ideal) .bf16 · bitsLt_bf16_f32) : (⟨S4x640x128, .f32⟩ : BufTy).Contents (Elt Ideal) → (⟨S4x640x128, .bf16⟩ : BufTy).Contents (Elt Ideal)) (V m c main_v52) := unary_at hostWrites 80 (x := main_v52) (y := main_v62) rfl (by decide) (by decide) _
theorem at_main_v63 : V m c main_v63 = shapeCast S4x16x1x6144 (V m c main_arg2) shapeCasts_S4x16x6144_S4x16x1x6144 := reshape_at hostWrites 81 (x := main_arg2) (y := main_v63) rfl (by decide) (by decide) _
theorem at_main_v64 : V m c main_v64 = shapeCast S16384x1024 (V m c main_arg0) shapeCasts_S8x2048x1024_S16384x1024 := reshape_at hostWrites 82 (x := main_arg0) (y := main_v64) rfl (by decide) (by decide) _
theorem at_main_v65 : V m c main_v65 = shapeCast S2048x1024 (V m c main_arg1) shapeCasts_S8x256x1024_S2048x1024 := reshape_at hostWrites 83 (x := main_arg1) (y := main_v65) rfl (by decide) (by decide) _

end Cert.ProjIdeal.Proj

end
-- ==== Proof.ProjMath.lean ====
/-
  The input projection on ONE ROW, over the extended reals: the modulated row, its product with the projection matrix and
  the scaled rows. The kernel's blocks and the reference's arrays are both read as these functions.
-/
module

public import Idealize.ShloMosaic.Lib.Pointwise

@[expose] public section

noncomputable section

namespace Cert.ProjRow

open Idealize.ShloMosaic

/-- The normalisation's epsilon, the two lengths it divides by, and the scores' scale. -/
abbrev cEps : EReal := Ideal.ofBits .f32 0x358637BD#32
abbrev cQ : EReal := Ideal.ofBits .f32 0x43800000#32
abbrev cKv : EReal := Ideal.ofBits .f32 0x43000000#32
abbrev cScale : EReal := Ideal.ofBits .f32 0x3E16C740#32

/-- The modulation `x * (1 + sc) + sh`. -/
def modul (x sc sh : Fin 1024 → EReal) (j : Fin 1024) : EReal := x j * (1 + sc j) + sh j

/-- A row times a matrix. -/
def mul {n k : ℕ} (h : Fin n → EReal) (w : Fin n → Fin k → EReal) (j : Fin k) : EReal := ∑ i, h i * w i j

/-- The row over the root of its squares' mean, times `g`. -/
def rms {n : ℕ} (N : EReal) (u g : Fin n → EReal) (j : Fin n) : EReal :=
  u j * Ideal.rsqrt (Ideal.div (∑ k, u k * u k) N + cEps) * g j

section Rows

variable (x : (⟨3, ![8, 2048, 1024]⟩ : Shape).Idx → EReal) (ctx : (⟨3, ![8, 256, 1024]⟩ : Shape).Idx → EReal)
  (mod : (⟨3, ![4, 16, 6144]⟩ : Shape).Idx → EReal) (w : (⟨3, ![4, 1024, 1440]⟩ : Shape).Idx → EReal)
  (gkv : (⟨2, ![4, 128]⟩ : Shape).Idx → EReal) (wv : (⟨3, ![4, 128, 512]⟩ : Shape).Idx → EReal)

/-- Row `R` of the two inputs one after the other, the 16384 latent rows first. -/
def inRow (R : Fin 18432) (k : Fin 1024) : EReal :=
  if h : R.val < 16384 then x (ix3 ⟨R.val / 2048, by omega⟩ ⟨R.val % 2048, by omega⟩ k)
  else ctx (ix3 ⟨(R.val - 16384) / 256, by omega⟩ ⟨(R.val - 16384) % 256, by omega⟩ k)

/-- The modulation's row: the batch of a latent row, 8 for every context row. -/
def modOf (R : Fin 18432) : Fin 16 := ⟨if R.val < 16384 then R.val / 2048 else 8, by split <;> omega⟩

/-- The modulated row, and its 1440 channels. -/
def hAt (R : Fin 18432) : Fin 1024 → EReal :=
  modul (inRow x ctx R) (fun k => mod (ix3 0 (modOf R) ⟨1024 + k.val, by omega⟩)) (fun k => mod (ix3 0 (modOf R) ⟨k.val, by omega⟩))
def projAt (R : Fin 18432) : Fin 1440 → EReal := mul (hAt x ctx mod R) (fun k j => w (ix3 0 k j))

/-- The 128 scaled channels that the keys and the values are made of. -/
def ckvAt (R : Fin 18432) : Fin 128 → EReal :=
  rms cKv (fun k => projAt x ctx mod w R ⟨256 + k.val, by omega⟩) (fun k => gkv (ix2 0 k))

/-- The local mixers' channels and the pooled ones. -/
def locAt (R : Fin 18432) (j : Fin 768) : EReal :=
  projAt x ctx mod w R ⟨416 + (if j.val < 512 then j.val else 256 + j.val), by split <;> omega⟩
def poolAt (R : Fin 18432) (j : Fin 256) : EReal := projAt x ctx mod w R ⟨928 + j.val, by omega⟩

/-- The values, transposed: 80 rows a head, 64 channels and then ones. -/
def vtAt (j : Fin 640) (R : Fin 18432) : EReal :=
  if h : j.val % 80 < 64 then mul (ckvAt x ctx mod w gkv R) (fun k j => wv (ix3 0 k j)) ⟨64 * (j.val / 80) + j.val % 80, by omega⟩ else 1

end Rows

end Cert.ProjRow

end
-- ==== Proof.ProjInput.lean ====
/-
  What the input projection's windows hold, in terms of the arguments: at grid point `t`, 512 rows of the latents (`t < 32`) or
  of the context, their modulation, and the first layer's weights.
-/
module

public import proofs.«01_k».proof.Proof.ProjHost
public import proofs.«01_k».proof.Proof.ProjMath
public import Idealize.ShloMosaic.Lib.KernelVsHost

@[expose] public section

set_option maxRecDepth 16384
set_option backward.proofsInPublic true

noncomputable section

namespace Cert.ProjIdeal.Proj

open Cert.ProjIdeal Cert.ProjIdeal.Gen Cert.ProjRow
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- The arguments, as arrays of extended reals. -/
abbrev arg0 : S8x2048x1024.Idx → EReal := m ((c : Thread nD τ).loc main_arg0)
abbrev arg1 : S8x256x1024.Idx → EReal := m ((c : Thread nD τ).loc main_arg1)
abbrev arg2 : S4x16x6144.Idx → EReal := m ((c : Thread nD τ).loc main_arg2)
abbrev arg3 : S4x1024x1440.Idx → EReal := m ((c : Thread nD τ).loc main_arg3)
abbrev arg4 : S4x256.Idx → EReal := m ((c : Thread nD τ).loc main_arg4)
abbrev arg5 : S4x256x768.Idx → EReal := m ((c : Thread nD τ).loc main_arg5)
abbrev arg6 : S4x128.Idx → EReal := m ((c : Thread nD τ).loc main_arg6)
abbrev arg7 : S4x128x512.Idx → EReal := m ((c : Thread nD τ).loc main_arg7)
abbrev arg8 : S4x128x512.Idx → EReal := m ((c : Thread nD τ).loc main_arg8)

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]
  norm_num

theorem index0_0 : ∀ t : Fin grid0.N, t.val < 32 → win0_0.index t 0 = t.val := by decide +kernel
theorem index0_1 : ∀ t : Fin grid0.N, t.val < 32 → win0_0.index t 1 = 0 := by decide +kernel
theorem index0 (t : Fin grid0.N) (ht : t.val < 32) : win0_0.index t = ![t.val, 0] := by
  funext a
  fin_cases a
  · exact index0_0 t ht
  · exact index0_1 t ht

theorem index1_0 : ∀ t : Fin grid0.N, 32 ≤ t.val → win0_1.index t 0 = t.val - 32 := by decide +kernel
theorem index1_1 : ∀ t : Fin grid0.N, 32 ≤ t.val → win0_1.index t 1 = 0 := by decide +kernel
theorem index1 (t : Fin grid0.N) (ht : 32 ≤ t.val) : win0_1.index t = ![t.val - 32, 0] := by
  funext a
  fin_cases a
  · exact index1_0 t ht
  · exact index1_1 t ht

theorem index2L_0 : ∀ t : Fin grid0.N, t.val < 32 → win0_2.index t 0 = 0 := by decide +kernel
theorem index2L_1 : ∀ t : Fin grid0.N, t.val < 32 → win0_2.index t 1 = t.val / 4 := by decide +kernel
theorem index2L_2 : ∀ t : Fin grid0.N, t.val < 32 → win0_2.index t 2 = 0 := by decide +kernel
theorem index2L_3 : ∀ t : Fin grid0.N, t.val < 32 → win0_2.index t 3 = 0 := by decide +kernel
theorem index2L (t : Fin grid0.N) (ht : t.val < 32) : win0_2.index t = ![0, t.val / 4, 0, 0] := by
  funext a
  fin_cases a
  · exact index2L_0 t ht
  · exact index2L_1 t ht
  · exact index2L_2 t ht
  · exact index2L_3 t ht

theorem index2C_0 : ∀ t : Fin grid0.N, 32 ≤ t.val → win0_2.index t 0 = 0 := by decide +kernel
theorem index2C_1 : ∀ t : Fin grid0.N, 32 ≤ t.val → win0_2.index t 1 = 8 := by decide +kernel
theorem index2C_2 : ∀ t : Fin grid0.N, 32 ≤ t.val → win0_2.index t 2 = 0 := by decide +kernel
theorem index2C_3 : ∀ t : Fin grid0.N, 32 ≤ t.val → win0_2.index t 3 = 0 := by decide +kernel
theorem index2C (t : Fin grid0.N) (ht : 32 ≤ t.val) : win0_2.index t = ![0, 8, 0, 0] := by
  funext a
  fin_cases a
  · exact index2C_0 t ht
  · exact index2C_1 t ht
  · exact index2C_2 t ht
  · exact index2C_3 t ht

theorem index3L_0 : ∀ t : Fin grid0.N, t.val < 32 → win0_3.index t 0 = t.val % 4 := by decide +kernel
theorem index3L_1 : ∀ t : Fin grid0.N, t.val < 32 → win0_3.index t 1 = 0 := by decide +kernel
theorem index3L (t : Fin grid0.N) (ht : t.val < 32) : win0_3.index t = ![t.val % 4, 0] := by
  funext a
  fin_cases a
  · exact index3L_0 t ht
  · exact index3L_1 t ht

theorem index3C_0 : ∀ t : Fin grid0.N, 32 ≤ t.val → win0_3.index t 0 = 4 := by decide +kernel
theorem index3C_1 : ∀ t : Fin grid0.N, 32 ≤ t.val → win0_3.index t 1 = 0 := by decide +kernel
theorem index3C (t : Fin grid0.N) (ht : 32 ≤ t.val) : win0_3.index t = ![4, 0] := by
  funext a
  fin_cases a
  · exact index3C_0 t ht
  · exact index3C_1 t ht

theorem index4L_0 : ∀ t : Fin grid0.N, t.val < 32 → win0_4.index t 0 = t.val % 4 := by decide +kernel
theorem index4L_1 : ∀ t : Fin grid0.N, t.val < 32 → win0_4.index t 1 = 0 := by decide +kernel
theorem index4L (t : Fin grid0.N) (ht : t.val < 32) : win0_4.index t = ![t.val % 4, 0] := by
  funext a
  fin_cases a
  · exact index4L_0 t ht
  · exact index4L_1 t ht

theorem index4C_0 : ∀ t : Fin grid0.N, 32 ≤ t.val → win0_4.index t 0 = 4 := by decide +kernel
theorem index4C_1 : ∀ t : Fin grid0.N, 32 ≤ t.val → win0_4.index t 1 = 0 := by decide +kernel
theorem index4C (t : Fin grid0.N) (ht : 32 ≤ t.val) : win0_4.index t = ![4, 0] := by
  funext a
  fin_cases a
  · exact index4C_0 t ht
  · exact index4C_1 t ht

theorem index5L_0 : ∀ t : Fin grid0.N, t.val < 32 → win0_5.index t 0 = t.val % 4 := by decide +kernel
theorem index5L_1 : ∀ t : Fin grid0.N, t.val < 32 → win0_5.index t 1 = 0 := by decide +kernel
theorem index5L (t : Fin grid0.N) (ht : t.val < 32) : win0_5.index t = ![t.val % 4, 0] := by
  funext a
  fin_cases a
  · exact index5L_0 t ht
  · exact index5L_1 t ht

theorem index5C_0 : ∀ t : Fin grid0.N, 32 ≤ t.val → win0_5.index t 0 = 4 := by decide +kernel
theorem index5C_1 : ∀ t : Fin grid0.N, 32 ≤ t.val → win0_5.index t 1 = 0 := by decide +kernel
theorem index5C (t : Fin grid0.N) (ht : 32 ≤ t.val) : win0_5.index t = ![4, 0] := by
  funext a
  fin_cases a
  · exact index5C_0 t ht
  · exact index5C_1 t ht

theorem index6_0 : ∀ t : Fin grid0.N, win0_6.index t 0 = 0 := by decide +kernel
theorem index6_1 : ∀ t : Fin grid0.N, win0_6.index t 1 = 0 := by decide +kernel
theorem index6_2 : ∀ t : Fin grid0.N, win0_6.index t 2 = 0 := by decide +kernel
theorem index6 (t : Fin grid0.N) : win0_6.index t = ![0, 0, 0] := by
  funext a
  fin_cases a
  · exact index6_0 t
  · exact index6_1 t
  · exact index6_2 t

theorem index7_0 : ∀ t : Fin grid0.N, win0_7.index t 0 = 0 := by decide +kernel
theorem index7_1 : ∀ t : Fin grid0.N, win0_7.index t 1 = 0 := by decide +kernel
theorem index7_2 : ∀ t : Fin grid0.N, win0_7.index t 2 = 0 := by decide +kernel
theorem index7 (t : Fin grid0.N) : win0_7.index t = ![0, 0, 0] := by
  funext a
  fin_cases a
  · exact index7_0 t
  · exact index7_1 t
  · exact index7_2 t

theorem index8_0 : ∀ t : Fin grid0.N, win0_8.index t 0 = 0 := by decide +kernel
theorem index8_1 : ∀ t : Fin grid0.N, win0_8.index t 1 = 0 := by decide +kernel
theorem index8_2 : ∀ t : Fin grid0.N, win0_8.index t 2 = 0 := by decide +kernel
theorem index8 (t : Fin grid0.N) : win0_8.index t = ![0, 0, 0] := by
  funext a
  fin_cases a
  · exact index8_0 t
  · exact index8_1 t
  · exact index8_2 t

theorem index9_0 : ∀ t : Fin grid0.N, win0_9.index t 0 = 0 := by decide +kernel
theorem index9_1 : ∀ t : Fin grid0.N, win0_9.index t 1 = 0 := by decide +kernel
theorem index9_2 : ∀ t : Fin grid0.N, win0_9.index t 2 = 0 := by decide +kernel
theorem index9 (t : Fin grid0.N) : win0_9.index t = ![0, 0, 0] := by
  funext a
  fin_cases a
  · exact index9_0 t
  · exact index9_1 t
  · exact index9_2 t

theorem index10_0 : ∀ t : Fin grid0.N, win0_10.index t 0 = 0 := by decide +kernel
theorem index10_1 : ∀ t : Fin grid0.N, win0_10.index t 1 = 0 := by decide +kernel
theorem index10_2 : ∀ t : Fin grid0.N, win0_10.index t 2 = 0 := by decide +kernel
theorem index10 (t : Fin grid0.N) : win0_10.index t = ![0, 0, 0] := by
  funext a
  fin_cases a
  · exact index10_0 t
  · exact index10_1 t
  · exact index10_2 t

theorem index11_0 : ∀ t : Fin grid0.N, win0_11.index t 0 = 0 := by decide +kernel
theorem index11_1 : ∀ t : Fin grid0.N, win0_11.index t 1 = 0 := by decide +kernel
theorem index11_2 : ∀ t : Fin grid0.N, win0_11.index t 2 = 0 := by decide +kernel
theorem index11 (t : Fin grid0.N) : win0_11.index t = ![0, 0, 0] := by
  funext a
  fin_cases a
  · exact index11_0 t
  · exact index11_1 t
  · exact index11_2 t

theorem index12_0 : ∀ t : Fin grid0.N, win0_12.index t 0 = 0 := by decide +kernel
theorem index12_1 : ∀ t : Fin grid0.N, win0_12.index t 1 = 0 := by decide +kernel
theorem index12_2 : ∀ t : Fin grid0.N, win0_12.index t 2 = 0 := by decide +kernel
theorem index12 (t : Fin grid0.N) : win0_12.index t = ![0, 0, 0] := by
  funext a
  fin_cases a
  · exact index12_0 t
  · exact index12_1 t
  · exact index12_2 t

theorem index13_0 : ∀ t : Fin grid0.N, win0_13.index t 0 = 0 := by decide +kernel
theorem index13_1 : ∀ t : Fin grid0.N, win0_13.index t 1 = 0 := by decide +kernel
theorem index13_2 : ∀ t : Fin grid0.N, win0_13.index t 2 = 0 := by decide +kernel
theorem index13 (t : Fin grid0.N) : win0_13.index t = ![0, 0, 0] := by
  funext a
  fin_cases a
  · exact index13_0 t
  · exact index13_1 t
  · exact index13_2 t

theorem index14_0 : ∀ t : Fin grid0.N, win0_14.index t 0 = 0 := by decide +kernel
theorem index14_1 : ∀ t : Fin grid0.N, win0_14.index t 1 = 0 := by decide +kernel
theorem index14 (t : Fin grid0.N) : win0_14.index t = ![0, 0] := by
  funext a
  fin_cases a
  · exact index14_0 t
  · exact index14_1 t

theorem iblk_0 (t : Fin cfg0.N) (ht : t.val < 32) (r : Fin 512) (k : Fin 1024) :
    (iblk m c 0 t : S512x1024.Idx → EReal) (ix2 r k) = arg0 m c (ix3 ⟨t.val / 4, by omega⟩ ⟨512 * (t.val % 4) + r.val, by omega⟩ k) := by
  have e : (iblk m c 0 t : S512x1024.Idx → EReal) (ix2 r k) = (V m c main_v64 : S16384x1024.Idx → EReal) (ix2 ⟨512 * t.val + r.val, by omega⟩ k) := by
    blk_simp [iblk]
    refine congrArg (V m c main_v64) (funext fun a => Fin.ext ?_)
    blk_simp
    rw [index0 t ht]
    fin_cases a <;> simp <;> omega
  rw [e, at_main_v64, at_main_arg0]
  refine shapeCast_apply _ _ _ (ix3 ⟨t.val / 4, by omega⟩ ⟨512 * (t.val % 4) + r.val, by omega⟩ k) ?_
  rw [Shape.rowMajor_val_three, Shape.rowMajor_val_two]
  show (t.val / 4 * 2048 + (512 * (t.val % 4) + r.val)) * 1024 + k.val = (512 * t.val + r.val) * 1024 + k.val
  omega

theorem iblk_1 (t : Fin cfg0.N) (ht : 32 ≤ t.val) (r : Fin 512) (k : Fin 1024) :
    (iblk m c 1 t : S512x1024.Idx → EReal) (ix2 r k)
      = arg1 m c (ix3 ⟨(512 * (t.val - 32) + r.val) / 256, by have : t.val < 36 := t.isLt; omega⟩ ⟨(512 * (t.val - 32) + r.val) % 256, by omega⟩ k) := by
  have h36 : t.val < 36 := t.isLt
  have e : (iblk m c 1 t : S512x1024.Idx → EReal) (ix2 r k) = (V m c main_v65 : S2048x1024.Idx → EReal) (ix2 ⟨512 * (t.val - 32) + r.val, by omega⟩ k) := by
    blk_simp [iblk]
    refine congrArg (V m c main_v65) (funext fun a => Fin.ext ?_)
    blk_simp
    rw [index1 t ht]
    fin_cases a <;> simp <;> omega
  rw [e, at_main_v65, at_main_arg1]
  refine shapeCast_apply _ _ _ (ix3 ⟨(512 * (t.val - 32) + r.val) / 256, by omega⟩ ⟨(512 * (t.val - 32) + r.val) % 256, by omega⟩ k) ?_
  rw [Shape.rowMajor_val_three, Shape.rowMajor_val_two]
  show ((512 * (t.val - 32) + r.val) / 256 * 256 + (512 * (t.val - 32) + r.val) % 256) * 1024 + k.val = (512 * (t.val - 32) + r.val) * 1024 + k.val
  omega

theorem mod_host (n : Fin 16) (k : Fin 6144) : (V m c main_v63 : S4x16x1x6144.Idx → EReal) (ix4 0 n 0 k) = arg2 m c (ix3 0 n k) := by
  rw [at_main_v63, at_main_arg2]
  refine shapeCast_apply _ _ _ (ix3 0 n k) ?_
  rw [Shape.rowMajor_val_three, Shape.rowMajor_val_four]
  show (0 * 16 + n.val) * 6144 + k.val = ((0 * 16 + n.val) * 1 + 0) * 6144 + k.val
  omega

theorem iblk_2L (t : Fin cfg0.N) (ht : t.val < 32) (k : Fin 6144) :
    (iblk m c 2 t : S1x1x1x6144.Idx → EReal) (ix4 0 0 0 k) = arg2 m c (ix3 0 ⟨t.val / 4, by omega⟩ k) := by
  rw [← mod_host]
  blk_simp [iblk]
  refine congrArg (V m c main_v63) (funext fun a => Fin.ext ?_)
  blk_simp
  rw [index2L t ht]
  fin_cases a <;> simp <;> omega

theorem iblk_2C (t : Fin cfg0.N) (ht : 32 ≤ t.val) (k : Fin 6144) :
    (iblk m c 2 t : S1x1x1x6144.Idx → EReal) (ix4 0 0 0 k) = arg2 m c (ix3 0 8 k) := by
  rw [← mod_host]
  blk_simp [iblk]
  refine congrArg (V m c main_v63) (funext fun a => Fin.ext ?_)
  blk_simp
  rw [index2C t ht]
  fin_cases a <;> simp <;> omega

theorem x_6 (t : Fin cfg0.N) (i : Fin 1024) (j : Fin 512) :
    (X0_6 m c t : S1x1024x512.Idx → EReal) (ix3 0 i j) = arg3 m c (ix3 0 i ⟨j.val, by omega⟩) := by
  have e : (X0_6 m c t : S1x1024x512.Idx → EReal) (ix3 0 i j) = (V m c main_v53 : S4x1024x1440.Idx → EReal) (ix3 0 i ⟨j.val, by omega⟩) := by
    unfold X0_6 Pipeline.Window.fill
    rw [dif_pos (moved0_6 t _)]
    blk_simp [iblk]
    refine congrArg (V m c main_v53) (funext fun a => Fin.ext ?_)
    blk_simp
    rw [index6 t]
    fin_cases a <;> simp <;> omega
  rw [e, at_main_v53, at_main_arg3]
  rfl

theorem iblk_7 (t : Fin cfg0.N) (i : Fin 1024) (j : Fin 1024) :
    (iblk m c 7 t : S1x1024x1024.Idx → EReal) (ix3 0 i j) = arg3 m c (ix3 0 i ⟨416 + j.val, by omega⟩) := by
  have e : (iblk m c 7 t : S1x1024x1024.Idx → EReal) (ix3 0 i j) = (V m c main_v55 : S4x1024x1024.Idx → EReal) (ix3 0 i j) := by
    blk_simp [iblk]
    refine congrArg (V m c main_v55) (funext fun a => Fin.ext ?_)
    blk_simp
    rw [index7 t]
    fin_cases a <;> simp <;> omega
  rw [e, at_main_v55, at_main_v54, at_main_arg3]
  refine Eq.trans (b := extractStridedSlice S4x1024x1024 ![0, 0, 416] (arg3 m c) slices_S4x1024x1440_S4x1024x1024_0_0_416 (ix3 0 i j)) rfl ?_
  exact extractStridedSlice_apply _ _ _ _ _ (fun a => by fin_cases a <;> simp <;> rfl)

theorem iblk_8 (t : Fin cfg0.N) (k : Fin 256) :
    (iblk m c 8 t : S1x1x256.Idx → EReal) (ix3 0 0 k) = arg4 m c (ix2 0 k) := by
  have e : (iblk m c 8 t : S1x1x256.Idx → EReal) (ix3 0 0 k) = (V m c main_v56 : S4x1x256.Idx → EReal) (ix3 0 0 k) := by
    blk_simp [iblk]
    refine congrArg (V m c main_v56) (funext fun a => Fin.ext ?_)
    blk_simp
    rw [index8 t]
    fin_cases a <;> simp <;> omega
  rw [e, at_main_v56, at_main_arg4]
  refine shapeCast_apply _ _ _ (ix2 0 k) ?_
  rw [Shape.rowMajor_val_two, Shape.rowMajor_val_three]
  rfl

theorem iblk_9 (t : Fin cfg0.N) (k : Fin 128) :
    (iblk m c 9 t : S1x1x128.Idx → EReal) (ix3 0 0 k) = arg6 m c (ix2 0 k) := by
  have e : (iblk m c 9 t : S1x1x128.Idx → EReal) (ix3 0 0 k) = (V m c main_v57 : S4x1x128.Idx → EReal) (ix3 0 0 k) := by
    blk_simp [iblk]
    refine congrArg (V m c main_v57) (funext fun a => Fin.ext ?_)
    blk_simp
    rw [index9 t]
    fin_cases a <;> simp <;> omega
  rw [e, at_main_v57, at_main_arg6]
  refine shapeCast_apply _ _ _ (ix2 0 k) ?_
  rw [Shape.rowMajor_val_two, Shape.rowMajor_val_three]
  rfl

/-- The values' matrix, transposed and with 16 rows of zeros after each head's 64. -/
theorem wvt_host (j : Fin 640) (k : Fin 128) :
    (V m c main_v62 : S4x640x128.Idx → EReal) (ix3 0 j k)
      = if h : j.val % 80 < 64 then arg8 m c (ix3 0 k ⟨64 * (j.val / 80) + j.val % 80, by omega⟩) else 0 := by
  rw [at_main_v62]
  refine Eq.trans (b := (V m c main_v52 : S4x640x128.Idx → EReal) (ix3 0 j k)) rfl ?_
  rw [at_main_v52]
  refine (shapeCast_apply _ _ _ (ix4 0 (⟨j.val / 80, by omega⟩ : Fin 8) (⟨j.val % 80, by omega⟩ : Fin 80) k) ?_).trans ?_
  · rw [Shape.rowMajor_val_four, Shape.rowMajor_val_three]
    show ((0 * 8 + j.val / 80) * 80 + j.val % 80) * 128 + k.val = (0 * 640 + j.val) * 128 + k.val
    omega
  rw [at_main_v51]
  by_cases h : j.val % 80 < 64
  · rw [dif_pos h]
    refine (pad_apply_of_inside _ _ _ _ _ _ _ _ (ix4 0 (⟨j.val / 80, by omega⟩ : Fin 8) (⟨j.val % 80, h⟩ : Fin 64) k) (fun a => by fin_cases a <;> simp <;> rfl)).trans ?_
    rw [at_main_v50]
    refine (shapeCast_apply _ _ _ (ix3 0 (⟨64 * (j.val / 80) + j.val % 80, by omega⟩ : Fin 512) k) ?_).trans ?_
    · rw [Shape.rowMajor_val_four, Shape.rowMajor_val_three]
      show (0 * 512 + (64 * (j.val / 80) + j.val % 80)) * 128 + k.val = ((0 * 8 + j.val / 80) * 64 + j.val % 80) * 128 + k.val
      omega
    rw [at_main_v49, at_main_arg8]
    exact transpose_apply _ _ _ _ _ (fun a => by fin_cases a <;> rfl)
  · rw [dif_neg h]
    refine (pad_apply_of_not_inside _ _ _ _ _ _ _ _ 2 (fun hin => ?_)).trans ?_
    · have h2 := hin.2.2
      have h3 : (j.val % 80 - 0) / (0 + 1) < 64 := h2
      omega
    rw [at_main_call1_v0, at_main_c_13]
    show ((((0#32 : BitVec 32).toInt : ℝ)) : EReal) = 0
    simp

theorem iblk_13 (t : Fin cfg0.N) (j : Fin 640) (k : Fin 128) :
    (iblk m c 13 t : S1x640x128.Idx → EReal) (ix3 0 j k)
      = if h : j.val % 80 < 64 then arg8 m c (ix3 0 k ⟨64 * (j.val / 80) + j.val % 80, by omega⟩) else 0 := by
  rw [← wvt_host]
  blk_simp [iblk]
  refine congrArg (V m c main_v62) (funext fun a => Fin.ext ?_)
  blk_simp
  rw [index13 t]
  fin_cases a <;> simp <;> omega

theorem ones_word : ∀ j : Fin 640, lit1 j = if j.val % 80 < 64 then 0x00000000#32 else 0x3F800000#32 := by decide +kernel

theorem iblk_14 (t : Fin cfg0.N) (j : Fin 640) :
    (iblk m c 14 t : S640x1.Idx → EReal) (ix2 j 0) = if j.val % 80 < 64 then (0 : EReal) else (1 : EReal) := by
  have e : (iblk m c 14 t : S640x1.Idx → EReal) (ix2 j 0) = (V m c main_cst : S640x1.Idx → EReal) (ix2 j 0) := by
    blk_simp [iblk]
    refine congrArg (V m c main_cst) (funext fun a => Fin.ext ?_)
    blk_simp
    rw [index14 t]
    fin_cases a <;> simp <;> omega
  have er : S640x1.rowMajor (ix2 j 0) = j := Fin.ext (by rw [Shape.rowMajor_val_two]; show j.val * 1 + 0 = j.val; omega)
  rw [e, at_main_cst]
  refine Eq.trans (b := Ideal.ofBits .f32 (lit1 j)) (congrArg (fun z => Ideal.ofBits .f32 (lit1 z)) er) ?_
  rw [ones_word]
  split
  · exact zero_bits
  · exact one_bits

end Cert.ProjIdeal.Proj

end
-- ==== Proof.ProjRead.lean ====
/-
  The input projection's stages READ AT AN INDEX: each is the row function of ProjMath.lean on one row of its operands.
-/
module

public import proofs.«01_k».proof.Proof.ProjMath
public import proofs.«01_k».proof.Proof.Gen.ProjIdeal.Frame

@[expose] public section

set_option maxRecDepth 16384
set_option backward.proofsInPublic true

noncomputable section

namespace Cert.ProjIdeal.Proj

open Cert.ProjIdeal Cert.ProjIdeal.Gen Cert.ProjRow
open Idealize.ShloMosaic Idealize.ShloMosaic.TcCoe

/-- The block's rows before the modulation: the first 32 blocks are the latents', the last four the context's. -/
def pick (i : grid0.Coords) (x0 x1 : Vec Ideal S512x1024 .f32) : Vec Ideal S512x1024 .f32 := if (i 0).val < 32 then x0 else x1

theorem pick_word (n : Fin 36) : Scalar.cmpi .slt (BitVec.ofNat 32 n.val) 32#32 = if n.val < 32 then 1#1 else 0#1 := by
  revert n
  decide +kernel

theorem pick_eq (i : grid0.Coords) (x0 x1 : Vec Ideal S512x1024 .f32) :
    Scalar.select (Scalar.cmpi .slt (BitVec.ofNat 32 (i 0).val) 32#32) x0 x1 = pick i x0 x1 := by
  have h := pick_word ⟨(i 0).val, (i 0).isLt⟩
  rw [h, pick]
  split <;> rfl

/-- A vector cast to its own shape. -/
theorem cast_self (v : Vec Ideal S512x1024 .f32) : shapeCast S512x1024 v shapeCasts_S512x1024_S512x1024 = v := by
  funext x
  pointwise

variable (i : grid0.Coords) (x0 x1 : Vec Ideal S512x1024 .f32)

theorem modul_apply (v6 v8 : Vec Ideal S1x1x1x1024 .f32) (r : Fin 512) (j : Fin 1024) :
    k0_pay6 (F := Ideal) i x0 x1 v6 v8 (ix2 r j)
      = modul (fun k => pick i x0 x1 (ix2 r k)) (fun k => v8 (ix4 0 0 0 k)) (fun k => v6 (ix4 0 0 0 k)) j := by
  unfold k0_pay6
  simp only [cast_self, pick_eq]
  pointwise
  rfl

theorem proj_apply (v6 v8 : Vec Ideal S1x1x1x1024 .f32) (w : Vec Ideal S1x1024x512 .bf16) (r : Fin 512) (j : Fin 512) :
    k0_pay7 (F := Ideal) i x0 x1 v6 v8 w (ix2 r j)
      = mul (modul (fun k => pick i x0 x1 (ix2 r k)) (fun k => v8 (ix4 0 0 0 k)) (fun k => v6 (ix4 0 0 0 k))) (fun k j => w (ix3 0 k j)) j := by
  have h := modul_apply i x0 x1 v6 v8 r
  unfold k0_pay7
  generalize k0_pay6 (F := Ideal) i x0 x1 v6 v8 = u at h ⊢
  pointwise
  simp only [h]
  rfl

theorem loc_apply (v6 v8 : Vec Ideal S1x1x1x1024 .f32) (w : Vec Ideal S1x1024x1024 .bf16) (r : Fin 512) (j : Fin 1024) :
    k0_pay8 (F := Ideal) i x0 x1 v6 v8 w (ix2 r j)
      = mul (modul (fun k => pick i x0 x1 (ix2 r k)) (fun k => v8 (ix4 0 0 0 k)) (fun k => v6 (ix4 0 0 0 k))) (fun k j => w (ix3 0 k j)) j := by
  have h := modul_apply i x0 x1 v6 v8 r
  unfold k0_pay8
  generalize k0_pay6 (F := Ideal) i x0 x1 v6 v8 = u at h ⊢
  pointwise
  simp only [h]
  rfl

theorem ckv_apply (u : FVec Ideal S512x512 .f32) (g : Vec Ideal S1x1x128 .f32) (r : Fin 512) (j : Fin 128) :
    k0_pay12 (F := Ideal) u g (ix2 r j) = rms cKv (fun k : Fin 128 => u (ix2 r ⟨256 + k.val, by omega⟩)) (fun k => g (ix3 0 0 k)) j := by
  pointwise [k0_pay12]
  rfl

theorem vt_apply (u : FVec Ideal S512x128 .bf16) (w : Vec Ideal S1x640x128 .bf16) (o : Vec Ideal S640x1 .f32) (j : Fin 640) (r : Fin 512) :
    k0_pay2 (F := Ideal) u w o (ix2 j r) = (∑ k : Fin 128, w (ix3 0 j k) * u (ix2 r k)) + o (ix2 j 0) := by
  pointwise [k0_pay2]

theorem pool_slice (u : FVec Ideal S512x1024 .f32) (r : Fin 512) (j : Fin 256) :
    k0_pay5 (F := Ideal) u (ix2 r j) = u (ix2 r ⟨512 + j.val, by omega⟩) := by
  pointwise [k0_pay5]
theorem loc_slice0 (u : FVec Ideal S512x1024 .f32) (r : Fin 512) (j : Fin 512) :
    k0_pay3 (F := Ideal) u (ix2 r j) = u (ix2 r ⟨j.val, by omega⟩) := by
  pointwise [k0_pay3]
theorem loc_slice1 (u : FVec Ideal S512x1024 .f32) (r : Fin 512) (j : Fin 256) :
    k0_pay4 (F := Ideal) u (ix2 r j) = u (ix2 r ⟨768 + j.val, by omega⟩) := by
  pointwise [k0_pay4]

theorem q_apply (v6 v8 : Vec Ideal S1x1x1x1024 .f32) (w : Vec Ideal S1x1024x512 .bf16) (g : Vec Ideal S1x1x256 .f32) (wq : Vec Ideal S1x256x1024 .bf16)
    (r : Fin 512) (j : Fin 1024) :
    k0_pay14 (F := Ideal) (k0_pay9 (F := Ideal) i x0 x1 v6 v8 w) (k0_pay10 (F := Ideal) g) (k0_pay11 (F := Ideal) i x0 x1 v6 v8 w)
        (FloatOps.ofBits .f32 0x358637BD#32) wq (ix2 r j)
      = mul (rms cQ (fun k : Fin 256 => k0_pay7 (F := Ideal) i x0 x1 v6 v8 w (ix2 r ⟨k.val, by omega⟩)) (fun k => g (ix3 0 0 k))) (fun k j => wq (ix3 0 k j)) j := by
  unfold k0_pay14 k0_pay11 k0_pay9
  generalize k0_pay7 (F := Ideal) i x0 x1 v6 v8 w = u
  pointwise [k0_pay10]
  rfl

/-- The 256 channels the keys are made of: the scaled ones, then the rotary ones. -/
def kvIn (c : Fin 128 → EReal) (p : Fin 512 → EReal) (k : Fin 256) : EReal :=
  if h : k.val < 128 then c ⟨k.val, h⟩ else p ⟨384 + (k.val - 128), by omega⟩

theorem kv_in (u : FVec Ideal S512x512 .f32) (g : Vec Ideal S1x1x128 .f32) (r : Fin 512) (k : Fin 256) :
    k0_pay13 (F := Ideal) u g (ix2 r k)
      = kvIn (rms cKv (fun k : Fin 128 => u (ix2 r ⟨256 + k.val, by omega⟩)) (fun k => g (ix3 0 0 k))) (fun k => u (ix2 r k)) k := by
  have h := fun j => ckv_apply u g r j
  unfold k0_pay13
  generalize k0_pay12 (F := Ideal) u g = x at h ⊢
  pointwise
  unfold kvIn
  split
  · rw [← h]
  · rfl

theorem k_apply (u : FVec Ideal S512x512 .f32) (g : Vec Ideal S1x1x128 .f32) (w : Vec Ideal S1x256x1024 .bf16) (r : Fin 512) (j : Fin 1024) :
    k0_pay15 (F := Ideal) u g w (ix2 r j)
      = mul (kvIn (rms cKv (fun k : Fin 128 => u (ix2 r ⟨256 + k.val, by omega⟩)) (fun k => g (ix3 0 0 k))) (fun k => u (ix2 r k))) (fun k j => w (ix3 0 k j)) j := by
  have h := fun k => kv_in u g r k
  unfold k0_pay15
  generalize k0_pay13 (F := Ideal) u g = x at h ⊢
  pointwise
  simp only [h]
  rfl

theorem k_sw_apply (u : FVec Ideal S512x512 .f32) (g : Vec Ideal S1x1x128 .f32) (w : Vec Ideal S1x256x1024 .bf16) :
    k0_pay16 (F := Ideal) u g w = k0_pay15 (F := Ideal) u g w := rfl

theorem q_head0 (u : FVec Ideal S512x1024 .f32) (t : Vec Ideal S512x128 .f32) (r : Fin 512) (d : Fin 128) :
    k0_pay20 (F := Ideal) u t (ix3 0 r d) = u (ix2 r ⟨0 + d.val, by omega⟩) * (t (ix2 r d) * cScale) := by
  pointwise [k0_pay20, k0_pay24, k0_pay19]
theorem q_head1 (u : FVec Ideal S512x1024 .f32) (t : Vec Ideal S512x128 .f32) (r : Fin 512) (d : Fin 128) :
    k0_pay22 (F := Ideal) u t (ix3 0 r d) = u (ix2 r ⟨128 + d.val, by omega⟩) * (t (ix2 r d) * cScale) := by
  pointwise [k0_pay22, k0_pay24, k0_pay19]
theorem q_head2 (u : FVec Ideal S512x1024 .f32) (t : Vec Ideal S512x128 .f32) (r : Fin 512) (d : Fin 128) :
    k0_pay25 (F := Ideal) (k0_pay24 (F := Ideal) u t) (ix3 0 r d) = u (ix2 r ⟨256 + d.val, by omega⟩) * (t (ix2 r d) * cScale) := by
  pointwise [k0_pay25, k0_pay24, k0_pay19]
theorem q_head3 (u : FVec Ideal S512x1024 .f32) (t : Vec Ideal S512x128 .f32) (r : Fin 512) (d : Fin 128) :
    k0_pay27 (F := Ideal) u (k0_pay19 (F := Ideal) t) (ix3 0 r d) = u (ix2 r ⟨384 + d.val, by omega⟩) * (t (ix2 r d) * cScale) := by
  pointwise [k0_pay27, k0_pay24, k0_pay19]
theorem q_head4 (u : FVec Ideal S512x1024 .f32) (t : Vec Ideal S512x128 .f32) (r : Fin 512) (d : Fin 128) :
    k0_pay29 (F := Ideal) u (k0_pay19 (F := Ideal) t) (ix3 0 r d) = u (ix2 r ⟨512 + d.val, by omega⟩) * (t (ix2 r d) * cScale) := by
  pointwise [k0_pay29, k0_pay24, k0_pay19]
theorem q_head5 (u : FVec Ideal S512x1024 .f32) (t : Vec Ideal S512x128 .f32) (r : Fin 512) (d : Fin 128) :
    k0_pay32 (F := Ideal) u (k0_pay19 (F := Ideal) t) (ix3 0 r d) = u (ix2 r ⟨640 + d.val, by omega⟩) * (t (ix2 r d) * cScale) := by
  pointwise [k0_pay32, k0_pay24, k0_pay19]
theorem q_head6 (u : FVec Ideal S512x1024 .f32) (t : Vec Ideal S512x128 .f32) (r : Fin 512) (d : Fin 128) :
    k0_pay34 (F := Ideal) u (k0_pay19 (F := Ideal) t) (ix3 0 r d) = u (ix2 r ⟨768 + d.val, by omega⟩) * (t (ix2 r d) * cScale) := by
  pointwise [k0_pay34, k0_pay24, k0_pay19]
theorem q_head7 (u : FVec Ideal S512x1024 .f32) (t : Vec Ideal S512x128 .f32) (r : Fin 512) (d : Fin 128) :
    k0_pay36 (F := Ideal) u (k0_pay19 (F := Ideal) t) (ix3 0 r d) = u (ix2 r ⟨896 + d.val, by omega⟩) * (t (ix2 r d) * cScale) := by
  pointwise [k0_pay36, k0_pay24, k0_pay19]
theorem k_head0 (u v : FVec Ideal S512x1024 .f32) (s t : Vec Ideal S512x128 .f32) (r : Fin 512) (d : Fin 128) :
    k0_pay21 (F := Ideal) u v (k0_pay17 (F := Ideal) s) t (ix3 0 r d) = u (ix2 r ⟨0 + d.val, by omega⟩) * s (ix2 r d) + v (ix2 r ⟨0 + d.val, by omega⟩) * t (ix2 r d) := by
  pointwise [k0_pay21, k0_pay30, k0_pay17, k0_pay18]
theorem k_head1 (u v : FVec Ideal S512x1024 .f32) (s t : Vec Ideal S512x128 .f32) (r : Fin 512) (d : Fin 128) :
    k0_pay23 (F := Ideal) u v (k0_pay17 (F := Ideal) s) t (ix3 0 r d) = u (ix2 r ⟨128 + d.val, by omega⟩) * s (ix2 r d) + v (ix2 r ⟨128 + d.val, by omega⟩) * t (ix2 r d) := by
  pointwise [k0_pay23, k0_pay30, k0_pay17, k0_pay18]
theorem k_head2 (u v : FVec Ideal S512x1024 .f32) (s t : Vec Ideal S512x128 .f32) (r : Fin 512) (d : Fin 128) :
    k0_pay26 (F := Ideal) u v (k0_pay17 (F := Ideal) s) (k0_pay18 (F := Ideal) t) (ix3 0 r d) = u (ix2 r ⟨256 + d.val, by omega⟩) * s (ix2 r d) + v (ix2 r ⟨256 + d.val, by omega⟩) * t (ix2 r d) := by
  pointwise [k0_pay26, k0_pay30, k0_pay17, k0_pay18]
theorem k_head3 (u v : FVec Ideal S512x1024 .f32) (s t : Vec Ideal S512x128 .f32) (r : Fin 512) (d : Fin 128) :
    k0_pay28 (F := Ideal) u v (k0_pay17 (F := Ideal) s) (k0_pay18 (F := Ideal) t) (ix3 0 r d) = u (ix2 r ⟨384 + d.val, by omega⟩) * s (ix2 r d) + v (ix2 r ⟨384 + d.val, by omega⟩) * t (ix2 r d) := by
  pointwise [k0_pay28, k0_pay30, k0_pay17, k0_pay18]
theorem k_head4 (u v : FVec Ideal S512x1024 .f32) (s t : Vec Ideal S512x128 .f32) (r : Fin 512) (d : Fin 128) :
    k0_pay31 (F := Ideal) (k0_pay30 (F := Ideal) u v (k0_pay17 (F := Ideal) s) (k0_pay18 (F := Ideal) t)) (ix3 0 r d) = u (ix2 r ⟨512 + d.val, by omega⟩) * s (ix2 r d) + v (ix2 r ⟨512 + d.val, by omega⟩) * t (ix2 r d) := by
  pointwise [k0_pay31, k0_pay30, k0_pay17, k0_pay18]
theorem k_head5 (u v : FVec Ideal S512x1024 .f32) (s t : Vec Ideal S512x128 .f32) (r : Fin 512) (d : Fin 128) :
    k0_pay33 (F := Ideal) u v (k0_pay17 (F := Ideal) s) (k0_pay18 (F := Ideal) t) (ix3 0 r d) = u (ix2 r ⟨640 + d.val, by omega⟩) * s (ix2 r d) + v (ix2 r ⟨640 + d.val, by omega⟩) * t (ix2 r d) := by
  pointwise [k0_pay33, k0_pay30, k0_pay17, k0_pay18]
theorem k_head6 (u v : FVec Ideal S512x1024 .f32) (s t : Vec Ideal S512x128 .f32) (r : Fin 512) (d : Fin 128) :
    k0_pay35 (F := Ideal) u v (k0_pay17 (F := Ideal) s) (k0_pay18 (F := Ideal) t) (ix3 0 r d) = u (ix2 r ⟨768 + d.val, by omega⟩) * s (ix2 r d) + v (ix2 r ⟨768 + d.val, by omega⟩) * t (ix2 r d) := by
  pointwise [k0_pay35, k0_pay30, k0_pay17, k0_pay18]
theorem k_head7 (u v : FVec Ideal S512x1024 .f32) (s t : Vec Ideal S512x128 .f32) (r : Fin 512) (d : Fin 128) :
    k0_pay1 (F := Ideal) u v (k0_pay17 (F := Ideal) s) (k0_pay18 (F := Ideal) t) (ix3 0 r d) = u (ix2 r ⟨896 + d.val, by omega⟩) * s (ix2 r d) + v (ix2 r ⟨896 + d.val, by omega⟩) * t (ix2 r d) := by
  pointwise [k0_pay1, k0_pay30, k0_pay17, k0_pay18]

/-- A matrix index is its two coordinates. -/
theorem idx_eta {a b : ℕ} (x : (⟨2, ![a, b]⟩ : Shape).Idx) : x = ix2 (⟨(x 0).val, (x 0).isLt⟩ : Fin a) (⟨(x 1).val, (x 1).isLt⟩ : Fin b) := by
  funext k
  fin_cases k <;> rfl

end Cert.ProjIdeal.Proj

end
-- ==== Proof.ProjBlock.lean ====
/-
  What the input projection's body leaves in its output blocks, READ AT AN INDEX: the row functions of ProjMath.lean on the
  input blocks' rows.
-/
module

public import proofs.«01_k».proof.Proof.ProjRead
public import Idealize.ShloMosaic.Lib.Pipeline.ValueKit

@[expose] public section

set_option maxRecDepth 16384
set_option backward.proofsInPublic true

noncomputable section

namespace Cert.ProjIdeal.Proj

open Cert.ProjIdeal Cert.ProjIdeal.Gen Cert.ProjRow
open Idealize.ShloMosaic Idealize.ShloMosaic.TcCoe

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1x6144 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1024x512 .bf16) (harg7 : arg7.IsWhole) (arg8 : Memref sig .tc .vmem S1x1024x1024 .bf16) (harg8 : arg8.IsWhole) (arg9 : Memref sig .tc .vmem S1x1x256 .f32) (harg9 : arg9.IsWhole) (arg10 : Memref sig .tc .vmem S1x1x128 .f32) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x640x128 .bf16) (harg14 : arg14.IsWhole) (arg15 : Memref sig .tc .vmem S640x1 .f32) (harg15 : arg15.IsWhole) (arg16 : Memref sig .tc .vmem S8x512x128 .bf16) (harg16 : arg16.IsWhole) (arg17 : Memref sig .tc .vmem S8x512x128 .bf16) (harg17 : arg17.IsWhole) (arg18 : Memref sig .tc .vmem S640x512 .bf16) (harg18 : arg18.IsWhole) (arg19 : Memref sig .tc .vmem S512x768 .bf16) (harg19 : arg19.IsWhole) (arg20 : Memref sig .tc .vmem S512x256 .f32) (harg20 : arg20.IsWhole)
variable (x0 : Vec Ideal S512x1024 .f32) (x1 : Vec Ideal S512x1024 .f32) (x2 : Vec Ideal S1x1x1x6144 .f32) (x3 : Vec Ideal S512x128 .f32) (x4 : Vec Ideal S512x128 .f32) (x5 : Vec Ideal S512x128 .f32) (x6 : Vec Ideal S1x1024x512 .bf16) (x7 : Vec Ideal S1x1024x1024 .bf16) (x8 : Vec Ideal S1x1x256 .f32) (x9 : Vec Ideal S1x1x128 .f32) (x10 : Vec Ideal S1x256x1024 .bf16) (x11 : Vec Ideal S1x256x1024 .bf16) (x12 : Vec Ideal S1x256x1024 .bf16) (x13 : Vec Ideal S1x640x128 .bf16) (x14 : Vec Ideal S640x1 .f32)

/-- The block's row `r` after the modulation. -/
def hRow (r : Fin 512) : Fin 1024 → EReal :=
  modul (fun k => pick i x0 x1 (ix2 r k)) (fun k => x2 (ix4 0 0 0 ⟨1024 + k.val, by omega⟩)) (fun k => x2 (ix4 0 0 0 ⟨k.val, by omega⟩))

/-- Its first 512 channels and its last 1024. -/
def pRow (r : Fin 512) : Fin 512 → EReal := mul (hRow i x0 x1 x2 r) (fun k j => x6 (ix3 0 k j))
def lRow (r : Fin 512) : Fin 1024 → EReal := mul (hRow i x0 x1 x2 r) (fun k j => x7 (ix3 0 k j))

/-- The scaled channels the keys and values are made of. -/
def ckvRow (r : Fin 512) : Fin 128 → EReal :=
  rms cKv (fun k : Fin 128 => pRow i x0 x1 x2 x6 r ⟨256 + k.val, by omega⟩) (fun k => x9 (ix3 0 0 k))

theorem ld_sh (k : Fin 1024) : View.ld x2 (Rect.unit ![0, 0, 0, 0] ![1, 1, 1, 1024] inb_S1x1x1x6144_S1x1x1x1024_0_0_0_0) (ix4 0 0 0 k) = x2 (ix4 0 0 0 ⟨k.val, by omega⟩) := by
  pointwise
theorem ld_sc (k : Fin 1024) : View.ld x2 (Rect.unit ![0, 0, 0, 1024] ![1, 1, 1, 1024] inb_S1x1x1x6144_S1x1x1x1024_0_0_0_1024) (ix4 0 0 0 k) = x2 (ix4 0 0 0 ⟨1024 + k.val, by omega⟩) := by
  pointwise

theorem lRow_apply (r : Fin 512) (j : Fin 1024) :
    k0_pay8 (F := Ideal) i x0 x1 (View.ld x2 (Rect.unit ![0, 0, 0, 0] ![1, 1, 1, 1024] inb_S1x1x1x6144_S1x1x1x1024_0_0_0_0))
      (View.ld x2 (Rect.unit ![0, 0, 0, 1024] ![1, 1, 1, 1024] inb_S1x1x1x6144_S1x1x1x1024_0_0_0_1024)) x7 (ix2 r j) = lRow i x0 x1 x2 x7 r j := by
  refine (loc_apply i x0 x1 _ _ x7 r j).trans ?_
  exact congrArg₂ (fun a b => mul (modul (fun k => pick i x0 x1 (ix2 r k)) a b) (fun k j => x7 (ix3 0 k j)) j) (funext fun k => ld_sc x2 k) (funext fun k => ld_sh x2 k)

theorem pRow_apply (r : Fin 512) (j : Fin 512) :
    k0_pay7 (F := Ideal) i x0 x1 (View.ld x2 (Rect.unit ![0, 0, 0, 0] ![1, 1, 1, 1024] inb_S1x1x1x6144_S1x1x1x1024_0_0_0_0))
      (View.ld x2 (Rect.unit ![0, 0, 0, 1024] ![1, 1, 1, 1024] inb_S1x1x1x6144_S1x1x1x1024_0_0_0_1024)) x6 (ix2 r j) = pRow i x0 x1 x2 x6 r j := by
  refine (proj_apply i x0 x1 _ _ x6 r j).trans ?_
  exact congrArg₂ (fun a b => mul (modul (fun k => pick i x0 x1 (ix2 r k)) a b) (fun k j => x6 (ix3 0 k j)) j) (funext fun k => ld_sc x2 k) (funext fun k => ld_sh x2 k)

theorem out19_apply (r : Fin 512) (j : Fin 256) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 (ix2 r j) = lRow i x0 x1 x2 x7 r ⟨512 + j.val, by omega⟩ := by
  unfold out0_A_19 kernelRun0_A
  frame_out
  rw [pool_slice, lRow_apply]

theorem out17_apply (j : Fin 640) (r : Fin 512) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 (ix2 j r) = (∑ k : Fin 128, x13 (ix3 0 j k) * ckvRow i x0 x1 x2 x6 x9 r k) + x14 (ix2 j 0) := by
  unfold out0_A_17 kernelRun0_A
  frame_out
  rw [vt_apply]
  simp only [ckv_apply, pRow_apply]
  rfl

/-- The local channels the block keeps, the pooled ones left out. -/
def locCh (j : ℕ) (hj : j < 768) : Fin 1024 := ⟨if j < 512 then j else 256 + j, by split <;> omega⟩

theorem out18_apply (y : S512x768.Idx) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 y = lRow i x0 x1 x2 x7 ⟨(y 0).val, (y 0).isLt⟩ (locCh (y 1).val (y 1).isLt) := by
  unfold out0_A_18 kernelRun0_A
  frame_out
  have hG := View.canon_apply_of_pieces (Val := Elt Ideal) (e := .bf16) (S := S512x768)
    (fun y : S512x768.Idx => lRow i x0 x1 x2 x7 ⟨(y 0).val, (y 0).isLt⟩ (locCh (y 1).val (y 1).isLt))
  refine hG _ (fun p hp => ?_) y ?_
  · rcases List.mem_cons.1 hp with rfl | hp
    · intro x
      rw [idx_eta x]
      refine ((loc_slice1 _ _ _).trans (lRow_apply i x0 x1 x2 x7 _ _)).trans ?_
      refine congrArg₂ (lRow i x0 x1 x2 x7) (Fin.ext ?_) (Fin.ext ?_)
      · show (x 0).val = 0 + 1 * (x 0).val
        omega
      · have h1 : (x 1).val < 256 := (x 1).isLt
        show 768 + (x 1).val = if 512 + 1 * (x 1).val < 512 then 512 + 1 * (x 1).val else 256 + (512 + 1 * (x 1).val)
        rw [if_neg (by omega)]
        omega
    · obtain rfl := List.mem_singleton.1 hp
      intro x
      rw [idx_eta x]
      refine ((loc_slice0 _ _ _).trans (lRow_apply i x0 x1 x2 x7 _ _)).trans ?_
      refine congrArg₂ (lRow i x0 x1 x2 x7) (Fin.ext ?_) (Fin.ext ?_)
      · show (x 0).val = 0 + 1 * (x 0).val
        omega
      · have h1 : (x 1).val < 512 := (x 1).isLt
        show (x 1).val = if 0 + 1 * (x 1).val < 512 then 0 + 1 * (x 1).val else 256 + (0 + 1 * (x 1).val)
        rw [if_pos (by omega)]
        omega
  · have h0 : (y 0).val < 512 := (y 0).isLt
    have h1 : (y 1).val < 768 := (y 1).isLt
    by_cases h : (y 1).val < 512
    · refine ⟨_, List.mem_cons_of_mem _ (List.mem_singleton_self _), ?_⟩
      refine (Rect.mem_set_unit (inb := inb_S512x768_S512x512_0_0)).2 fun a => ?_
      fin_cases a
      · exact ⟨Nat.zero_le _, (by show (y 0).val < 0 + 512; omega)⟩
      · exact ⟨Nat.zero_le _, (by show (y 1).val < 0 + 512; omega)⟩
    · refine ⟨_, List.mem_cons_self, ?_⟩
      refine (Rect.mem_set_unit (inb := inb_S512x768_S512x256_0_512)).2 fun a => ?_
      fin_cases a
      · exact ⟨Nat.zero_le _, (by show (y 0).val < 0 + 512; omega)⟩
      · exact ⟨(by show 512 ≤ (y 1).val; omega), (by show (y 1).val < 512 + 256; omega)⟩

/-- The 1024 query channels, and the two products the keys are made of. -/
def qRow (r : Fin 512) : Fin 1024 → EReal :=
  mul (rms cQ (fun k : Fin 256 => pRow i x0 x1 x2 x6 r ⟨k.val, by omega⟩) (fun k => x8 (ix3 0 0 k))) (fun k j => x10 (ix3 0 k j))
def kRow (w : Vec Ideal S1x256x1024 .bf16) (r : Fin 512) : Fin 1024 → EReal :=
  mul (kvIn (ckvRow i x0 x1 x2 x6 x9 r) (pRow i x0 x1 x2 x6 r)) (fun k j => w (ix3 0 k j))

theorem qRow_apply (r : Fin 512) (j : Fin 1024) :
    k0_pay14 (F := Ideal) (k0_pay9 (F := Ideal) i x0 x1 (View.ld x2 (Rect.unit ![0, 0, 0, 0] ![1, 1, 1, 1024] inb_S1x1x1x6144_S1x1x1x1024_0_0_0_0)) (View.ld x2 (Rect.unit ![0, 0, 0, 1024] ![1, 1, 1, 1024] inb_S1x1x1x6144_S1x1x1x1024_0_0_0_1024)) x6) (k0_pay10 (F := Ideal) x8) (k0_pay11 (F := Ideal) i x0 x1 (View.ld x2 (Rect.unit ![0, 0, 0, 0] ![1, 1, 1, 1024] inb_S1x1x1x6144_S1x1x1x1024_0_0_0_0)) (View.ld x2 (Rect.unit ![0, 0, 0, 1024] ![1, 1, 1, 1024] inb_S1x1x1x6144_S1x1x1x1024_0_0_0_1024)) x6)
        (FloatOps.ofBits .f32 0x358637BD#32) x10 (ix2 r j) = qRow i x0 x1 x2 x6 x8 x10 r j := by
  rw [q_apply]
  simp only [pRow_apply]
  rfl

theorem kRow_apply (w : Vec Ideal S1x256x1024 .bf16) (r : Fin 512) (j : Fin 1024) :
    k0_pay15 (F := Ideal) (k0_pay7 (F := Ideal) i x0 x1 (View.ld x2 (Rect.unit ![0, 0, 0, 0] ![1, 1, 1, 1024] inb_S1x1x1x6144_S1x1x1x1024_0_0_0_0)) (View.ld x2 (Rect.unit ![0, 0, 0, 1024] ![1, 1, 1, 1024] inb_S1x1x1x6144_S1x1x1x1024_0_0_0_1024)) x6) x9 w (ix2 r j) = kRow i x0 x1 x2 x6 x9 w r j := by
  rw [k_apply]
  simp only [pRow_apply]
  rfl

/-- One head's block of a stack of eight. -/
theorem idx_eta3 (x : S1x512x128.Idx) : x = ix3 (0 : Fin 1) (⟨(x 1).val, (x 1).isLt⟩ : Fin 512) (⟨(x 2).val, (x 2).isLt⟩ : Fin 128) := by
  funext k
  fin_cases k
  · exact Fin.ext (by have h : (x 0).val < 1 := (x 0).isLt; show (x 0).val = 0; omega)
  · rfl
  · rfl

/-- The stack's entry, from the head's number, the row and the lane. -/
def stack (G : Fin 8 → Fin 512 → Fin 128 → EReal) (y : S8x512x128.Idx) : EReal := G ⟨(y 0).val, (y 0).isLt⟩ ⟨(y 1).val, (y 1).isLt⟩ ⟨(y 2).val, (y 2).isLt⟩

/-- A piece that holds its head's rows holds the stack's. -/
theorem head_piece (G : Fin 8 → Fin 512 → Fin 128 → EReal) (n : ℕ) (hn : n < 8) (inb : ∀ a, (![n, 0, 0] : Fin 3 → ℕ) a + (![1, 512, 128] : Fin 3 → ℕ) a ≤ S8x512x128.size a)
    (P : S1x512x128.Idx → EReal) (hP : ∀ r d, P (ix3 0 r d) = G ⟨n, hn⟩ r d) (x : S1x512x128.Idx) :
    P x = stack G ((Rect.unit (s := S8x512x128) ![n, 0, 0] ![1, 512, 128] inb).emb x) := by
  refine (congrArg P (idx_eta3 x)).trans ((hP _ _).trans ?_)
  unfold stack
  refine congr (congrArg₂ G (Fin.ext ?_) (Fin.ext ?_)) (Fin.ext ?_)
  · have h : (x 0).val < 1 := (x 0).isLt
    show n = n + 1 * (x 0).val
    omega
  · show (x 1).val = 0 + 1 * (x 1).val
    omega
  · show (x 2).val = 0 + 1 * (x 2).val
    omega

/-- Every entry of the stack is in its head's block. -/
theorem head_mem (y : S8x512x128.Idx) (n : ℕ) (inb : ∀ a, (![n, 0, 0] : Fin 3 → ℕ) a + (![1, 512, 128] : Fin 3 → ℕ) a ≤ S8x512x128.size a) (h : (y 0).val = n) :
    y ∈ (Rect.unit (s := S8x512x128) ![n, 0, 0] ![1, 512, 128] inb).set := by
  refine (Rect.mem_set_unit (inb := inb)).2 fun a => ?_
  have h1 : (y 1).val < 512 := (y 1).isLt
  have h2 : (y 2).val < 128 := (y 2).isLt
  fin_cases a
  · exact ⟨(by show n ≤ (y 0).val; omega), (by show (y 0).val < n + 1; omega)⟩
  · exact ⟨Nat.zero_le _, (by show (y 1).val < 0 + 512; omega)⟩
  · exact ⟨Nat.zero_le _, (by show (y 2).val < 0 + 128; omega)⟩

/-- The query's lane `d` of head `h`, and the key's. -/
def qVal (h : Fin 8) (r : Fin 512) (d : Fin 128) : EReal :=
  qRow i x0 x1 x2 x6 x8 x10 r ⟨128 * h.val + d.val, by omega⟩ * (x3 (ix2 r d) * cScale)
def kVal (h : Fin 8) (r : Fin 512) (d : Fin 128) : EReal :=
  kRow i x0 x1 x2 x6 x9 x11 r ⟨128 * h.val + d.val, by omega⟩ * x4 (ix2 r d) + kRow i x0 x1 x2 x6 x9 x12 r ⟨128 * h.val + d.val, by omega⟩ * x5 (ix2 r d)

theorem out15_apply (y : S8x512x128.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 y = stack (qVal i x0 x1 x2 x3 x6 x8 x10) y := by
  unfold out0_A_15 kernelRun0_A
  frame_out
  have hu := fun r j => qRow_apply i x0 x1 x2 x6 x8 x10 r j
  generalize k0_pay14 (F := Ideal) _ _ _ _ _ = u at hu ⊢
  have hG := View.canon_apply_of_pieces (Val := Elt Ideal) (e := .bf16) (S := S8x512x128) (stack (qVal i x0 x1 x2 x3 x6 x8 x10))
  refine hG _ (fun p hp => ?_) y ?_
  · rcases List.mem_cons.1 hp with rfl | hp
    · intro x
      refine head_piece _ 7 (by omega) inb_S8x512x128_S1x512x128_7_0_0 _ (fun r d => ?_) x
      refine (q_head7 u x3 r d).trans ?_
      rw [hu]
      exact congrArg (fun j => qRow i x0 x1 x2 x6 x8 x10 r j * (x3 (ix2 r d) * cScale)) (Fin.ext (by show 896 + d.val = 128 * 7 + d.val; omega))
    rcases List.mem_cons.1 hp with rfl | hp
    · intro x
      refine head_piece _ 6 (by omega) inb_S8x512x128_S1x512x128_6_0_0 _ (fun r d => ?_) x
      refine (q_head6 u x3 r d).trans ?_
      rw [hu]
      exact congrArg (fun j => qRow i x0 x1 x2 x6 x8 x10 r j * (x3 (ix2 r d) * cScale)) (Fin.ext (by show 768 + d.val = 128 * 6 + d.val; omega))
    rcases List.mem_cons.1 hp with rfl | hp
    · intro x
      refine head_piece _ 5 (by omega) inb_S8x512x128_S1x512x128_5_0_0 _ (fun r d => ?_) x
      refine (q_head5 u x3 r d).trans ?_
      rw [hu]
      exact congrArg (fun j => qRow i x0 x1 x2 x6 x8 x10 r j * (x3 (ix2 r d) * cScale)) (Fin.ext (by show 640 + d.val = 128 * 5 + d.val; omega))
    rcases List.mem_cons.1 hp with rfl | hp
    · intro x
      refine head_piece _ 4 (by omega) inb_S8x512x128_S1x512x128_4_0_0 _ (fun r d => ?_) x
      refine (q_head4 u x3 r d).trans ?_
      rw [hu]
      exact congrArg (fun j => qRow i x0 x1 x2 x6 x8 x10 r j * (x3 (ix2 r d) * cScale)) (Fin.ext (by show 512 + d.val = 128 * 4 + d.val; omega))
    rcases List.mem_cons.1 hp with rfl | hp
    · intro x
      refine head_piece _ 3 (by omega) inb_S8x512x128_S1x512x128_3_0_0 _ (fun r d => ?_) x
      refine (q_head3 u x3 r d).trans ?_
      rw [hu]
      exact congrArg (fun j => qRow i x0 x1 x2 x6 x8 x10 r j * (x3 (ix2 r d) * cScale)) (Fin.ext (by show 384 + d.val = 128 * 3 + d.val; omega))
    rcases List.mem_cons.1 hp with rfl | hp
    · intro x
      refine head_piece _ 2 (by omega) inb_S8x512x128_S1x512x128_2_0_0 _ (fun r d => ?_) x
      refine (q_head2 u x3 r d).trans ?_
      rw [hu]
      exact congrArg (fun j => qRow i x0 x1 x2 x6 x8 x10 r j * (x3 (ix2 r d) * cScale)) (Fin.ext (by show 256 + d.val = 128 * 2 + d.val; omega))
    rcases List.mem_cons.1 hp with rfl | hp
    · intro x
      refine head_piece _ 1 (by omega) inb_S8x512x128_S1x512x128_1_0_0 _ (fun r d => ?_) x
      refine (q_head1 u x3 r d).trans ?_
      rw [hu]
      exact congrArg (fun j => qRow i x0 x1 x2 x6 x8 x10 r j * (x3 (ix2 r d) * cScale)) (Fin.ext (by show 128 + d.val = 128 * 1 + d.val; omega))
    obtain rfl := List.mem_singleton.1 hp
    intro x
    refine head_piece _ 0 (by omega) inb_S8x512x128_S1x512x128_0_0_0 _ (fun r d => ?_) x
    refine (q_head0 u x3 r d).trans ?_
    rw [hu]
    exact congrArg (fun j => qRow i x0 x1 x2 x6 x8 x10 r j * (x3 (ix2 r d) * cScale)) (Fin.ext (by show 0 + d.val = 128 * 0 + d.val; omega))
  · have h0 : (y 0).val < 8 := (y 0).isLt
    generalize hn : (y 0).val = n at h0
    interval_cases n
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), head_mem y 0 inb_S8x512x128_S1x512x128_0_0_0 hn⟩
    · exact ⟨_, List.mem_cons_of_mem _ (List.mem_cons_of_mem _ (List.mem_cons_of_mem _ (List.mem_cons_of_mem _ (List.mem_cons_of_mem _ (List.mem_cons_of_mem _ (List.mem_cons_self)))))), head_mem y 1 inb_S8x512x128_S1x512x128_1_0_0 hn⟩
    · exact ⟨_, List.mem_cons_of_mem _ (List.mem_cons_of_mem _ (List.mem_cons_of_mem _ (List.mem_cons_of_mem _ (List.mem_cons_of_mem _ (List.mem_cons_self))))), head_mem y 2 inb_S8x512x128_S1x512x128_2_0_0 hn⟩
    · exact ⟨_, List.mem_cons_of_mem _ (List.mem_cons_of_mem _ (List.mem_cons_of_mem _ (List.mem_cons_of_mem _ (List.mem_cons_self)))), head_mem y 3 inb_S8x512x128_S1x512x128_3_0_0 hn⟩
    · exact ⟨_, List.mem_cons_of_mem _ (List.mem_cons_of_mem _ (List.mem_cons_of_mem _ (List.mem_cons_self))), head_mem y 4 inb_S8x512x128_S1x512x128_4_0_0 hn⟩
    · exact ⟨_, List.mem_cons_of_mem _ (List.mem_cons_of_mem _ (List.mem_cons_self)), head_mem y 5 inb_S8x512x128_S1x512x128_5_0_0 hn⟩
    · exact ⟨_, List.mem_cons_of_mem _ (List.mem_cons_self), head_mem y 6 inb_S8x512x128_S1x512x128_6_0_0 hn⟩
    · exact ⟨_, List.mem_cons_self, head_mem y 7 inb_S8x512x128_S1x512x128_7_0_0 hn⟩

theorem out16_apply (y : S8x512x128.Idx) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 y = stack (kVal i x0 x1 x2 x4 x5 x6 x9 x11 x12) y := by
  unfold out0_A_16 kernelRun0_A
  frame_out
  simp only [k_sw_apply]
  have hu := fun r j => kRow_apply i x0 x1 x2 x6 x9 x11 r j
  have hv := fun r j => kRow_apply i x0 x1 x2 x6 x9 x12 r j
  generalize k0_pay15 (F := Ideal) _ _ x11 = u at hu ⊢
  generalize k0_pay15 (F := Ideal) _ _ x12 = v at hv ⊢
  have hG := View.canon_apply_of_pieces (Val := Elt Ideal) (e := .bf16) (S := S8x512x128) (stack (kVal i x0 x1 x2 x4 x5 x6 x9 x11 x12))
  refine hG _ (fun p hp => ?_) y ?_
  · rcases List.mem_cons.1 hp with rfl | hp
    · intro x
      refine head_piece _ 7 (by omega) inb_S8x512x128_S1x512x128_7_0_0 _ (fun r d => ?_) x
      refine (k_head7 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 896 + d.val = 128 * 7 + d.val; omega))
    rcases List.mem_cons.1 hp with rfl | hp
    · intro x
      refine head_piece _ 6 (by omega) inb_S8x512x128_S1x512x128_6_0_0 _ (fun r d => ?_) x
      refine (k_head6 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 768 + d.val = 128 * 6 + d.val; omega))
    rcases List.mem_cons.1 hp with rfl | hp
    · intro x
      refine head_piece _ 5 (by omega) inb_S8x512x128_S1x512x128_5_0_0 _ (fun r d => ?_) x
      refine (k_head5 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 640 + d.val = 128 * 5 + d.val; omega))
    rcases List.mem_cons.1 hp with rfl | hp
    · intro x
      refine head_piece _ 4 (by omega) inb_S8x512x128_S1x512x128_4_0_0 _ (fun r d => ?_) x
      refine (k_head4 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 512 + d.val = 128 * 4 + d.val; omega))
    rcases List.mem_cons.1 hp with rfl | hp
    · intro x
      refine head_piece _ 3 (by omega) inb_S8x512x128_S1x512x128_3_0_0 _ (fun r d => ?_) x
      refine (k_head3 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 384 + d.val = 128 * 3 + d.val; omega))
    rcases List.mem_cons.1 hp with rfl | hp
    · intro x
      refine head_piece _ 2 (by omega) inb_S8x512x128_S1x512x128_2_0_0 _ (fun r d => ?_) x
      refine (k_head2 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 256 + d.val = 128 * 2 + d.val; omega))
    rcases List.mem_cons.1 hp with rfl | hp
    · intro x
      refine head_piece _ 1 (by omega) inb_S8x512x128_S1x512x128_1_0_0 _ (fun r d => ?_) x
      refine (k_head1 u v x4 x5 r d).trans ?_
      rw [hu, hv]
      exact congrArg (fun j => kRow i x0 x1 x2 x6 x9 x11 r j * x4 (ix2 r d) + kRow i x0 x1 x2 x6 x9 x12 r j * x5 (ix2 r d)) (Fin.ext (by show 128 + d.val = 128 * 1 + d.val; omega))
    obtain rfl := List.mem_singleton.1 hp
    intro x
    refine head_piece _ 0 (by omega) inb_S8x512x128_S1x512x128_0_0_0 _ (fun r d => ?_) x
    refine (k_head0 u v x4 x5 r d).trans ?_
    rw [hu, hv]
    exact congrArg (fun j => kRow i x0 x1 x2 x6 x9 x11 r j * x4 (ix2 r d) + kRow i x0 x1 x2 x6 x9 x12 r j * x5 (ix2 r d)) (Fin.ext (by show 0 + d.val = 128 * 0 + d.val; omega))
  · have h0 : (y 0).val < 8 := (y 0).isLt
    generalize hn : (y 0).val = n at h0
    interval_cases n
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), head_mem y 0 inb_S8x512x128_S1x512x128_0_0_0 hn⟩
    · exact ⟨_, List.mem_cons_of_mem _ (List.mem_cons_of_mem _ (List.mem_cons_of_mem _ (List.mem_cons_of_mem _ (List.mem_cons_of_mem _ (List.mem_cons_of_mem _ (List.mem_cons_self)))))), head_mem y 1 inb_S8x512x128_S1x512x128_1_0_0 hn⟩
    · exact ⟨_, List.mem_cons_of_mem _ (List.mem_cons_of_mem _ (List.mem_cons_of_mem _ (List.mem_cons_of_mem _ (List.mem_cons_of_mem _ (List.mem_cons_self))))), head_mem y 2 inb_S8x512x128_S1x512x128_2_0_0 hn⟩
    · exact ⟨_, List.mem_cons_of_mem _ (List.mem_cons_of_mem _ (List.mem_cons_of_mem _ (List.mem_cons_of_mem _ (List.mem_cons_self)))), head_mem y 3 inb_S8x512x128_S1x512x128_3_0_0 hn⟩
    · exact ⟨_, List.mem_cons_of_mem _ (List.mem_cons_of_mem _ (List.mem_cons_of_mem _ (List.mem_cons_self))), head_mem y 4 inb_S8x512x128_S1x512x128_4_0_0 hn⟩
    · exact ⟨_, List.mem_cons_of_mem _ (List.mem_cons_of_mem _ (List.mem_cons_self)), head_mem y 5 inb_S8x512x128_S1x512x128_5_0_0 hn⟩
    · exact ⟨_, List.mem_cons_of_mem _ (List.mem_cons_self), head_mem y 6 inb_S8x512x128_S1x512x128_6_0_0 hn⟩
    · exact ⟨_, List.mem_cons_self, head_mem y 7 inb_S8x512x128_S1x512x128_7_0_0 hn⟩

end Cert.ProjIdeal.Proj

end
-- ==== Proof.ProjArrays.lean ====
/-
  The input projection's arrays: what grid point `t` leaves in the blocks of the pooled channels, the local mixers' channels
  and the transposed values is the row functions of ProjMath.lean at rows `512 t ..`.
-/
module

public import proofs.«01_k».proof.Proof.ProjInput
public import proofs.«01_k».proof.Proof.ProjBlock

@[expose] public section

set_option maxRecDepth 16384
set_option backward.proofsInPublic true

noncomputable section

namespace Cert.ProjIdeal.Proj

open Cert.ProjIdeal Cert.ProjIdeal.Gen Cert.ProjRow
open Idealize.ShloMosaic Idealize.ShloMosaic.TcCoe Idealize.ShloMosaic.Tactic Idealize.SL.Sem

variable (m : (ℓ : Loc nD τ sig) → Buf (Elt Ideal) ℓ) (c : Dev nD)

theorem coords_val : ∀ t : Fin grid0.N, (grid0.coords t 0).val = t.val := by decide +kernel

/-- Row `r` of grid point `t` in the arrays of 18432 rows. -/
abbrev rowAt (t : Fin cfg0.N) (r : Fin 512) : Fin 18432 := ⟨512 * t.val + r.val, by have : t.val < 36 := t.isLt; omega⟩

theorem hRow_eq (t : Fin cfg0.N) (r : Fin 512) :
    hRow (grid0.coords t) (iblk m c 0 t) (iblk m c 1 t) (iblk m c 2 t) r = hAt (arg0 m c) (arg1 m c) (arg2 m c) (rowAt t r) := by
  have h36 : t.val < 36 := t.isLt
  have hc := coords_val t
  unfold hRow hAt pick
  by_cases ht : t.val < 32
  · rw [if_pos (by omega)]
    have em : modOf (rowAt t r) = ⟨t.val / 4, by omega⟩ := Fin.ext (by
      show (if 512 * t.val + r.val < 16384 then (512 * t.val + r.val) / 2048 else 8) = t.val / 4
      rw [if_pos (by omega)]
      omega)
    have e0 : (fun k : Fin 1024 => (iblk m c 0 t : S512x1024.Idx → EReal) (ix2 r k)) = inRow (arg0 m c) (arg1 m c) (rowAt t r) := funext fun k => by
      rw [iblk_0 m c t ht]
      unfold inRow
      rw [dif_pos (show (rowAt t r).val < 16384 by show 512 * t.val + r.val < 16384; omega)]
      refine congrArg₂ (fun a b => arg0 m c (ix3 a b k)) (Fin.ext ?_) (Fin.ext ?_)
      · show t.val / 4 = (512 * t.val + r.val) / 2048
        omega
      · show 512 * (t.val % 4) + r.val = (512 * t.val + r.val) % 2048
        omega
    rw [em]
    refine Eq.trans (congrArg (fun u => modul u _ _) e0) ?_
    exact congrArg₂ (modul _) (funext fun k => iblk_2L m c t ht _) (funext fun k => iblk_2L m c t ht _)
  · rw [if_neg (by omega)]
    have em : modOf (rowAt t r) = 8 := Fin.ext (by
      show (if 512 * t.val + r.val < 16384 then (512 * t.val + r.val) / 2048 else 8) = 8
      rw [if_neg (by omega)])
    have e0 : (fun k : Fin 1024 => (iblk m c 1 t : S512x1024.Idx → EReal) (ix2 r k)) = inRow (arg0 m c) (arg1 m c) (rowAt t r) := funext fun k => by
      rw [iblk_1 m c t (by omega)]
      unfold inRow
      rw [dif_neg (show ¬ (rowAt t r).val < 16384 by show ¬ 512 * t.val + r.val < 16384; omega)]
      refine congrArg₂ (fun a b => arg1 m c (ix3 a b k)) (Fin.ext ?_) (Fin.ext ?_)
      · show (512 * (t.val - 32) + r.val) / 256 = (512 * t.val + r.val - 16384) / 256
        omega
      · show (512 * (t.val - 32) + r.val) % 256 = (512 * t.val + r.val - 16384) % 256
        omega
    rw [em]
    refine Eq.trans (congrArg (fun u => modul u _ _) e0) ?_
    exact congrArg₂ (modul _) (funext fun k => iblk_2C m c t (by omega) _) (funext fun k => iblk_2C m c t (by omega) _)

abbrev projR (R : Fin 18432) : Fin 1440 → EReal := projAt (arg0 m c) (arg1 m c) (arg2 m c) (arg3 m c) R
abbrev ckvR (R : Fin 18432) : Fin 128 → EReal := ckvAt (arg0 m c) (arg1 m c) (arg2 m c) (arg3 m c) (arg6 m c) R

theorem pRow_eq (t : Fin cfg0.N) (r : Fin 512) (j : Fin 512) :
    pRow (grid0.coords t) (iblk m c 0 t) (iblk m c 1 t) (iblk m c 2 t) (X0_6 m c t) r j = projR m c (rowAt t r) ⟨j.val, by omega⟩ := by
  unfold pRow projR projAt mul
  rw [hRow_eq]
  exact Finset.sum_congr rfl fun k _ => congrArg _ (x_6 m c t k j)

theorem lRow_eq (t : Fin cfg0.N) (r : Fin 512) (j : Fin 1024) :
    lRow (grid0.coords t) (iblk m c 0 t) (iblk m c 1 t) (iblk m c 2 t) (iblk m c 7 t) r j = projR m c (rowAt t r) ⟨416 + j.val, by omega⟩ := by
  unfold lRow projR projAt mul
  rw [hRow_eq]
  exact Finset.sum_congr rfl fun k _ => congrArg _ (iblk_7 m c t k j)

theorem ckvRow_eq (t : Fin cfg0.N) (r : Fin 512) :
    ckvRow (grid0.coords t) (iblk m c 0 t) (iblk m c 1 t) (iblk m c 2 t) (X0_6 m c t) (iblk m c 9 t) r = ckvR m c (rowAt t r) := by
  unfold ckvRow ckvR ckvAt
  exact congrArg₂ (rms cKv) (funext fun k => pRow_eq m c t r _) (funext fun k => iblk_9 m c t k)

theorem outs_17 (t : Fin cfg0.N) : (outsAt0 m c t).2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) := by
  unfold outsAt0
  with_reducible rfl

theorem outs_18 (t : Fin cfg0.N) : (outsAt0 m c t).2.2.2.1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) := by
  unfold outsAt0
  with_reducible rfl

theorem outs_19 (t : Fin cfg0.N) : (outsAt0 m c t).2.2.2.2 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) := by
  unfold outsAt0
  with_reducible rfl

theorem index19_0 : ∀ t : Fin grid0.N, win0_19.index t 0 = t.val := by decide +kernel
theorem index19_1 : ∀ t : Fin grid0.N, win0_19.index t 1 = 0 := by decide +kernel
theorem index19 (t : Fin grid0.N) : win0_19.index t = ![t.val, 0] := by
  funext a
  fin_cases a
  · exact index19_0 t
  · exact index19_1 t
theorem emb19_0 (t : Fin cfg0.N) (y : S512x256.Idx) : ((((cfg0.win 19).blk t).view.emb y) 0 : ℕ) = t.val * 512 + (y 0).val := by
  blk_simp
  rw [index19 t]
  simp
theorem emb19_1 (t : Fin cfg0.N) (y : S512x256.Idx) : ((((cfg0.win 19).blk t).view.emb y) 1 : ℕ) = (y 1).val := by
  blk_simp
  rw [index19 t]
  simp
theorem covers19 : (cfg0.win 19).Covers := by decide +kernel

abbrev poolCol (j : Fin 256) : Fin 1024 := ⟨512 + j.val, by omega⟩

/-- The array of the pooled channels. -/
def poolArr : S18432x256.Idx → EReal := fun y =>
  poolAt (arg0 m c) (arg1 m c) (arg2 m c) (arg3 m c) ⟨(y 0).val, (y 0).isLt⟩ ⟨(y 1).val, (y 1).isLt⟩

theorem pool_point (t : Fin cfg0.N) (y : S512x256.Idx) : (outsAt0 m c t).2.2.2.2 y = poolArr m c (((cfg0.win 19).blk t).view.emb y) := by
  have e0 := emb19_0 t y
  have e1 := emb19_1 t y
  refine Eq.trans (b := lRow (grid0.coords t) (iblk m c 0 t) (iblk m c 1 t) (iblk m c 2 t) (iblk m c 7 t) ⟨(y 0).val, (y 0).isLt⟩
    (poolCol ⟨(y 1).val, (y 1).isLt⟩)) ?_ ?_
  · rw [outs_19]
    have hb := out19_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) ⟨(y 0).val, (y 0).isLt⟩ ⟨(y 1).val, (y 1).isLt⟩
    generalize out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) = Z at hb ⊢
    exact (congrArg Z (idx_eta y)).trans hb
  rw [lRow_eq]
  generalize ((cfg0.win 19).blk t).view.emb y = Y at e0 e1 ⊢
  unfold poolArr poolAt
  refine congrArg₂ (projAt (arg0 m c) (arg1 m c) (arg2 m c) (arg3 m c)) (Fin.ext ?_) (Fin.ext ?_)
  · show 512 * t.val + (y 0).val = (Y 0).val
    omega
  · show 416 + (512 + (y 1).val) = 928 + (Y 1).val
    omega

theorem pool_array : (dats m 0 c).arrAt 19 cfg0.N = poolArr m c := by
  refine (dats m 0 c).arrAt_eq_of_covers 19 _ covers19 fun t hf y => ?_
  rw [after0_19]
  have hp := pool_point m c t
  generalize (outsAt0 m c t).2.2.2.2 = Z at hp ⊢
  exact hp y

theorem index18_0 : ∀ t : Fin grid0.N, win0_18.index t 0 = t.val := by decide +kernel
theorem index18_1 : ∀ t : Fin grid0.N, win0_18.index t 1 = 0 := by decide +kernel
theorem index18 (t : Fin grid0.N) : win0_18.index t = ![t.val, 0] := by
  funext a
  fin_cases a
  · exact index18_0 t
  · exact index18_1 t
theorem emb18_0 (t : Fin cfg0.N) (y : S512x768.Idx) : ((((cfg0.win 18).blk t).view.emb y) 0 : ℕ) = t.val * 512 + (y 0).val := by
  blk_simp
  rw [index18 t]
  simp
theorem emb18_1 (t : Fin cfg0.N) (y : S512x768.Idx) : ((((cfg0.win 18).blk t).view.emb y) 1 : ℕ) = (y 1).val := by
  blk_simp
  rw [index18 t]
  simp
theorem covers18 : (cfg0.win 18).Covers := by decide +kernel

/-- The array of the local mixers' channels. -/
def locArr : S18432x768.Idx → EReal := fun y =>
  locAt (arg0 m c) (arg1 m c) (arg2 m c) (arg3 m c) ⟨(y 0).val, (y 0).isLt⟩ ⟨(y 1).val, (y 1).isLt⟩

theorem loc_point (t : Fin cfg0.N) (y : S512x768.Idx) : (outsAt0 m c t).2.2.2.1 y = locArr m c (((cfg0.win 18).blk t).view.emb y) := by
  have e0 := emb18_0 t y
  have e1 := emb18_1 t y
  refine Eq.trans (b := lRow (grid0.coords t) (iblk m c 0 t) (iblk m c 1 t) (iblk m c 2 t) (iblk m c 7 t) ⟨(y 0).val, (y 0).isLt⟩
    (locCh (y 1).val (y 1).isLt)) ?_ ?_
  · rw [outs_18]
    exact out18_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) y
  rw [lRow_eq]
  generalize ((cfg0.win 18).blk t).view.emb y = Y at e0 e1 ⊢
  unfold locArr locAt
  refine congrArg₂ (projAt (arg0 m c) (arg1 m c) (arg2 m c) (arg3 m c)) (Fin.ext ?_) (Fin.ext ?_)
  · show 512 * t.val + (y 0).val = (Y 0).val
    omega
  · show 416 + (if (y 1).val < 512 then (y 1).val else 256 + (y 1).val) = 416 + (if (Y 1).val < 512 then (Y 1).val else 256 + (Y 1).val)
    rw [e1]

theorem loc_array : (dats m 0 c).arrAt 18 cfg0.N = locArr m c := by
  refine (dats m 0 c).arrAt_eq_of_covers 18 _ covers18 fun t hf y => ?_
  rw [after0_18]
  have hp := loc_point m c t
  generalize (outsAt0 m c t).2.2.2.1 = Z at hp ⊢
  exact hp y

theorem index17_0 : ∀ t : Fin grid0.N, win0_17.index t 0 = 0 := by decide +kernel
theorem index17_1 : ∀ t : Fin grid0.N, win0_17.index t 1 = t.val := by decide +kernel
theorem index17 (t : Fin grid0.N) : win0_17.index t = ![0, t.val] := by
  funext a
  fin_cases a
  · exact index17_0 t
  · exact index17_1 t
theorem emb17_0 (t : Fin cfg0.N) (y : S640x512.Idx) : ((((cfg0.win 17).blk t).view.emb y) 0 : ℕ) = (y 0).val := by
  blk_simp
  rw [index17 t]
  simp
theorem emb17_1 (t : Fin cfg0.N) (y : S640x512.Idx) : ((((cfg0.win 17).blk t).view.emb y) 1 : ℕ) = t.val * 512 + (y 1).val := by
  blk_simp
  rw [index17 t]
  simp
theorem covers17 : (cfg0.win 17).Covers := by decide +kernel

/-- The array of the transposed values. -/
def vtArr : S640x18432.Idx → EReal := fun y =>
  vtAt (arg0 m c) (arg1 m c) (arg2 m c) (arg3 m c) (arg6 m c) (arg8 m c) ⟨(y 0).val, (y 0).isLt⟩ ⟨(y 1).val, (y 1).isLt⟩

theorem vt_row (t : Fin cfg0.N) (j : Fin 640) (r : Fin 512) :
    (∑ k : Fin 128, (show EReal from iblk m c 13 t (ix3 0 j k)) *
        ckvRow (grid0.coords t) (iblk m c 0 t) (iblk m c 1 t) (iblk m c 2 t) (X0_6 m c t) (iblk m c 9 t) r k) + (show EReal from iblk m c 14 t (ix2 j 0))
      = vtAt (arg0 m c) (arg1 m c) (arg2 m c) (arg3 m c) (arg6 m c) (arg8 m c) j (rowAt t r) := by
  rw [ckvRow_eq, iblk_14]
  simp only [iblk_13]
  unfold vtAt mul
  by_cases h : j.val % 80 < 64
  · simp only [dif_pos h, if_pos h]
    rw [add_zero]
    exact Finset.sum_congr rfl fun k _ => mul_comm _ _
  · simp only [dif_neg h, if_neg h, zero_mul, Finset.sum_const_zero, zero_add]

theorem vt_point (t : Fin cfg0.N) (y : S640x512.Idx) : (outsAt0 m c t).2.2.1 y = vtArr m c (((cfg0.win 17).blk t).view.emb y) := by
  have e0 := emb17_0 t y
  have e1 := emb17_1 t y
  refine Eq.trans ?_ ((vt_row m c t ⟨(y 0).val, (y 0).isLt⟩ ⟨(y 1).val, (y 1).isLt⟩).trans ?_)
  · rw [outs_17]
    have hb := out17_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) ⟨(y 0).val, (y 0).isLt⟩ ⟨(y 1).val, (y 1).isLt⟩
    generalize out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) = Z at hb ⊢
    exact (congrArg Z (idx_eta y)).trans hb
  generalize ((cfg0.win 17).blk t).view.emb y = Y at e0 e1 ⊢
  unfold vtArr
  refine congrArg₂ (vtAt (arg0 m c) (arg1 m c) (arg2 m c) (arg3 m c) (arg6 m c) (arg8 m c)) (Fin.ext ?_) (Fin.ext ?_)
  · exact e0.symm
  · show 512 * t.val + (y 1).val = (Y 1).val
    omega

theorem vt_array : (dats m 0 c).arrAt 17 cfg0.N = vtArr m c := by
  refine (dats m 0 c).arrAt_eq_of_covers 17 _ covers17 fun t hf y => ?_
  rw [after0_17]
  have hp := vt_point m c t
  generalize (outsAt0 m c t).2.2.1 = Z at hp ⊢
  exact hp y

end Cert.ProjIdeal.Proj

end
-- ==== Proof.ProjRef.lean ====
/-
  The reference's input projection READ AT AN INDEX: its arrays are the row functions of ProjMath.lean.
-/
module

public import proofs.«01_k».proof.Proof.ProjMath
public import proofs.«01_k».proof.Proof.Gen.ProjRefIdeal.Read

@[expose] public section

set_option maxRecDepth 16384
set_option backward.proofsInPublic true

noncomputable section

namespace Cert.ProjRefIdeal.Proj

open Cert.ProjRefIdeal Cert.ProjRefIdeal.Gen Cert.ProjRefIdeal.Read Cert.ProjRow
open Idealize.ShloMosaic Idealize.ShloMosaic.TcCoe Idealize.ShloMosaic.Tactic

variable (x0 : S8x2048x1024.Idx → EReal) (x1 : S8x256x1024.Idx → EReal) (x2 : S4x16x6144.Idx → EReal) (x3 : S4x1024x1440.Idx → EReal)
  (x4 : S4x256.Idx → EReal) (x5 : S4x256x768.Idx → EReal) (x6 : S4x128.Idx → EReal) (x7 x8 : S4x128x512.Idx → EReal)

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]
  norm_num

theorem sh_apply (b : Fin 8) (k : Fin 1024) : val_main_v8 (F := Ideal) x2 (ix3 b 0 k) = x2 (ix3 0 ⟨b.val, by omega⟩ ⟨k.val, by omega⟩) := by
  rw [val_main_v8_apply, val_main_v2_apply, val_main_v1_apply, val_main_v0_apply]
  refine congrArg x2 (funext fun a => Fin.ext ?_)
  fin_cases a
  · rfl
  · show (b.val * 6144 + k.val) / 6144 % 8 = b.val
    omega
  · show (b.val * 6144 + k.val) % 6144 = k.val
    omega
theorem sc_apply (b : Fin 8) (k : Fin 1024) : val_main_v9 (F := Ideal) x2 (ix3 b 0 k) = x2 (ix3 0 ⟨b.val, by omega⟩ ⟨1024 + k.val, by omega⟩) := by
  rw [val_main_v9_apply, val_main_v3_apply, val_main_v1_apply, val_main_v0_apply]
  refine congrArg x2 (funext fun a => Fin.ext ?_)
  fin_cases a
  · rfl
  · show (b.val * 6144 + (1024 + k.val)) / 6144 % 8 = b.val
    omega
  · show (b.val * 6144 + (1024 + k.val)) % 6144 = 1024 + k.val
    omega
theorem shc_apply (k : Fin 1024) : val_main_v16 (F := Ideal) x2 (ix1 k) = x2 (ix3 0 8 ⟨k.val, by omega⟩) := by
  rw [val_main_v16_apply, val_main_v15_apply, val_main_v14_apply]
  refine congrArg x2 (funext fun a => Fin.ext ?_)
  fin_cases a
  · rfl
  · rfl
  · show k.val % 6144 = k.val
    omega
theorem scc_apply (k : Fin 1024) : val_main_v17 (F := Ideal) x2 (ix1 k) = x2 (ix3 0 8 ⟨1024 + k.val, by omega⟩) := by
  rw [val_main_v17_apply, val_main_v15_apply, val_main_v14_apply]
  refine congrArg x2 (funext fun a => Fin.ext ?_)
  fin_cases a
  · rfl
  · rfl
  · show (1024 + k.val) % 6144 = 1024 + k.val
    omega

theorem lat_apply (b : Fin 8) (r : Fin 2048) (k : Fin 1024) :
    val_main_v27 (F := Ideal) x0 x2 (ix3 b r k)
      = x0 (ix3 b r k) * (1 + x2 (ix3 0 ⟨b.val, by omega⟩ ⟨1024 + k.val, by omega⟩)) + x2 (ix3 0 ⟨b.val, by omega⟩ ⟨k.val, by omega⟩) := by
  rw [val_main_v27_apply, val_main_v26_apply, show idx_main_v26 (ix3 b r k) = ix3 b 0 k from funext fun a => by fin_cases a <;> rfl, sh_apply,
    val_main_v25_apply, val_main_v24_apply, show idx_main_v24 (ix3 b r k) = ix3 b 0 k from funext fun a => by fin_cases a <;> rfl,
    val_main_v23_apply, sc_apply, val_main_v22_apply, val_main_cst_apply]
  refine Eq.trans (b := x0 (ix3 b r k) * (Ideal.ofBits .f32 0x3F800000#32 + x2 (ix3 0 ⟨b.val, by omega⟩ ⟨1024 + k.val, by omega⟩)) + x2 (ix3 0 ⟨b.val, by omega⟩ ⟨k.val, by omega⟩)) rfl ?_
  rw [one_word]
theorem con_apply (b : Fin 8) (r : Fin 256) (k : Fin 1024) :
    val_main_v35 (F := Ideal) x1 x2 (ix3 b r k)
      = x1 (ix3 b r k) * (1 + x2 (ix3 0 8 ⟨1024 + k.val, by omega⟩)) + x2 (ix3 0 8 ⟨k.val, by omega⟩) := by
  rw [val_main_v35_apply, val_main_v34_apply, val_main_v33_apply,
    show idx_main_v33 (idx_main_v34 (ix3 b r k)) = ix1 k from funext fun a => by fin_cases a; rfl, shc_apply,
    val_main_v32_apply, val_main_v31_apply, val_main_v30_apply,
    show idx_main_v30 (idx_main_v31 (ix3 b r k)) = ix1 k from funext fun a => by fin_cases a; rfl,
    val_main_v29_apply, scc_apply, val_main_v28_apply, val_main_cst_0_apply]
  refine Eq.trans (b := x1 (ix3 b r k) * (Ideal.ofBits .f32 0x3F800000#32 + x2 (ix3 0 8 ⟨1024 + k.val, by omega⟩)) + x2 (ix3 0 8 ⟨k.val, by omega⟩)) rfl ?_
  rw [one_word]

theorem row_lat (R : Fin 16384) (k : Fin 1024) :
    val_main_v38 (F := Ideal) x0 x1 x2 (ix2 (Fin.castAdd 2048 R : Fin (16384 + 2048)) k)
      = val_main_v27 (F := Ideal) x0 x2 (ix3 ⟨R.val / 2048, by omega⟩ ⟨R.val % 2048, by omega⟩ k) := by
  have e : val_main_v36 (F := Ideal) x0 x2 (ix2 R k) = val_main_v27 (F := Ideal) x0 x2 (ix3 ⟨R.val / 2048, by omega⟩ ⟨R.val % 2048, by omega⟩ k) := by
    rw [val_main_v36_apply]
    refine congrArg (val_main_v27 (F := Ideal) x0 x2) (funext fun a => Fin.ext ?_)
    fin_cases a
    · show (R.val * 1024 + k.val) / 2097152 = R.val / 2048
      omega
    · show (R.val * 1024 + k.val) / 1024 % 2048 = R.val % 2048
      omega
    · show (R.val * 1024 + k.val) % 1024 = k.val
      omega
  rw [← e]
  unfold val_main_v38
  generalize val_main_v36 (F := Ideal) x0 x2 = u
  generalize val_main_v37 (F := Ideal) x1 x2 = v
  exact concatenate_pair_apply_left (t := S18432x1024) (s₁ := S16384x1024) (s₂ := S2048x1024) _ _ _ _ _ rfl (ix2 R k) (fun a => by fin_cases a <;> rfl)

theorem row_con (R : Fin 2048) (k : Fin 1024) :
    val_main_v38 (F := Ideal) x0 x1 x2 (ix2 (Fin.natAdd 16384 R : Fin (16384 + 2048)) k)
      = val_main_v35 (F := Ideal) x1 x2 (ix3 ⟨R.val / 256, by omega⟩ ⟨R.val % 256, by omega⟩ k) := by
  have e : val_main_v37 (F := Ideal) x1 x2 (ix2 R k) = val_main_v35 (F := Ideal) x1 x2 (ix3 ⟨R.val / 256, by omega⟩ ⟨R.val % 256, by omega⟩ k) := by
    rw [val_main_v37_apply]
    refine congrArg (val_main_v35 (F := Ideal) x1 x2) (funext fun a => Fin.ext ?_)
    fin_cases a
    · show (R.val * 1024 + k.val) / 262144 = R.val / 256
      omega
    · show (R.val * 1024 + k.val) / 1024 % 256 = R.val % 256
      omega
    · show (R.val * 1024 + k.val) % 1024 = k.val
      omega
  rw [← e]
  unfold val_main_v38
  generalize val_main_v36 (F := Ideal) x0 x2 = u
  generalize val_main_v37 (F := Ideal) x1 x2 = v
  exact concatenate_pair_apply_right (t := S18432x1024) (s₁ := S16384x1024) (s₂ := S2048x1024) _ _ _ _ _ rfl rfl (ix2 R k)
    (fun a ha => by fin_cases a <;> first | rfl | exact absurd rfl ha) (by show R.val + 16384 = 16384 + R.val; omega)

theorem h_apply (R : Fin 18432) (k : Fin 1024) : val_main_v38 (F := Ideal) x0 x1 x2 (ix2 R k) = hAt x0 x1 x2 R k := by
  unfold hAt modul inRow
  by_cases h : R.val < 16384
  · have e : R = (Fin.castAdd 2048 (⟨R.val, h⟩ : Fin 16384) : Fin (16384 + 2048)) := Fin.ext rfl
    have em : modOf R = ⟨R.val / 2048, by omega⟩ := Fin.ext (by unfold modOf; exact if_pos h)
    rw [dif_pos h, em]
    refine (congrArg (fun R => val_main_v38 (F := Ideal) x0 x1 x2 (ix2 R k)) e).trans ?_
    rw [row_lat, lat_apply]
  · have e : R = (Fin.natAdd 16384 (⟨R.val - 16384, by omega⟩ : Fin 2048) : Fin (16384 + 2048)) := Fin.ext (by show R.val = 16384 + (R.val - 16384); omega)
    have em : modOf R = 8 := Fin.ext (by unfold modOf; exact if_neg h)
    rw [dif_neg h, em]
    refine (congrArg (fun R => val_main_v38 (F := Ideal) x0 x1 x2 (ix2 R k)) e).trans ?_
    rw [row_con, con_apply]

theorem win_apply (k : Fin 1024) (j : Fin 1440) : val_main_v40 (F := Ideal) x3 (ix2 k j) = x3 (ix3 0 k j) := by
  rw [val_main_v40_apply, val_main_v39_apply]
  refine congrArg x3 (funext fun a => Fin.ext ?_)
  fin_cases a
  · rfl
  · show (k.val * 1440 + j.val) / 1440 % 1024 = k.val
    omega
  · show (k.val * 1440 + j.val) % 1440 = j.val
    omega

theorem proj_apply (R : Fin 18432) (j : Fin 1440) : val_main_v41 (F := Ideal) x0 x1 x2 x3 (ix2 R j) = projAt x0 x1 x2 x3 R j := by
  rw [val_main_v41_apply]
  have el : ∀ k, lidx_main_v41 (ix2 R j) k = ix2 R k := fun k => funext fun a => by fin_cases a <;> rfl
  have er : ∀ k, ridx_main_v41 (ix2 R j) k = ix2 k j := fun k => funext fun a => by fin_cases a <;> rfl
  simp only [el, er, win_apply, h_apply]
  rfl

theorem pool_apply (R : Fin 18432) (j : Fin 256) : val_main_v71 (F := Ideal) x0 x1 x2 x3 (ix2 R j) = poolAt x0 x1 x2 x3 R j := by
  rw [val_main_v71_apply]
  refine (congrArg (val_main_v41 (F := Ideal) x0 x1 x2 x3) (show idx_main_v71 (ix2 R j) = ix2 R ⟨928 + j.val, by omega⟩ from funext fun a => by fin_cases a <;> rfl)).trans ?_
  rw [proj_apply]
  rfl

theorem loc_apply (R : Fin 18432) (j : Fin 768) : val_main_v70 (F := Ideal) x0 x1 x2 x3 (ix2 R j) = locAt x0 x1 x2 x3 R j := by
  rw [val_main_v70_apply]
  refine Eq.trans (b := val_main_v69 (F := Ideal) x0 x1 x2 x3 (ix2 R j)) rfl ?_
  have e0 : ∀ i : Fin 512, val_main_v67 (F := Ideal) x0 x1 x2 x3 (ix2 R i) = projAt x0 x1 x2 x3 R ⟨416 + i.val, by omega⟩ := fun i => by
    rw [val_main_v67_apply]
    refine (congrArg (val_main_v41 (F := Ideal) x0 x1 x2 x3) (show idx_main_v67 (ix2 R i) = ix2 R ⟨416 + i.val, by omega⟩ from funext fun a => by fin_cases a <;> rfl)).trans ?_
    rw [proj_apply]
  have e1 : ∀ i : Fin 256, val_main_v68 (F := Ideal) x0 x1 x2 x3 (ix2 R i) = projAt x0 x1 x2 x3 R ⟨1184 + i.val, by omega⟩ := fun i => by
    rw [val_main_v68_apply]
    refine (congrArg (val_main_v41 (F := Ideal) x0 x1 x2 x3) (show idx_main_v68 (ix2 R i) = ix2 R ⟨1184 + i.val, by omega⟩ from funext fun a => by fin_cases a <;> rfl)).trans ?_
    rw [proj_apply]
  unfold locAt val_main_v69
  generalize val_main_v67 (F := Ideal) x0 x1 x2 x3 = u at e0 ⊢
  generalize val_main_v68 (F := Ideal) x0 x1 x2 x3 = v at e1 ⊢
  generalize projAt x0 x1 x2 x3 R = p at e0 e1 ⊢
  by_cases h : j.val < 512
  · refine (concatenate_pair_apply_left (t := S18432x768) (s₁ := S18432x512) (s₂ := S18432x256) _ _ _ _ _ rfl (ix2 R ⟨j.val, h⟩) (fun a => by fin_cases a <;> rfl)).trans ?_
    rw [e0]
    exact congrArg p (Fin.ext (by show 416 + j.val = 416 + (if j.val < 512 then j.val else 256 + j.val); rw [if_pos h]))
  · refine (concatenate_pair_apply_right (t := S18432x768) (s₁ := S18432x512) (s₂ := S18432x256) _ _ _ _ _ rfl rfl (ix2 R ⟨j.val - 512, by omega⟩)
      (fun a ha => by fin_cases a <;> first | rfl | exact absurd rfl ha) (by show j.val - 512 + 512 = j.val; omega)).trans ?_
    rw [e1]
    exact congrArg p (Fin.ext (by show 1184 + (j.val - 512) = 416 + (if j.val < 512 then j.val else 256 + j.val); rw [if_neg h]; omega))

theorem gkv_apply (R : Fin 18432) (j : Fin 128) : val_main_v56 (F := Ideal) x6 (ix2 R j) = x6 (ix2 0 j) := by
  rw [val_main_v56_apply, val_main_v55_apply, val_main_v44_apply, val_main_v43_apply]
  refine congrArg x6 (funext fun a => Fin.ext ?_)
  fin_cases a
  · rfl
  · show j.val % 128 = j.val
    omega

theorem kvin_apply (R : Fin 18432) (k : Fin 128) : val_main_v42 (F := Ideal) x0 x1 x2 x3 (ix2 R k) = projAt x0 x1 x2 x3 R ⟨256 + k.val, by omega⟩ := by
  rw [val_main_v42_apply]
  refine (congrArg (val_main_v41 (F := Ideal) x0 x1 x2 x3) (show idx_main_v42 (ix2 R k) = ix2 R ⟨256 + k.val, by omega⟩ from funext fun a => by fin_cases a <;> rfl)).trans ?_
  rw [proj_apply]

theorem kvroot_apply (R : Fin 18432) :
    val_main_v52 (F := Ideal) x0 x1 x2 x3 (ix2 R 0)
      = Ideal.rsqrt (Ideal.div (∑ k : Fin 128, val_main_v42 (F := Ideal) x0 x1 x2 x3 (ix2 R k) * val_main_v42 (F := Ideal) x0 x1 x2 x3 (ix2 R k)) cKv + cEps) := by
  rw [val_main_v52_apply, val_main_v51_apply, val_main_v49_apply, val_main_v47_apply,
    show idx_main_v47 (ix2 R 0) = ix1 R from funext fun a => by fin_cases a; rfl,
    val_main_v46_apply, val_main_v48_apply, val_main_v50_apply, val_main_cst_1_apply, val_main_cst_2_apply, val_main_cst_3_apply]
  have e : ∀ k, idx_main_v46 (ix1 R) k = ix2 R k := fun k => funext fun a => by fin_cases a <;> rfl
  simp only [e, val_main_v45_apply]
  generalize val_main_v42 (F := Ideal) x0 x1 x2 x3 = u
  refine Eq.trans (b := Ideal.rsqrt (Ideal.div (Ideal.ofBits .f32 0x00000000#32 + ∑ k : Fin 128, u (ix2 R k) * u (ix2 R k)) cKv + cEps)) rfl ?_
  rw [zero_word, zero_add]

theorem ckv_apply (R : Fin 18432) (j : Fin 128) : val_main_v57 (F := Ideal) x0 x1 x2 x3 x6 (ix2 R j) = ckvAt x0 x1 x2 x3 x6 R j := by
  rw [val_main_v57_apply, gkv_apply, val_main_v54_apply, val_main_v53_apply,
    show idx_main_v53 (ix2 R j) = ix2 R 0 from funext fun a => by fin_cases a <;> rfl, kvroot_apply]
  simp only [kvin_apply]
  rfl

theorem wuv_apply (k : Fin 128) (j : Fin 512) : val_main_v59 (F := Ideal) x8 (ix2 k j) = x8 (ix3 0 k j) := by
  rw [val_main_v59_apply, val_main_v58_apply]
  refine congrArg x8 (funext fun a => Fin.ext ?_)
  fin_cases a
  · rfl
  · show (k.val * 512 + j.val) / 512 % 128 = k.val
    omega
  · show (k.val * 512 + j.val) % 512 = j.val
    omega

theorem v_apply (R : Fin 18432) (h : Fin 8) (d : Fin 64) :
    val_main_v61 (F := Ideal) x0 x1 x2 x3 x6 x8 (ix3 R h d)
      = mul (ckvAt x0 x1 x2 x3 x6 R) (fun k j => x8 (ix3 0 k j)) ⟨64 * h.val + d.val, by omega⟩ := by
  rw [val_main_v61_apply]
  refine (congrArg (val_main_v60 (F := Ideal) x0 x1 x2 x3 x6 x8) (show idx_main_v61 (ix3 R h d) = ix2 R ⟨64 * h.val + d.val, by omega⟩ from funext fun a => Fin.ext ?_)).trans ?_
  · fin_cases a
    · show ((R.val * 8 + h.val) * 64 + d.val) / 512 = R.val
      omega
    · show ((R.val * 8 + h.val) * 64 + d.val) % 512 = 64 * h.val + d.val
      omega
  rw [val_main_v60_apply]
  have el : ∀ k j, lidx_main_v60 (ix2 R j) k = ix2 R k := fun k j => funext fun a => by fin_cases a <;> rfl
  have er : ∀ k j, ridx_main_v60 (ix2 R j) k = ix2 k j := fun k j => funext fun a => by fin_cases a <;> rfl
  simp only [el, er, wuv_apply, ckv_apply]
  rfl

theorem vt_apply (j : Fin 640) (R : Fin 18432) : val_main_v66 (F := Ideal) x0 x1 x2 x3 x6 x8 (ix2 j R) = vtAt x0 x1 x2 x3 x6 x8 j R := by
  rw [val_main_v66_apply]
  refine Eq.trans (b := val_main_v65 (F := Ideal) x0 x1 x2 x3 x6 x8 (ix2 j R)) rfl ?_
  rw [val_main_v65_apply, val_main_v64_apply]
  refine (congrArg (val_main_v63 (F := Ideal) x0 x1 x2 x3 x6 x8)
    (show idx_main_v64 (idx_main_v65 (ix2 j R)) = ix3 R (⟨j.val / 80, by omega⟩ : Fin 8) (⟨j.val % 80, by omega⟩ : Fin 80) from funext fun a => Fin.ext ?_)).trans ?_
  · fin_cases a
    · show (j.val * 18432 + R.val) % 18432 = R.val
      omega
    · show (j.val * 18432 + R.val) / 1474560 = j.val / 80
      omega
    · show (j.val * 18432 + R.val) / 18432 % 80 = j.val % 80
      omega
  have e0 := fun d => v_apply x0 x1 x2 x3 x6 x8 R ⟨j.val / 80, by omega⟩ d
  have e1 : ∀ i, val_main_v62 (F := Ideal) i = 1 := fun i => by
    rw [val_main_v62_apply]
    exact one_word
  unfold val_main_v63 vtAt
  generalize val_main_v61 (F := Ideal) x0 x1 x2 x3 x6 x8 = u at e0 ⊢
  generalize val_main_v62 (F := Ideal) = v at e1 ⊢
  by_cases h : j.val % 80 < 64
  · rw [dif_pos h]
    refine (concatenate_pair_apply_left (t := S18432x8x80) (s₁ := S18432x8x64) (s₂ := S18432x8x16) _ _ _ _ _ rfl (ix3 R ⟨j.val / 80, by omega⟩ ⟨j.val % 80, h⟩) (fun a => by fin_cases a <;> rfl)).trans ?_
    rw [e0]
  · rw [dif_neg h]
    refine (concatenate_pair_apply_right (t := S18432x8x80) (s₁ := S18432x8x64) (s₂ := S18432x8x16) _ _ _ _ _ rfl rfl (ix3 R ⟨j.val / 80, by omega⟩ ⟨j.val % 80 - 64, by omega⟩)
      (fun a ha => by fin_cases a <;> first | rfl | exact absurd rfl ha) (by show j.val % 80 - 64 + 64 = j.val % 80; omega)).trans ?_
    exact e1 _

end Cert.ProjRefIdeal.Proj

end
-- ==== Proof.ProjValue.lean ====
/-
  The input projection's value claim: the arrays of the transposed values, the local mixers' channels and the pooled channels
  are the reference's.
-/
module

public import proofs.«01_k».proof.Proof.ProjArrays
public import proofs.«01_k».proof.Proof.ProjRef
public import proofs.«01_k».proof.Proof.Gen.ProjRefIdeal.Run
public import proofs.«01_k».proof.Defs

@[expose] public section

set_option maxRecDepth 16384
set_option backward.proofsInPublic true

noncomputable section

namespace Cert.ProjIdeal.Proj

open Cert.ProjIdeal Cert.ProjIdeal.Gen Cert.ProjRefIdeal.Proj Cert.ProjRefIdeal.Read
open Idealize.ShloMosaic Idealize.ShloMosaic.TcCoe Idealize.ShloMosaic.Tactic Idealize.SL.Sem

variable (m : (ℓ : Loc nD τ sig) → Buf (Elt Ideal) ℓ) (c : Dev nD)

theorem vt_ref : vtArr m c = val_main_v66 (F := Ideal) (arg0 m c) (arg1 m c) (arg2 m c) (arg3 m c) (arg6 m c) (arg8 m c) := by
  funext y
  refine Eq.trans ?_ (congrArg (val_main_v66 (F := Ideal) (arg0 m c) (arg1 m c) (arg2 m c) (arg3 m c) (arg6 m c) (arg8 m c))
    (show ix2 (⟨(y 0).val, (y 0).isLt⟩ : Fin 640) (⟨(y 1).val, (y 1).isLt⟩ : Fin 18432) = y from funext fun a => by fin_cases a <;> rfl))
  rw [Cert.ProjRefIdeal.Proj.vt_apply]
  rfl

theorem loc_ref : locArr m c = val_main_v70 (F := Ideal) (arg0 m c) (arg1 m c) (arg2 m c) (arg3 m c) := by
  funext y
  refine Eq.trans ?_ (congrArg (val_main_v70 (F := Ideal) (arg0 m c) (arg1 m c) (arg2 m c) (arg3 m c))
    (show ix2 (⟨(y 0).val, (y 0).isLt⟩ : Fin 18432) (⟨(y 1).val, (y 1).isLt⟩ : Fin 768) = y from funext fun a => by fin_cases a <;> rfl))
  rw [Cert.ProjRefIdeal.Proj.loc_apply]
  rfl

theorem pool_ref : poolArr m c = val_main_v71 (F := Ideal) (arg0 m c) (arg1 m c) (arg2 m c) (arg3 m c) := by
  funext y
  refine Eq.trans ?_ (congrArg (val_main_v71 (F := Ideal) (arg0 m c) (arg1 m c) (arg2 m c) (arg3 m c))
    (show ix2 (⟨(y 0).val, (y 0).isLt⟩ : Fin 18432) (⟨(y 1).val, (y 1).isLt⟩ : Fin 256) = y from funext fun a => by fin_cases a <;> rfl))
  rw [Cert.ProjRefIdeal.Proj.pool_apply]
  rfl

/-- The reference's stages at arguments that agree with the kernel's. -/
theorem ref_args (m' : (ℓ : Loc Cert.ProjRefIdeal.nD Cert.ProjRefIdeal.τ Cert.ProjRefIdeal.sig) → Buf (Elt Ideal) ℓ)
    (h : m' ((c.tc : Thread Cert.ProjRefIdeal.nD Cert.ProjRefIdeal.τ).loc Cert.ProjRefIdeal.main_arg0) = m ((c.tc : Thread nD τ).loc main_arg0)
      ∧ m' ((c.tc : Thread Cert.ProjRefIdeal.nD Cert.ProjRefIdeal.τ).loc Cert.ProjRefIdeal.main_arg1) = m ((c.tc : Thread nD τ).loc main_arg1)
      ∧ m' ((c.tc : Thread Cert.ProjRefIdeal.nD Cert.ProjRefIdeal.τ).loc Cert.ProjRefIdeal.main_arg2) = m ((c.tc : Thread nD τ).loc main_arg2)
      ∧ m' ((c.tc : Thread Cert.ProjRefIdeal.nD Cert.ProjRefIdeal.τ).loc Cert.ProjRefIdeal.main_arg3) = m ((c.tc : Thread nD τ).loc main_arg3)
      ∧ m' ((c.tc : Thread Cert.ProjRefIdeal.nD Cert.ProjRefIdeal.τ).loc Cert.ProjRefIdeal.main_arg4) = m ((c.tc : Thread nD τ).loc main_arg4)
      ∧ m' ((c.tc : Thread Cert.ProjRefIdeal.nD Cert.ProjRefIdeal.τ).loc Cert.ProjRefIdeal.main_arg5) = m ((c.tc : Thread nD τ).loc main_arg5)
      ∧ m' ((c.tc : Thread Cert.ProjRefIdeal.nD Cert.ProjRefIdeal.τ).loc Cert.ProjRefIdeal.main_arg6) = m ((c.tc : Thread nD τ).loc main_arg6)
      ∧ m' ((c.tc : Thread Cert.ProjRefIdeal.nD Cert.ProjRefIdeal.τ).loc Cert.ProjRefIdeal.main_arg7) = m ((c.tc : Thread nD τ).loc main_arg7)
      ∧ m' ((c.tc : Thread Cert.ProjRefIdeal.nD Cert.ProjRefIdeal.τ).loc Cert.ProjRefIdeal.main_arg8) = m ((c.tc : Thread nD τ).loc main_arg8)) :
    val_main_v66 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg6)) (m' ((c.tc : Thread Cert.ProjRefIdeal.nD Cert.ProjRefIdeal.τ).loc Cert.ProjRefIdeal.main_arg8))
      = val_main_v66 (F := Ideal) (arg0 m c) (arg1 m c) (arg2 m c) (arg3 m c) (arg6 m c) (arg8 m c)
    ∧ val_main_v70 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))
      = val_main_v70 (F := Ideal) (arg0 m c) (arg1 m c) (arg2 m c) (arg3 m c)
    ∧ val_main_v71 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))
      = val_main_v71 (F := Ideal) (arg0 m c) (arg1 m c) (arg2 m c) (arg3 m c) := by
  obtain ⟨a0, a1, a2, a3, -, -, a6, -, a8⟩ := h
  rw [a0, a1, a2, a3, a6, a8]
  exact ⟨rfl, rfl, rfl⟩

/-- THE VALUE CLAIM of the input projection. -/
theorem value : Cert.algebraic_ProjIdeal_ProjRefIdeal (hProjIdeal := Cert.ProjIdeal.Gen.facts)
    (hProjRefIdeal := Cert.ProjRefIdeal.Gen.facts) := by
  intro m g m' g' _ hargs
  refine ⟨fun c => vtArr m c, fun c => locArr m c, fun c => poolArr m c, ?_, ?_⟩
  · exact (θ_run defs _ _).mono (fun _ h c => ⟨(h c).2.2.1.trans (vt_array m c), (h c).2.2.2.1.trans (loc_array m c),
      (h c).2.2.2.2.1.trans (pool_array m c), (h c).2.2.2.2.2⟩) (Cert.ProjIdeal.Value.run_blocks m g)
  · refine (θ_run Cert.ProjRefIdeal.defs _ _).mono (fun _ h c => ⟨?_, ?_, ?_, (h c).2.2.2⟩) (Cert.ProjRefIdeal.Value.run m' g')
    · refine (h c).1.trans ((val_main_v66_eq _ _).trans ?_)
      refine Eq.trans ?_ (vt_ref m c).symm
      exact (ref_args m c m' (hargs c)).1
    · refine (h c).2.1.trans ((val_main_v70_eq _ _).trans ?_)
      refine Eq.trans ?_ (loc_ref m c).symm
      exact (ref_args m c m' (hargs c)).2.1
    · refine (h c).2.2.1.trans ((val_main_v71_eq _ _ _ _).trans ?_)
      refine Eq.trans ?_ (pool_ref m c).symm
      exact (ref_args m c m' (hargs c)).2.2

end Cert.ProjIdeal.Proj

end
-- ==== Proof.CTailRead.lean ====
/-
  The stages of the tail kernel with context rows READ AT AN INDEX: each is the row function of TailMath.lean on one row of its
  operands, the block of tokens being the latents' at the first 32 grid points and the context's at the last four.
-/
module

public import proofs.«01_k».proof.Proof.TailMath
public import proofs.«01_k».proof.Proof.Gen.CTailIdeal.Frame

@[expose] public section

set_option maxRecDepth 16384
set_option backward.proofsInPublic true

noncomputable section

namespace Cert.CTailIdeal.CTail

open Cert.CTailIdeal Cert.CTailIdeal.Gen Cert.TailRow
open Idealize.ShloMosaic Idealize.ShloMosaic.TcCoe

/-- What grid point `i` takes of two operands: the latents' at the first 32 points, the context's at the last four. -/
def pick {α : Type} (i : grid0.Coords) (a b : α) : α := if (i 0).val < 32 then a else b

/-- The bit the kernel selects by. -/
abbrev bit (i : grid0.Coords) : BitVec 1 := Scalar.cmpi .slt (BitVec.ofNat 32 (i 0).val) 32#32

theorem bit_word (n : Fin 36) : Scalar.cmpi .slt (BitVec.ofNat 32 n.val) 32#32 = if n.val < 32 then 1#1 else 0#1 := by
  revert n
  decide +kernel

theorem pick_eq {α : Type} (i : grid0.Coords) (a b : α) : Scalar.select (bit i) a b = pick i a b := by
  have h := bit_word ⟨(i 0).val, (i 0).isLt⟩
  unfold bit
  rw [h, pick]
  split <;> rfl

/-- A vector cast to its own shape. -/
theorem cast_self (v : Vec Ideal S256x1024 .f32) : shapeCast S256x1024 v shapeCasts_S256x1024_S256x1024 = v := by
  funext x
  pointwise

theorem norm_apply (u : FVec Ideal S256x1024 .f32) (g : FVec Ideal S1x1024 .f32) (b : Vec Ideal S1x1x1024 .f32) (r : Fin 256) (j : Fin 1024) :
    k0_pay17 (F := Ideal) u g b (ix2 r j) = norm (fun k => u (ix2 r k)) (fun k => g (ix2 0 k)) (fun k => b (ix3 0 0 k)) j := by
  pointwise [k0_pay17]
  rfl

theorem res_apply (i : grid0.Coords) (g1 : FVec Ideal S1x1024 .f32) (y : FVec Ideal S256x1024 .f32) (x x' : Vec Ideal S256x1024 .f32) (r : Fin 256) (j : Fin 1024) :
    k0_pay15 (F := Ideal) (bit i) g1 y x x' (ix2 r j)
      = res (fun k => pick i x x' (ix2 r k)) (fun k => g1 (ix2 0 k)) (fun k => y (ix2 r k)) j := by
  unfold k0_pay15
  simp only [cast_self, pick_eq]
  pointwise
  rfl

theorem mix_apply (i : grid0.Coords) (a a' : Vec Ideal S256x512 .bf16) (l l' : Vec Ideal S256x768 .bf16) (w : Vec Ideal S1x512x1024 .bf16) (w' : Vec Ideal S1x768x1024 .bf16) (r : Fin 256) (j : Fin 1024) :
    k0_pay6 (F := Ideal) (bit i) a a' l l' w w' (ix2 r j)
      = ∑ k : Fin 512, pick i a a' (ix2 r k) * w (ix3 0 k j) + ∑ k : Fin 768, pick i l l' (ix2 r k) * w' (ix3 0 k j) := by
  unfold k0_pay6
  simp only [pick_eq]
  pointwise

theorem modul_apply (v4 v6 : FVec Ideal S1x1024 .f32) (u : FVec Ideal S256x1024 .f32) (g : FVec Ideal S1x1024 .f32) (b : Vec Ideal S1x1x1024 .f32) (r : Fin 256) (j : Fin 1024) :
    k0_pay18 (F := Ideal) v4 v6 u g b (ix2 r j)
      = modul (fun k => k0_pay17 (F := Ideal) u g b (ix2 r k)) (fun k => v6 (ix2 0 k)) (fun k => v4 (ix2 0 k)) j := by
  unfold k0_pay18
  generalize k0_pay17 (F := Ideal) u g b = h
  pointwise
  rfl

theorem up_apply (v4 v6 : FVec Ideal S1x1024 .f32) (u : FVec Ideal S256x1024 .f32) (g : FVec Ideal S1x1024 .f32) (b : Vec Ideal S1x1x1024 .f32) (w : Vec Ideal S1x1024x2816 .bf16) (r : Fin 256) (f : Fin 2816) :
    k0_pay19 (F := Ideal) v4 v6 u g b w (ix2 r f)
      = ∑ k : Fin 1024, modul (fun k => k0_pay17 (F := Ideal) u g b (ix2 r k)) (fun k => v6 (ix2 0 k)) (fun k => v4 (ix2 0 k)) k * w (ix3 0 k f) := by
  have h := modul_apply v4 v6 u g b r
  unfold k0_pay19
  generalize k0_pay18 (F := Ideal) v4 v6 u g b = h' at h ⊢
  pointwise
  simp only [h]

theorem up2_eq (v4 v6 : FVec Ideal S1x1024 .f32) (u : FVec Ideal S256x1024 .f32) (g : FVec Ideal S1x1024 .f32) (b : Vec Ideal S1x1x1024 .f32) (w : Vec Ideal S1x1024x2816 .bf16) :
    k0_pay20 (F := Ideal) v4 v6 u g b w = k0_pay19 (F := Ideal) v4 v6 u g b w := rfl

theorem down_apply (p q : FVec Ideal S256x2816 .f32) (w2 : Vec Ideal S1x2816x1024 .bf16) (r : Fin 256) (j : Fin 1024) :
    k0_pay22 (F := Ideal) p q w2 (ix2 r j) = ∑ f : Fin 2816, gate (p (ix2 r f)) (q (ix2 r f)) * w2 (ix3 0 f j) := by
  simp only [← gate_kernel]
  pointwise [k0_pay22]

theorem norm2_apply (g2 : FVec Ideal S1x1024 .f32) (h y : FVec Ideal S256x1024 .f32) (g b : Vec Ideal S1x1x1024 .f32) (r : Fin 256) (j : Fin 1024) :
    k0_pay28 (F := Ideal) g2 h y g b (ix2 r j)
      = norm (res (fun k => h (ix2 r k)) (fun k => g2 (ix2 0 k)) (fun k => y (ix2 r k))) (fun k => g (ix3 0 0 k)) (fun k => b (ix3 0 0 k)) j := by
  pointwise [k0_pay28]
  rfl

/-- What a half's store holds, from the half's residual before the first normalisation. -/
def half (g2 v4 v6 : FVec Ideal S1x1024 .f32) (u : FVec Ideal S256x1024 .f32) (lg : FVec Ideal S1x1024 .f32) (lb : Vec Ideal S1x1x1024 .f32) (w1 w3 : Vec Ideal S1x1024x2816 .bf16) (w2 : Vec Ideal S1x2816x1024 .bf16)
    (g b : Vec Ideal S1x1x1024 .f32) : FVec Ideal S256x1024 .f32 :=
  k0_pay28 (F := Ideal) g2 (k0_pay17 (F := Ideal) u lg lb) (k0_pay22 (F := Ideal) (k0_pay19 (F := Ideal) v4 v6 u lg lb w1) (k0_pay20 (F := Ideal) v4 v6 u lg lb w3) w2) g b

theorem half_apply (g2 v4 v6 : FVec Ideal S1x1024 .f32) (u : FVec Ideal S256x1024 .f32) (lg : FVec Ideal S1x1024 .f32) (lb : Vec Ideal S1x1x1024 .f32) (w1 w3 : Vec Ideal S1x1024x2816 .bf16) (w2 : Vec Ideal S1x2816x1024 .bf16)
    (g b : Vec Ideal S1x1x1024 .f32) (r : Fin 256) (j : Fin 1024) :
    half g2 v4 v6 u lg lb w1 w3 w2 g b (ix2 r j)
      = Cert.TailRow.fin (norm (fun k => u (ix2 r k)) (fun k => lg (ix2 0 k)) (fun k => lb (ix3 0 0 k))) (fun k => v4 (ix2 0 k)) (fun k => v6 (ix2 0 k)) (fun k => g2 (ix2 0 k)) (fun k f => w1 (ix3 0 k f)) (fun k f => w3 (ix3 0 k f))
          (fun f j => w2 (ix3 0 f j)) (fun k => g (ix3 0 0 k)) (fun k => b (ix3 0 0 k)) j := by
  unfold half
  rw [norm2_apply]
  simp only [up2_eq, down_apply, up_apply, norm_apply]
  rfl

/-- The first half's stages compute the same formulas in other pieces. -/
theorem first_half_eq (v0 : BitVec 1) (g1 g2 v4 v6 : FVec Ideal S1x1024 .f32) (y : FVec Ideal S256x1024 .f32) (x x' : Vec Ideal S256x1024 .f32) (lg lb : Vec Ideal S1x1x1024 .f32)
    (w1 w3 : Vec Ideal S1x1024x2816 .bf16) (w2 : Vec Ideal S1x2816x1024 .bf16) (g b : Vec Ideal S1x1x1024 .f32) :
    k0_pay27 (F := Ideal) (k0_pay23 (F := Ideal) g) (k0_pay24 (F := Ideal) b)
      (k0_pay25 (F := Ideal) g2 (k0_pay11 (F := Ideal) (k0_pay7 (F := Ideal) lg) (k0_pay8 (F := Ideal) lb) (k0_pay9 (F := Ideal) v0 g1 y x x') (k0_pay10 (F := Ideal) v0 g1 y x x'))
        (k0_pay14 (F := Ideal) v4 v6 (k0_pay7 (F := Ideal) lg) (k0_pay8 (F := Ideal) lb) (k0_pay9 (F := Ideal) v0 g1 y x x') (k0_pay10 (F := Ideal) v0 g1 y x x') w3)
        (k0_pay21 (F := Ideal) (k0_pay13 (F := Ideal) v4 v6 (k0_pay7 (F := Ideal) lg) (k0_pay8 (F := Ideal) lb) (k0_pay9 (F := Ideal) v0 g1 y x x') (k0_pay10 (F := Ideal) v0 g1 y x x') w1)) w2)
      (k0_pay26 (F := Ideal) g2 (k0_pay11 (F := Ideal) (k0_pay7 (F := Ideal) lg) (k0_pay8 (F := Ideal) lb) (k0_pay9 (F := Ideal) v0 g1 y x x') (k0_pay10 (F := Ideal) v0 g1 y x x'))
        (k0_pay14 (F := Ideal) v4 v6 (k0_pay7 (F := Ideal) lg) (k0_pay8 (F := Ideal) lb) (k0_pay9 (F := Ideal) v0 g1 y x x') (k0_pay10 (F := Ideal) v0 g1 y x x') w3)
        (k0_pay21 (F := Ideal) (k0_pay13 (F := Ideal) v4 v6 (k0_pay7 (F := Ideal) lg) (k0_pay8 (F := Ideal) lb) (k0_pay9 (F := Ideal) v0 g1 y x x') (k0_pay10 (F := Ideal) v0 g1 y x x') w1)) w2)
      = half g2 v4 v6 (k0_pay15 (F := Ideal) v0 g1 y x x') (k0_pay16 (F := Ideal) lg) lb w1 w3 w2 g b := rfl

theorem first_mix_eq (i : grid0.Coords) (a a' : Vec Ideal S256x512 .bf16) (l l' : Vec Ideal S256x768 .bf16) (w : Vec Ideal S1x512x1024 .bf16) (w' : Vec Ideal S1x768x1024 .bf16) :
    k0_pay5 (F := Ideal) i a a' l l' w w' = k0_pay6 (F := Ideal) (bit i) a a' l l' w w' := rfl

variable (i : grid0.Coords) (x0 x1 : Vec Ideal S512x1024 .f32) (x2 x3 : Vec Ideal S512x512 .bf16) (x4 x5 : Vec Ideal S512x768 .bf16) (x6 : Vec Ideal S1x1x1x6144 .f32)
  (x7 : Vec Ideal S1x1280x1024 .bf16) (x8 x9 : Vec Ideal S1x1x1024 .f32) (x10 x11 : Vec Ideal S1x1024x2816 .bf16) (x12 : Vec Ideal S1x2816x1024 .bf16)
  (x13 x14 : Vec Ideal S1x1x1024 .f32)

/-- Channel `k` of modulation vector `n` of the six. -/
abbrev modCh (n : ℕ) (hn : n < 6) (k : Fin 1024) : EReal := x6 (ix4 0 0 0 ⟨1024 * n + k.val, by omega⟩)

/-- The block's row `r` after the body, as a function of the input blocks' rows. -/
def rowV (r : Fin 512) : Fin 1024 → EReal :=
  Cert.TailRow.fin
    (mid (fun k => pick i x0 x1 (ix2 r k)) (fun k => pick i x2 x3 (ix2 r k)) (fun k => pick i x4 x5 (ix2 r k)) (fun i j => x7 (ix3 0 i j)) (modCh x6 2 (by omega)) (fun k => x8 (ix3 0 0 k)) (fun k => x9 (ix3 0 0 k)))
    (modCh x6 3 (by omega)) (modCh x6 4 (by omega)) (modCh x6 5 (by omega)) (fun k f => x10 (ix3 0 k f)) (fun k f => x11 (ix3 0 k f)) (fun f j => x12 (ix3 0 f j))
    (fun k => x13 (ix3 0 0 k)) (fun k => x14 (ix3 0 0 k))

theorem ld_g1 (k : Fin 1024) : k0_pay1 (F := Ideal) (View.ld x6 r0_0) (ix2 0 k) = modCh x6 2 (by omega) k := by
  pointwise [k0_pay1]
theorem ld_sh (k : Fin 1024) : k0_pay2 (F := Ideal) (View.ld x6 r0_1) (ix2 0 k) = modCh x6 3 (by omega) k := by
  pointwise [k0_pay2]
theorem ld_sc (k : Fin 1024) : k0_pay3 (F := Ideal) (View.ld x6 r0_2) (ix2 0 k) = modCh x6 4 (by omega) k := by
  pointwise [k0_pay3]
theorem ld_g2 (k : Fin 1024) : k0_pay4 (F := Ideal) (View.ld x6 r0_3) (ix2 0 k) = modCh x6 5 (by omega) k := by
  pointwise [k0_pay4]
theorem ld_lg (k : Fin 1024) : k0_pay16 (F := Ideal) (View.ld x8 r0_11) (ix2 0 k) = x8 (ix3 0 0 k) := by
  pointwise [k0_pay16]

/-- What is taken of two blocks at an index. -/
theorem pick_at {α β : Type} (a b : α → β) (k : α) : pick i a b k = pick i (a k) (b k) := by
  unfold pick
  split <;> rfl

/-- The first half's rows. -/
theorem first_apply (r : Fin 256) (j : Fin 1024) :
    half (k0_pay4 (F := Ideal) (View.ld x6 r0_3)) (k0_pay2 (F := Ideal) (View.ld x6 r0_1)) (k0_pay3 (F := Ideal) (View.ld x6 r0_2))
      (k0_pay15 (F := Ideal) (bit i) (k0_pay1 (F := Ideal) (View.ld x6 r0_0)) (k0_pay6 (F := Ideal) (bit i) (View.ld x2 r0_4) (View.ld x3 r0_4) (View.ld x4 r0_5) (View.ld x5 r0_5) (View.ld x7 r0_6) (View.ld x7 r0_7))
        (View.ld x0 r0_10) (View.ld x1 r0_10)) (k0_pay16 (F := Ideal) (View.ld x8 r0_11)) (View.ld x9 r0_11)
      (View.ld x10 r0_12) (View.ld x11 r0_12) (View.ld x12 r0_14) (View.ld x13 r0_11) (View.ld x14 r0_11) (ix2 r j)
      = rowV i x0 x1 x2 x3 x4 x5 x6 x7 x8 x9 x10 x11 x12 x13 x14 ⟨r.val, by omega⟩ j := by
  rw [half_apply]
  simp only [res_apply, mix_apply, ld_g1, ld_sh, ld_sc, ld_g2, ld_lg]
  unfold rowV
  simp only [pick_at]
  have e0 : ∀ k, View.ld x0 r0_10 (ix2 r k) = x0 (ix2 ⟨r.val, by omega⟩ k) := fun k => by pointwise
  have e1 : ∀ k, View.ld x1 r0_10 (ix2 r k) = x1 (ix2 ⟨r.val, by omega⟩ k) := fun k => by pointwise
  have e2 : ∀ k, View.ld x2 r0_4 (ix2 r k) = x2 (ix2 ⟨r.val, by omega⟩ k) := fun k => by pointwise
  have e3 : ∀ k, View.ld x3 r0_4 (ix2 r k) = x3 (ix2 ⟨r.val, by omega⟩ k) := fun k => by pointwise
  have e4 : ∀ k, View.ld x4 r0_5 (ix2 r k) = x4 (ix2 ⟨r.val, by omega⟩ k) := fun k => by pointwise
  have e5 : ∀ k, View.ld x5 r0_5 (ix2 r k) = x5 (ix2 ⟨r.val, by omega⟩ k) := fun k => by pointwise
  have e7 : ∀ (k : Fin 512) (j : Fin 1024), View.ld x7 r0_6 (ix3 0 k j) = x7 (ix3 0 ⟨k.val, by omega⟩ j) := fun k j => by pointwise
  have e7' : ∀ (k : Fin 768) (j : Fin 1024), View.ld x7 r0_7 (ix3 0 k j) = x7 (ix3 0 ⟨512 + k.val, by omega⟩ j) := fun k j => by pointwise
  have e9 : ∀ k : Fin 1024, View.ld x9 r0_11 (ix3 0 0 k) = x9 (ix3 0 0 k) := fun k => by pointwise
  have e13 : ∀ k : Fin 1024, View.ld x13 r0_11 (ix3 0 0 k) = x13 (ix3 0 0 k) := fun k => by pointwise
  have e14 : ∀ k : Fin 1024, View.ld x14 r0_11 (ix3 0 0 k) = x14 (ix3 0 0 k) := fun k => by pointwise
  have e10 : ∀ (k : Fin 1024) (f : Fin 2816), View.ld x10 r0_12 (ix3 0 k f) = x10 (ix3 0 k f) := fun k f => by pointwise
  have e11 : ∀ (k : Fin 1024) (f : Fin 2816), View.ld x11 r0_12 (ix3 0 k f) = x11 (ix3 0 k f) := fun k f => by pointwise
  have e12 : ∀ (f : Fin 2816) (k : Fin 1024), View.ld x12 r0_14 (ix3 0 f k) = x12 (ix3 0 f k) := fun f k => by pointwise
  simp only [e0, e1, e2, e3, e4, e5, e7, e7', e9, e10, e11, e12, e13, e14]
  rfl

/-- The second half's rows. -/
theorem second_apply (r : Fin 256) (j : Fin 1024) :
    half (k0_pay4 (F := Ideal) (View.ld x6 r0_3)) (k0_pay2 (F := Ideal) (View.ld x6 r0_1)) (k0_pay3 (F := Ideal) (View.ld x6 r0_2))
      (k0_pay15 (F := Ideal) (bit i) (k0_pay1 (F := Ideal) (View.ld x6 r0_0)) (k0_pay6 (F := Ideal) (bit i) (View.ld x2 r0_8) (View.ld x3 r0_8) (View.ld x4 r0_9) (View.ld x5 r0_9) (View.ld x7 r0_6) (View.ld x7 r0_7))
        (View.ld x0 r0_13) (View.ld x1 r0_13)) (k0_pay16 (F := Ideal) (View.ld x8 r0_11)) (View.ld x9 r0_11)
      (View.ld x10 r0_12) (View.ld x11 r0_12) (View.ld x12 r0_14) (View.ld x13 r0_11) (View.ld x14 r0_11) (ix2 r j)
      = rowV i x0 x1 x2 x3 x4 x5 x6 x7 x8 x9 x10 x11 x12 x13 x14 ⟨256 + r.val, by omega⟩ j := by
  rw [half_apply]
  simp only [res_apply, mix_apply, ld_g1, ld_sh, ld_sc, ld_g2, ld_lg]
  unfold rowV
  simp only [pick_at]
  have e0 : ∀ k, View.ld x0 r0_13 (ix2 r k) = x0 (ix2 ⟨256 + r.val, by omega⟩ k) := fun k => by pointwise
  have e1 : ∀ k, View.ld x1 r0_13 (ix2 r k) = x1 (ix2 ⟨256 + r.val, by omega⟩ k) := fun k => by pointwise
  have e2 : ∀ k, View.ld x2 r0_8 (ix2 r k) = x2 (ix2 ⟨256 + r.val, by omega⟩ k) := fun k => by pointwise
  have e3 : ∀ k, View.ld x3 r0_8 (ix2 r k) = x3 (ix2 ⟨256 + r.val, by omega⟩ k) := fun k => by pointwise
  have e4 : ∀ k, View.ld x4 r0_9 (ix2 r k) = x4 (ix2 ⟨256 + r.val, by omega⟩ k) := fun k => by pointwise
  have e5 : ∀ k, View.ld x5 r0_9 (ix2 r k) = x5 (ix2 ⟨256 + r.val, by omega⟩ k) := fun k => by pointwise
  have e7 : ∀ (k : Fin 512) (j : Fin 1024), View.ld x7 r0_6 (ix3 0 k j) = x7 (ix3 0 ⟨k.val, by omega⟩ j) := fun k j => by pointwise
  have e7' : ∀ (k : Fin 768) (j : Fin 1024), View.ld x7 r0_7 (ix3 0 k j) = x7 (ix3 0 ⟨512 + k.val, by omega⟩ j) := fun k j => by pointwise
  have e9 : ∀ k : Fin 1024, View.ld x9 r0_11 (ix3 0 0 k) = x9 (ix3 0 0 k) := fun k => by pointwise
  have e13 : ∀ k : Fin 1024, View.ld x13 r0_11 (ix3 0 0 k) = x13 (ix3 0 0 k) := fun k => by pointwise
  have e14 : ∀ k : Fin 1024, View.ld x14 r0_11 (ix3 0 0 k) = x14 (ix3 0 0 k) := fun k => by pointwise
  have e10 : ∀ (k : Fin 1024) (f : Fin 2816), View.ld x10 r0_12 (ix3 0 k f) = x10 (ix3 0 k f) := fun k f => by pointwise
  have e11 : ∀ (k : Fin 1024) (f : Fin 2816), View.ld x11 r0_12 (ix3 0 k f) = x11 (ix3 0 k f) := fun k f => by pointwise
  have e12 : ∀ (f : Fin 2816) (k : Fin 1024), View.ld x12 r0_14 (ix3 0 f k) = x12 (ix3 0 f k) := fun f k => by pointwise
  simp only [e0, e1, e2, e3, e4, e5, e7, e7', e9, e10, e11, e12, e13, e14]
  rfl

theorem idx_eta (x : S256x1024.Idx) : x = ix2 (⟨(x 0).val, (x 0).isLt⟩ : Fin 256) (⟨(x 1).val, (x 1).isLt⟩ : Fin 1024) := by
  funext a
  fin_cases a <;> rfl

/-- The whole block after the body. -/
theorem out_apply (y : S512x1024.Idx) :
    out0_15 (F := Ideal) i x0 x1 x2 x3 x4 x5 x6 x7 x8 x9 x10 x11 x12 x13 x14 y
      = rowV i x0 x1 x2 x3 x4 x5 x6 x7 x8 x9 x10 x11 x12 x13 x14 ⟨(y 0).val, (y 0).isLt⟩ ⟨(y 1).val, (y 1).isLt⟩ := by
  have hG := View.canon_apply_of_pieces (Val := Elt Ideal) (e := .f32) (S := S512x1024)
    (fun y : S512x1024.Idx => rowV i x0 x1 x2 x3 x4 x5 x6 x7 x8 x9 x10 x11 x12 x13 x14 ⟨(y 0).val, (y 0).isLt⟩ ⟨(y 1).val, (y 1).isLt⟩)
  unfold out0_15 k0_pay42 k0_pay41 k0_pay40 k0_pay39 k0_pay38 k0_pay37 k0_pay36 k0_pay35 k0_pay34 k0_pay33 k0_pay32 k0_pay31 k0_pay30 k0_pay29
  rw [first_half_eq, first_mix_eq]
  refine hG _ (fun p hp => ?_) y ?_
  · rcases List.mem_cons.1 hp with rfl | hp
    · intro x
      rw [idx_eta x]
      refine (second_apply i x0 x1 x2 x3 x4 x5 x6 x7 x8 x9 x10 x11 x12 x13 x14 _ _).trans ?_
      refine congrArg₂ (rowV i x0 x1 x2 x3 x4 x5 x6 x7 x8 x9 x10 x11 x12 x13 x14) (Fin.ext ?_) (Fin.ext ?_)
      · show 256 + (x 0).val = 256 + 1 * (x 0).val
        omega
      · show (x 1).val = 0 + 1 * (x 1).val
        omega
    · obtain rfl := List.mem_singleton.1 hp
      intro x
      rw [idx_eta x]
      refine (first_apply i x0 x1 x2 x3 x4 x5 x6 x7 x8 x9 x10 x11 x12 x13 x14 _ _).trans ?_
      refine congrArg₂ (rowV i x0 x1 x2 x3 x4 x5 x6 x7 x8 x9 x10 x11 x12 x13 x14) (Fin.ext ?_) (Fin.ext ?_)
      · show (x 0).val = 0 + 1 * (x 0).val
        omega
      · show (x 1).val = 0 + 1 * (x 1).val
        omega
  · by_cases h : (y 0).val < 256
    · refine ⟨_, List.mem_cons_of_mem _ (List.mem_singleton_self _), ?_⟩
      refine (Rect.mem_set_unit (inb := inb_S512x1024_S256x1024_0_0)).2 fun a => ?_
      have h1 : (y 1).val < 1024 := (y 1).isLt
      fin_cases a
      · exact ⟨Nat.zero_le _, (by show (y 0).val < 0 + 256; omega)⟩
      · exact ⟨Nat.zero_le _, (by show (y 1).val < 0 + 1024; omega)⟩
    · refine ⟨_, List.mem_cons_self, ?_⟩
      refine (Rect.mem_set_unit (inb := inb_S512x1024_S256x1024_256_0)).2 fun a => ?_
      have h0 : (y 0).val < 512 := (y 0).isLt
      have h1 : (y 1).val < 1024 := (y 1).isLt
      fin_cases a
      · exact ⟨(by show 256 ≤ (y 0).val; omega), (by show (y 0).val < 256 + 256; omega)⟩
      · exact ⟨Nat.zero_le _, (by show (y 1).val < 0 + 1024; omega)⟩

end Cert.CTailIdeal.CTail

end
-- ==== Proof.CTailInput.lean ====
/-
  What the windows of the tail kernel with context rows hold, in terms of the arguments: at grid point `t`, 512 rows of the
  latents (`t < 32`) or of the context, their modulation, and the first layer's weights.
-/
module

public import proofs.«01_k».proof.Proof.CTailRead
public import proofs.«01_k».proof.Proof.Gen.CTailIdeal.Value
public import Idealize.ShloMosaic.Lib.Pipeline.ValueKit
public import Idealize.ShloMosaic.Lib.Claim

@[expose] public section

set_option maxRecDepth 16384
set_option backward.proofsInPublic true

noncomputable section

namespace Cert.CTailIdeal.CTail

open Cert.CTailIdeal Cert.CTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- The arguments, as arrays of extended reals. -/
abbrev arg0 : S8x2048x1024.Idx → EReal := m ((c : Thread nD τ).loc main_arg0)
abbrev arg1 : S16384x512.Idx → EReal := m ((c : Thread nD τ).loc main_arg1)
abbrev arg2 : S16384x768.Idx → EReal := m ((c : Thread nD τ).loc main_arg2)
abbrev arg3 : S4x16x6144.Idx → EReal := m ((c : Thread nD τ).loc main_arg3)
abbrev arg4 : S4x1280x1024.Idx → EReal := m ((c : Thread nD τ).loc main_arg4)
abbrev arg5 : S4x1024.Idx → EReal := m ((c : Thread nD τ).loc main_arg5)
abbrev arg6 : S4x1024.Idx → EReal := m ((c : Thread nD τ).loc main_arg6)
abbrev arg7 : S4x1024x2816.Idx → EReal := m ((c : Thread nD τ).loc main_arg7)
abbrev arg8 : S4x1024x2816.Idx → EReal := m ((c : Thread nD τ).loc main_arg8)
abbrev arg9 : S4x2816x1024.Idx → EReal := m ((c : Thread nD τ).loc main_arg9)
abbrev arg10 : S4x1024.Idx → EReal := m ((c : Thread nD τ).loc main_arg10)
abbrev arg11 : S4x1024.Idx → EReal := m ((c : Thread nD τ).loc main_arg11)
abbrev arg12 : S8x256x1024.Idx → EReal := m ((c : Thread nD τ).loc main_arg12)
abbrev arg13 : S2048x512.Idx → EReal := m ((c : Thread nD τ).loc main_arg13)
abbrev arg14 : S2048x768.Idx → EReal := m ((c : Thread nD τ).loc main_arg14)

theorem V_0 : (V m c main_v9 : S16384x1024.Idx → EReal) = shapeCast S16384x1024 (arg0 m c) shapeCasts_S8x2048x1024_S16384x1024 := by
  unfold_abbrev_sides
  after_results
  rfl
theorem V_1 : (V m c main_v10 : S2048x1024.Idx → EReal) = shapeCast S2048x1024 (arg12 m c) shapeCasts_S8x256x1024_S2048x1024 := by
  unfold_abbrev_sides
  after_results
  rfl
theorem V_2 : (V m c main_arg1 : S16384x512.Idx → EReal) = arg1 m c := by
  unfold_abbrev_sides
  after_results
theorem V_3 : (V m c main_arg13 : S2048x512.Idx → EReal) = arg13 m c := by
  unfold_abbrev_sides
  after_results
theorem V_4 : (V m c main_arg2 : S16384x768.Idx → EReal) = arg2 m c := by
  unfold_abbrev_sides
  after_results
theorem V_5 : (V m c main_arg14 : S2048x768.Idx → EReal) = arg14 m c := by
  unfold_abbrev_sides
  after_results
theorem V_6 : (V m c main_v8 : S4x16x1x6144.Idx → EReal) = shapeCast S4x16x1x6144 (arg3 m c) shapeCasts_S4x16x6144_S4x16x1x6144 := by
  unfold_abbrev_sides
  after_results
  rfl
theorem V_7 : (V m c main_v0 : S4x1280x1024.Idx → EReal) = arg4 m c := by
  unfold_abbrev_sides
  after_results
  rfl
theorem V_8 : (V m c main_v1 : S4x1x1024.Idx → EReal) = shapeCast S4x1x1024 (arg5 m c) shapeCasts_S4x1024_S4x1x1024 := by
  unfold_abbrev_sides
  after_results
  rfl
theorem V_9 : (V m c main_v2 : S4x1x1024.Idx → EReal) = shapeCast S4x1x1024 (arg6 m c) shapeCasts_S4x1024_S4x1x1024 := by
  unfold_abbrev_sides
  after_results
  rfl
theorem V_10 : (V m c main_v3 : S4x1024x2816.Idx → EReal) = arg7 m c := by
  unfold_abbrev_sides
  after_results
  rfl
theorem V_11 : (V m c main_v4 : S4x1024x2816.Idx → EReal) = arg8 m c := by
  unfold_abbrev_sides
  after_results
  rfl
theorem V_12 : (V m c main_v5 : S4x2816x1024.Idx → EReal) = arg9 m c := by
  unfold_abbrev_sides
  after_results
  rfl
theorem V_13 : (V m c main_v6 : S4x1x1024.Idx → EReal) = shapeCast S4x1x1024 (arg10 m c) shapeCasts_S4x1024_S4x1x1024 := by
  unfold_abbrev_sides
  after_results
  rfl
theorem V_14 : (V m c main_v7 : S4x1x1024.Idx → EReal) = shapeCast S4x1x1024 (arg11 m c) shapeCasts_S4x1024_S4x1x1024 := by
  unfold_abbrev_sides
  after_results
  rfl

theorem index0_0 : ∀ t : Fin grid0.N, t.val < 32 → win0_0.index t 0 = t.val := by decide +kernel
theorem index0_1 : ∀ t : Fin grid0.N, t.val < 32 → win0_0.index t 1 = 0 := by decide +kernel
theorem index0 (t : Fin grid0.N) (ht : t.val < 32) : win0_0.index t = ![t.val, 0] := by
  funext a
  fin_cases a
  · exact index0_0 t ht
  · exact index0_1 t ht

theorem index2_0 : ∀ t : Fin grid0.N, t.val < 32 → win0_2.index t 0 = t.val := by decide +kernel
theorem index2_1 : ∀ t : Fin grid0.N, t.val < 32 → win0_2.index t 1 = 0 := by decide +kernel
theorem index2 (t : Fin grid0.N) (ht : t.val < 32) : win0_2.index t = ![t.val, 0] := by
  funext a
  fin_cases a
  · exact index2_0 t ht
  · exact index2_1 t ht

theorem index4_0 : ∀ t : Fin grid0.N, t.val < 32 → win0_4.index t 0 = t.val := by decide +kernel
theorem index4_1 : ∀ t : Fin grid0.N, t.val < 32 → win0_4.index t 1 = 0 := by decide +kernel
theorem index4 (t : Fin grid0.N) (ht : t.val < 32) : win0_4.index t = ![t.val, 0] := by
  funext a
  fin_cases a
  · exact index4_0 t ht
  · exact index4_1 t ht

theorem index1_0 : ∀ t : Fin grid0.N, 32 ≤ t.val → win0_1.index t 0 = t.val - 32 := by decide +kernel
theorem index1_1 : ∀ t : Fin grid0.N, 32 ≤ t.val → win0_1.index t 1 = 0 := by decide +kernel
theorem index1 (t : Fin grid0.N) (ht : 32 ≤ t.val) : win0_1.index t = ![t.val - 32, 0] := by
  funext a
  fin_cases a
  · exact index1_0 t ht
  · exact index1_1 t ht

theorem index3_0 : ∀ t : Fin grid0.N, 32 ≤ t.val → win0_3.index t 0 = t.val - 32 := by decide +kernel
theorem index3_1 : ∀ t : Fin grid0.N, 32 ≤ t.val → win0_3.index t 1 = 0 := by decide +kernel
theorem index3 (t : Fin grid0.N) (ht : 32 ≤ t.val) : win0_3.index t = ![t.val - 32, 0] := by
  funext a
  fin_cases a
  · exact index3_0 t ht
  · exact index3_1 t ht

theorem index5_0 : ∀ t : Fin grid0.N, 32 ≤ t.val → win0_5.index t 0 = t.val - 32 := by decide +kernel
theorem index5_1 : ∀ t : Fin grid0.N, 32 ≤ t.val → win0_5.index t 1 = 0 := by decide +kernel
theorem index5 (t : Fin grid0.N) (ht : 32 ≤ t.val) : win0_5.index t = ![t.val - 32, 0] := by
  funext a
  fin_cases a
  · exact index5_0 t ht
  · exact index5_1 t ht

theorem index6L_0 : ∀ t : Fin grid0.N, t.val < 32 → win0_6.index t 0 = 0 := by decide +kernel
theorem index6L_1 : ∀ t : Fin grid0.N, t.val < 32 → win0_6.index t 1 = t.val / 4 := by decide +kernel
theorem index6L_2 : ∀ t : Fin grid0.N, t.val < 32 → win0_6.index t 2 = 0 := by decide +kernel
theorem index6L_3 : ∀ t : Fin grid0.N, t.val < 32 → win0_6.index t 3 = 0 := by decide +kernel
theorem index6L (t : Fin grid0.N) (ht : t.val < 32) : win0_6.index t = ![0, t.val / 4, 0, 0] := by
  funext a
  fin_cases a
  · exact index6L_0 t ht
  · exact index6L_1 t ht
  · exact index6L_2 t ht
  · exact index6L_3 t ht

theorem index6C_0 : ∀ t : Fin grid0.N, 32 ≤ t.val → win0_6.index t 0 = 0 := by decide +kernel
theorem index6C_1 : ∀ t : Fin grid0.N, 32 ≤ t.val → win0_6.index t 1 = 8 := by decide +kernel
theorem index6C_2 : ∀ t : Fin grid0.N, 32 ≤ t.val → win0_6.index t 2 = 0 := by decide +kernel
theorem index6C_3 : ∀ t : Fin grid0.N, 32 ≤ t.val → win0_6.index t 3 = 0 := by decide +kernel
theorem index6C (t : Fin grid0.N) (ht : 32 ≤ t.val) : win0_6.index t = ![0, 8, 0, 0] := by
  funext a
  fin_cases a
  · exact index6C_0 t ht
  · exact index6C_1 t ht
  · exact index6C_2 t ht
  · exact index6C_3 t ht

theorem index7_0 : ∀ t : Fin grid0.N, win0_7.index t 0 = 0 := by decide +kernel
theorem index7_1 : ∀ t : Fin grid0.N, win0_7.index t 1 = 0 := by decide +kernel
theorem index7_2 : ∀ t : Fin grid0.N, win0_7.index t 2 = 0 := by decide +kernel
theorem index7 (t : Fin grid0.N) : win0_7.index t = ![0, 0, 0] := by
  funext a
  fin_cases a
  · exact index7_0 t
  · exact index7_1 t
  · exact index7_2 t

theorem index8_0 : ∀ t : Fin grid0.N, win0_8.index t 0 = 0 := by decide +kernel
theorem index8_1 : ∀ t : Fin grid0.N, win0_8.index t 1 = 0 := by decide +kernel
theorem index8_2 : ∀ t : Fin grid0.N, win0_8.index t 2 = 0 := by decide +kernel
theorem index8 (t : Fin grid0.N) : win0_8.index t = ![0, 0, 0] := by
  funext a
  fin_cases a
  · exact index8_0 t
  · exact index8_1 t
  · exact index8_2 t

theorem index9_0 : ∀ t : Fin grid0.N, win0_9.index t 0 = 0 := by decide +kernel
theorem index9_1 : ∀ t : Fin grid0.N, win0_9.index t 1 = 0 := by decide +kernel
theorem index9_2 : ∀ t : Fin grid0.N, win0_9.index t 2 = 0 := by decide +kernel
theorem index9 (t : Fin grid0.N) : win0_9.index t = ![0, 0, 0] := by
  funext a
  fin_cases a
  · exact index9_0 t
  · exact index9_1 t
  · exact index9_2 t

theorem index10_0 : ∀ t : Fin grid0.N, win0_10.index t 0 = 0 := by decide +kernel
theorem index10_1 : ∀ t : Fin grid0.N, win0_10.index t 1 = 0 := by decide +kernel
theorem index10_2 : ∀ t : Fin grid0.N, win0_10.index t 2 = 0 := by decide +kernel
theorem index10 (t : Fin grid0.N) : win0_10.index t = ![0, 0, 0] := by
  funext a
  fin_cases a
  · exact index10_0 t
  · exact index10_1 t
  · exact index10_2 t

theorem index11_0 : ∀ t : Fin grid0.N, win0_11.index t 0 = 0 := by decide +kernel
theorem index11_1 : ∀ t : Fin grid0.N, win0_11.index t 1 = 0 := by decide +kernel
theorem index11_2 : ∀ t : Fin grid0.N, win0_11.index t 2 = 0 := by decide +kernel
theorem index11 (t : Fin grid0.N) : win0_11.index t = ![0, 0, 0] := by
  funext a
  fin_cases a
  · exact index11_0 t
  · exact index11_1 t
  · exact index11_2 t

theorem index12_0 : ∀ t : Fin grid0.N, win0_12.index t 0 = 0 := by decide +kernel
theorem index12_1 : ∀ t : Fin grid0.N, win0_12.index t 1 = 0 := by decide +kernel
theorem index12_2 : ∀ t : Fin grid0.N, win0_12.index t 2 = 0 := by decide +kernel
theorem index12 (t : Fin grid0.N) : win0_12.index t = ![0, 0, 0] := by
  funext a
  fin_cases a
  · exact index12_0 t
  · exact index12_1 t
  · exact index12_2 t

theorem index13_0 : ∀ t : Fin grid0.N, win0_13.index t 0 = 0 := by decide +kernel
theorem index13_1 : ∀ t : Fin grid0.N, win0_13.index t 1 = 0 := by decide +kernel
theorem index13_2 : ∀ t : Fin grid0.N, win0_13.index t 2 = 0 := by decide +kernel
theorem index13 (t : Fin grid0.N) : win0_13.index t = ![0, 0, 0] := by
  funext a
  fin_cases a
  · exact index13_0 t
  · exact index13_1 t
  · exact index13_2 t

theorem index14_0 : ∀ t : Fin grid0.N, win0_14.index t 0 = 0 := by decide +kernel
theorem index14_1 : ∀ t : Fin grid0.N, win0_14.index t 1 = 0 := by decide +kernel
theorem index14_2 : ∀ t : Fin grid0.N, win0_14.index t 2 = 0 := by decide +kernel
theorem index14 (t : Fin grid0.N) : win0_14.index t = ![0, 0, 0] := by
  funext a
  fin_cases a
  · exact index14_0 t
  · exact index14_1 t
  · exact index14_2 t

theorem index15_0 : ∀ t : Fin grid0.N, win0_15.index t 0 = t.val := by decide +kernel
theorem index15_1 : ∀ t : Fin grid0.N, win0_15.index t 1 = 0 := by decide +kernel
theorem index15 (t : Fin grid0.N) : win0_15.index t = ![t.val, 0] := by
  funext a
  fin_cases a
  · exact index15_0 t
  · exact index15_1 t

theorem iblk_0 (t : Fin cfg0.N) (ht : t.val < 32) (r : Fin 512) (k : Fin 1024) :
    (iblk m c 0 t : S512x1024.Idx → EReal) (ix2 r k) = arg0 m c (ix3 ⟨t.val / 4, by omega⟩ ⟨512 * (t.val % 4) + r.val, by omega⟩ k) := by
  have e : (iblk m c 0 t : S512x1024.Idx → EReal) (ix2 r k) = (V m c main_v9 : S16384x1024.Idx → EReal) (ix2 ⟨512 * t.val + r.val, by omega⟩ k) := by
    blk_simp [iblk]
    refine congrArg (V m c main_v9) (funext fun a => Fin.ext ?_)
    blk_simp
    rw [index0 t ht]
    fin_cases a <;> simp <;> omega
  rw [e, V_0]
  refine shapeCast_apply _ _ _ (ix3 ⟨t.val / 4, by omega⟩ ⟨512 * (t.val % 4) + r.val, by omega⟩ k) ?_
  rw [Shape.rowMajor_val_three, Shape.rowMajor_val_two]
  show (t.val / 4 * 2048 + (512 * (t.val % 4) + r.val)) * 1024 + k.val = (512 * t.val + r.val) * 1024 + k.val
  omega

theorem iblk_1 (t : Fin cfg0.N) (ht : 32 ≤ t.val) (r : Fin 512) (k : Fin 1024) :
    (iblk m c 1 t : S512x1024.Idx → EReal) (ix2 r k)
      = arg12 m c (ix3 ⟨(512 * (t.val - 32) + r.val) / 256, by have : t.val < 36 := t.isLt; omega⟩ ⟨(512 * (t.val - 32) + r.val) % 256, by omega⟩ k) := by
  have h36 : t.val < 36 := t.isLt
  have e : (iblk m c 1 t : S512x1024.Idx → EReal) (ix2 r k) = (V m c main_v10 : S2048x1024.Idx → EReal) (ix2 ⟨512 * (t.val - 32) + r.val, by omega⟩ k) := by
    blk_simp [iblk]
    refine congrArg (V m c main_v10) (funext fun a => Fin.ext ?_)
    blk_simp
    rw [index1 t ht]
    fin_cases a <;> simp <;> omega
  rw [e, V_1]
  refine shapeCast_apply _ _ _ (ix3 ⟨(512 * (t.val - 32) + r.val) / 256, by omega⟩ ⟨(512 * (t.val - 32) + r.val) % 256, by omega⟩ k) ?_
  rw [Shape.rowMajor_val_three, Shape.rowMajor_val_two]
  show ((512 * (t.val - 32) + r.val) / 256 * 256 + (512 * (t.val - 32) + r.val) % 256) * 1024 + k.val = (512 * (t.val - 32) + r.val) * 1024 + k.val
  omega

theorem iblk_2 (t : Fin cfg0.N) (ht : t.val < 32) (r : Fin 512) (k : Fin 512) :
    (iblk m c 2 t : S512x512.Idx → EReal) (ix2 r k) = arg1 m c (ix2 ⟨512 * t.val + r.val, by omega⟩ k) := by
  have h36 : t.val < 36 := t.isLt
  have e : (iblk m c 2 t : S512x512.Idx → EReal) (ix2 r k) = (V m c main_arg1 : S16384x512.Idx → EReal) (ix2 ⟨512 * t.val + r.val, by omega⟩ k) := by
    blk_simp [iblk]
    refine congrArg (V m c main_arg1) (funext fun a => Fin.ext ?_)
    blk_simp
    rw [index2 t ht]
    fin_cases a <;> simp <;> omega
  rw [e, V_2]

theorem iblk_3 (t : Fin cfg0.N) (ht : 32 ≤ t.val) (r : Fin 512) (k : Fin 512) :
    (iblk m c 3 t : S512x512.Idx → EReal) (ix2 r k) = arg13 m c (ix2 ⟨512 * (t.val - 32) + r.val, by have : t.val < 36 := t.isLt; omega⟩ k) := by
  have h36 : t.val < 36 := t.isLt
  have e : (iblk m c 3 t : S512x512.Idx → EReal) (ix2 r k) = (V m c main_arg13 : S2048x512.Idx → EReal) (ix2 ⟨512 * (t.val - 32) + r.val, by have : t.val < 36 := t.isLt; omega⟩ k) := by
    blk_simp [iblk]
    refine congrArg (V m c main_arg13) (funext fun a => Fin.ext ?_)
    blk_simp
    rw [index3 t ht]
    fin_cases a <;> simp <;> omega
  rw [e, V_3]

theorem iblk_4 (t : Fin cfg0.N) (ht : t.val < 32) (r : Fin 512) (k : Fin 768) :
    (iblk m c 4 t : S512x768.Idx → EReal) (ix2 r k) = arg2 m c (ix2 ⟨512 * t.val + r.val, by omega⟩ k) := by
  have h36 : t.val < 36 := t.isLt
  have e : (iblk m c 4 t : S512x768.Idx → EReal) (ix2 r k) = (V m c main_arg2 : S16384x768.Idx → EReal) (ix2 ⟨512 * t.val + r.val, by omega⟩ k) := by
    blk_simp [iblk]
    refine congrArg (V m c main_arg2) (funext fun a => Fin.ext ?_)
    blk_simp
    rw [index4 t ht]
    fin_cases a <;> simp <;> omega
  rw [e, V_4]

theorem iblk_5 (t : Fin cfg0.N) (ht : 32 ≤ t.val) (r : Fin 512) (k : Fin 768) :
    (iblk m c 5 t : S512x768.Idx → EReal) (ix2 r k) = arg14 m c (ix2 ⟨512 * (t.val - 32) + r.val, by have : t.val < 36 := t.isLt; omega⟩ k) := by
  have h36 : t.val < 36 := t.isLt
  have e : (iblk m c 5 t : S512x768.Idx → EReal) (ix2 r k) = (V m c main_arg14 : S2048x768.Idx → EReal) (ix2 ⟨512 * (t.val - 32) + r.val, by have : t.val < 36 := t.isLt; omega⟩ k) := by
    blk_simp [iblk]
    refine congrArg (V m c main_arg14) (funext fun a => Fin.ext ?_)
    blk_simp
    rw [index5 t ht]
    fin_cases a <;> simp <;> omega
  rw [e, V_5]

theorem mod_host (n : Fin 16) (k : Fin 6144) : (V m c main_v8 : S4x16x1x6144.Idx → EReal) (ix4 0 n 0 k) = arg3 m c (ix3 0 n k) := by
  rw [V_6]
  refine shapeCast_apply _ _ _ (ix3 0 n k) ?_
  rw [Shape.rowMajor_val_three, Shape.rowMajor_val_four]
  show (0 * 16 + n.val) * 6144 + k.val = ((0 * 16 + n.val) * 1 + 0) * 6144 + k.val
  omega

theorem iblk_6L (t : Fin cfg0.N) (ht : t.val < 32) (k : Fin 6144) :
    (iblk m c 6 t : S1x1x1x6144.Idx → EReal) (ix4 0 0 0 k) = arg3 m c (ix3 0 ⟨t.val / 4, by omega⟩ k) := by
  rw [← mod_host]
  blk_simp [iblk]
  refine congrArg (V m c main_v8) (funext fun a => Fin.ext ?_)
  blk_simp
  rw [index6L t ht]
  fin_cases a <;> simp <;> omega

theorem iblk_6C (t : Fin cfg0.N) (ht : 32 ≤ t.val) (k : Fin 6144) :
    (iblk m c 6 t : S1x1x1x6144.Idx → EReal) (ix4 0 0 0 k) = arg3 m c (ix3 0 8 k) := by
  rw [← mod_host]
  blk_simp [iblk]
  refine congrArg (V m c main_v8) (funext fun a => Fin.ext ?_)
  blk_simp
  rw [index6C t ht]
  fin_cases a <;> simp <;> omega

theorem iblk_7 (t : Fin cfg0.N) (i : Fin 1280) (j : Fin 1024) :
    (iblk m c 7 t : S1x1280x1024.Idx → EReal) (ix3 0 i j) = arg4 m c (ix3 0 i j) := by
  have e : (iblk m c 7 t : S1x1280x1024.Idx → EReal) (ix3 0 i j) = (V m c main_v0 : S4x1280x1024.Idx → EReal) (ix3 0 i j) := by
    blk_simp [iblk]
    refine congrArg (V m c main_v0) (funext fun a => Fin.ext ?_)
    blk_simp
    rw [index7 t]
    fin_cases a <;> simp <;> omega
  rw [e, V_7]

theorem iblk_8 (t : Fin cfg0.N) (k : Fin 1024) :
    (iblk m c 8 t : S1x1x1024.Idx → EReal) (ix3 0 0 k) = arg5 m c (ix2 0 k) := by
  have e : (iblk m c 8 t : S1x1x1024.Idx → EReal) (ix3 0 0 k) = (V m c main_v1 : S4x1x1024.Idx → EReal) (ix3 0 0 k) := by
    blk_simp [iblk]
    refine congrArg (V m c main_v1) (funext fun a => Fin.ext ?_)
    blk_simp
    rw [index8 t]
    fin_cases a <;> simp <;> omega
  rw [e, V_8]
  refine shapeCast_apply _ _ _ (ix2 0 k) ?_
  rw [Shape.rowMajor_val_two, Shape.rowMajor_val_three]
  show 0 * 1024 + k.val = (0 * 1 + 0) * 1024 + k.val
  omega

theorem iblk_9 (t : Fin cfg0.N) (k : Fin 1024) :
    (iblk m c 9 t : S1x1x1024.Idx → EReal) (ix3 0 0 k) = arg6 m c (ix2 0 k) := by
  have e : (iblk m c 9 t : S1x1x1024.Idx → EReal) (ix3 0 0 k) = (V m c main_v2 : S4x1x1024.Idx → EReal) (ix3 0 0 k) := by
    blk_simp [iblk]
    refine congrArg (V m c main_v2) (funext fun a => Fin.ext ?_)
    blk_simp
    rw [index9 t]
    fin_cases a <;> simp <;> omega
  rw [e, V_9]
  refine shapeCast_apply _ _ _ (ix2 0 k) ?_
  rw [Shape.rowMajor_val_two, Shape.rowMajor_val_three]
  show 0 * 1024 + k.val = (0 * 1 + 0) * 1024 + k.val
  omega

theorem iblk_10 (t : Fin cfg0.N) (i : Fin 1024) (j : Fin 2816) :
    (iblk m c 10 t : S1x1024x2816.Idx → EReal) (ix3 0 i j) = arg7 m c (ix3 0 i j) := by
  have e : (iblk m c 10 t : S1x1024x2816.Idx → EReal) (ix3 0 i j) = (V m c main_v3 : S4x1024x2816.Idx → EReal) (ix3 0 i j) := by
    blk_simp [iblk]
    refine congrArg (V m c main_v3) (funext fun a => Fin.ext ?_)
    blk_simp
    rw [index10 t]
    fin_cases a <;> simp <;> omega
  rw [e, V_10]

theorem iblk_11 (t : Fin cfg0.N) (i : Fin 1024) (j : Fin 2816) :
    (iblk m c 11 t : S1x1024x2816.Idx → EReal) (ix3 0 i j) = arg8 m c (ix3 0 i j) := by
  have e : (iblk m c 11 t : S1x1024x2816.Idx → EReal) (ix3 0 i j) = (V m c main_v4 : S4x1024x2816.Idx → EReal) (ix3 0 i j) := by
    blk_simp [iblk]
    refine congrArg (V m c main_v4) (funext fun a => Fin.ext ?_)
    blk_simp
    rw [index11 t]
    fin_cases a <;> simp <;> omega
  rw [e, V_11]

theorem iblk_12 (t : Fin cfg0.N) (i : Fin 2816) (j : Fin 1024) :
    (iblk m c 12 t : S1x2816x1024.Idx → EReal) (ix3 0 i j) = arg9 m c (ix3 0 i j) := by
  have e : (iblk m c 12 t : S1x2816x1024.Idx → EReal) (ix3 0 i j) = (V m c main_v5 : S4x2816x1024.Idx → EReal) (ix3 0 i j) := by
    blk_simp [iblk]
    refine congrArg (V m c main_v5) (funext fun a => Fin.ext ?_)
    blk_simp
    rw [index12 t]
    fin_cases a <;> simp <;> omega
  rw [e, V_12]

theorem iblk_13 (t : Fin cfg0.N) (k : Fin 1024) :
    (iblk m c 13 t : S1x1x1024.Idx → EReal) (ix3 0 0 k) = arg10 m c (ix2 0 k) := by
  have e : (iblk m c 13 t : S1x1x1024.Idx → EReal) (ix3 0 0 k) = (V m c main_v6 : S4x1x1024.Idx → EReal) (ix3 0 0 k) := by
    blk_simp [iblk]
    refine congrArg (V m c main_v6) (funext fun a => Fin.ext ?_)
    blk_simp
    rw [index13 t]
    fin_cases a <;> simp <;> omega
  rw [e, V_13]
  refine shapeCast_apply _ _ _ (ix2 0 k) ?_
  rw [Shape.rowMajor_val_two, Shape.rowMajor_val_three]
  show 0 * 1024 + k.val = (0 * 1 + 0) * 1024 + k.val
  omega

theorem iblk_14 (t : Fin cfg0.N) (k : Fin 1024) :
    (iblk m c 14 t : S1x1x1024.Idx → EReal) (ix3 0 0 k) = arg11 m c (ix2 0 k) := by
  have e : (iblk m c 14 t : S1x1x1024.Idx → EReal) (ix3 0 0 k) = (V m c main_v7 : S4x1x1024.Idx → EReal) (ix3 0 0 k) := by
    blk_simp [iblk]
    refine congrArg (V m c main_v7) (funext fun a => Fin.ext ?_)
    blk_simp
    rw [index14 t]
    fin_cases a <;> simp <;> omega
  rw [e, V_14]
  refine shapeCast_apply _ _ _ (ix2 0 k) ?_
  rw [Shape.rowMajor_val_two, Shape.rowMajor_val_three]
  show 0 * 1024 + k.val = (0 * 1 + 0) * 1024 + k.val
  omega

end Cert.CTailIdeal.CTail

end
-- ==== Proof.CTailLat.lean ====
/-
  The first layer's tail in the reference, the LATENT rows read at an index: one row's residual, normalisations and
  feed-forward network, as the row functions of TailMath.lean.
-/
module

public import proofs.«01_k».proof.Proof.TailMath
public import proofs.«01_k».proof.Proof.Gen.CTailRefIdeal.Read
public import Idealize.ShloMosaic.Lib.Pointwise

@[expose] public section

set_option maxRecDepth 16384
set_option backward.proofsInPublic true

noncomputable section

namespace Cert.CTailRefIdeal.Lat

open Cert.CTailRefIdeal Cert.CTailRefIdeal.Gen Cert.CTailRefIdeal.Read Cert.TailRow
open Idealize.ShloMosaic Idealize.ShloMosaic.TcCoe Idealize.ShloMosaic.Tactic

variable (x0 : S8x2048x1024.Idx → EReal) (x1 : S16384x512.Idx → EReal) (x2 : S16384x768.Idx → EReal) (x3 : S4x16x6144.Idx → EReal)
  (x4 : S4x1280x1024.Idx → EReal) (x5 x6 : S4x1024.Idx → EReal) (x7 x8 : S4x1024x2816.Idx → EReal) (x9 : S4x2816x1024.Idx → EReal)
  (x10 x11 : S4x1024.Idx → EReal)

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]
  norm_num

/-- Channel `k` of modulation vector `n` of batch `b`. -/
abbrev modAt (n : ℕ) (hn : n < 6) (b : Fin 8) (k : Fin 1024) : EReal := x3 (ix3 0 ⟨b.val, by omega⟩ ⟨1024 * n + k.val, by omega⟩)
/-- Row `r` of batch `b` in the arrays of 16384 rows. -/
abbrev rowOf (b : Fin 8) (r : Fin 2048) : Fin 16384 := ⟨2048 * b.val + r.val, by omega⟩
abbrev matAt {n k : ℕ} (w : (⟨3, ![4, n, k]⟩ : Shape).Idx → EReal) (i : Fin n) (j : Fin k) : EReal := w (ix3 0 i j)
abbrev vecAt (w : S4x1024.Idx → EReal) (k : Fin 1024) : EReal := w (ix2 0 k)

theorem mod2_apply (b : Fin 8) (k : Fin 1024) : val_main_v10 (F := Ideal) x3 (ix3 b 0 k) = modAt x3 2 (by omega) b k := by
  rw [val_main_v10_apply, val_main_v4_apply, val_main_v1_apply, val_main_v0_apply]
  refine congrArg x3 (funext fun a => Fin.ext ?_)
  fin_cases a
  · rfl
  · show (b.val * 6144 + (2048 + k.val)) / 6144 % 8 = b.val
    omega
  · show (b.val * 6144 + (2048 + k.val)) % 6144 = 1024 * 2 + k.val
    omega

theorem mod3_apply (b : Fin 8) (k : Fin 1024) : val_main_v11 (F := Ideal) x3 (ix3 b 0 k) = modAt x3 3 (by omega) b k := by
  rw [val_main_v11_apply, val_main_v5_apply, val_main_v1_apply, val_main_v0_apply]
  refine congrArg x3 (funext fun a => Fin.ext ?_)
  fin_cases a
  · rfl
  · show (b.val * 6144 + (3072 + k.val)) / 6144 % 8 = b.val
    omega
  · show (b.val * 6144 + (3072 + k.val)) % 6144 = 1024 * 3 + k.val
    omega

theorem mod4_apply (b : Fin 8) (k : Fin 1024) : val_main_v12 (F := Ideal) x3 (ix3 b 0 k) = modAt x3 4 (by omega) b k := by
  rw [val_main_v12_apply, val_main_v6_apply, val_main_v1_apply, val_main_v0_apply]
  refine congrArg x3 (funext fun a => Fin.ext ?_)
  fin_cases a
  · rfl
  · show (b.val * 6144 + (4096 + k.val)) / 6144 % 8 = b.val
    omega
  · show (b.val * 6144 + (4096 + k.val)) % 6144 = 1024 * 4 + k.val
    omega

theorem mod5_apply (b : Fin 8) (k : Fin 1024) : val_main_v13 (F := Ideal) x3 (ix3 b 0 k) = modAt x3 5 (by omega) b k := by
  rw [val_main_v13_apply, val_main_v7_apply, val_main_v1_apply, val_main_v0_apply]
  refine congrArg x3 (funext fun a => Fin.ext ?_)
  fin_cases a
  · rfl
  · show (b.val * 6144 + (5120 + k.val)) / 6144 % 8 = b.val
    omega
  · show (b.val * 6144 + (5120 + k.val)) % 6144 = 1024 * 5 + k.val
    omega

theorem attn_apply (b : Fin 8) (r : Fin 2048) (k : Fin 512) : val_main_v15 (F := Ideal) x1 (ix3 b r k) = x1 (ix2 (rowOf b r) k) := by
  rw [val_main_v15_apply, val_main_v14_apply]
  refine congrArg x1 (funext fun a => Fin.ext ?_)
  fin_cases a
  · show ((b.val * 2048 + r.val) * 512 + k.val) / 512 = 2048 * b.val + r.val
    omega
  · show ((b.val * 2048 + r.val) * 512 + k.val) % 512 = k.val
    omega

theorem loc_apply (b : Fin 8) (r : Fin 2048) (k : Fin 768) : val_main_v17 (F := Ideal) x2 (ix3 b r k) = x2 (ix2 (rowOf b r) k) := by
  rw [val_main_v17_apply, val_main_v16_apply]
  refine congrArg x2 (funext fun a => Fin.ext ?_)
  fin_cases a
  · show ((b.val * 2048 + r.val) * 768 + k.val) / 768 = 2048 * b.val + r.val
    omega
  · show ((b.val * 2048 + r.val) * 768 + k.val) % 768 = k.val
    omega

theorem cat_left (b : Fin 8) (r : Fin 2048) (k : Fin 512) :
    val_main_v18 (F := Ideal) x1 x2 (ix3 b r (Fin.castAdd 768 k : Fin (512 + 768))) = x1 (ix2 (rowOf b r) k) := by
  rw [← attn_apply x1]
  refine concatenate_pair_apply_left (t := S8x2048x1280) (s₁ := S8x2048x512) (s₂ := S8x2048x768) _ _ _ _ _ rfl (ix3 b r k) (fun a => by fin_cases a <;> rfl)
theorem cat_right (b : Fin 8) (r : Fin 2048) (k : Fin 768) :
    val_main_v18 (F := Ideal) x1 x2 (ix3 b r (Fin.natAdd 512 k : Fin (512 + 768))) = x2 (ix2 (rowOf b r) k) := by
  rw [← loc_apply x2]
  refine concatenate_pair_apply_right (t := S8x2048x1280) (s₁ := S8x2048x512) (s₂ := S8x2048x768) _ _ _ _ _ rfl rfl (ix3 b r k)
    (fun a ha => by fin_cases a <;> first | rfl | exact absurd rfl ha) (by show k.val + 512 = 512 + k.val; omega)

theorem wo_apply (i : Fin 1280) (j : Fin 1024) : val_main_v22 (F := Ideal) x4 (ix2 i j) = matAt x4 i j := by
  rw [val_main_v22_apply, val_main_v21_apply]
  refine congrArg x4 (funext fun a => Fin.ext ?_)
  fin_cases a
  · rfl
  · show (i.val * 1024 + j.val) / 1024 % 1280 = i.val
    omega
  · show (i.val * 1024 + j.val) % 1024 = j.val
    omega

theorem w1_apply (i : Fin 1024) (j : Fin 2816) : val_main_v62 (F := Ideal) x7 (ix2 i j) = matAt x7 i j := by
  rw [val_main_v62_apply, val_main_v61_apply]
  refine congrArg x7 (funext fun a => Fin.ext ?_)
  fin_cases a
  · rfl
  · show (i.val * 2816 + j.val) / 2816 % 1024 = i.val
    omega
  · show (i.val * 2816 + j.val) % 2816 = j.val
    omega

theorem w3_apply (i : Fin 1024) (j : Fin 2816) : val_main_v66 (F := Ideal) x8 (ix2 i j) = matAt x8 i j := by
  rw [val_main_v66_apply, val_main_v65_apply]
  refine congrArg x8 (funext fun a => Fin.ext ?_)
  fin_cases a
  · rfl
  · show (i.val * 2816 + j.val) / 2816 % 1024 = i.val
    omega
  · show (i.val * 2816 + j.val) % 2816 = j.val
    omega

theorem w2_apply (i : Fin 2816) (j : Fin 1024) : val_main_v70 (F := Ideal) x9 (ix2 i j) = matAt x9 i j := by
  rw [val_main_v70_apply, val_main_v69_apply]
  refine congrArg x9 (funext fun a => Fin.ext ?_)
  fin_cases a
  · rfl
  · show (i.val * 1024 + j.val) / 1024 % 2816 = i.val
    omega
  · show (i.val * 1024 + j.val) % 1024 = j.val
    omega

theorem ln1g_apply (b : Fin 8) (r : Fin 2048) (j : Fin 1024) : val_main_v50 (F := Ideal) x5 (ix3 b r j) = vecAt x5 j := by
  rw [val_main_v50_apply, val_main_v49_apply, val_main_v28_apply, val_main_v27_apply]
  refine congrArg x5 (funext fun a => Fin.ext ?_)
  fin_cases a
  · rfl
  · show j.val % 1024 = j.val
    omega

theorem ln1b_apply (b : Fin 8) (r : Fin 2048) (j : Fin 1024) : val_main_v53 (F := Ideal) x6 (ix3 b r j) = vecAt x6 j := by
  rw [val_main_v53_apply, val_main_v52_apply, val_main_v30_apply, val_main_v29_apply]
  refine congrArg x6 (funext fun a => Fin.ext ?_)
  fin_cases a
  · rfl
  · show j.val % 1024 = j.val
    omega

theorem ln2g_apply (b : Fin 8) (r : Fin 2048) (j : Fin 1024) : val_main_v100 (F := Ideal) x10 (ix3 b r j) = vecAt x10 j := by
  rw [val_main_v100_apply, val_main_v99_apply, val_main_v78_apply, val_main_v77_apply]
  refine congrArg x10 (funext fun a => Fin.ext ?_)
  fin_cases a
  · rfl
  · show j.val % 1024 = j.val
    omega

theorem ln2b_apply (b : Fin 8) (r : Fin 2048) (j : Fin 1024) : val_main_v103 (F := Ideal) x11 (ix3 b r j) = vecAt x11 j := by
  rw [val_main_v103_apply, val_main_v102_apply, val_main_v80_apply, val_main_v79_apply]
  refine congrArg x11 (funext fun a => Fin.ext ?_)
  fin_cases a
  · rfl
  · show j.val % 1024 = j.val
    omega

theorem mix_apply (b : Fin 8) (r : Fin 2048) (j : Fin 1024) :
    val_main_v23 (F := Ideal) x1 x2 x4 (ix3 b r j) = mix (fun k => x1 (ix2 (rowOf b r) k)) (fun k => x2 (ix2 (rowOf b r) k)) (matAt x4) j := by
  rw [val_main_v23_apply]
  have el : ∀ k, lidx_main_v23 (ix3 b r j) k = ix3 b r k := fun k => funext fun a => by fin_cases a <;> rfl
  have er : ∀ k, ridx_main_v23 (ix3 b r j) k = ix2 k j := fun k => funext fun a => by fin_cases a <;> rfl
  simp only [el, er, wo_apply]
  refine (Fin.sum_univ_add (a := 512) (b := 768) _).trans ?_
  simp only [cat_left, cat_right]
  rfl

theorem res1_apply (b : Fin 8) (r : Fin 2048) (j : Fin 1024) :
    val_main_v26 (F := Ideal) x0 x1 x2 x3 x4 (ix3 b r j)
      = res (fun k => x0 (ix3 b r k)) (modAt x3 2 (by omega) b) (mix (fun k => x1 (ix2 (rowOf b r) k)) (fun k => x2 (ix2 (rowOf b r) k)) (matAt x4)) j := by
  rw [val_main_v26_apply, val_main_v20_apply, val_main_v19_apply, val_main_cst_apply, val_main_v25_apply, val_main_v24_apply,
    show idx_main_v24 (ix3 b r j) = ix3 b 0 j from funext fun a => by fin_cases a <;> rfl, mod2_apply, mix_apply]
  rfl

theorem norm1_mean (b : Fin 8) (r : Fin 2048) :
    val_main_v34 (F := Ideal) x0 x1 x2 x3 x4 (ix3 b r 0) = mean (fun k => val_main_v26 (F := Ideal) x0 x1 x2 x3 x4 (ix3 b r k)) := by
  rw [val_main_v34_apply, val_main_v32_apply, show idx_main_v32 (ix3 b r 0) = ix2 b r from funext fun a => by fin_cases a <;> rfl,
    val_main_v31_apply, val_main_v33_apply, val_main_cst_1_apply, val_main_cst_0_apply]
  have e : ∀ k, idx_main_v31 (ix2 b r) k = ix3 b r k := fun k => funext fun a => by fin_cases a <;> rfl
  simp only [e]
  generalize val_main_v26 (F := Ideal) x0 x1 x2 x3 x4 = u
  refine Eq.trans (b := Ideal.div (Ideal.ofBits .f32 0x00000000#32 + ∑ k, u (ix3 b r k)) cN) rfl ?_
  rw [zero_word, zero_add, mean]

theorem norm1_var (b : Fin 8) (r : Fin 2048) :
    val_main_v41 (F := Ideal) x0 x1 x2 x3 x4 (ix3 b r 0)
      = Ideal.div (∑ k, (val_main_v26 (F := Ideal) x0 x1 x2 x3 x4 (ix3 b r k) - mean (fun k => val_main_v26 (F := Ideal) x0 x1 x2 x3 x4 (ix3 b r k))) * (val_main_v26 (F := Ideal) x0 x1 x2 x3 x4 (ix3 b r k) - mean (fun k => val_main_v26 (F := Ideal) x0 x1 x2 x3 x4 (ix3 b r k)))) cN := by
  rw [val_main_v41_apply, val_main_v39_apply, show idx_main_v39 (ix3 b r 0) = ix2 b r from funext fun a => by fin_cases a <;> rfl,
    val_main_v38_apply, val_main_v40_apply, val_main_cst_3_apply, val_main_cst_2_apply]
  have e : ∀ k, idx_main_v38 (ix2 b r) k = ix3 b r k := fun k => funext fun a => by fin_cases a <;> rfl
  have em : ∀ k, idx_main_v35 (ix3 b r k) = ix3 b r 0 := fun k => funext fun a => by fin_cases a <;> rfl
  simp only [e, val_main_v37_apply, val_main_v36_apply, val_main_v35_apply, em, norm1_mean]
  generalize val_main_v26 (F := Ideal) x0 x1 x2 x3 x4 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm1_apply (b : Fin 8) (r : Fin 2048) (j : Fin 1024) :
    val_main_v54 (F := Ideal) x0 x1 x2 x3 x4 x5 x6 (ix3 b r j) = norm (fun k => val_main_v26 (F := Ideal) x0 x1 x2 x3 x4 (ix3 b r k)) (vecAt x5) (vecAt x6) j := by
  rw [val_main_v54_apply, ln1b_apply, val_main_v51_apply, ln1g_apply, val_main_v48_apply, val_main_v43_apply, val_main_v42_apply,
    show idx_main_v42 (ix3 b r j) = ix3 b r 0 from funext fun a => by fin_cases a <;> rfl, norm1_mean,
    val_main_v47_apply, show idx_main_v47 (ix3 b r j) = ix3 b r 0 from funext fun a => by fin_cases a <;> rfl,
    val_main_v46_apply, val_main_v45_apply, norm1_var, val_main_v44_apply, val_main_cst_4_apply]
  generalize val_main_v26 (F := Ideal) x0 x1 x2 x3 x4 = u
  rfl

theorem mid_apply (b : Fin 8) (r : Fin 2048) (j : Fin 1024) :
    val_main_v54 (F := Ideal) x0 x1 x2 x3 x4 x5 x6 (ix3 b r j)
      = mid (fun k => x0 (ix3 b r k)) (fun k => x1 (ix2 (rowOf b r) k)) (fun k => x2 (ix2 (rowOf b r) k)) (matAt x4) (modAt x3 2 (by omega) b) (vecAt x5) (vecAt x6) j := by
  rw [norm1_apply]
  simp only [res1_apply]
  rfl

/-- The first normalisation's row, modulated. -/
theorem modul_apply (b : Fin 8) (r : Fin 2048) (j : Fin 1024) :
    val_main_v60 (F := Ideal) x0 x1 x2 x3 x4 x5 x6 (ix3 b r j)
      = modul (fun k => val_main_v54 (F := Ideal) x0 x1 x2 x3 x4 x5 x6 (ix3 b r k)) (modAt x3 4 (by omega) b) (modAt x3 3 (by omega) b) j := by
  rw [val_main_v60_apply, val_main_v59_apply, show idx_main_v59 (ix3 b r j) = ix3 b 0 j from funext fun a => by fin_cases a <;> rfl, mod3_apply,
    val_main_v58_apply, val_main_v57_apply, show idx_main_v57 (ix3 b r j) = ix3 b 0 j from funext fun a => by fin_cases a <;> rfl,
    val_main_v56_apply, mod4_apply, val_main_v55_apply, val_main_cst_5_apply]
  generalize val_main_v54 (F := Ideal) x0 x1 x2 x3 x4 x5 x6 = u
  refine Eq.trans (b := u (ix3 b r j) * (Ideal.ofBits .f32 0x3F800000#32 + modAt x3 4 (by omega) b j) + modAt x3 3 (by omega) b j) rfl ?_
  rw [one_word, modul]

theorem p_apply (b : Fin 8) (r : Fin 2048) (f : Fin 2816) :
    val_main_v63 (F := Ideal) x0 x1 x2 x3 x4 x5 x6 x7 (ix3 b r f) = ∑ k : Fin 1024, val_main_v60 (F := Ideal) x0 x1 x2 x3 x4 x5 x6 (ix3 b r k) * matAt x7 k f := by
  rw [val_main_v63_apply]
  have el : ∀ k, lidx_main_v63 (ix3 b r f) k = ix3 b r k := fun k => funext fun a => by fin_cases a <;> rfl
  have er : ∀ k, ridx_main_v63 (ix3 b r f) k = ix2 k f := fun k => funext fun a => by fin_cases a <;> rfl
  simp only [el, er, w1_apply]

theorem q_apply (b : Fin 8) (r : Fin 2048) (f : Fin 2816) :
    val_main_v67 (F := Ideal) x0 x1 x2 x3 x4 x5 x6 x8 (ix3 b r f) = ∑ k : Fin 1024, val_main_v60 (F := Ideal) x0 x1 x2 x3 x4 x5 x6 (ix3 b r k) * matAt x8 k f := by
  rw [val_main_v67_apply]
  have el : ∀ k, lidx_main_v67 (ix3 b r f) k = ix3 b r k := fun k => funext fun a => by fin_cases a <;> rfl
  have er : ∀ k, ridx_main_v67 (ix3 b r f) k = ix2 k f := fun k => funext fun a => by fin_cases a <;> rfl
  simp only [el, er, w3_apply]

theorem gate_apply (b : Fin 8) (r : Fin 2048) (f : Fin 2816) :
    val_main_v68 (F := Ideal) x0 x1 x2 x3 x4 x5 x6 x7 x8 (ix3 b r f)
      = gate (val_main_v63 (F := Ideal) x0 x1 x2 x3 x4 x5 x6 x7 (ix3 b r f)) (val_main_v67 (F := Ideal) x0 x1 x2 x3 x4 x5 x6 x8 (ix3 b r f)) := by
  rw [val_main_v68_apply, val_main_v64_apply, val_main_call0_v5_apply, val_main_call0_v4_apply, val_main_call0_cst_0_apply, val_main_call0_v3_apply,
    val_main_call0_v2_apply, val_main_call0_cst_apply, val_main_call0_v1_apply, val_main_call0_v0_apply]
  generalize val_main_v63 (F := Ideal) x0 x1 x2 x3 x4 x5 x6 x7 (ix3 b r f) = p
  generalize val_main_v67 (F := Ideal) x0 x1 x2 x3 x4 x5 x6 x8 (ix3 b r f) = q
  refine Eq.trans (b := p * Ideal.div (Ideal.ofBits .f32 0x3F800000#32) (Ideal.ofBits .f32 0x3F800000#32 + Ideal.exp (-p)) * q) rfl ?_
  rw [one_word, gate]

theorem ffn_apply (b : Fin 8) (r : Fin 2048) (j : Fin 1024) :
    val_main_v71 (F := Ideal) x0 x1 x2 x3 x4 x5 x6 x7 x8 x9 (ix3 b r j)
      = ffn (modul (fun k => val_main_v54 (F := Ideal) x0 x1 x2 x3 x4 x5 x6 (ix3 b r k)) (modAt x3 4 (by omega) b) (modAt x3 3 (by omega) b)) (matAt x7) (matAt x8) (matAt x9) j := by
  rw [val_main_v71_apply]
  have el : ∀ k, lidx_main_v71 (ix3 b r j) k = ix3 b r k := fun k => funext fun a => by fin_cases a <;> rfl
  have er : ∀ k, ridx_main_v71 (ix3 b r j) k = ix2 k j := fun k => funext fun a => by fin_cases a <;> rfl
  simp only [el, er, w2_apply, gate_apply, p_apply, q_apply, modul_apply]
  rfl

theorem res2_apply (b : Fin 8) (r : Fin 2048) (j : Fin 1024) :
    val_main_v76 (F := Ideal) x0 x1 x2 x3 x4 x5 x6 x7 x8 x9 (ix3 b r j)
      = res (fun k => val_main_v54 (F := Ideal) x0 x1 x2 x3 x4 x5 x6 (ix3 b r k)) (modAt x3 5 (by omega) b)
          (ffn (modul (fun k => val_main_v54 (F := Ideal) x0 x1 x2 x3 x4 x5 x6 (ix3 b r k)) (modAt x3 4 (by omega) b) (modAt x3 3 (by omega) b)) (matAt x7) (matAt x8) (matAt x9)) j := by
  rw [val_main_v76_apply, val_main_v73_apply, val_main_v72_apply, val_main_cst_6_apply, val_main_v75_apply, val_main_v74_apply,
    show idx_main_v74 (ix3 b r j) = ix3 b 0 j from funext fun a => by fin_cases a <;> rfl, mod5_apply, ffn_apply]
  generalize val_main_v54 (F := Ideal) x0 x1 x2 x3 x4 x5 x6 = u
  rfl

theorem norm2_mean (b : Fin 8) (r : Fin 2048) :
    val_main_v84 (F := Ideal) x0 x1 x2 x3 x4 x5 x6 x7 x8 x9 (ix3 b r 0) = mean (fun k => val_main_v76 (F := Ideal) x0 x1 x2 x3 x4 x5 x6 x7 x8 x9 (ix3 b r k)) := by
  rw [val_main_v84_apply, val_main_v82_apply, show idx_main_v82 (ix3 b r 0) = ix2 b r from funext fun a => by fin_cases a <;> rfl,
    val_main_v81_apply, val_main_v83_apply, val_main_cst_8_apply, val_main_cst_7_apply]
  have e : ∀ k, idx_main_v81 (ix2 b r) k = ix3 b r k := fun k => funext fun a => by fin_cases a <;> rfl
  simp only [e]
  generalize val_main_v76 (F := Ideal) x0 x1 x2 x3 x4 x5 x6 x7 x8 x9 = u
  refine Eq.trans (b := Ideal.div (Ideal.ofBits .f32 0x00000000#32 + ∑ k, u (ix3 b r k)) cN) rfl ?_
  rw [zero_word, zero_add, mean]

theorem norm2_var (b : Fin 8) (r : Fin 2048) :
    val_main_v91 (F := Ideal) x0 x1 x2 x3 x4 x5 x6 x7 x8 x9 (ix3 b r 0)
      = Ideal.div (∑ k, (val_main_v76 (F := Ideal) x0 x1 x2 x3 x4 x5 x6 x7 x8 x9 (ix3 b r k) - mean (fun k => val_main_v76 (F := Ideal) x0 x1 x2 x3 x4 x5 x6 x7 x8 x9 (ix3 b r k))) * (val_main_v76 (F := Ideal) x0 x1 x2 x3 x4 x5 x6 x7 x8 x9 (ix3 b r k) - mean (fun k => val_main_v76 (F := Ideal) x0 x1 x2 x3 x4 x5 x6 x7 x8 x9 (ix3 b r k)))) cN := by
  rw [val_main_v91_apply, val_main_v89_apply, show idx_main_v89 (ix3 b r 0) = ix2 b r from funext fun a => by fin_cases a <;> rfl,
    val_main_v88_apply, val_main_v90_apply, val_main_cst_10_apply, val_main_cst_9_apply]
  have e : ∀ k, idx_main_v88 (ix2 b r) k = ix3 b r k := fun k => funext fun a => by fin_cases a <;> rfl
  have em : ∀ k, idx_main_v85 (ix3 b r k) = ix3 b r 0 := fun k => funext fun a => by fin_cases a <;> rfl
  simp only [e, val_main_v87_apply, val_main_v86_apply, val_main_v85_apply, em, norm2_mean]
  generalize val_main_v76 (F := Ideal) x0 x1 x2 x3 x4 x5 x6 x7 x8 x9 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm2_apply (b : Fin 8) (r : Fin 2048) (j : Fin 1024) :
    val_main_v104 (F := Ideal) x0 x1 x2 x3 x4 x5 x6 x7 x8 x9 x10 x11 (ix3 b r j) = norm (fun k => val_main_v76 (F := Ideal) x0 x1 x2 x3 x4 x5 x6 x7 x8 x9 (ix3 b r k)) (vecAt x10) (vecAt x11) j := by
  rw [val_main_v104_apply, ln2b_apply, val_main_v101_apply, ln2g_apply, val_main_v98_apply, val_main_v93_apply, val_main_v92_apply,
    show idx_main_v92 (ix3 b r j) = ix3 b r 0 from funext fun a => by fin_cases a <;> rfl, norm2_mean,
    val_main_v97_apply, show idx_main_v97 (ix3 b r j) = ix3 b r 0 from funext fun a => by fin_cases a <;> rfl,
    val_main_v96_apply, val_main_v95_apply, norm2_var, val_main_v94_apply, val_main_cst_11_apply]
  generalize val_main_v76 (F := Ideal) x0 x1 x2 x3 x4 x5 x6 x7 x8 x9 = u
  rfl

/-- The result's row of batch `b`, as a function of the arguments' rows. -/
def rowR (b : Fin 8) (r : Fin 2048) : Fin 1024 → EReal :=
  Cert.TailRow.fin
    (mid (fun k => x0 (ix3 b r k)) (fun k => x1 (ix2 (rowOf b r) k)) (fun k => x2 (ix2 (rowOf b r) k)) (matAt x4) (modAt x3 2 (by omega) b) (vecAt x5) (vecAt x6))
    (modAt x3 3 (by omega) b) (modAt x3 4 (by omega) b) (modAt x3 5 (by omega) b) (matAt x7) (matAt x8) (matAt x9) (vecAt x10) (vecAt x11)

theorem layer_apply (b : Fin 8) (r : Fin 2048) (j : Fin 1024) :
    val_main_v104 (F := Ideal) x0 x1 x2 x3 x4 x5 x6 x7 x8 x9 x10 x11 (ix3 b r j) = rowR x0 x1 x2 x3 x4 x5 x6 x7 x8 x9 x10 x11 b r j := by
  rw [norm2_apply]
  simp only [res2_apply, mid_apply]
  rfl

/-- The result at row `R`. -/
theorem result_apply (R : Fin 16384) (j : Fin 1024) :
    val_main_v105 (F := Ideal) x0 x1 x2 x3 x4 x5 x6 x7 x8 x9 x10 x11 (ix2 R j) = rowR x0 x1 x2 x3 x4 x5 x6 x7 x8 x9 x10 x11 ⟨R.val / 2048, by omega⟩ ⟨R.val % 2048, by omega⟩ j := by
  rw [val_main_v105_apply, ← layer_apply]
  generalize val_main_v104 (F := Ideal) x0 x1 x2 x3 x4 x5 x6 x7 x8 x9 x10 x11 = u
  refine congrArg u (funext fun a => Fin.ext ?_)
  fin_cases a
  · show (R.val * 1024 + j.val) / 2097152 = R.val / 2048
    omega
  · show (R.val * 1024 + j.val) / 1024 % 2048 = R.val % 2048
    omega
  · show (R.val * 1024 + j.val) % 1024 = j.val
    omega

end Cert.CTailRefIdeal.Lat

end
-- ==== Proof.CTailCtx.lean ====
/-
  The first layer's tail in the reference, the CONTEXT rows read at an index: one row's residual, normalisations and
  feed-forward network, as the row functions of TailMath.lean.
-/
module

public import proofs.«01_k».proof.Proof.TailMath
public import proofs.«01_k».proof.Proof.Gen.CTailRefIdeal.Read
public import Idealize.ShloMosaic.Lib.Pointwise

@[expose] public section

set_option maxRecDepth 16384
set_option backward.proofsInPublic true

noncomputable section

namespace Cert.CTailRefIdeal.Ctx

open Cert.CTailRefIdeal Cert.CTailRefIdeal.Gen Cert.CTailRefIdeal.Read Cert.TailRow
open Idealize.ShloMosaic Idealize.ShloMosaic.TcCoe Idealize.ShloMosaic.Tactic

variable (x3 : S4x16x6144.Idx → EReal)
  (x4 : S4x1280x1024.Idx → EReal) (x5 x6 : S4x1024.Idx → EReal) (x7 x8 : S4x1024x2816.Idx → EReal) (x9 : S4x2816x1024.Idx → EReal)
  (x10 x11 : S4x1024.Idx → EReal) (x12 : S8x256x1024.Idx → EReal) (x13 : S2048x512.Idx → EReal) (x14 : S2048x768.Idx → EReal)

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]
  norm_num

/-- Channel `k` of modulation vector `n` of the context rows. -/
abbrev modAt (n : ℕ) (hn : n < 6) (k : Fin 1024) : EReal := x3 (ix3 0 8 ⟨1024 * n + k.val, by omega⟩)
/-- Row `r` of batch `b` in the arrays of 2048 rows. -/
abbrev rowOf (b : Fin 8) (r : Fin 256) : Fin 2048 := ⟨256 * b.val + r.val, by omega⟩
abbrev matAt {n k : ℕ} (w : (⟨3, ![4, n, k]⟩ : Shape).Idx → EReal) (i : Fin n) (j : Fin k) : EReal := w (ix3 0 i j)
abbrev vecAt (w : S4x1024.Idx → EReal) (k : Fin 1024) : EReal := w (ix2 0 k)

theorem mod2_apply (k : Fin 1024) : val_main_v116 (F := Ideal) x3 (ix3 0 0 k) = modAt x3 2 (by omega) k := by
  rw [val_main_v116_apply, val_main_v110_apply, val_main_v107_apply, val_main_v106_apply]
  refine congrArg x3 (funext fun a => Fin.ext ?_)
  fin_cases a
  · rfl
  · rfl
  · show (0 * 6144 + (2048 + k.val)) % 6144 = 1024 * 2 + k.val
    omega

theorem mod3_apply (k : Fin 1024) : val_main_v117 (F := Ideal) x3 (ix3 0 0 k) = modAt x3 3 (by omega) k := by
  rw [val_main_v117_apply, val_main_v111_apply, val_main_v107_apply, val_main_v106_apply]
  refine congrArg x3 (funext fun a => Fin.ext ?_)
  fin_cases a
  · rfl
  · rfl
  · show (0 * 6144 + (3072 + k.val)) % 6144 = 1024 * 3 + k.val
    omega

theorem mod4_apply (k : Fin 1024) : val_main_v118 (F := Ideal) x3 (ix3 0 0 k) = modAt x3 4 (by omega) k := by
  rw [val_main_v118_apply, val_main_v112_apply, val_main_v107_apply, val_main_v106_apply]
  refine congrArg x3 (funext fun a => Fin.ext ?_)
  fin_cases a
  · rfl
  · rfl
  · show (0 * 6144 + (4096 + k.val)) % 6144 = 1024 * 4 + k.val
    omega

theorem mod5_apply (k : Fin 1024) : val_main_v119 (F := Ideal) x3 (ix3 0 0 k) = modAt x3 5 (by omega) k := by
  rw [val_main_v119_apply, val_main_v113_apply, val_main_v107_apply, val_main_v106_apply]
  refine congrArg x3 (funext fun a => Fin.ext ?_)
  fin_cases a
  · rfl
  · rfl
  · show (0 * 6144 + (5120 + k.val)) % 6144 = 1024 * 5 + k.val
    omega

theorem attn_apply (b : Fin 8) (r : Fin 256) (k : Fin 512) : val_main_v121 (F := Ideal) x13 (ix3 b r k) = x13 (ix2 (rowOf b r) k) := by
  rw [val_main_v121_apply, val_main_v120_apply]
  refine congrArg x13 (funext fun a => Fin.ext ?_)
  fin_cases a
  · show ((b.val * 256 + r.val) * 512 + k.val) / 512 = 256 * b.val + r.val
    omega
  · show ((b.val * 256 + r.val) * 512 + k.val) % 512 = k.val
    omega

theorem loc_apply (b : Fin 8) (r : Fin 256) (k : Fin 768) : val_main_v123 (F := Ideal) x14 (ix3 b r k) = x14 (ix2 (rowOf b r) k) := by
  rw [val_main_v123_apply, val_main_v122_apply]
  refine congrArg x14 (funext fun a => Fin.ext ?_)
  fin_cases a
  · show ((b.val * 256 + r.val) * 768 + k.val) / 768 = 256 * b.val + r.val
    omega
  · show ((b.val * 256 + r.val) * 768 + k.val) % 768 = k.val
    omega

theorem cat_left (b : Fin 8) (r : Fin 256) (k : Fin 512) :
    val_main_v124 (F := Ideal) x13 x14 (ix3 b r (Fin.castAdd 768 k : Fin (512 + 768))) = x13 (ix2 (rowOf b r) k) := by
  rw [← attn_apply x13]
  refine concatenate_pair_apply_left (t := S8x256x1280) (s₁ := S8x256x512) (s₂ := S8x256x768) _ _ _ _ _ rfl (ix3 b r k) (fun a => by fin_cases a <;> rfl)
theorem cat_right (b : Fin 8) (r : Fin 256) (k : Fin 768) :
    val_main_v124 (F := Ideal) x13 x14 (ix3 b r (Fin.natAdd 512 k : Fin (512 + 768))) = x14 (ix2 (rowOf b r) k) := by
  rw [← loc_apply x14]
  refine concatenate_pair_apply_right (t := S8x256x1280) (s₁ := S8x256x512) (s₂ := S8x256x768) _ _ _ _ _ rfl rfl (ix3 b r k)
    (fun a ha => by fin_cases a <;> first | rfl | exact absurd rfl ha) (by show k.val + 512 = 512 + k.val; omega)

theorem wo_apply (i : Fin 1280) (j : Fin 1024) : val_main_v128 (F := Ideal) x4 (ix2 i j) = matAt x4 i j := by
  rw [val_main_v128_apply, val_main_v127_apply]
  refine congrArg x4 (funext fun a => Fin.ext ?_)
  fin_cases a
  · rfl
  · show (i.val * 1024 + j.val) / 1024 % 1280 = i.val
    omega
  · show (i.val * 1024 + j.val) % 1024 = j.val
    omega

theorem w1_apply (i : Fin 1024) (j : Fin 2816) : val_main_v168 (F := Ideal) x7 (ix2 i j) = matAt x7 i j := by
  rw [val_main_v168_apply, val_main_v167_apply]
  refine congrArg x7 (funext fun a => Fin.ext ?_)
  fin_cases a
  · rfl
  · show (i.val * 2816 + j.val) / 2816 % 1024 = i.val
    omega
  · show (i.val * 2816 + j.val) % 2816 = j.val
    omega

theorem w3_apply (i : Fin 1024) (j : Fin 2816) : val_main_v172 (F := Ideal) x8 (ix2 i j) = matAt x8 i j := by
  rw [val_main_v172_apply, val_main_v171_apply]
  refine congrArg x8 (funext fun a => Fin.ext ?_)
  fin_cases a
  · rfl
  · show (i.val * 2816 + j.val) / 2816 % 1024 = i.val
    omega
  · show (i.val * 2816 + j.val) % 2816 = j.val
    omega

theorem w2_apply (i : Fin 2816) (j : Fin 1024) : val_main_v176 (F := Ideal) x9 (ix2 i j) = matAt x9 i j := by
  rw [val_main_v176_apply, val_main_v175_apply]
  refine congrArg x9 (funext fun a => Fin.ext ?_)
  fin_cases a
  · rfl
  · show (i.val * 1024 + j.val) / 1024 % 2816 = i.val
    omega
  · show (i.val * 1024 + j.val) % 1024 = j.val
    omega

theorem ln1g_apply (b : Fin 8) (r : Fin 256) (j : Fin 1024) : val_main_v156 (F := Ideal) x5 (ix3 b r j) = vecAt x5 j := by
  rw [val_main_v156_apply, val_main_v155_apply, val_main_v134_apply, val_main_v133_apply]
  refine congrArg x5 (funext fun a => Fin.ext ?_)
  fin_cases a
  · rfl
  · show j.val % 1024 = j.val
    omega

theorem ln1b_apply (b : Fin 8) (r : Fin 256) (j : Fin 1024) : val_main_v159 (F := Ideal) x6 (ix3 b r j) = vecAt x6 j := by
  rw [val_main_v159_apply, val_main_v158_apply, val_main_v136_apply, val_main_v135_apply]
  refine congrArg x6 (funext fun a => Fin.ext ?_)
  fin_cases a
  · rfl
  · show j.val % 1024 = j.val
    omega

theorem ln2g_apply (b : Fin 8) (r : Fin 256) (j : Fin 1024) : val_main_v206 (F := Ideal) x10 (ix3 b r j) = vecAt x10 j := by
  rw [val_main_v206_apply, val_main_v205_apply, val_main_v184_apply, val_main_v183_apply]
  refine congrArg x10 (funext fun a => Fin.ext ?_)
  fin_cases a
  · rfl
  · show j.val % 1024 = j.val
    omega

theorem ln2b_apply (b : Fin 8) (r : Fin 256) (j : Fin 1024) : val_main_v209 (F := Ideal) x11 (ix3 b r j) = vecAt x11 j := by
  rw [val_main_v209_apply, val_main_v208_apply, val_main_v186_apply, val_main_v185_apply]
  refine congrArg x11 (funext fun a => Fin.ext ?_)
  fin_cases a
  · rfl
  · show j.val % 1024 = j.val
    omega

theorem mix_apply (b : Fin 8) (r : Fin 256) (j : Fin 1024) :
    val_main_v129 (F := Ideal) x4 x13 x14 (ix3 b r j) = mix (fun k => x13 (ix2 (rowOf b r) k)) (fun k => x14 (ix2 (rowOf b r) k)) (matAt x4) j := by
  rw [val_main_v129_apply]
  have el : ∀ k, lidx_main_v129 (ix3 b r j) k = ix3 b r k := fun k => funext fun a => by fin_cases a <;> rfl
  have er : ∀ k, ridx_main_v129 (ix3 b r j) k = ix2 k j := fun k => funext fun a => by fin_cases a <;> rfl
  simp only [el, er, wo_apply]
  refine (Fin.sum_univ_add (a := 512) (b := 768) _).trans ?_
  simp only [cat_left, cat_right]
  rfl

theorem res1_apply (b : Fin 8) (r : Fin 256) (j : Fin 1024) :
    val_main_v132 (F := Ideal) x3 x4 x12 x13 x14 (ix3 b r j)
      = res (fun k => x12 (ix3 b r k)) (modAt x3 2 (by omega)) (mix (fun k => x13 (ix2 (rowOf b r) k)) (fun k => x14 (ix2 (rowOf b r) k)) (matAt x4)) j := by
  rw [val_main_v132_apply, val_main_v126_apply, val_main_v125_apply, val_main_cst_12_apply, val_main_v131_apply, val_main_v130_apply,
    show idx_main_v130 (ix3 b r j) = ix3 0 0 j from funext fun a => by fin_cases a <;> rfl, mod2_apply, mix_apply]
  rfl

theorem norm1_mean (b : Fin 8) (r : Fin 256) :
    val_main_v140 (F := Ideal) x3 x4 x12 x13 x14 (ix3 b r 0) = mean (fun k => val_main_v132 (F := Ideal) x3 x4 x12 x13 x14 (ix3 b r k)) := by
  rw [val_main_v140_apply, val_main_v138_apply, show idx_main_v138 (ix3 b r 0) = ix2 b r from funext fun a => by fin_cases a <;> rfl,
    val_main_v137_apply, val_main_v139_apply, val_main_cst_14_apply, val_main_cst_13_apply]
  have e : ∀ k, idx_main_v137 (ix2 b r) k = ix3 b r k := fun k => funext fun a => by fin_cases a <;> rfl
  simp only [e]
  generalize val_main_v132 (F := Ideal) x3 x4 x12 x13 x14 = u
  refine Eq.trans (b := Ideal.div (Ideal.ofBits .f32 0x00000000#32 + ∑ k, u (ix3 b r k)) cN) rfl ?_
  rw [zero_word, zero_add, mean]

theorem norm1_var (b : Fin 8) (r : Fin 256) :
    val_main_v147 (F := Ideal) x3 x4 x12 x13 x14 (ix3 b r 0)
      = Ideal.div (∑ k, (val_main_v132 (F := Ideal) x3 x4 x12 x13 x14 (ix3 b r k) - mean (fun k => val_main_v132 (F := Ideal) x3 x4 x12 x13 x14 (ix3 b r k))) * (val_main_v132 (F := Ideal) x3 x4 x12 x13 x14 (ix3 b r k) - mean (fun k => val_main_v132 (F := Ideal) x3 x4 x12 x13 x14 (ix3 b r k)))) cN := by
  rw [val_main_v147_apply, val_main_v145_apply, show idx_main_v145 (ix3 b r 0) = ix2 b r from funext fun a => by fin_cases a <;> rfl,
    val_main_v144_apply, val_main_v146_apply, val_main_cst_16_apply, val_main_cst_15_apply]
  have e : ∀ k, idx_main_v144 (ix2 b r) k = ix3 b r k := fun k => funext fun a => by fin_cases a <;> rfl
  have em : ∀ k, idx_main_v141 (ix3 b r k) = ix3 b r 0 := fun k => funext fun a => by fin_cases a <;> rfl
  simp only [e, val_main_v143_apply, val_main_v142_apply, val_main_v141_apply, em, norm1_mean]
  generalize val_main_v132 (F := Ideal) x3 x4 x12 x13 x14 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm1_apply (b : Fin 8) (r : Fin 256) (j : Fin 1024) :
    val_main_v160 (F := Ideal) x3 x4 x5 x6 x12 x13 x14 (ix3 b r j) = norm (fun k => val_main_v132 (F := Ideal) x3 x4 x12 x13 x14 (ix3 b r k)) (vecAt x5) (vecAt x6) j := by
  rw [val_main_v160_apply, ln1b_apply, val_main_v157_apply, ln1g_apply, val_main_v154_apply, val_main_v149_apply, val_main_v148_apply,
    show idx_main_v148 (ix3 b r j) = ix3 b r 0 from funext fun a => by fin_cases a <;> rfl, norm1_mean,
    val_main_v153_apply, show idx_main_v153 (ix3 b r j) = ix3 b r 0 from funext fun a => by fin_cases a <;> rfl,
    val_main_v152_apply, val_main_v151_apply, norm1_var, val_main_v150_apply, val_main_cst_17_apply]
  generalize val_main_v132 (F := Ideal) x3 x4 x12 x13 x14 = u
  rfl

theorem mid_apply (b : Fin 8) (r : Fin 256) (j : Fin 1024) :
    val_main_v160 (F := Ideal) x3 x4 x5 x6 x12 x13 x14 (ix3 b r j)
      = mid (fun k => x12 (ix3 b r k)) (fun k => x13 (ix2 (rowOf b r) k)) (fun k => x14 (ix2 (rowOf b r) k)) (matAt x4) (modAt x3 2 (by omega)) (vecAt x5) (vecAt x6) j := by
  rw [norm1_apply]
  simp only [res1_apply]
  rfl

/-- The first normalisation's row, modulated. -/
theorem modul_apply (b : Fin 8) (r : Fin 256) (j : Fin 1024) :
    val_main_v166 (F := Ideal) x3 x4 x5 x6 x12 x13 x14 (ix3 b r j)
      = modul (fun k => val_main_v160 (F := Ideal) x3 x4 x5 x6 x12 x13 x14 (ix3 b r k)) (modAt x3 4 (by omega)) (modAt x3 3 (by omega)) j := by
  rw [val_main_v166_apply, val_main_v165_apply, show idx_main_v165 (ix3 b r j) = ix3 0 0 j from funext fun a => by fin_cases a <;> rfl, mod3_apply,
    val_main_v164_apply, val_main_v163_apply, show idx_main_v163 (ix3 b r j) = ix3 0 0 j from funext fun a => by fin_cases a <;> rfl,
    val_main_v162_apply, mod4_apply, val_main_v161_apply, val_main_cst_18_apply]
  generalize val_main_v160 (F := Ideal) x3 x4 x5 x6 x12 x13 x14 = u
  refine Eq.trans (b := u (ix3 b r j) * (Ideal.ofBits .f32 0x3F800000#32 + modAt x3 4 (by omega) j) + modAt x3 3 (by omega) j) rfl ?_
  rw [one_word, modul]

theorem p_apply (b : Fin 8) (r : Fin 256) (f : Fin 2816) :
    val_main_v169 (F := Ideal) x3 x4 x5 x6 x7 x12 x13 x14 (ix3 b r f) = ∑ k : Fin 1024, val_main_v166 (F := Ideal) x3 x4 x5 x6 x12 x13 x14 (ix3 b r k) * matAt x7 k f := by
  rw [val_main_v169_apply]
  have el : ∀ k, lidx_main_v169 (ix3 b r f) k = ix3 b r k := fun k => funext fun a => by fin_cases a <;> rfl
  have er : ∀ k, ridx_main_v169 (ix3 b r f) k = ix2 k f := fun k => funext fun a => by fin_cases a <;> rfl
  simp only [el, er, w1_apply]

theorem q_apply (b : Fin 8) (r : Fin 256) (f : Fin 2816) :
    val_main_v173 (F := Ideal) x3 x4 x5 x6 x8 x12 x13 x14 (ix3 b r f) = ∑ k : Fin 1024, val_main_v166 (F := Ideal) x3 x4 x5 x6 x12 x13 x14 (ix3 b r k) * matAt x8 k f := by
  rw [val_main_v173_apply]
  have el : ∀ k, lidx_main_v173 (ix3 b r f) k = ix3 b r k := fun k => funext fun a => by fin_cases a <;> rfl
  have er : ∀ k, ridx_main_v173 (ix3 b r f) k = ix2 k f := fun k => funext fun a => by fin_cases a <;> rfl
  simp only [el, er, w3_apply]

theorem gate_apply (b : Fin 8) (r : Fin 256) (f : Fin 2816) :
    val_main_v174 (F := Ideal) x3 x4 x5 x6 x7 x8 x12 x13 x14 (ix3 b r f)
      = gate (val_main_v169 (F := Ideal) x3 x4 x5 x6 x7 x12 x13 x14 (ix3 b r f)) (val_main_v173 (F := Ideal) x3 x4 x5 x6 x8 x12 x13 x14 (ix3 b r f)) := by
  rw [val_main_v174_apply, val_main_v170_apply, val_main_call1_v5_apply, val_main_call1_v4_apply, val_main_call1_cst_0_apply, val_main_call1_v3_apply,
    val_main_call1_v2_apply, val_main_call1_cst_apply, val_main_call1_v1_apply, val_main_call1_v0_apply]
  generalize val_main_v169 (F := Ideal) x3 x4 x5 x6 x7 x12 x13 x14 (ix3 b r f) = p
  generalize val_main_v173 (F := Ideal) x3 x4 x5 x6 x8 x12 x13 x14 (ix3 b r f) = q
  refine Eq.trans (b := p * Ideal.div (Ideal.ofBits .f32 0x3F800000#32) (Ideal.ofBits .f32 0x3F800000#32 + Ideal.exp (-p)) * q) rfl ?_
  rw [one_word, gate]

theorem ffn_apply (b : Fin 8) (r : Fin 256) (j : Fin 1024) :
    val_main_v177 (F := Ideal) x3 x4 x5 x6 x7 x8 x9 x12 x13 x14 (ix3 b r j)
      = ffn (modul (fun k => val_main_v160 (F := Ideal) x3 x4 x5 x6 x12 x13 x14 (ix3 b r k)) (modAt x3 4 (by omega)) (modAt x3 3 (by omega))) (matAt x7) (matAt x8) (matAt x9) j := by
  rw [val_main_v177_apply]
  have el : ∀ k, lidx_main_v177 (ix3 b r j) k = ix3 b r k := fun k => funext fun a => by fin_cases a <;> rfl
  have er : ∀ k, ridx_main_v177 (ix3 b r j) k = ix2 k j := fun k => funext fun a => by fin_cases a <;> rfl
  simp only [el, er, w2_apply, gate_apply, p_apply, q_apply, modul_apply]
  rfl

theorem res2_apply (b : Fin 8) (r : Fin 256) (j : Fin 1024) :
    val_main_v182 (F := Ideal) x3 x4 x5 x6 x7 x8 x9 x12 x13 x14 (ix3 b r j)
      = res (fun k => val_main_v160 (F := Ideal) x3 x4 x5 x6 x12 x13 x14 (ix3 b r k)) (modAt x3 5 (by omega))
          (ffn (modul (fun k => val_main_v160 (F := Ideal) x3 x4 x5 x6 x12 x13 x14 (ix3 b r k)) (modAt x3 4 (by omega)) (modAt x3 3 (by omega))) (matAt x7) (matAt x8) (matAt x9)) j := by
  rw [val_main_v182_apply, val_main_v179_apply, val_main_v178_apply, val_main_cst_19_apply, val_main_v181_apply, val_main_v180_apply,
    show idx_main_v180 (ix3 b r j) = ix3 0 0 j from funext fun a => by fin_cases a <;> rfl, mod5_apply, ffn_apply]
  generalize val_main_v160 (F := Ideal) x3 x4 x5 x6 x12 x13 x14 = u
  rfl

theorem norm2_mean (b : Fin 8) (r : Fin 256) :
    val_main_v190 (F := Ideal) x3 x4 x5 x6 x7 x8 x9 x12 x13 x14 (ix3 b r 0) = mean (fun k => val_main_v182 (F := Ideal) x3 x4 x5 x6 x7 x8 x9 x12 x13 x14 (ix3 b r k)) := by
  rw [val_main_v190_apply, val_main_v188_apply, show idx_main_v188 (ix3 b r 0) = ix2 b r from funext fun a => by fin_cases a <;> rfl,
    val_main_v187_apply, val_main_v189_apply, val_main_cst_21_apply, val_main_cst_20_apply]
  have e : ∀ k, idx_main_v187 (ix2 b r) k = ix3 b r k := fun k => funext fun a => by fin_cases a <;> rfl
  simp only [e]
  generalize val_main_v182 (F := Ideal) x3 x4 x5 x6 x7 x8 x9 x12 x13 x14 = u
  refine Eq.trans (b := Ideal.div (Ideal.ofBits .f32 0x00000000#32 + ∑ k, u (ix3 b r k)) cN) rfl ?_
  rw [zero_word, zero_add, mean]

theorem norm2_var (b : Fin 8) (r : Fin 256) :
    val_main_v197 (F := Ideal) x3 x4 x5 x6 x7 x8 x9 x12 x13 x14 (ix3 b r 0)
      = Ideal.div (∑ k, (val_main_v182 (F := Ideal) x3 x4 x5 x6 x7 x8 x9 x12 x13 x14 (ix3 b r k) - mean (fun k => val_main_v182 (F := Ideal) x3 x4 x5 x6 x7 x8 x9 x12 x13 x14 (ix3 b r k))) * (val_main_v182 (F := Ideal) x3 x4 x5 x6 x7 x8 x9 x12 x13 x14 (ix3 b r k) - mean (fun k => val_main_v182 (F := Ideal) x3 x4 x5 x6 x7 x8 x9 x12 x13 x14 (ix3 b r k)))) cN := by
  rw [val_main_v197_apply, val_main_v195_apply, show idx_main_v195 (ix3 b r 0) = ix2 b r from funext fun a => by fin_cases a <;> rfl,
    val_main_v194_apply, val_main_v196_apply, val_main_cst_23_apply, val_main_cst_22_apply]
  have e : ∀ k, idx_main_v194 (ix2 b r) k = ix3 b r k := fun k => funext fun a => by fin_cases a <;> rfl
  have em : ∀ k, idx_main_v191 (ix3 b r k) = ix3 b r 0 := fun k => funext fun a => by fin_cases a <;> rfl
  simp only [e, val_main_v193_apply, val_main_v192_apply, val_main_v191_apply, em, norm2_mean]
  generalize val_main_v182 (F := Ideal) x3 x4 x5 x6 x7 x8 x9 x12 x13 x14 = u
  refine Eq.trans (b := Ideal.div (Ideal.ofBits .f32 0x00000000#32 + ∑ k, (u (ix3 b r k) - mean (fun k => u (ix3 b r k))) * (u (ix3 b r k) - mean (fun k => u (ix3 b r k)))) cN) rfl ?_
  rw [zero_word, zero_add]

theorem norm2_apply (b : Fin 8) (r : Fin 256) (j : Fin 1024) :
    val_main_v210 (F := Ideal) x3 x4 x5 x6 x7 x8 x9 x10 x11 x12 x13 x14 (ix3 b r j) = norm (fun k => val_main_v182 (F := Ideal) x3 x4 x5 x6 x7 x8 x9 x12 x13 x14 (ix3 b r k)) (vecAt x10) (vecAt x11) j := by
  rw [val_main_v210_apply, ln2b_apply, val_main_v207_apply, ln2g_apply, val_main_v204_apply, val_main_v199_apply, val_main_v198_apply,
    show idx_main_v198 (ix3 b r j) = ix3 b r 0 from funext fun a => by fin_cases a <;> rfl, norm2_mean,
    val_main_v203_apply, show idx_main_v203 (ix3 b r j) = ix3 b r 0 from funext fun a => by fin_cases a <;> rfl,
    val_main_v202_apply, val_main_v201_apply, norm2_var, val_main_v200_apply, val_main_cst_24_apply]
  generalize val_main_v182 (F := Ideal) x3 x4 x5 x6 x7 x8 x9 x12 x13 x14 = u
  rfl

/-- The result's row of batch `b`, as a function of the arguments' rows. -/
def rowR (b : Fin 8) (r : Fin 256) : Fin 1024 → EReal :=
  Cert.TailRow.fin
    (mid (fun k => x12 (ix3 b r k)) (fun k => x13 (ix2 (rowOf b r) k)) (fun k => x14 (ix2 (rowOf b r) k)) (matAt x4) (modAt x3 2 (by omega)) (vecAt x5) (vecAt x6))
    (modAt x3 3 (by omega)) (modAt x3 4 (by omega)) (modAt x3 5 (by omega)) (matAt x7) (matAt x8) (matAt x9) (vecAt x10) (vecAt x11)

theorem layer_apply (b : Fin 8) (r : Fin 256) (j : Fin 1024) :
    val_main_v210 (F := Ideal) x3 x4 x5 x6 x7 x8 x9 x10 x11 x12 x13 x14 (ix3 b r j) = rowR x3 x4 x5 x6 x7 x8 x9 x10 x11 x12 x13 x14 b r j := by
  rw [norm2_apply]
  simp only [res2_apply, mid_apply]
  rfl

/-- The result at row `R`. -/
theorem result_apply (R : Fin 2048) (j : Fin 1024) :
    val_main_v211 (F := Ideal) x3 x4 x5 x6 x7 x8 x9 x10 x11 x12 x13 x14 (ix2 R j) = rowR x3 x4 x5 x6 x7 x8 x9 x10 x11 x12 x13 x14 ⟨R.val / 256, by omega⟩ ⟨R.val % 256, by omega⟩ j := by
  rw [val_main_v211_apply, ← layer_apply]
  generalize val_main_v210 (F := Ideal) x3 x4 x5 x6 x7 x8 x9 x10 x11 x12 x13 x14 = u
  refine congrArg u (funext fun a => Fin.ext ?_)
  fin_cases a
  · show (R.val * 1024 + j.val) / 262144 = R.val / 256
    omega
  · show (R.val * 1024 + j.val) / 1024 % 256 = R.val % 256
    omega
  · show (R.val * 1024 + j.val) % 1024 = j.val
    omega

end Cert.CTailRefIdeal.Ctx

end
-- ==== Proof.CTailValue.lean ====
/-
  The value claim of the tail with context rows: the kernel's result array is the reference's.
-/
module

public import proofs.«01_k».proof.Proof.CTailInput
public import proofs.«01_k».proof.Proof.CTailLat
public import proofs.«01_k».proof.Proof.CTailCtx
public import proofs.«01_k».proof.Proof.Gen.CTailRefIdeal.Run
public import proofs.«01_k».proof.Defs

@[expose] public section

set_option maxRecDepth 16384
set_option backward.proofsInPublic true

noncomputable section

namespace Cert.CTailIdeal.CTail

open Cert.CTailIdeal Cert.CTailIdeal.Gen
open Cert.CTailRefIdeal.Read (val_main_v105 val_main_v211 val_main_v212 val_main_v212_eq)
open Idealize.ShloMosaic Idealize.ShloMosaic.TcCoe Idealize.ShloMosaic.Tactic Idealize.SL.Sem

variable (m : (ℓ : Loc nD τ sig) → Buf (Elt Ideal) ℓ) (c : Dev nD)

theorem coords_val : ∀ t : Fin grid0.N, (grid0.coords t 0).val = t.val := by decide +kernel

theorem pick_lat {α : Type} (t : Fin cfg0.N) (ht : t.val < 32) (a b : α) : pick (grid0.coords t) a b = a := by
  have hc := coords_val t
  exact if_pos (by omega)

theorem pick_ctx {α : Type} (t : Fin cfg0.N) (ht : 32 ≤ t.val) (a b : α) : pick (grid0.coords t) a b = b := by
  have hc := coords_val t
  exact if_neg (by omega)

/-- Row `r` of what grid point `t` leaves is the reference's row: the latents'. -/
theorem row_lat (t : Fin cfg0.N) (ht : t.val < 32) (r : Fin 512) (j : Fin 1024) :
    rowV (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j
      = Cert.CTailRefIdeal.Lat.rowR (arg0 m c) (arg1 m c) (arg2 m c) (arg3 m c) (arg4 m c) (arg5 m c) (arg6 m c) (arg7 m c) (arg8 m c) (arg9 m c) (arg10 m c) (arg11 m c) ⟨t.val / 4, by omega⟩ ⟨512 * (t.val % 4) + r.val, by omega⟩ j := by
  unfold rowV Cert.CTailRefIdeal.Lat.rowR
  simp only [pick_lat t ht]
  simp only [iblk_0 m c t ht, iblk_2 m c t ht, iblk_4 m c t ht, iblk_7 m c t, iblk_8 m c t, iblk_9 m c t, iblk_10 m c t, iblk_11 m c t, iblk_12 m c t, iblk_13 m c t, iblk_14 m c t]
  have e : (⟨2048 * (t.val / 4) + (512 * (t.val % 4) + r.val), by omega⟩ : Fin 16384) = ⟨512 * t.val + r.val, by omega⟩ :=
    Fin.ext (by show 2048 * (t.val / 4) + (512 * (t.val % 4) + r.val) = 512 * t.val + r.val; omega)
  have em : ∀ n hn, modCh (iblk m c 6 t) n hn = Cert.CTailRefIdeal.Lat.modAt (arg3 m c) n hn ⟨t.val / 4, by omega⟩ :=
    fun n hn => funext fun k => iblk_6L m c t ht _
  simp only [Cert.CTailRefIdeal.Lat.rowOf, em, e]

/-- The context's. -/
theorem row_ctx (t : Fin cfg0.N) (ht : 32 ≤ t.val) (r : Fin 512) (j : Fin 1024) :
    rowV (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j
      = Cert.CTailRefIdeal.Ctx.rowR (arg3 m c) (arg4 m c) (arg5 m c) (arg6 m c) (arg7 m c) (arg8 m c) (arg9 m c) (arg10 m c) (arg11 m c) (arg12 m c) (arg13 m c) (arg14 m c) ⟨(512 * (t.val - 32) + r.val) / 256, by have : t.val < 36 := t.isLt; omega⟩ ⟨(512 * (t.val - 32) + r.val) % 256, by omega⟩ j := by
  have h36 : t.val < 36 := t.isLt
  unfold rowV Cert.CTailRefIdeal.Ctx.rowR
  simp only [pick_ctx t ht]
  simp only [iblk_1 m c t ht, iblk_3 m c t ht, iblk_5 m c t ht, iblk_7 m c t, iblk_8 m c t, iblk_9 m c t, iblk_10 m c t, iblk_11 m c t, iblk_12 m c t, iblk_13 m c t, iblk_14 m c t]
  have e : (⟨256 * ((512 * (t.val - 32) + r.val) / 256) + (512 * (t.val - 32) + r.val) % 256, by omega⟩ : Fin 2048) = ⟨512 * (t.val - 32) + r.val, by omega⟩ :=
    Fin.ext (by show 256 * ((512 * (t.val - 32) + r.val) / 256) + (512 * (t.val - 32) + r.val) % 256 = 512 * (t.val - 32) + r.val; omega)
  have em : ∀ n hn, modCh (iblk m c 6 t) n hn = Cert.CTailRefIdeal.Ctx.modAt (arg3 m c) n hn :=
    fun n hn => funext fun k => iblk_6C m c t ht _
  simp only [Cert.CTailRefIdeal.Ctx.rowOf, em, e]

/-- The result's array: the latents' rows, then the context's. -/
def resultArr : S18432x1024.Idx → EReal := fun y =>
  if h : (y 0).val < 16384 then
    Cert.CTailRefIdeal.Lat.rowR (arg0 m c) (arg1 m c) (arg2 m c) (arg3 m c) (arg4 m c) (arg5 m c) (arg6 m c) (arg7 m c) (arg8 m c) (arg9 m c) (arg10 m c) (arg11 m c) ⟨(y 0).val / 2048, by omega⟩ ⟨(y 0).val % 2048, by omega⟩ ⟨(y 1).val, (y 1).isLt⟩
  else
    Cert.CTailRefIdeal.Ctx.rowR (arg3 m c) (arg4 m c) (arg5 m c) (arg6 m c) (arg7 m c) (arg8 m c) (arg9 m c) (arg10 m c) (arg11 m c) (arg12 m c) (arg13 m c) (arg14 m c) ⟨((y 0).val - 16384) / 256, by have : (y 0).val < 18432 := (y 0).isLt; omega⟩ ⟨((y 0).val - 16384) % 256, by omega⟩ ⟨(y 1).val, (y 1).isLt⟩

theorem emb15_0 (t : Fin cfg0.N) (y : S512x1024.Idx) : ((((cfg0.win 15).blk t).view.emb y) 0 : ℕ) = t.val * 512 + (y 0).val := by
  blk_simp
  rw [index15 t]
  simp
theorem emb15_1 (t : Fin cfg0.N) (y : S512x1024.Idx) : ((((cfg0.win 15).blk t).view.emb y) 1 : ℕ) = (y 1).val := by
  blk_simp
  rw [index15 t]
  simp

theorem congr3 {α β γ δ : Type} (f : α → β → γ → δ) {a a' : α} {b b' : β} {x x' : γ} (ha : a = a') (hb : b = b') (hx : x = x') : f a b x = f a' b' x' := by
  subst ha hb hx
  rfl

theorem result_point (t : Fin cfg0.N) (y : S512x1024.Idx) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = resultArr m c (((cfg0.win 15).blk t).view.emb y) := by
  have h36 : t.val < 36 := t.isLt
  have h0 : (y 0).val < 512 := (y 0).isLt
  have e0 := emb15_0 t y
  have e1 := emb15_1 t y
  rw [out_apply]
  generalize ((cfg0.win 15).blk t).view.emb y = Y at e0 e1 ⊢
  unfold resultArr
  by_cases ht : t.val < 32
  · rw [row_lat m c t ht, dif_pos (by omega)]
    congr 1
    · exact Fin.ext (by show t.val / 4 = (Y 0).val / 2048; omega)
    · exact Fin.ext (by show 512 * (t.val % 4) + (y 0).val = (Y 0).val % 2048; omega)
    · exact Fin.ext e1.symm
  · rw [row_ctx m c t (by omega), dif_neg (by omega)]
    have hN : 512 * (t.val - 32) + (y 0).val = (Y 0).val - 16384 := by omega
    refine congr3 (Cert.CTailRefIdeal.Ctx.rowR (arg3 m c) (arg4 m c) (arg5 m c) (arg6 m c) (arg7 m c) (arg8 m c) (arg9 m c) (arg10 m c) (arg11 m c) (arg12 m c) (arg13 m c) (arg14 m c)) (Fin.ext ?_) (Fin.ext ?_) (Fin.ext e1.symm)
    · exact congrArg (· / 256) hN
    · exact congrArg (· % 256) hN

theorem covers15 : (cfg0.win 15).Covers := by decide +kernel

theorem result_array : (dats m 0 c).arrAt 15 cfg0.N = resultArr m c := by
  refine (dats m 0 c).arrAt_eq_of_covers 15 _ covers15 fun t hf y => ?_
  rw [after0_15]
  have hp := result_point m c t
  generalize out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = Z at hp ⊢
  exact hp y

/-- A row of the joined array that lies in the second part. -/
theorem right_apply (u : S16384x1024.Idx → EReal) (v : S2048x1024.Idx → EReal) (R : Fin 2048) (j : Fin 1024) (Y : S18432x1024.Idx)
    (h0 : (Y 0).val = R.val + 16384) (h1 : (Y 1).val = j.val) :
    concatenate S18432x1024 0 [⟨S16384x1024, u⟩, ⟨S2048x1024, v⟩] Cert.CTailRefIdeal.Gen.concatenates_S16384x1024_S2048x1024_S18432x1024_d0 Y = v (ix2 R j) :=
  concatenate_pair_apply_right (t := S18432x1024) (s₁ := S16384x1024) (s₂ := S2048x1024) _ _ _ _ _ rfl rfl (ix2 R j)
    (fun a ha => by fin_cases a <;> first | exact h1.symm | exact absurd rfl ha) h0.symm

theorem result_ref : resultArr m c = val_main_v212 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) := by
  funext y
  have h18 : (y 0).val < 18432 := (y 0).isLt
  unfold resultArr val_main_v212
  by_cases h : (y 0).val < 16384
  · rw [dif_pos h]
    have hr := Cert.CTailRefIdeal.Lat.result_apply (arg0 m c) (arg1 m c) (arg2 m c) (arg3 m c) (arg4 m c) (arg5 m c) (arg6 m c) (arg7 m c) (arg8 m c) (arg9 m c) (arg10 m c) (arg11 m c) ⟨(y 0).val, h⟩ ⟨(y 1).val, (y 1).isLt⟩
    generalize val_main_v105 (F := Ideal) (arg0 m c) (arg1 m c) (arg2 m c) (arg3 m c) (arg4 m c) (arg5 m c) (arg6 m c) (arg7 m c) (arg8 m c) (arg9 m c) (arg10 m c) (arg11 m c) = u at hr ⊢
    refine Eq.symm ((concatenate_pair_apply_left (t := S18432x1024) (s₁ := S16384x1024) (s₂ := S2048x1024) _ _ _ _ _ rfl
      (ix2 (⟨(y 0).val, h⟩ : Fin 16384) (⟨(y 1).val, (y 1).isLt⟩ : Fin 1024)) (fun a => by fin_cases a <;> rfl)).trans ?_)
    exact hr
  · rw [dif_neg h]
    have hr := Cert.CTailRefIdeal.Ctx.result_apply (arg3 m c) (arg4 m c) (arg5 m c) (arg6 m c) (arg7 m c) (arg8 m c) (arg9 m c) (arg10 m c) (arg11 m c) (arg12 m c) (arg13 m c) (arg14 m c) ⟨(y 0).val - 16384, by omega⟩ ⟨(y 1).val, (y 1).isLt⟩
    generalize val_main_v105 (F := Ideal) (arg0 m c) (arg1 m c) (arg2 m c) (arg3 m c) (arg4 m c) (arg5 m c) (arg6 m c) (arg7 m c) (arg8 m c) (arg9 m c) (arg10 m c) (arg11 m c) = u'
    generalize val_main_v211 (F := Ideal) (arg3 m c) (arg4 m c) (arg5 m c) (arg6 m c) (arg7 m c) (arg8 m c) (arg9 m c) (arg10 m c) (arg11 m c) (arg12 m c) (arg13 m c) (arg14 m c) = u at hr ⊢
    exact ((right_apply u' u ⟨(y 0).val - 16384, by omega⟩ ⟨(y 1).val, (y 1).isLt⟩ y (Nat.sub_add_cancel (by omega)).symm rfl).trans hr).symm

/-- The reference's stage at arguments that agree with the kernel's. -/
theorem ref_args (m' : (ℓ : Loc Cert.CTailRefIdeal.nD Cert.CTailRefIdeal.τ Cert.CTailRefIdeal.sig) → Buf (Elt Ideal) ℓ)
    (h : m' ((c.tc : Thread Cert.CTailRefIdeal.nD Cert.CTailRefIdeal.τ).loc Cert.CTailRefIdeal.main_arg0) = m ((c.tc : Thread nD τ).loc main_arg0)
      ∧ m' ((c.tc : Thread Cert.CTailRefIdeal.nD Cert.CTailRefIdeal.τ).loc Cert.CTailRefIdeal.main_arg1) = m ((c.tc : Thread nD τ).loc main_arg1)
      ∧ m' ((c.tc : Thread Cert.CTailRefIdeal.nD Cert.CTailRefIdeal.τ).loc Cert.CTailRefIdeal.main_arg2) = m ((c.tc : Thread nD τ).loc main_arg2)
      ∧ m' ((c.tc : Thread Cert.CTailRefIdeal.nD Cert.CTailRefIdeal.τ).loc Cert.CTailRefIdeal.main_arg3) = m ((c.tc : Thread nD τ).loc main_arg3)
      ∧ m' ((c.tc : Thread Cert.CTailRefIdeal.nD Cert.CTailRefIdeal.τ).loc Cert.CTailRefIdeal.main_arg4) = m ((c.tc : Thread nD τ).loc main_arg4)
      ∧ m' ((c.tc : Thread Cert.CTailRefIdeal.nD Cert.CTailRefIdeal.τ).loc Cert.CTailRefIdeal.main_arg5) = m ((c.tc : Thread nD τ).loc main_arg5)
      ∧ m' ((c.tc : Thread Cert.CTailRefIdeal.nD Cert.CTailRefIdeal.τ).loc Cert.CTailRefIdeal.main_arg6) = m ((c.tc : Thread nD τ).loc main_arg6)
      ∧ m' ((c.tc : Thread Cert.CTailRefIdeal.nD Cert.CTailRefIdeal.τ).loc Cert.CTailRefIdeal.main_arg7) = m ((c.tc : Thread nD τ).loc main_arg7)
      ∧ m' ((c.tc : Thread Cert.CTailRefIdeal.nD Cert.CTailRefIdeal.τ).loc Cert.CTailRefIdeal.main_arg8) = m ((c.tc : Thread nD τ).loc main_arg8)
      ∧ m' ((c.tc : Thread Cert.CTailRefIdeal.nD Cert.CTailRefIdeal.τ).loc Cert.CTailRefIdeal.main_arg9) = m ((c.tc : Thread nD τ).loc main_arg9)
      ∧ m' ((c.tc : Thread Cert.CTailRefIdeal.nD Cert.CTailRefIdeal.τ).loc Cert.CTailRefIdeal.main_arg10) = m ((c.tc : Thread nD τ).loc main_arg10)
      ∧ m' ((c.tc : Thread Cert.CTailRefIdeal.nD Cert.CTailRefIdeal.τ).loc Cert.CTailRefIdeal.main_arg11) = m ((c.tc : Thread nD τ).loc main_arg11)
      ∧ m' ((c.tc : Thread Cert.CTailRefIdeal.nD Cert.CTailRefIdeal.τ).loc Cert.CTailRefIdeal.main_arg12) = m ((c.tc : Thread nD τ).loc main_arg12)
      ∧ m' ((c.tc : Thread Cert.CTailRefIdeal.nD Cert.CTailRefIdeal.τ).loc Cert.CTailRefIdeal.main_arg13) = m ((c.tc : Thread nD τ).loc main_arg13)
      ∧ m' ((c.tc : Thread Cert.CTailRefIdeal.nD Cert.CTailRefIdeal.τ).loc Cert.CTailRefIdeal.main_arg14) = m ((c.tc : Thread nD τ).loc main_arg14)) :
    val_main_v212 (F := Ideal) (m' ((c.tc : Thread Cert.CTailRefIdeal.nD Cert.CTailRefIdeal.τ).loc Cert.CTailRefIdeal.main_arg0)) (m' ((c.tc : Thread Cert.CTailRefIdeal.nD Cert.CTailRefIdeal.τ).loc Cert.CTailRefIdeal.main_arg1)) (m' ((c.tc : Thread Cert.CTailRefIdeal.nD Cert.CTailRefIdeal.τ).loc Cert.CTailRefIdeal.main_arg2)) (m' ((c.tc : Thread Cert.CTailRefIdeal.nD Cert.CTailRefIdeal.τ).loc Cert.CTailRefIdeal.main_arg3)) (m' ((c.tc : Thread Cert.CTailRefIdeal.nD Cert.CTailRefIdeal.τ).loc Cert.CTailRefIdeal.main_arg4)) (m' ((c.tc : Thread Cert.CTailRefIdeal.nD Cert.CTailRefIdeal.τ).loc Cert.CTailRefIdeal.main_arg5)) (m' ((c.tc : Thread Cert.CTailRefIdeal.nD Cert.CTailRefIdeal.τ).loc Cert.CTailRefIdeal.main_arg6)) (m' ((c.tc : Thread Cert.CTailRefIdeal.nD Cert.CTailRefIdeal.τ).loc Cert.CTailRefIdeal.main_arg7)) (m' ((c.tc : Thread Cert.CTailRefIdeal.nD Cert.CTailRefIdeal.τ).loc Cert.CTailRefIdeal.main_arg8)) (m' ((c.tc : Thread Cert.CTailRefIdeal.nD Cert.CTailRefIdeal.τ).loc Cert.CTailRefIdeal.main_arg9)) (m' ((c.tc : Thread Cert.CTailRefIdeal.nD Cert.CTailRefIdeal.τ).loc Cert.CTailRefIdeal.main_arg10)) (m' ((c.tc : Thread Cert.CTailRefIdeal.nD Cert.CTailRefIdeal.τ).loc Cert.CTailRefIdeal.main_arg11)) (m' ((c.tc : Thread Cert.CTailRefIdeal.nD Cert.CTailRefIdeal.τ).loc Cert.CTailRefIdeal.main_arg12)) (m' ((c.tc : Thread Cert.CTailRefIdeal.nD Cert.CTailRefIdeal.τ).loc Cert.CTailRefIdeal.main_arg13)) (m' ((c.tc : Thread Cert.CTailRefIdeal.nD Cert.CTailRefIdeal.τ).loc Cert.CTailRefIdeal.main_arg14)) = val_main_v212 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) := by
  obtain ⟨a0, a1, a2, a3, a4, a5, a6, a7, a8, a9, a10, a11, a12, a13, a14⟩ := h
  rw [a0, a1, a2, a3, a4, a5, a6, a7, a8, a9, a10, a11, a12, a13, a14]

/-- THE VALUE CLAIM of the tail. -/
theorem value : Cert.algebraic_CTailIdeal_CTailRefIdeal (hCTailIdeal := Cert.CTailIdeal.Gen.facts)
    (hCTailRefIdeal := Cert.CTailRefIdeal.Gen.facts) := by
  intro m g m' g' _ hargs
  refine ⟨fun c => resultArr m c, ?_, ?_⟩
  · exact (θ_run defs _ _).mono (fun _ h c => ⟨(h c).1.trans (result_array m c), (h c).2⟩) (Cert.CTailIdeal.Value.run_blocks m g)
  · refine (θ_run Cert.CTailRefIdeal.defs _ _).mono (fun _ h c => ⟨?_, (h c).2⟩) (Cert.CTailRefIdeal.Value.run m' g')
    refine (h c).1.trans ((val_main_v212_eq _).trans ?_)
    refine Eq.trans ?_ (result_ref m c).symm
    exact ref_args m c m' (hargs c)

end Cert.CTailIdeal.CTail

end
-- ==== Proof.ModRead.lean ====
/-
  The modulation: the kernel's block and the reference's array READ AT AN INDEX. Both are the product of the conditioning's
  silu with a layer's weights, plus the layer's bias.
-/
module

public import proofs.«01_k».proof.Proof.Gen.ModIdeal.Frame
public import proofs.«01_k».proof.Proof.Gen.ModRefIdeal.Read
public import Idealize.ShloMosaic.Lib.Pointwise

@[expose] public section

set_option maxRecDepth 16384
set_option backward.proofsInPublic true

noncomputable section

namespace Cert.ModRow

open Idealize.ShloMosaic

/-- `p` times its logistic. -/
def silu (p : EReal) : EReal := p * Ideal.div 1 (1 + Ideal.exp (-p))

theorem silu_kernel (p : EReal) : p * Ideal.div 1 (1 + Ideal.exp (0 - p)) = silu p := by
  rw [zero_sub, silu]

/-- A row of the conditioning against a column of the weights, plus the bias. -/
def entry (p w : Fin 1024 → EReal) (b : EReal) : EReal := ∑ k, silu (p k) * w k + b

theorem one_word : Ideal.ofBits .f32 0x3F800000#32 = 1 := by
  simp [Ideal.ofBits, Ideal.ieee, -EReal.coe_mul]
  norm_num

end Cert.ModRow

namespace Cert.ModIdeal.Mod

open Cert.ModIdeal Cert.ModIdeal.Gen Cert.ModRow
open Idealize.ShloMosaic Idealize.ShloMosaic.TcCoe

variable (x0 : Vec Ideal S16x1024 .f32) (x1 : Vec Ideal S1x1024x1536 .f32) (x2 : Vec Ideal S1x1x1536 .f32)

theorem pay_apply (r : Fin 16) (j : Fin 1536) :
    k0_pay1 (F := Ideal) x0 x1 x2 (ix3 0 r j) = entry (fun k => x0 (ix2 r k)) (fun k => x1 (ix3 0 k j)) (x2 (ix3 0 0 j)) := by
  unfold entry
  simp only [← silu_kernel]
  pointwise [k0_pay1]

theorem idx_eta (x : S1x16x1536.Idx) : x = ix3 (0 : Fin 1) (⟨(x 1).val, (x 1).isLt⟩ : Fin 16) (⟨(x 2).val, (x 2).isLt⟩ : Fin 1536) := by
  have h : (x 0).val < 1 := (x 0).isLt
  funext a
  fin_cases a
  · exact Fin.ext (by show (x 0).val = 0; omega)
  · rfl
  · rfl

/-- The whole block after the body. -/
theorem out_apply (y : S1x16x1536.Idx) :
    out0_3 (F := Ideal) x0 x1 x2 y
      = entry (fun k => x0 (ix2 (⟨(y 1).val, (y 1).isLt⟩ : Fin 16) k)) (fun k => x1 (ix3 0 k (⟨(y 2).val, (y 2).isLt⟩ : Fin 1536)))
          (x2 (ix3 0 0 (⟨(y 2).val, (y 2).isLt⟩ : Fin 1536))) := by
  have hG := View.canon_apply_of_pieces (Val := Elt Ideal) (e := .f32) (S := S1x16x1536)
    (fun y : S1x16x1536.Idx => entry (fun k => x0 (ix2 (⟨(y 1).val, (y 1).isLt⟩ : Fin 16) k)) (fun k => x1 (ix3 0 k (⟨(y 2).val, (y 2).isLt⟩ : Fin 1536)))
          (x2 (ix3 0 0 (⟨(y 2).val, (y 2).isLt⟩ : Fin 1536))))
  unfold out0_3
  refine hG _ (fun p hp => ?_) y (cover0_3 _ y)
  obtain rfl := List.mem_singleton.1 hp
  intro x
  have e1 : r0_3.emb x = x := by
    funext a
    refine Fin.ext ?_
    fin_cases a
    · show 0 + 1 * (x 0).val = (x 0).val
      omega
    · show 0 + 1 * (x 1).val = (x 1).val
      omega
    · show 0 + 1 * (x 2).val = (x 2).val
      omega
  refine Eq.trans ?_ (congrArg (fun y : S1x16x1536.Idx => entry (fun k => x0 (ix2 (⟨(y 1).val, (y 1).isLt⟩ : Fin 16) k)) (fun k => x1 (ix3 0 k (⟨(y 2).val, (y 2).isLt⟩ : Fin 1536)))
          (x2 (ix3 0 0 (⟨(y 2).val, (y 2).isLt⟩ : Fin 1536)))) e1.symm)
  show k0_pay1 (F := Ideal) (View.ld x0 r0_0) (View.ld x1 r0_1) (View.ld x2 r0_2) x = _
  refine (congrArg _ (idx_eta x)).trans ?_
  rw [pay_apply]
  have f0 : ∀ (r : Fin 16) (k : Fin 1024), View.ld x0 r0_0 (ix2 r k) = x0 (ix2 r k) := fun r k => by pointwise
  have f1 : ∀ (k : Fin 1024) (j : Fin 1536), View.ld x1 r0_1 (ix3 0 k j) = x1 (ix3 0 k j) := fun k j => by pointwise
  have f2 : ∀ j : Fin 1536, View.ld x2 r0_2 (ix3 0 0 j) = x2 (ix3 0 0 j) := fun j => by pointwise
  simp only [f0, f1, f2]

end Cert.ModIdeal.Mod

namespace Cert.ModRefIdeal.Mod

open Cert.ModRefIdeal Cert.ModRefIdeal.Gen Cert.ModRefIdeal.Read Cert.ModRow
open Idealize.ShloMosaic Idealize.ShloMosaic.TcCoe

variable (x0 : (⟨S8x1024, .f32⟩ : BufTy).Contents (Elt Ideal)) (x1 : (⟨S1024, .f32⟩ : BufTy).Contents (Elt Ideal))
  (x2 : (⟨S4x1024x6144, .f32⟩ : BufTy).Contents (Elt Ideal)) (x3 : (⟨S4x6144, .f32⟩ : BufTy).Contents (Elt Ideal))

theorem silu_apply (r : Fin 16) (k : Fin 1024) :
    val_main_v3 (F := Ideal) x0 x1 (ix2 r k) = silu (val_main_v2 (F := Ideal) x0 x1 (ix2 r k)) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply]
  generalize val_main_v2 (F := Ideal) x0 x1 (ix2 r k) = p
  refine Eq.trans (b := p * Ideal.div (Ideal.ofBits .f32 0x3F800000#32) (Ideal.ofBits .f32 0x3F800000#32 + Ideal.exp (-p))) rfl ?_
  rw [one_word, silu]

theorem result_apply (l : Fin 4) (r : Fin 16) (n : Fin 6144) :
    val_main_v8 (F := Ideal) x0 x1 x2 x3 (ix3 l r n)
      = entry (fun k => val_main_v2 (F := Ideal) x0 x1 (ix2 r k)) (fun k => x2 (ix3 l k n)) (x3 (ix2 l n)) := by
  rw [val_main_v8_apply, val_main_v5_apply, val_main_v4_apply, val_main_v7_apply, val_main_v6_apply]
  have el : ∀ k, lidx_main_v4 (idx_main_v5 (ix3 l r n)) k = ix3 l k n := fun k => funext fun a => by fin_cases a <;> rfl
  have er : ∀ k, ridx_main_v4 (idx_main_v5 (ix3 l r n)) k = ix2 r k := fun k => funext fun a => by fin_cases a <;> rfl
  have eb : idx_main_v6 (idx_main_v7 (ix3 l r n)) = ix2 l n := funext fun a => by fin_cases a <;> rfl
  simp only [el, er, eb, silu_apply]
  unfold entry
  refine congrArg (· + x3 (ix2 l n)) (Finset.sum_congr rfl fun k _ => ?_)
  exact mul_comm _ _

end Cert.ModRefIdeal.Mod

end
-- ==== Proof.ModValue.lean ====
/-
  The modulation's value claim: what the kernel's windows hold in terms of the arguments, and the kernel's result array, which
  is the reference's. Grid point `t` computes 1536 channels, from the `1536 * (t % 4)`-th, of layer `t / 4`.
-/
module

public import proofs.«01_k».proof.Proof.ModRead
public import proofs.«01_k».proof.Proof.Gen.ModIdeal.Value
public import proofs.«01_k».proof.Proof.Gen.ModRefIdeal.Run
public import proofs.«01_k».proof.Defs
public import Idealize.ShloMosaic.Lib.Pipeline.ValueKit
public import Idealize.ShloMosaic.Lib.Claim

@[expose] public section

set_option maxRecDepth 16384
set_option backward.proofsInPublic true

noncomputable section

namespace Cert.ModIdeal.Mod

open Cert.ModIdeal Cert.ModIdeal.Gen Cert.ModRow
open Cert.ModRefIdeal.Mod (result_apply)
open Cert.ModRefIdeal.Read (val_main_v2 val_main_v8 val_main_v8_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-- The arguments, as arrays of extended reals. -/
abbrev arg0 : S8x1024.Idx → EReal := m ((c : Thread nD τ).loc main_arg0)
abbrev arg1 : S1024.Idx → EReal := m ((c : Thread nD τ).loc main_arg1)
abbrev arg2 : S4x1024x6144.Idx → EReal := m ((c : Thread nD τ).loc main_arg2)
abbrev arg3 : S4x6144.Idx → EReal := m ((c : Thread nD τ).loc main_arg3)

/-- The conditioning's sixteen rows, as the reference joins them. -/
theorem V_0 : (V m c main_v2 : S16x1024.Idx → EReal) = val_main_v2 (F := Ideal) (arg0 m c) (arg1 m c) := by
  unfold_abbrev_sides
  after_results
  rfl
theorem V_1 : (V m c main_arg2 : S4x1024x6144.Idx → EReal) = arg2 m c := by
  unfold_abbrev_sides
  after_results
theorem V_2 : (V m c main_v3 : S4x1x6144.Idx → EReal) = shapeCast S4x1x6144 (arg3 m c) shapeCasts_S4x6144_S4x1x6144 := by
  unfold_abbrev_sides
  after_results
  rfl

theorem index0_0 : ∀ t : Fin grid0.N, win0_0.index t 0 = 0 := by decide +kernel
theorem index0_1 : ∀ t : Fin grid0.N, win0_0.index t 1 = 0 := by decide +kernel
theorem index0 (t : Fin grid0.N) : win0_0.index t = ![0, 0] := by
  funext a
  fin_cases a
  · exact index0_0 t
  · exact index0_1 t
theorem index1_0 : ∀ t : Fin grid0.N, win0_1.index t 0 = t.val / 4 := by decide +kernel
theorem index1_1 : ∀ t : Fin grid0.N, win0_1.index t 1 = 0 := by decide +kernel
theorem index1_2 : ∀ t : Fin grid0.N, win0_1.index t 2 = t.val % 4 := by decide +kernel
theorem index1 (t : Fin grid0.N) : win0_1.index t = ![t.val / 4, 0, t.val % 4] := by
  funext a
  fin_cases a
  · exact index1_0 t
  · exact index1_1 t
  · exact index1_2 t
theorem index2_0 : ∀ t : Fin grid0.N, win0_2.index t 0 = t.val / 4 := by decide +kernel
theorem index2_1 : ∀ t : Fin grid0.N, win0_2.index t 1 = 0 := by decide +kernel
theorem index2_2 : ∀ t : Fin grid0.N, win0_2.index t 2 = t.val % 4 := by decide +kernel
theorem index2 (t : Fin grid0.N) : win0_2.index t = ![t.val / 4, 0, t.val % 4] := by
  funext a
  fin_cases a
  · exact index2_0 t
  · exact index2_1 t
  · exact index2_2 t
theorem index3_0 : ∀ t : Fin grid0.N, win0_3.index t 0 = t.val / 4 := by decide +kernel
theorem index3_1 : ∀ t : Fin grid0.N, win0_3.index t 1 = 0 := by decide +kernel
theorem index3_2 : ∀ t : Fin grid0.N, win0_3.index t 2 = t.val % 4 := by decide +kernel
theorem index3 (t : Fin grid0.N) : win0_3.index t = ![t.val / 4, 0, t.val % 4] := by
  funext a
  fin_cases a
  · exact index3_0 t
  · exact index3_1 t
  · exact index3_2 t

theorem iblk_0 (t : Fin cfg0.N) (ht : t.val < 16) (r : Fin 16) (k : Fin 1024) :
    (iblk m c 0 t : S16x1024.Idx → EReal) (ix2 r k) = val_main_v2 (F := Ideal) (arg0 m c) (arg1 m c) (ix2 r k) := by
  have e : (iblk m c 0 t : S16x1024.Idx → EReal) (ix2 r k) = (V m c main_v2 : S16x1024.Idx → EReal) (ix2 r k) := by
    blk_simp [iblk]
    refine congrArg (V m c main_v2) (funext fun a => Fin.ext ?_)
    blk_simp
    rw [index0 t]
    fin_cases a <;> simp <;> omega
  rw [e, V_0]

theorem iblk_1 (t : Fin cfg0.N) (ht : t.val < 16) (k : Fin 1024) (j : Fin 1536) :
    (iblk m c 1 t : S1x1024x1536.Idx → EReal) (ix3 0 k j) = arg2 m c (ix3 ⟨t.val / 4, by omega⟩ k ⟨1536 * (t.val % 4) + j.val, by omega⟩) := by
  have e : (iblk m c 1 t : S1x1024x1536.Idx → EReal) (ix3 0 k j)
      = (V m c main_arg2 : S4x1024x6144.Idx → EReal) (ix3 ⟨t.val / 4, by omega⟩ k ⟨1536 * (t.val % 4) + j.val, by omega⟩) := by
    blk_simp [iblk]
    refine congrArg (V m c main_arg2) (funext fun a => Fin.ext ?_)
    blk_simp
    rw [index1 t]
    fin_cases a <;> simp <;> omega
  rw [e, V_1]

theorem iblk_2 (t : Fin cfg0.N) (ht : t.val < 16) (j : Fin 1536) :
    (iblk m c 2 t : S1x1x1536.Idx → EReal) (ix3 0 0 j) = arg3 m c (ix2 ⟨t.val / 4, by omega⟩ ⟨1536 * (t.val % 4) + j.val, by omega⟩) := by
  have e : (iblk m c 2 t : S1x1x1536.Idx → EReal) (ix3 0 0 j)
      = (V m c main_v3 : S4x1x6144.Idx → EReal) (ix3 ⟨t.val / 4, by omega⟩ 0 ⟨1536 * (t.val % 4) + j.val, by omega⟩) := by
    blk_simp [iblk]
    refine congrArg (V m c main_v3) (funext fun a => Fin.ext ?_)
    blk_simp
    rw [index2 t]
    fin_cases a <;> simp <;> omega
  rw [e, V_2]
  refine shapeCast_apply _ _ _ (ix2 (⟨t.val / 4, by omega⟩ : Fin 4) (⟨1536 * (t.val % 4) + j.val, by omega⟩ : Fin 6144)) ?_
  rw [Shape.rowMajor_val_two, Shape.rowMajor_val_three]
  show t.val / 4 * 6144 + (1536 * (t.val % 4) + j.val) = (t.val / 4 * 1 + 0) * 6144 + (1536 * (t.val % 4) + j.val)
  omega

/-- An entry of the result. -/
def at3 (l : Fin 4) (r : Fin 16) (n : Fin 6144) : EReal :=
  entry (fun k => val_main_v2 (F := Ideal) (arg0 m c) (arg1 m c) (ix2 r k)) (fun k => arg2 m c (ix3 l k n)) (arg3 m c (ix2 l n))

/-- The result's array. -/
def resultArr : S4x16x6144.Idx → EReal := fun y => at3 m c ⟨(y 0).val, (y 0).isLt⟩ ⟨(y 1).val, (y 1).isLt⟩ ⟨(y 2).val, (y 2).isLt⟩

theorem emb3_0 (t : Fin cfg0.N) (y : S1x16x1536.Idx) : ((((cfg0.win 3).blk t).view.emb y) 0 : ℕ) = t.val / 4 + (y 0).val := by
  blk_simp
  rw [index3 t]
  simp
theorem emb3_1 (t : Fin cfg0.N) (y : S1x16x1536.Idx) : ((((cfg0.win 3).blk t).view.emb y) 1 : ℕ) = (y 1).val := by
  blk_simp
  rw [index3 t]
  simp
theorem emb3_2 (t : Fin cfg0.N) (y : S1x16x1536.Idx) : ((((cfg0.win 3).blk t).view.emb y) 2 : ℕ) = t.val % 4 * 1536 + (y 2).val := by
  blk_simp
  rw [index3 t]
  simp

theorem result_point (t : Fin cfg0.N) (y : S1x16x1536.Idx) :
    out0_3 (F := Ideal) (iblk m c 0 t) (iblk m c 1 t) (iblk m c 2 t) y = resultArr m c (((cfg0.win 3).blk t).view.emb y) := by
  have ht : t.val < 16 := t.isLt
  have h0 : (y 0).val < 1 := (y 0).isLt
  have h2 : (y 2).val < 1536 := (y 2).isLt
  have e0 := emb3_0 t y
  have e1 := emb3_1 t y
  have e2 := emb3_2 t y
  rw [out_apply]
  simp only [iblk_0 m c t ht, iblk_1 m c t ht, iblk_2 m c t ht]
  generalize ((cfg0.win 3).blk t).view.emb y = Y at e0 e1 e2 ⊢
  show at3 m c ⟨t.val / 4, by omega⟩ ⟨(y 1).val, (y 1).isLt⟩ ⟨1536 * (t.val % 4) + (y 2).val, by omega⟩ = _
  unfold resultArr
  congr 1
  · exact Fin.ext (by show t.val / 4 = (Y 0).val; omega)
  · exact Fin.ext e1.symm
  · exact Fin.ext (by show 1536 * (t.val % 4) + (y 2).val = (Y 2).val; omega)

theorem covers3 : (cfg0.win 3).Covers := by decide +kernel

theorem result_array : (dats m 0 c).arrAt 3 cfg0.N = resultArr m c := by
  refine (dats m 0 c).arrAt_eq_of_covers 3 _ covers3 fun t hf y => ?_
  rw [after0_3]
  have hp := result_point m c t
  generalize out0_3 (F := Ideal) (iblk m c 0 t) (iblk m c 1 t) (iblk m c 2 t) = Z at hp ⊢
  exact hp y

theorem result_ref : resultArr m c = val_main_v8 (F := Ideal) (arg0 m c) (arg1 m c) (arg2 m c) (arg3 m c) := by
  funext y
  refine Eq.trans ?_ (congrArg (val_main_v8 (F := Ideal) (arg0 m c) (arg1 m c) (arg2 m c) (arg3 m c))
    (show ix3 (⟨(y 0).val, (y 0).isLt⟩ : Fin 4) (⟨(y 1).val, (y 1).isLt⟩ : Fin 16) (⟨(y 2).val, (y 2).isLt⟩ : Fin 6144) = y from funext fun a => by fin_cases a <;> rfl))
  rw [result_apply]
  rfl

/-- The reference's stage at arguments that agree with the kernel's. -/
theorem ref_args (m' : (ℓ : Loc Cert.ModRefIdeal.nD Cert.ModRefIdeal.τ Cert.ModRefIdeal.sig) → Buf (Elt Ideal) ℓ)
    (h : m' ((c.tc : Thread Cert.ModRefIdeal.nD Cert.ModRefIdeal.τ).loc Cert.ModRefIdeal.main_arg0) = m ((c.tc : Thread nD τ).loc main_arg0)
      ∧ m' ((c.tc : Thread Cert.ModRefIdeal.nD Cert.ModRefIdeal.τ).loc Cert.ModRefIdeal.main_arg1) = m ((c.tc : Thread nD τ).loc main_arg1)
      ∧ m' ((c.tc : Thread Cert.ModRefIdeal.nD Cert.ModRefIdeal.τ).loc Cert.ModRefIdeal.main_arg2) = m ((c.tc : Thread nD τ).loc main_arg2)
      ∧ m' ((c.tc : Thread Cert.ModRefIdeal.nD Cert.ModRefIdeal.τ).loc Cert.ModRefIdeal.main_arg3) = m ((c.tc : Thread nD τ).loc main_arg3)) :
    val_main_v8 (F := Ideal) (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) (m' ((c.tc : Thread Cert.ModRefIdeal.nD Cert.ModRefIdeal.τ).loc Cert.ModRefIdeal.main_arg3))
      = val_main_v8 (F := Ideal) (arg0 m c) (arg1 m c) (arg2 m c) (arg3 m c) := by
  obtain ⟨a0, a1, a2, a3⟩ := h
  rw [a0, a1, a2, a3]

/-- THE VALUE CLAIM of the modulation. -/
theorem value : Cert.algebraic_ModIdeal_ModRefIdeal (hModIdeal := Cert.ModIdeal.Gen.facts)
    (hModRefIdeal := Cert.ModRefIdeal.Gen.facts) := by
  intro m g m' g' _ hargs
  refine ⟨fun c => resultArr m c, ?_, ?_⟩
  · exact (θ_run defs _ _).mono (fun _ h c => ⟨(h c).1.trans (result_array m c), (h c).2⟩) (Cert.ModIdeal.Value.run_blocks m g)
  · refine (θ_run Cert.ModRefIdeal.defs _ _).mono (fun _ h c => ⟨?_, (h c).2⟩) (Cert.ModRefIdeal.Value.run m' g')
    refine (h c).1.trans ((val_main_v8_eq _ _ _ _).trans ?_)
    refine Eq.trans ?_ (result_ref m c).symm
    exact ref_args m c m' (hargs c)

end Cert.ModIdeal.Mod

end
-- ==== Proof.lean ====
/-
  The proof of `Cert.Claim` (proofs.«01_k».proof.Defs), put together: the frames, from the attention kernel's run
  (AttnRun.lean, stated at any float values and used at both instances), the other kernels' and the references'
  generated ones; and the five value claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.TailRefIdeal
public import proofs.«01_k».proof.Proof.Gen.TailRefIdeal.Run
public import proofs.«01_k».proof.Proof.Gen.TailRefIdeal.Read
public import proofs.«01_k».proof.Proof.Gen.CTail
public import proofs.«01_k».proof.Proof.Gen.CTail.Frame
public import proofs.«01_k».proof.Proof.Gen.CTailIdeal
public import proofs.«01_k».proof.Proof.Gen.CTailIdeal.Frame
public import proofs.«01_k».proof.Proof.Gen.CTailIdeal.Value
public import proofs.«01_k».proof.Proof.Gen.CTailRefIdeal
public import proofs.«01_k».proof.Proof.Gen.CTailRefIdeal.Run
public import proofs.«01_k».proof.Proof.Gen.CTailRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.ReferenceIdeal.Run
public import proofs.«01_k».proof.Proof.Gen.ReferenceIdeal.Read
public import proofs.«01_k».proof.Proof.Gen.Pre_finite
public import proofs.«01_k».proof.Proof.AttnRun
public import proofs.«01_k».proof.Proof.AttnValue
public import proofs.«01_k».proof.Proof.TailValue
public import proofs.«01_k».proof.Proof.ProjValue
public import proofs.«01_k».proof.Proof.CTailValue
public import proofs.«01_k».proof.Proof.ModValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The two printed programs of the attention have one text, so one table of bodies. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | ⟨0, _⟩, (t, s) => rfl

theorem defs_eq : @Cert.Kernel.defs Bits _ _ = @Cert.KernelIdeal.defs Bits _ _ := by
  unfold Cert.Kernel.defs Cert.KernelIdeal.defs
  exact congrArg (Pipeline.defs _) bodies_eq

set_option maxHeartbeats 4000000 in
/-- The attention kernel's frame at the float words: the run is stated at any float values, so the one run serves. -/
theorem frame_kernel : Cert.quiescent_Kernel := by
  intro m ρ _
  rw [defs_eq]
  exact Cert.KernelIdeal.Attn.frame_main (F := Bits) m ρ

theorem frame_kernelIdeal : Cert.quiescent_KernelIdeal := fun m ρ _ => Cert.KernelIdeal.Attn.frame_main m ρ

theorem frame_kernelIdeal_finite : Cert.quiescent_KernelIdeal_pre_finite := fun m ρ _ => Cert.KernelIdeal.Attn.frame_main m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite : Cert.quiescent_ReferenceIdeal_pre_finite := fun m ρ _ => frame_reference m ρ trivial

theorem frame_tailRef : Cert.quiescent_TailRefIdeal := fun m ρ _ =>
  (θ_run Cert.TailRefIdeal.defs _ _).mono (fun r h => ⟨fun c => (h c).2, sem_eq_zero_of_no_sems (by decide) r.2⟩)
    (Cert.TailRefIdeal.Value.run m ρ)

theorem frame_projRef : Cert.quiescent_ProjRefIdeal := fun m ρ _ =>
  (θ_run Cert.ProjRefIdeal.defs _ _).mono (fun r h => ⟨fun c => (h c).2.2.2, sem_eq_zero_of_no_sems (by decide) r.2⟩)
    (Cert.ProjRefIdeal.Value.run m ρ)

theorem frame_ctailRef : Cert.quiescent_CTailRefIdeal := fun m ρ _ =>
  (θ_run Cert.CTailRefIdeal.defs _ _).mono (fun r h => ⟨fun c => (h c).2, sem_eq_zero_of_no_sems (by decide) r.2⟩)
    (Cert.CTailRefIdeal.Value.run m ρ)

theorem frame_modRef : Cert.quiescent_ModRefIdeal := fun m ρ _ =>
  (θ_run Cert.ModRefIdeal.defs _ _).mono (fun r h => ⟨fun c => (h c).2, sem_eq_zero_of_no_sems (by decide) r.2⟩)
    (Cert.ModRefIdeal.Value.run m ρ)

/-- The whole claim. -/
theorem claim : Cert.Claim :=
  ⟨Cert.Kernel.Gen.facts, Cert.KernelIdeal.Gen.facts, Cert.ReferenceIdeal.Gen.facts, Cert.Tail.Gen.facts,
    Cert.TailIdeal.Gen.facts, Cert.TailRefIdeal.Gen.facts, Cert.Proj.Gen.facts, Cert.ProjIdeal.Gen.facts,
    Cert.ProjRefIdeal.Gen.facts, Cert.CTail.Gen.facts, Cert.CTailIdeal.Gen.facts, Cert.CTailRefIdeal.Gen.facts,
    Cert.Mod.Gen.facts, Cert.ModIdeal.Gen.facts, Cert.ModRefIdeal.Gen.facts, Cert.Pre_finite.Gen.facts,
    frame_kernel, frame_kernelIdeal, frame_kernelIdeal_finite, frame_reference, frame_reference_finite,
    fun m ρ _ => Cert.Tail.Gen.frame m ρ, fun m ρ _ => Cert.TailIdeal.Gen.frame m ρ, frame_tailRef,
    fun m ρ _ => Cert.Proj.Gen.frame m ρ, fun m ρ _ => Cert.ProjIdeal.Gen.frame m ρ, frame_projRef,
    fun m ρ _ => Cert.CTail.Gen.frame m ρ, fun m ρ _ => Cert.CTailIdeal.Gen.frame m ρ, frame_ctailRef,
    fun m ρ _ => Cert.Mod.Gen.frame m ρ, fun m ρ _ => Cert.ModIdeal.Gen.frame m ρ, frame_modRef,
    trivial, Cert.KernelIdeal.Attn.value, trivial, Cert.TailIdeal.Tail.value, trivial,
    Cert.ProjIdeal.Proj.value, trivial, Cert.CTailIdeal.CTail.value, trivial,
    Cert.ModIdeal.Mod.value⟩

end Cert.Proof

end
